-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def algebraic_KernelIdeal_ReferenceIdeal_on_written_pre_inputs [hKernelIdeal : Cert.KernelIdeal.Facts] [hReferenceIdeal : Cert.ReferenceIdeal.Facts] [hPre_inputs : Cert.Pre_inputs.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8448, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v0_0) i = v0 c i)
          ∧ (∀ i : (⟨2, ![8448, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v0_1) i = v1 c i)
          ∧ (∀ i : (⟨2, ![8448, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v0_2) i = v2 c i)
          ∧ (∀ i : (⟨4, ![2, 8, 1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8448, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v35) i = v0 c i)
          ∧ (∀ i : (⟨2, ![8448, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v37) i = v1 c i)
          ∧ (∀ i : (⟨2, ![8448, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v39) i = v2 c i)
          ∧ (∀ i : (⟨4, ![2, 8, 1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 i = 1#1 → r.2.mem ((c.tc : Thread Cert.ReferenceIdeal.nD Cert.ReferenceIdeal.τ).loc Cert.ReferenceIdeal.main_v43) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v26) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_inputs : Cert.Pre_inputs.Facts) (hOn_written : Cert.On_written.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_on_written_pre_inputs (hKernelIdeal := hKernelIdeal) (hReferenceIdeal := hReferenceIdeal) (hPre_inputs := hPre_inputs) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== On_written.lean ====
abbrev S8448x6144 : Shape := ⟨2, ![8448, 6144]⟩
abbrev S2x8x1x128 : Shape := ⟨4, ![2, 8, 1, 128]⟩
abbrev S8448x1024 : Shape := ⟨2, ![8448, 1024]⟩
abbrev S1x264x128x128 : Shape := ⟨4, ![1, 264, 128, 128]⟩
abbrev S_ : Shape := ⟨0, ![]⟩

class Facts : Prop where
  bcast_S_S8448x6144 : S_.BroadcastsInDim S8448x6144 (![] : Fin 0 → Fin S8448x6144.rank)
  bcast_S_S2x8x1x128 : S_.BroadcastsInDim S2x8x1x128 (![] : Fin 0 → Fin S2x8x1x128.rank)

variable [Facts]

def fn {F : FTy → Type} [FloatOps F] (main_arg0 : FVec F S8448x6144 .f32) (main_arg1 : FVec F S2x8x1x128 .f32) (main_arg2 : FVec F S8448x1024 .f32) (main_arg3 : FVec F S1x264x128x128 .f32) (main_arg4 : FVec F S1x264x128x128 .f32) (main_arg5 : FVec F S1x264x128x128 .f32) (main_arg6 : FVec F S1x264x128x128 .f32) (main_arg7 : FVec F S1x264x128x128 .f32) (main_arg8 : FVec F S1x264x128x128 .f32) (main_arg9 : FVec F S1x264x128x128 .f32) (main_arg10 : FVec F S1x264x128x128 .f32) : IVec S8448x6144 1 × IVec S8448x6144 1 × IVec S8448x6144 1 × IVec S2x8x1x128 1 :=
  let main_v0 : IVec S8448x6144 32 := iotaInDim S8448x6144 32 1
  let main_v1 : IVec S2x8x1x128 32 := iotaInDim S2x8x1x128 32 0
  let main_c : IVec S_ 32 := constantI S_ 32 1024#32
  let main_v2 : IVec S8448x6144 32 := broadcastInDim S8448x6144 ![] bcast_S_S8448x6144 main_c
  let main_v3 : IVec S8448x6144 1 := cmpi .slt main_v0 main_v2
  let main_c_0 : IVec S_ 32 := constantI S_ 32 1024#32
  let main_v4 : IVec S8448x6144 32 := broadcastInDim S8448x6144 ![] bcast_S_S8448x6144 main_c_0
  let main_v5 : IVec S8448x6144 1 := cmpi .sge main_v0 main_v4
  let main_c_1 : IVec S_ 32 := constantI S_ 32 2048#32
  let main_v6 : IVec S8448x6144 32 := broadcastInDim S8448x6144 ![] bcast_S_S8448x6144 main_c_1
  let main_v7 : IVec S8448x6144 1 := cmpi .slt main_v0 main_v6
  let main_v8 : IVec S8448x6144 1 := andi main_v5 main_v7
  let main_c_2 : IVec S_ 32 := constantI S_ 32 3072#32
  let main_v9 : IVec S8448x6144 32 := broadcastInDim S8448x6144 ![] bcast_S_S8448x6144 main_c_2
  let main_v10 : IVec S8448x6144 1 := cmpi .sge main_v0 main_v9
  let main_c_3 : IVec S_ 32 := constantI S_ 32 4096#32
  let main_v11 : IVec S8448x6144 32 := broadcastInDim S8448x6144 ![] bcast_S_S8448x6144 main_c_3
  let main_v12 : IVec S8448x6144 1 := cmpi .slt main_v0 main_v11
  let main_v13 : IVec S8448x6144 1 := andi main_v10 main_v12
  let main_c_4 : IVec S_ 32 := constantI S_ 32 1#32
  let main_v14 : IVec S2x8x1x128 32 := broadcastInDim S2x8x1x128 ![] bcast_S_S2x8x1x128 main_c_4
  let main_v15 : IVec S2x8x1x128 1 := cmpi .slt main_v1 main_v14
  (main_v3, main_v8, main_v13, main_v15)
-- ==== Pre_inputs.lean ====
abbrev S8448x6144 : Shape := ⟨2, ![8448, 6144]⟩
abbrev S2x8x1x128 : Shape := ⟨4, ![2, 8, 1, 128]⟩
abbrev S8448x1024 : Shape := ⟨2, ![8448, 1024]⟩
abbrev S1x264x128x128 : Shape := ⟨4, ![1, 264, 128, 128]⟩
abbrev S8448x2048 : Shape := ⟨2, ![8448, 2048]⟩
abbrev S_ : Shape := ⟨0, ![]⟩
abbrev S1x8x1x128 : Shape := ⟨4, ![1, 8, 1, 128]⟩
abbrev S8x1x128 : Shape := ⟨3, ![8, 1, 128]⟩

class Facts : Prop where
  slices_S8448x6144_S8448x2048_0_0 : S8448x6144.Slices ![0, 0] S8448x2048
  bcast_S_S8448x2048 : S_.BroadcastsInDim S8448x2048 (![] : Fin 0 → Fin S8448x2048.rank)
  slices_S8448x6144_S8448x1024_0_3072 : S8448x6144.Slices ![0, 3072] S8448x1024
  bcast_S_S8448x1024 : S_.BroadcastsInDim S8448x1024 (![] : Fin 0 → Fin S8448x1024.rank)
  slices_S2x8x1x128_S1x8x1x128_0_0_0_0 : S2x8x1x128.Slices ![0, 0, 0, 0] S1x8x1x128
  shapeCasts_S1x8x1x128_S8x1x128 : S1x8x1x128.ShapeCasts S8x1x128
  bcast_S_S8x1x128 : S_.BroadcastsInDim S8x1x128 (![] : Fin 0 → Fin S8x1x128.rank)
  bcast_S_S1x264x128x128 : S_.BroadcastsInDim S1x264x128x128 (![] : Fin 0 → Fin S1x264x128x128.rank)

variable [Facts]

def fn_part2 {F : FTy → Type} [FloatOps F] (main_arg9 : FVec F S1x264x128x128 .f32) (main_arg10 : FVec F S1x264x128x128 .f32) (main_v3 : IVec S8448x2048 1) (main_v7 : IVec S8448x1024 1) (main_v17 : IVec S8x1x128 1) (main_v20 : IVec S8448x1024 1) (main_v23 : IVec S1x264x128x128 1) (main_v26 : IVec S1x264x128x128 1) (main_v29 : IVec S1x264x128x128 1) (main_v32 : IVec S1x264x128x128 1) (main_v35 : IVec S1x264x128x128 1) (main_v36 : FVec F S1x264x128x128 .f32) (main_cst_9 : FVec F S_ .f32) : IVec S8448x2048 1 × IVec S8448x1024 1 × IVec S8x1x128 1 × IVec S8448x1024 1 × IVec S1x264x128x128 1 × IVec S1x264x128x128 1 × IVec S1x264x128x128 1 × IVec S1x264x128x128 1 × IVec S1x264x128x128 1 × IVec S1x264x128x128 1 × IVec S1x264x128x128 1 × IVec S1x264x128x128 1 :=
  let main_v37 : FVec F S1x264x128x128 .f32 := broadcastInDim S1x264x128x128 ![] bcast_S_S1x264x128x128 main_cst_9
  let main_v38 : IVec S1x264x128x128 1 := cmpf .olt main_v36 main_v37
  let main_v39 : FVec F S1x264x128x128 .f32 := Host.absf main_arg9
  let main_cst_10 : FVec F S_ .f32 := constant S_ .f32 0x7F800000#32
  let main_v40 : FVec F S1x264x128x128 .f32 := broadcastInDim S1x264x128x128 ![] bcast_S_S1x264x128x128 main_cst_10
  let main_v41 : IVec S1x264x128x128 1 := cmpf .olt main_v39 main_v40
  let main_v42 : FVec F S1x264x128x128 .f32 := Host.absf main_arg10
  let main_cst_11 : FVec F S_ .f32 := constant S_ .f32 0x7F800000#32
  let main_v43 : FVec F S1x264x128x128 .f32 := broadcastInDim S1x264x128x128 ![] bcast_S_S1x264x128x128 main_cst_11
  let main_v44 : IVec S1x264x128x128 1 := cmpf .olt main_v42 main_v43
  (main_v3, main_v7, main_v17, main_v20, main_v23, main_v26, main_v29, main_v32, main_v35, main_v38, main_v41, main_v44)

def fn_part1 {F : FTy → Type} [FloatOps F] (main_arg3 : FVec F S1x264x128x128 .f32) (main_arg4 : FVec F S1x264x128x128 .f32) (main_arg5 : FVec F S1x264x128x128 .f32) (main_arg6 : FVec F S1x264x128x128 .f32) (main_arg7 : FVec F S1x264x128x128 .f32) (main_arg8 : FVec F S1x264x128x128 .f32) (main_arg9 : FVec F S1x264x128x128 .f32) (main_arg10 : FVec F S1x264x128x128 .f32) (main_v3 : IVec S8448x2048 1) (main_v7 : IVec S8448x1024 1) (main_v17 : IVec S8x1x128 1) (main_v18 : FVec F S8448x1024 .f32) (main_cst_3 : FVec F S_ .f32) : IVec S8448x2048 1 × IVec S8448x1024 1 × IVec S8x1x128 1 × IVec S8448x1024 1 × IVec S1x264x128x128 1 × IVec S1x264x128x128 1 × IVec S1x264x128x128 1 × IVec S1x264x128x128 1 × IVec S1x264x128x128 1 × IVec S1x264x128x128 1 × IVec S1x264x128x128 1 × IVec S1x264x128x128 1 :=
  let main_v19 : FVec F S8448x1024 .f32 := broadcastInDim S8448x1024 ![] bcast_S_S8448x1024 main_cst_3
  let main_v20 : IVec S8448x1024 1 := cmpf .olt main_v18 main_v19
  let main_v21 : FVec F S1x264x128x128 .f32 := Host.absf main_arg3
  let main_cst_4 : FVec F S_ .f32 := constant S_ .f32 0x7F800000#32
  let main_v22 : FVec F S1x264x128x128 .f32 := broadcastInDim S1x264x128x128 ![] bcast_S_S1x264x128x128 main_cst_4
  let main_v23 : IVec S1x264x128x128 1 := cmpf .olt main_v21 main_v22
  let main_v24 : FVec F S1x264x128x128 .f32 := Host.absf main_arg4
  let main_cst_5 : FVec F S_ .f32 := constant S_ .f32 0x7F800000#32
  let main_v25 : FVec F S1x264x128x128 .f32 := broadcastInDim S1x264x128x128 ![] bcast_S_S1x264x128x128 main_cst_5
  let main_v26 : IVec S1x264x128x128 1 := cmpf .olt main_v24 main_v25
  let main_v27 : FVec F S1x264x128x128 .f32 := Host.absf main_arg5
  let main_cst_6 : FVec F S_ .f32 := constant S_ .f32 0x7F800000#32
  let main_v28 : FVec F S1x264x128x128 .f32 := broadcastInDim S1x264x128x128 ![] bcast_S_S1x264x128x128 main_cst_6
  let main_v29 : IVec S1x264x128x128 1 := cmpf .olt main_v27 main_v28
  let main_v30 : FVec F S1x264x128x128 .f32 := Host.absf main_arg6
  let main_cst_7 : FVec F S_ .f32 := constant S_ .f32 0x7F800000#32
  let main_v31 : FVec F S1x264x128x128 .f32 := broadcastInDim S1x264x128x128 ![] bcast_S_S1x264x128x128 main_cst_7
  let main_v32 : IVec S1x264x128x128 1 := cmpf .olt main_v30 main_v31
  let main_v33 : FVec F S1x264x128x128 .f32 := Host.absf main_arg7
  let main_cst_8 : FVec F S_ .f32 := constant S_ .f32 0x7F800000#32
  let main_v34 : FVec F S1x264x128x128 .f32 := broadcastInDim S1x264x128x128 ![] bcast_S_S1x264x128x128 main_cst_8
  let main_v35 : IVec S1x264x128x128 1 := cmpf .olt main_v33 main_v34
  let main_v36 : FVec F S1x264x128x128 .f32 := Host.absf main_arg8
  let main_cst_9 : FVec F S_ .f32 := constant S_ .f32 0x7F800000#32
  fn_part2 (F := F) main_arg9 main_arg10 main_v3 main_v7 main_v17 main_v20 main_v23 main_v26 main_v29 main_v32 main_v35 main_v36 main_cst_9

def fn {F : FTy → Type} [FloatOps F] (main_arg0 : FVec F S8448x6144 .f32) (main_arg1 : FVec F S2x8x1x128 .f32) (main_arg2 : FVec F S8448x1024 .f32) (main_arg3 : FVec F S1x264x128x128 .f32) (main_arg4 : FVec F S1x264x128x128 .f32) (main_arg5 : FVec F S1x264x128x128 .f32) (main_arg6 : FVec F S1x264x128x128 .f32) (main_arg7 : FVec F S1x264x128x128 .f32) (main_arg8 : FVec F S1x264x128x128 .f32) (main_arg9 : FVec F S1x264x128x128 .f32) (main_arg10 : FVec F S1x264x128x128 .f32) : IVec S8448x2048 1 × IVec S8448x1024 1 × IVec S8x1x128 1 × IVec S8448x1024 1 × IVec S1x264x128x128 1 × IVec S1x264x128x128 1 × IVec S1x264x128x128 1 × IVec S1x264x128x128 1 × IVec S1x264x128x128 1 × IVec S1x264x128x128 1 × IVec S1x264x128x128 1 × IVec S1x264x128x128 1 :=
  let main_v0 : FVec F S8448x2048 .f32 := (extractStridedSlice S8448x2048 ![0, 0] · slices_S8448x6144_S8448x2048_0_0) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_v4 : FVec F S8448x1024 .f32 := (extractStridedSlice S8448x1024 ![0, 3072] · slices_S8448x6144_S8448x1024_0_3072) main_arg0
  let main_v5 : FVec F S8448x1024 .f32 := Host.absf main_v4
  let main_cst_0 : FVec F S_ .f32 := constant S_ .f32 0x7F800000#32
  let main_v6 : FVec F S8448x1024 .f32 := broadcastInDim S8448x1024 ![] bcast_S_S8448x1024 main_cst_0
  let main_v7 : IVec S8448x1024 1 := cmpf .olt main_v5 main_v6
  let main_v8 : FVec F S1x8x1x128 .f32 := (extractStridedSlice S1x8x1x128 ![0, 0, 0, 0] · slices_S2x8x1x128_S1x8x1x128_0_0_0_0) main_arg1
  let main_v9 : FVec F S8x1x128 .f32 := shapeCast S8x1x128 main_v8 shapeCasts_S1x8x1x128_S8x1x128
  let main_cst_1 : FVec F S_ .f32 := constant S_ .f32 0x00000000#32
  let main_v10 : FVec F S8x1x128 .f32 := broadcastInDim S8x1x128 ![] bcast_S_S8x1x128 main_cst_1
  let main_v11 : IVec S8x1x128 1 := cmpf .oge main_v9 main_v10
  let main_v12 : FVec F S1x8x1x128 .f32 := (extractStridedSlice S1x8x1x128 ![0, 0, 0, 0] · slices_S2x8x1x128_S1x8x1x128_0_0_0_0) main_arg1
  let main_v13 : FVec F S8x1x128 .f32 := shapeCast S8x1x128 main_v12 shapeCasts_S1x8x1x128_S8x1x128
  let main_v14 : FVec F S8x1x128 .f32 := Host.absf main_v13
  let main_cst_2 : FVec F S_ .f32 := constant S_ .f32 0x7F800000#32
  let main_v15 : FVec F S8x1x128 .f32 := broadcastInDim S8x1x128 ![] bcast_S_S8x1x128 main_cst_2
  let main_v16 : IVec S8x1x128 1 := cmpf .olt main_v14 main_v15
  let main_v17 : IVec S8x1x128 1 := andi main_v11 main_v16
  let main_v18 : FVec F S8448x1024 .f32 := Host.absf main_arg2
  let main_cst_3 : FVec F S_ .f32 := constant S_ .f32 0x7F800000#32
  fn_part1 (F := F) main_arg3 main_arg4 main_arg5 main_arg6 main_arg7 main_arg8 main_arg9 main_arg10 main_v3 main_v7 main_v17 main_v18 main_cst_3
-- ==== Kernel.lean ====
abbrev S8448x6144 : Shape := ⟨2, ![8448, 6144]⟩
abbrev S2x8x1x128 : Shape := ⟨4, ![2, 8, 1, 128]⟩
abbrev S8448x1024 : Shape := ⟨2, ![8448, 1024]⟩
abbrev S1x264x128x128 : Shape := ⟨4, ![1, 264, 128, 128]⟩
abbrev S32x1024 : Shape := ⟨2, ![32, 1024]⟩
abbrev S1x8x1x128 : Shape := ⟨4, ![1, 8, 1, 128]⟩
abbrev S1x1x128x128 : Shape := ⟨4, ![1, 1, 128, 128]⟩
abbrev S128x128 : Shape := ⟨2, ![128, 128]⟩
abbrev S8x1x128 : Shape := ⟨3, ![8, 1, 128]⟩
abbrev S32x128 : Shape := ⟨2, ![32, 128]⟩
abbrev S1x1x128 : Shape := ⟨3, ![1, 1, 128]⟩
abbrev S1x128 : Shape := ⟨2, ![1, 128]⟩
abbrev S32x32 : Shape := ⟨2, ![32, 32]⟩
abbrev S128 : Shape := ⟨1, ![128]⟩
abbrev S15x128 : Shape := ⟨2, ![15, 128]⟩
abbrev S16x128 : Shape := ⟨2, ![16, 128]⟩
abbrev S7x1x128 : Shape := ⟨3, ![7, 1, 128]⟩
abbrev S6x1x128 : Shape := ⟨3, ![6, 1, 128]⟩
abbrev S5x1x128 : Shape := ⟨3, ![5, 1, 128]⟩
abbrev S2x1x128 : Shape := ⟨3, ![2, 1, 128]⟩
abbrev S4x1x128 : Shape := ⟨3, ![4, 1, 128]⟩
abbrev S3x1x128 : Shape := ⟨3, ![3, 1, 128]⟩
abbrev S32x896 : Shape := ⟨2, ![32, 896]⟩
abbrev S32x768 : Shape := ⟨2, ![32, 768]⟩
abbrev S32x640 : Shape := ⟨2, ![32, 640]⟩
abbrev S32x256 : Shape := ⟨2, ![32, 256]⟩
abbrev S32x512 : Shape := ⟨2, ![32, 512]⟩
abbrev S32x384 : Shape := ⟨2, ![32, 384]⟩

abbrev nBuf : Space → Nat
  | .hbm => 15
  | .vmem => 40
  | .smem => 0
  | _ => 0

abbrev bufTy : (tb : Table) → Fin (tcTables nBuf tb) → BufTy
  | .hbm, ⟨0, _⟩ => ⟨S8448x6144, .f32⟩
  | .hbm, ⟨1, _⟩ => ⟨S2x8x1x128, .f32⟩
  | .hbm, ⟨2, _⟩ => ⟨S8448x1024, .f32⟩
  | .hbm, ⟨3, _⟩ => ⟨S1x264x128x128, .f32⟩
  | .hbm, ⟨4, _⟩ => ⟨S1x264x128x128, .f32⟩
  | .hbm, ⟨5, _⟩ => ⟨S1x264x128x128, .f32⟩
  | .hbm, ⟨6, _⟩ => ⟨S1x264x128x128, .f32⟩
  | .hbm, ⟨7, _⟩ => ⟨S1x264x128x128, .f32⟩
  | .hbm, ⟨8, _⟩ => ⟨S1x264x128x128, .f32⟩
  | .hbm, ⟨9, _⟩ => ⟨S1x264x128x128, .f32⟩
  | .hbm, ⟨10, _⟩ => ⟨S1x264x128x128, .f32⟩
  | .hbm, ⟨11, _⟩ => ⟨S8448x6144, .f32⟩
  | .hbm, ⟨12, _⟩ => ⟨S8448x6144, .f32⟩
  | .hbm, ⟨13, _⟩ => ⟨S8448x6144, .f32⟩
  | .hbm, ⟨14, _⟩ => ⟨S2x8x1x128, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S1x8x1x128, .f32⟩
  | .local _ .vmem, ⟨7, _⟩ => ⟨S1x1x128x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x128x128, .f32⟩
  | .local _ .vmem, ⟨17, _⟩ => ⟨S1x1x128x128, .f32⟩
  | .local _ .vmem, ⟨18, _⟩ => ⟨S1x1x128x128, .f32⟩
  | .local _ .vmem, ⟨19, _⟩ => ⟨S1x1x128x128, .f32⟩
  | .local _ .vmem, ⟨20, _⟩ => ⟨S1x1x128x128, .f32⟩
  | .local _ .vmem, ⟨21, _⟩ => ⟨S1x1x128x128, .f32⟩
  | .local _ .vmem, ⟨22, _⟩ => ⟨S1x1x128x128, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S1x8x1x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨2, ![1, 264], ![false, false]⟩

def k0_cond2 (i : grid0.Coords) : BitVec 1 :=
  let arg1 : BitVec 32 := BitVec.ofNat 32 (i 1).val
  let c0_i32_433 : BitVec 32 := 0#32
  let v1733 : BitVec 1 := Scalar.cmpi .eq arg1 c0_i32_433
  let v1734 : BitVec 32 := Scalar.extui v1733
  let c0_i32_434 : BitVec 32 := 0#32
  let v1735 : BitVec 1 := Scalar.cmpi .ne v1734 c0_i32_434
  v1735

def k0_cond3 (i : grid0.Coords) : BitVec 1 :=
  let arg1 : BitVec 32 := BitVec.ofNat 32 (i 1).val
  let c0_i32_433 : BitVec 32 := 0#32
  let v1733 : BitVec 1 := Scalar.cmpi .eq arg1 c0_i32_433
  let v_true : BitVec 1 := 1#1
  let v1736 : BitVec 1 := Scalar.xori v1733 v_true
  let v1737 : BitVec 32 := Scalar.extui v1736
  let c0_i32_435 : BitVec 32 := 0#32
  let v1738 : BitVec 1 := Scalar.cmpi .ne v1737 c0_i32_435
  v1738

def cc0_transform_0 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c3_i32 : BitVec 32 := 3#32
  let v1 : BitVec 32 := Scalar.addi c3_i32 arg0
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c1_i32 : BitVec 32 := 1#32
  let v1 : BitVec 32 := Scalar.addi c1_i32 arg0
  let c0_i32 : BitVec 32 := 0#32
  ![v0.toNat, v1.toNat]

def cc0_transform_15 (i : grid0.Coords) : Fin 2 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c3_i32 : BitVec 32 := 3#32
  let v1 : BitVec 32 := Scalar.addi c3_i32 arg0
  let c0_i32 : BitVec 32 := 0#32
  ![v0.toNat, v1.toNat]

def cc0_transform_16 (i : grid0.Coords) : Fin 4 → Nat :=
  let arg0 : BitVec 32 := BitVec.ofNat 32 (i 0).val
  let arg1 : BitVec 32 := BitVec.ofNat 32 (i 1).val
  let c263_i32 : BitVec 32 := 263#32
  let v0 : BitVec 32 := Scalar.subi c263_i32 arg1
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x8x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]
-- ==== ReferenceIdeal.lean ====
abbrev S8448x6144 : Shape := ⟨2, ![8448, 6144]⟩
abbrev S2x8x1x128 : Shape := ⟨4, ![2, 8, 1, 128]⟩
abbrev S8448x1024 : Shape := ⟨2, ![8448, 1024]⟩
abbrev S1x264x128x128 : Shape := ⟨4, ![1, 264, 128, 128]⟩
abbrev S264x128x128 : Shape := ⟨3, ![264, 128, 128]⟩
abbrev S264x1x128x128 : Shape := ⟨4, ![264, 1, 128, 128]⟩
abbrev S264x8x128x128 : Shape := ⟨4, ![264, 8, 128, 128]⟩
abbrev S264x32x1024 : Shape := ⟨3, ![264, 32, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8x128x128 : Shape := ⟨3, ![8, 128, 128]⟩
abbrev S1x8x128x128 : Shape := ⟨4, ![1, 8, 128, 128]⟩
abbrev S1x32x1024 : Shape := ⟨3, ![1, 32, 1024]⟩
abbrev S32x1024 : Shape := ⟨2, ![32, 1024]⟩
abbrev S32x8x128 : Shape := ⟨3, ![32, 8, 128]⟩
abbrev S8x32x128 : Shape := ⟨3, ![8, 32, 128]⟩
abbrev S8x1x128 : Shape := ⟨3, ![8, 1, 128]⟩
abbrev S32x32 : Shape := ⟨2, ![32, 32]⟩
abbrev S8x32x32 : Shape := ⟨3, ![8, 32, 32]⟩
abbrev S8x128 : Shape := ⟨2, ![8, 128]⟩
abbrev S8x128x1 : Shape := ⟨3, ![8, 128, 1]⟩
abbrev S8x128x32 : Shape := ⟨3, ![8, 128, 32]⟩

abbrev nBuf : Space → Nat
  | .hbm => 343
  | .vmem => 0
  | .smem => 0
  | _ => 0

abbrev hbmTy0_0 (i : Nat) : BufTy := match i % 128 with
  | 0 => ⟨S8448x6144, .f32⟩
  | 1 => ⟨S2x8x1x128, .f32⟩
  | 2 => ⟨S8448x1024, .f32⟩
  | 3 => ⟨S1x264x128x128, .f32⟩
  | 4 => ⟨S1x264x128x128, .f32⟩
  | 5 => ⟨S1x264x128x128, .f32⟩
  | 6 => ⟨S1x264x128x128, .f32⟩
  | 7 => ⟨S1x264x128x128, .f32⟩
  | 8 => ⟨S1x264x128x128, .f32⟩
  | 9 => ⟨S1x264x128x128, .f32⟩
  | 10 => ⟨S1x264x128x128, .f32⟩
  | 11 => ⟨S264x128x128, .f32⟩
  | 12 => ⟨S264x128x128, .f32⟩
  | 13 => ⟨S264x128x128, .f32⟩
  | 14 => ⟨S264x128x128, .f32⟩
  | 15 => ⟨S264x128x128, .f32⟩
  | 16 => ⟨S264x128x128, .f32⟩
  | 17 => ⟨S264x128x128, .f32⟩
  | 18 => ⟨S264x128x128, .f32⟩
  | 19 => ⟨S264x1x128x128, .f32⟩
  | 20 => ⟨S264x1x128x128, .f32⟩
  | 21 => ⟨S264x1x128x128, .f32⟩
  | 22 => ⟨S264x1x128x128, .f32⟩
  | 23 => ⟨S264x1x128x128, .f32⟩
  | 24 => ⟨S264x1x128x128, .f32⟩
  | 25 => ⟨S264x1x128x128, .f32⟩
  | 26 => ⟨S264x1x128x128, .f32⟩
  | 27 => ⟨S264x8x128x128, .f32⟩
  | 28 => ⟨S264x8x128x128, .f32⟩
  | 29 => ⟨S8448x1024, .f32⟩
  | 30 => ⟨S264x32x1024, .f32⟩
  | 31 => ⟨S8448x1024, .f32⟩
  | 32 => ⟨S264x32x1024, .f32⟩
  | 33 => ⟨S8448x1024, .f32⟩
  | 34 => ⟨S264x32x1024, .f32⟩
  | 35 => ⟨S2x1024, .f32⟩
  | 36 => ⟨S1x1024, .f32⟩
  | 37 => ⟨S1024, .f32⟩
  | 38 => ⟨S_, .f32⟩
  | 39 => ⟨S8x128x128, .f32⟩
  | 40 => ⟨S_, .f32⟩
  | 41 => ⟨S1024, .f32⟩
  | 42 => ⟨S264x32x1024, .f32⟩
  | 43 => ⟨S_, .f32⟩
  | 44 => ⟨S264x32x1024, .f32⟩
  | 45 => ⟨S_, .f32⟩
  | 46 => ⟨S264x32x1024, .f32⟩
  | 47 => ⟨S_, .f32⟩
  | 48 => ⟨S264x32x1024, .f32⟩
  | 49 => ⟨S_, .i32⟩
  | 50 => ⟨S264x8x128x128, .f32⟩
  | 51 => ⟨S264x32x1024, .f32⟩
  | 52 => ⟨S264x32x1024, .f32⟩
  | 53 => ⟨S264x32x1024, .f32⟩
  | 54 => ⟨S264x32x1024, .f32⟩
  | 55 => ⟨S1024, .f32⟩
  | 56 => ⟨S_, .i32⟩
  | 57 => ⟨S8x128x128, .f32⟩
  | 58 => ⟨S1024, .f32⟩
  | 59 => ⟨S264x32x1024, .f32⟩
  | 60 => ⟨S264x32x1024, .f32⟩
  | 61 => ⟨S264x32x1024, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S1x8x128x128, .f32⟩
  | 72 => ⟨S8x128x128, .f32⟩
  | 73 => ⟨S_, .i32⟩
  | 74 => ⟨S_, .i32⟩
  | 75 => ⟨S1x32x1024, .f32⟩
  | 76 => ⟨S32x1024, .f32⟩
  | 77 => ⟨S_, .i32⟩
  | 78 => ⟨S_, .i32⟩
  | 79 => ⟨S1x32x1024, .f32⟩
  | 80 => ⟨S32x1024, .f32⟩
  | 81 => ⟨S_, .i32⟩
  | 82 => ⟨S_, .i32⟩
  | 83 => ⟨S1x32x1024, .f32⟩
  | 84 => ⟨S32x1024, .f32⟩
  | 85 => ⟨S_, .i32⟩
  | 86 => ⟨S_, .i32⟩
  | 87 => ⟨S1x32x1024, .f32⟩
  | 88 => ⟨S32x1024, .f32⟩
  | 89 => ⟨S32x1024, .f32⟩
  | 90 => ⟨S32x1024, .f32⟩
  | 91 => ⟨S_, .f32⟩
  | 92 => ⟨S32x1024, .f32⟩
  | 93 => ⟨S32x1024, .f32⟩
  | 94 => ⟨S_, .f32⟩
  | 95 => ⟨S32x1024, .f32⟩
  | 96 => ⟨S32x1024, .f32⟩
  | 97 => ⟨S_, .f32⟩
  | 98 => ⟨S32x1024, .f32⟩
  | 99 => ⟨S32x1024, .f32⟩
  | 100 => ⟨S32x1024, .f32⟩
  | 101 => ⟨S32x1024, .f32⟩
  | 102 => ⟨S32x8x128, .f32⟩
  | 103 => ⟨S32x8x128, .f32⟩
  | 104 => ⟨S_, .f32⟩
  | 105 => ⟨S1024, .f32⟩
  | 106 => ⟨S1024, .f32⟩
  | 107 => ⟨S32x1024, .f32⟩
  | 108 => ⟨S32x1024, .f32⟩
  | 109 => ⟨S_, .f32⟩
  | 110 => ⟨S32x1024, .f32⟩
  | 111 => ⟨S32x1024, .f32⟩
  | 112 => ⟨S_, .f32⟩
  | 113 => ⟨S32x1024, .f32⟩
  | 114 => ⟨S32x1024, .f32⟩
  | 115 => ⟨S_, .f32⟩
  | 116 => ⟨S32x1024, .f32⟩
  | 117 => ⟨S32x1024, .f32⟩
  | 118 => ⟨S32x1024, .f32⟩
  | 119 => ⟨S1x1024, .f32⟩
  | 120 => ⟨S32x1024, .f32⟩
  | 121 => ⟨S32x1024, .f32⟩
  | 122 => ⟨S1x1024, .f32⟩
  | 123 => ⟨S32x1024, .f32⟩
  | 124 => ⟨S32x1024, .f32⟩
  | 125 => ⟨S32x1024, .f32⟩
  | 126 => ⟨S_, .f32⟩
  | 127 => ⟨S1024, .f32⟩
  | _ => ⟨S8448x6144, .f32⟩

abbrev hbmTy0_1 (i : Nat) : BufTy := match i % 128 with
  | 0 => ⟨S1024, .f32⟩
  | 1 => ⟨S32x1024, .f32⟩
  | 2 => ⟨S32x1024, .f32⟩
  | 3 => ⟨S32x1024, .f32⟩
  | 4 => ⟨S_, .f32⟩
  | 5 => ⟨S32x1024, .f32⟩
  | 6 => ⟨S32x1024, .f32⟩
  | 7 => ⟨S_, .f32⟩
  | 8 => ⟨S32x1024, .f32⟩
  | 9 => ⟨S32x1024, .f32⟩
  | 10 => ⟨S_, .f32⟩
  | 11 => ⟨S32x1024, .f32⟩
  | 12 => ⟨S32x1024, .f32⟩
  | 13 => ⟨S32x1024, .f32⟩
  | 14 => ⟨S1x1024, .f32⟩
  | 15 => ⟨S32x1024, .f32⟩
  | 16 => ⟨S32x1024, .f32⟩
  | 17 => ⟨S32x8x128, .f32⟩
  | 18 => ⟨S32x8x128, .f32⟩
  | 19 => ⟨S8x32x128, .f32⟩
  | 20 => ⟨S8x32x128, .f32⟩
  | 21 => ⟨S8x32x128, .f32⟩
  | 22 => ⟨S8x32x128, .f32⟩
  | 23 => ⟨S_, .f32⟩
  | 24 => ⟨S_, .f32⟩
  | 25 => ⟨S8x32x128, .f32⟩
  | 26 => ⟨S8x1x128, .f32⟩
  | 27 => ⟨S8x1x128, .f32⟩
  | 28 => ⟨S_, .i1⟩
  | 29 => ⟨S32x32, .i1⟩
  | 30 => ⟨S32x32, .i32⟩
  | 31 => ⟨S_, .i32⟩
  | 32 => ⟨S32x32, .i32⟩
  | 33 => ⟨S32x32, .i32⟩
  | 34 => ⟨S32x32, .i32⟩
  | 35 => ⟨S32x32, .i1⟩
  | 36 => ⟨S_, .i1⟩
  | 37 => ⟨S32x32, .i1⟩
  | 38 => ⟨S32x32, .i1⟩
  | 39 => ⟨S8x32x128, .f32⟩
  | 40 => ⟨S8x32x128, .f32⟩
  | 41 => ⟨S8x32x128, .f32⟩
  | 42 => ⟨S8x32x128, .f32⟩
  | 43 => ⟨S8x32x128, .f32⟩
  | 44 => ⟨S8x32x128, .f32⟩
  | 45 => ⟨S8x32x128, .f32⟩
  | 46 => ⟨S8x32x128, .f32⟩
  | 47 => ⟨S8x32x32, .f32⟩
  | 48 => ⟨S_, .f32⟩
  | 49 => ⟨S_, .f32⟩
  | 50 => ⟨S8x32x32, .i1⟩
  | 51 => ⟨S8x32x32, .f32⟩
  | 52 => ⟨S8x32x32, .f32⟩
  | 53 => ⟨S_, .f32⟩
  | 54 => ⟨S8x32x32, .f32⟩
  | 55 => ⟨S8x32x128, .f32⟩
  | 56 => ⟨S8x32x128, .f32⟩
  | 57 => ⟨S8x32x128, .f32⟩
  | 58 => ⟨S8x32x128, .f32⟩
  | 59 => ⟨S8x32x128, .f32⟩
  | 60 => ⟨S8x32x128, .f32⟩
  | 61 => ⟨S8x32x128, .f32⟩
  | 62 => ⟨S8x1x128, .f32⟩
  | 63 => ⟨S8x32x128, .f32⟩
  | 64 => ⟨S8x128, .f32⟩
  | 65 => ⟨S8x128x1, .f32⟩
  | 66 => ⟨S8x128x128, .f32⟩
  | 67 => ⟨S8x128x128, .f32⟩
  | 68 => ⟨S8x128x128, .f32⟩
  | 69 => ⟨S8x128x128, .f32⟩
  | 70 => ⟨S8x32x128, .f32⟩
  | 71 => ⟨S32x8x128, .f32⟩
  | 72 => ⟨S32x1024, .f32⟩
  | 73 => ⟨S32x8x128, .f32⟩
  | 74 => ⟨S8x32x128, .f32⟩
  | 75 => ⟨S8x128x32, .f32⟩
  | 76 => ⟨S8x32x128, .f32⟩
  | 77 => ⟨S8x128x32, .f32⟩
  | 78 => ⟨S8x32x128, .f32⟩
  | 79 => ⟨S8x128x128, .f32⟩
  | 80 => ⟨S_, .f32⟩
  | 81 => ⟨S8x128, .f32⟩
  | 82 => ⟨S8x128x1, .f32⟩
  | 83 => ⟨S8x128x128, .f32⟩
  | 84 => ⟨S8x128x128, .f32⟩
  | 85 => ⟨S_, .f32⟩
  | 86 => ⟨S8x128, .f32⟩
  | 87 => ⟨S8x1x128, .f32⟩
  | 88 => ⟨S8x128x128, .f32⟩
  | 89 => ⟨S8x128x128, .f32⟩
  | 90 => ⟨S8x128x128, .f32⟩
  | 91 => ⟨S8x32x128, .f32⟩
  | 92 => ⟨S8x1x128, .f32⟩
  | 93 => ⟨S8x32x128, .f32⟩
  | 94 => ⟨S8x32x128, .f32⟩
  | 95 => ⟨S8x32x128, .f32⟩
  | 96 => ⟨S_, .f32⟩
  | 97 => ⟨S8x128, .f32⟩
  | 98 => ⟨S8x1x128, .f32⟩
  | 99 => ⟨S8x32x128, .f32⟩
  | 100 => ⟨S8x1x128, .f32⟩
  | 101 => ⟨S8x32x128, .f32⟩
  | 102 => ⟨S8x32x128, .f32⟩
  | 103 => ⟨S8x32x128, .f32⟩
  | 104 => ⟨S8x32x128, .f32⟩
  | 105 => ⟨S8x128x32, .f32⟩
  | 106 => ⟨S8x32x128, .f32⟩
  | 107 => ⟨S8x32x128, .f32⟩
  | 108 => ⟨S8x32x32, .f32⟩
  | 109 => ⟨S_, .f32⟩
  | 110 => ⟨S8x32x32, .f32⟩
  | 111 => ⟨S8x32x32, .f32⟩
  | 112 => ⟨S8x32x128, .f32⟩
  | 113 => ⟨S8x32x128, .f32⟩
  | 114 => ⟨S8x32x128, .f32⟩
  | 115 => ⟨S8x32x128, .f32⟩
  | 116 => ⟨S8x32x128, .f32⟩
  | 117 => ⟨S8x32x128, .f32⟩
  | 118 => ⟨S_, .f32⟩
  | 119 => ⟨S8x128, .f32⟩
  | 120 => ⟨S8x1x128, .f32⟩
  | 121 => ⟨S8x32x128, .f32⟩
  | 122 => ⟨S8x32x128, .f32⟩
  | 123 => ⟨S8x32x128, .f32⟩
  | 124 => ⟨S8x32x128, .f32⟩
  | 125 => ⟨S8x32x128, .f32⟩
  | 126 => ⟨S8x32x128, .f32⟩
  | 127 => ⟨S8x32x128, .f32⟩
  | _ => ⟨S8448x6144, .f32⟩

abbrev hbmTy0_2 (i : Nat) : BufTy := match i % 128 with
  | 0 => ⟨S_, .f32⟩
  | 1 => ⟨S8x128, .f32⟩
  | 2 => ⟨S8x1x128, .f32⟩
  | 3 => ⟨S8x32x128, .f32⟩
  | 4 => ⟨S8x1x128, .f32⟩
  | 5 => ⟨S_, .f32⟩
  | 6 => ⟨S8x32x128, .f32⟩
  | 7 => ⟨S8x32x128, .f32⟩
  | 8 => ⟨S_, .f32⟩
  | 9 => ⟨S8x32x128, .f32⟩
  | 10 => ⟨S8x32x128, .f32⟩
  | 11 => ⟨S_, .f32⟩
  | 12 => ⟨S_, .f32⟩
  | 13 => ⟨S8x32x128, .f32⟩
  | 14 => ⟨S32x8x128, .f32⟩
  | 15 => ⟨S32x8x128, .f32⟩
  | 16 => ⟨S32x8x128, .f32⟩
  | 17 => ⟨S32x8x128, .f32⟩
  | 18 => ⟨S32x1024, .f32⟩
  | 19 => ⟨S32x1024, .f32⟩
  | 20 => ⟨S32x1024, .f32⟩
  | 21 => ⟨S32x1024, .f32⟩
  | 22 => ⟨S32x1024, .f32⟩
  | 23 => ⟨S_, .f32⟩
  | 24 => ⟨S1024, .f32⟩
  | 25 => ⟨S1x1024, .f32⟩
  | 26 => ⟨S_, .f32⟩
  | 27 => ⟨S1024, .f32⟩
  | 28 => ⟨S32x1024, .f32⟩
  | 29 => ⟨S32x1024, .f32⟩
  | 30 => ⟨S1024, .f32⟩
  | 31 => ⟨S32x1024, .f32⟩
  | 32 => ⟨S_, .f32⟩
  | 33 => ⟨S1024, .f32⟩
  | 34 => ⟨S1x1024, .f32⟩
  | 35 => ⟨S_, .f32⟩
  | 36 => ⟨S1024, .f32⟩
  | 37 => ⟨S1024, .f32⟩
  | 38 => ⟨S32x1024, .f32⟩
  | 39 => ⟨S32x1024, .f32⟩
  | 40 => ⟨S32x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S32x1024, .f32⟩
  | 47 => ⟨S32x1024, .f32⟩
  | 48 => ⟨S1024, .f32⟩
  | 49 => ⟨S1024, .f32⟩
  | 50 => ⟨S32x1024, .f32⟩
  | 51 => ⟨S32x1024, .f32⟩
  | 52 => ⟨S32x1024, .f32⟩
  | 53 => ⟨S32x1024, .f32⟩
  | 54 => ⟨S32x1024, .f32⟩
  | 55 => ⟨S32x1024, .f32⟩
  | 56 => ⟨S1024, .f32⟩
  | 57 => ⟨S1x32x1024, .f32⟩
  | 58 => ⟨S_, .i32⟩
  | 59 => ⟨S_, .i32⟩
  | 60 => ⟨S264x32x1024, .f32⟩
  | 61 => ⟨S1x32x1024, .f32⟩
  | 62 => ⟨S_, .i32⟩
  | 63 => ⟨S_, .i32⟩
  | 64 => ⟨S264x32x1024, .f32⟩
  | 65 => ⟨S1x32x1024, .f32⟩
  | 66 => ⟨S_, .i32⟩
  | 67 => ⟨S_, .i32⟩
  | 68 => ⟨S264x32x1024, .f32⟩
  | 69 => ⟨S_, .i32⟩
  | 70 => ⟨S_, .i32⟩
  | 71 => ⟨S8448x1024, .f32⟩
  | 72 => ⟨S_, .i32⟩
  | 73 => ⟨S_, .f32⟩
  | 74 => ⟨S8448x6144, .f32⟩
  | 75 => ⟨S8448x1024, .f32⟩
  | 76 => ⟨S_, .i32⟩
  | 77 => ⟨S_, .f32⟩
  | 78 => ⟨S8448x6144, .f32⟩
  | 79 => ⟨S8448x1024, .f32⟩
  | 80 => ⟨S_, .i32⟩
  | 81 => ⟨S_, .f32⟩
  | 82 => ⟨S8448x6144, .f32⟩
  | 83 => ⟨S1x1024, .f32⟩
  | 84 => ⟨S1x1024, .f32⟩
  | 85 => ⟨S2x1024, .f32⟩
  | 86 => ⟨S2x8x1x128, .f32⟩
  | _ => ⟨S8448x6144, .f32⟩

abbrev hbmTy (i : Nat) : BufTy := match i / 128 with
  | 0 => hbmTy0_0 i
  | 1 => hbmTy0_1 i
  | 2 => hbmTy0_2 i
  | _ => ⟨S8448x6144, .f32⟩

abbrev bufTy : (tb : Table) → Fin (tcTables nBuf tb) → BufTy
  | .hbm, ⟨i, _⟩ => hbmTy i
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_c : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v33_3 : Ref sig .tc := ⟨.hbm, 53, rfl⟩
abbrev main_v33_4 : Ref sig .tc := ⟨.hbm, 54, rfl⟩
abbrev main_v33_5 : Ref sig .tc := ⟨.hbm, 55, rfl⟩
abbrev main_v33_6 : Ref sig .tc := ⟨.hbm, 56, rfl⟩
abbrev main_v33_7 : Ref sig .tc := ⟨.hbm, 57, rfl⟩
abbrev main_v33_8 : Ref sig .tc := ⟨.hbm, 58, rfl⟩
abbrev main_v33_9 : Ref sig .tc := ⟨.hbm, 59, rfl⟩
abbrev main_v33_10 : Ref sig .tc := ⟨.hbm, 60, rfl⟩
abbrev main_v33_11 : Ref sig .tc := ⟨.hbm, 61, rfl⟩
abbrev main_while0c_c_18 : Ref sig .tc := ⟨.hbm, 62, rfl⟩
abbrev main_while0c_v44 : Ref sig .tc := ⟨.hbm, 63, rfl⟩
abbrev main_while0b_c_18 : Ref sig .tc := ⟨.hbm, 64, rfl⟩
abbrev main_while0b_v44 : Ref sig .tc := ⟨.hbm, 65, rfl⟩
abbrev main_while0b_c_19 : Ref sig .tc := ⟨.hbm, 66, rfl⟩
abbrev main_while0b_v45 : Ref sig .tc := ⟨.hbm, 67, rfl⟩
abbrev main_while0b_call0_c : Ref sig .tc := ⟨.hbm, 68, rfl⟩
abbrev main_while0b_call0_c_0 : Ref sig .tc := ⟨.hbm, 69, rfl⟩
abbrev main_while0b_call0_c_1 : Ref sig .tc := ⟨.hbm, 70, rfl⟩
abbrev main_while0b_call0_v0 : Ref sig .tc := ⟨.hbm, 71, rfl⟩
abbrev main_while0b_v46 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_v0 : Ref sig .tc := ⟨.hbm, 75, rfl⟩
abbrev main_while0b_v47 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_v0 : Ref sig .tc := ⟨.hbm, 79, rfl⟩
abbrev main_while0b_v48 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_v0 : Ref sig .tc := ⟨.hbm, 83, rfl⟩
abbrev main_while0b_v49 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_v0 : Ref sig .tc := ⟨.hbm, 87, rfl⟩
abbrev main_while0b_v50 : Ref sig .tc := ⟨.hbm, 88, rfl⟩
abbrev main_while0b_call5_v0 : Ref sig .tc := ⟨.hbm, 89, rfl⟩
abbrev main_while0b_call5_v1 : Ref sig .tc := ⟨.hbm, 90, rfl⟩
abbrev main_while0b_call5_cst : Ref sig .tc := ⟨.hbm, 91, rfl⟩
abbrev main_while0b_call5_v2 : Ref sig .tc := ⟨.hbm, 92, rfl⟩
abbrev main_while0b_call5_v3 : Ref sig .tc := ⟨.hbm, 93, rfl⟩
abbrev main_while0b_call5_cst_0 : Ref sig .tc := ⟨.hbm, 94, rfl⟩
abbrev main_while0b_call5_v4 : Ref sig .tc := ⟨.hbm, 95, rfl⟩
abbrev main_while0b_v51_2 : Ref sig .tc := ⟨.hbm, 96, rfl⟩
abbrev main_while0b_call5_cst_1 : Ref sig .tc := ⟨.hbm, 97, rfl⟩
abbrev main_while0b_call5_v6 : Ref sig .tc := ⟨.hbm, 98, rfl⟩
abbrev main_while0b_call5_v7 : Ref sig .tc := ⟨.hbm, 99, rfl⟩
abbrev main_while0b_v51_1 : Ref sig .tc := ⟨.hbm, 100, rfl⟩
abbrev main_while0b_v51_0 : Ref sig .tc := ⟨.hbm, 101, rfl⟩
abbrev main_while0b_v52 : Ref sig .tc := ⟨.hbm, 102, rfl⟩
abbrev main_while0b_v53 : Ref sig .tc := ⟨.hbm, 103, rfl⟩
abbrev main_while0b_cst_20 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_cst_21 : Ref sig .tc := ⟨.hbm, 109, rfl⟩
abbrev main_while0b_v58 : Ref sig .tc := ⟨.hbm, 110, rfl⟩
abbrev main_while0b_v59 : Ref sig .tc := ⟨.hbm, 111, rfl⟩
abbrev main_while0b_cst_22 : Ref sig .tc := ⟨.hbm, 112, rfl⟩
abbrev main_while0b_v60 : Ref sig .tc := ⟨.hbm, 113, rfl⟩
abbrev main_while0b_v61 : Ref sig .tc := ⟨.hbm, 114, rfl⟩
abbrev main_while0b_cst_23 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_cst_24 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_cst_25 : Ref sig .tc := ⟨.hbm, 132, rfl⟩
abbrev main_while0b_v77 : Ref sig .tc := ⟨.hbm, 133, rfl⟩
abbrev main_while0b_v78 : Ref sig .tc := ⟨.hbm, 134, rfl⟩
abbrev main_while0b_cst_26 : Ref sig .tc := ⟨.hbm, 135, rfl⟩
abbrev main_while0b_v79 : Ref sig .tc := ⟨.hbm, 136, rfl⟩
abbrev main_while0b_v80 : Ref sig .tc := ⟨.hbm, 137, rfl⟩
abbrev main_while0b_cst_27 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_call6_call0_cst : Ref sig .tc := ⟨.hbm, 151, rfl⟩
abbrev main_while0b_call6_call0_v0 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_c_28 : Ref sig .tc := ⟨.hbm, 156, rfl⟩
abbrev main_while0b_v96 : Ref sig .tc := ⟨.hbm, 157, rfl⟩
abbrev main_while0b_call7_v0 : Ref sig .tc := ⟨.hbm, 158, rfl⟩
abbrev main_while0b_call7_c : Ref sig .tc := ⟨.hbm, 159, rfl⟩
abbrev main_while0b_call7_v1 : Ref sig .tc := ⟨.hbm, 160, rfl⟩
abbrev main_while0b_call7_v2 : Ref sig .tc := ⟨.hbm, 161, rfl⟩
abbrev main_while0b_call7_v3 : Ref sig .tc := ⟨.hbm, 162, rfl⟩
abbrev main_while0b_call7_v4 : Ref sig .tc := ⟨.hbm, 163, rfl⟩
abbrev main_while0b_call7_c_0 : Ref sig .tc := ⟨.hbm, 164, rfl⟩
abbrev main_while0b_call7_v5 : Ref sig .tc := ⟨.hbm, 165, rfl⟩
abbrev main_while0b_v97 : Ref sig .tc := ⟨.hbm, 166, rfl⟩
abbrev main_while0b_v98 : Ref sig .tc := ⟨.hbm, 167, rfl⟩
abbrev main_while0b_v99 : Ref sig .tc := ⟨.hbm, 168, rfl⟩
abbrev main_while0b_v100 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_v104 : Ref sig .tc := ⟨.hbm, 173, rfl⟩
abbrev main_while0b_v105 : Ref sig .tc := ⟨.hbm, 174, rfl⟩
abbrev main_while0b_v106 : Ref sig .tc := ⟨.hbm, 175, rfl⟩
abbrev main_while0b_cst_29 : Ref sig .tc := ⟨.hbm, 176, rfl⟩
abbrev main_while0b_call8_v0 : Ref sig .tc := ⟨.hbm, 177, rfl⟩
abbrev main_while0b_v107_1 : Ref sig .tc := ⟨.hbm, 178, rfl⟩
abbrev main_while0b_call8_v2 : Ref sig .tc := ⟨.hbm, 179, rfl⟩
abbrev main_while0b_v107_0 : Ref sig .tc := ⟨.hbm, 180, rfl⟩
abbrev main_while0b_call8_cst : Ref sig .tc := ⟨.hbm, 181, rfl⟩
abbrev main_while0b_v107_2 : Ref sig .tc := ⟨.hbm, 182, rfl⟩
abbrev main_while0b_v108 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_v115 : Ref sig .tc := ⟨.hbm, 190, rfl⟩
abbrev main_while0b_v116 : Ref sig .tc := ⟨.hbm, 191, rfl⟩
abbrev main_while0b_v117 : Ref sig .tc := ⟨.hbm, 192, rfl⟩
abbrev main_while0b_v118 : Ref sig .tc := ⟨.hbm, 193, rfl⟩
abbrev main_while0b_v119 : Ref sig .tc := ⟨.hbm, 194, rfl⟩
abbrev main_while0b_v120 : Ref sig .tc := ⟨.hbm, 195, rfl⟩
abbrev main_while0b_v121 : Ref sig .tc := ⟨.hbm, 196, rfl⟩
abbrev main_while0b_v122 : Ref sig .tc := ⟨.hbm, 197, rfl⟩
abbrev main_while0b_v123 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_v127 : Ref sig .tc := ⟨.hbm, 202, rfl⟩
abbrev main_while0b_v128 : Ref sig .tc := ⟨.hbm, 203, rfl⟩
abbrev main_while0b_v129 : Ref sig .tc := ⟨.hbm, 204, rfl⟩
abbrev main_while0b_v130 : Ref sig .tc := ⟨.hbm, 205, rfl⟩
abbrev main_while0b_v131 : Ref sig .tc := ⟨.hbm, 206, rfl⟩
abbrev main_while0b_v132 : Ref sig .tc := ⟨.hbm, 207, rfl⟩
abbrev main_while0b_cst_30 : Ref sig .tc := ⟨.hbm, 208, rfl⟩
abbrev main_while0b_v133 : Ref sig .tc := ⟨.hbm, 209, rfl⟩
abbrev main_while0b_v134 : Ref sig .tc := ⟨.hbm, 210, rfl⟩
abbrev main_while0b_v135 : Ref sig .tc := ⟨.hbm, 211, rfl⟩
abbrev main_while0b_v136 : Ref sig .tc := ⟨.hbm, 212, rfl⟩
abbrev main_while0b_cst_31 : Ref sig .tc := ⟨.hbm, 213, rfl⟩
abbrev main_while0b_v137 : Ref sig .tc := ⟨.hbm, 214, rfl⟩
abbrev main_while0b_v138 : Ref sig .tc := ⟨.hbm, 215, rfl⟩
abbrev main_while0b_v139 : Ref sig .tc := ⟨.hbm, 216, rfl⟩
abbrev main_while0b_v140 : Ref sig .tc := ⟨.hbm, 217, rfl⟩
abbrev main_while0b_v141 : Ref sig .tc := ⟨.hbm, 218, rfl⟩
abbrev main_while0b_v142 : Ref sig .tc := ⟨.hbm, 219, rfl⟩
abbrev main_while0b_v143 : Ref sig .tc := ⟨.hbm, 220, rfl⟩
abbrev main_while0b_v144 : Ref sig .tc := ⟨.hbm, 221, rfl⟩
abbrev main_while0b_v145 : Ref sig .tc := ⟨.hbm, 222, rfl⟩
abbrev main_while0b_v146 : Ref sig .tc := ⟨.hbm, 223, rfl⟩
abbrev main_while0b_cst_32 : Ref sig .tc := ⟨.hbm, 224, rfl⟩
abbrev main_while0b_v147 : Ref sig .tc := ⟨.hbm, 225, rfl⟩
abbrev main_while0b_v148 : Ref sig .tc := ⟨.hbm, 226, rfl⟩
abbrev main_while0b_v149 : Ref sig .tc := ⟨.hbm, 227, rfl⟩
abbrev main_while0b_v150 : Ref sig .tc := ⟨.hbm, 228, rfl⟩
abbrev main_while0b_v151 : Ref sig .tc := ⟨.hbm, 229, rfl⟩
abbrev main_while0b_v152 : Ref sig .tc := ⟨.hbm, 230, rfl⟩
abbrev main_while0b_v153 : Ref sig .tc := ⟨.hbm, 231, rfl⟩
abbrev main_while0b_v154 : Ref sig .tc := ⟨.hbm, 232, rfl⟩
abbrev main_while0b_v155 : Ref sig .tc := ⟨.hbm, 233, rfl⟩
abbrev main_while0b_v156 : Ref sig .tc := ⟨.hbm, 234, rfl⟩
abbrev main_while0b_v157 : Ref sig .tc := ⟨.hbm, 235, rfl⟩
abbrev main_while0b_v158 : Ref sig .tc := ⟨.hbm, 236, rfl⟩
abbrev main_while0b_call9_cst : Ref sig .tc := ⟨.hbm, 237, rfl⟩
abbrev main_while0b_call9_v0 : Ref sig .tc := ⟨.hbm, 238, rfl⟩
abbrev main_while0b_v159 : Ref sig .tc := ⟨.hbm, 239, rfl⟩
abbrev main_while0b_v160 : Ref sig .tc := ⟨.hbm, 240, rfl⟩
abbrev main_while0b_v161 : Ref sig .tc := ⟨.hbm, 241, rfl⟩
abbrev main_while0b_v162 : Ref sig .tc := ⟨.hbm, 242, rfl⟩
abbrev main_while0b_v163 : Ref sig .tc := ⟨.hbm, 243, rfl⟩
abbrev main_while0b_v164 : Ref sig .tc := ⟨.hbm, 244, rfl⟩
abbrev main_while0b_v165 : Ref sig .tc := ⟨.hbm, 245, rfl⟩
abbrev main_while0b_cst_33 : Ref sig .tc := ⟨.hbm, 246, rfl⟩
abbrev main_while0b_v166 : Ref sig .tc := ⟨.hbm, 247, rfl⟩
abbrev main_while0b_v167 : Ref sig .tc := ⟨.hbm, 248, rfl⟩
abbrev main_while0b_v168 : Ref sig .tc := ⟨.hbm, 249, rfl⟩
abbrev main_while0b_v169 : Ref sig .tc := ⟨.hbm, 250, rfl⟩
abbrev main_while0b_v170 : Ref sig .tc := ⟨.hbm, 251, rfl⟩
abbrev main_while0b_v171 : Ref sig .tc := ⟨.hbm, 252, rfl⟩
abbrev main_while0b_v172 : Ref sig .tc := ⟨.hbm, 253, rfl⟩
abbrev main_while0b_v173 : Ref sig .tc := ⟨.hbm, 254, rfl⟩
abbrev main_while0b_v174 : Ref sig .tc := ⟨.hbm, 255, rfl⟩
abbrev main_while0b_cst_34 : Ref sig .tc := ⟨.hbm, 256, rfl⟩
abbrev main_while0b_v175 : Ref sig .tc := ⟨.hbm, 257, rfl⟩
abbrev main_while0b_v176 : Ref sig .tc := ⟨.hbm, 258, rfl⟩
abbrev main_while0b_v177 : Ref sig .tc := ⟨.hbm, 259, rfl⟩
abbrev main_while0b_v178 : Ref sig .tc := ⟨.hbm, 260, rfl⟩
abbrev main_while0b_cst_35 : Ref sig .tc := ⟨.hbm, 261, rfl⟩
abbrev main_while0b_v179 : Ref sig .tc := ⟨.hbm, 262, rfl⟩
abbrev main_while0b_v180 : Ref sig .tc := ⟨.hbm, 263, rfl⟩
abbrev main_while0b_cst_36 : Ref sig .tc := ⟨.hbm, 264, rfl⟩
abbrev main_while0b_v181 : Ref sig .tc := ⟨.hbm, 265, rfl⟩
abbrev main_while0b_v182 : Ref sig .tc := ⟨.hbm, 266, rfl⟩
abbrev main_while0b_call10_call0_cst : Ref sig .tc := ⟨.hbm, 267, rfl⟩
abbrev main_while0b_call10_call0_v0 : Ref sig .tc := ⟨.hbm, 268, rfl⟩
abbrev main_while0b_v183 : Ref sig .tc := ⟨.hbm, 269, rfl⟩
abbrev main_while0b_v184 : Ref sig .tc := ⟨.hbm, 270, rfl⟩
abbrev main_while0b_v185 : Ref sig .tc := ⟨.hbm, 271, rfl⟩
abbrev main_while0b_v186 : Ref sig .tc := ⟨.hbm, 272, rfl⟩
abbrev main_while0b_v187 : Ref sig .tc := ⟨.hbm, 273, rfl⟩
abbrev main_while0b_v188 : Ref sig .tc := ⟨.hbm, 274, rfl⟩
abbrev main_while0b_v189 : Ref sig .tc := ⟨.hbm, 275, rfl⟩
abbrev main_while0b_v190 : Ref sig .tc := ⟨.hbm, 276, rfl⟩
abbrev main_while0b_v191 : Ref sig .tc := ⟨.hbm, 277, rfl⟩
abbrev main_while0b_v192 : Ref sig .tc := ⟨.hbm, 278, rfl⟩
abbrev main_while0b_cst_37 : Ref sig .tc := ⟨.hbm, 279, rfl⟩
abbrev main_while0b_v193 : Ref sig .tc := ⟨.hbm, 280, rfl⟩
abbrev main_while0b_v194 : Ref sig .tc := ⟨.hbm, 281, rfl⟩
abbrev main_while0b_cst_38 : Ref sig .tc := ⟨.hbm, 282, rfl⟩
abbrev main_while0b_v195 : Ref sig .tc := ⟨.hbm, 283, rfl⟩
abbrev main_while0b_v196 : Ref sig .tc := ⟨.hbm, 284, rfl⟩
abbrev main_while0b_v197 : Ref sig .tc := ⟨.hbm, 285, rfl⟩
abbrev main_while0b_v198 : Ref sig .tc := ⟨.hbm, 286, rfl⟩
abbrev main_while0b_v199 : Ref sig .tc := ⟨.hbm, 287, rfl⟩
abbrev main_while0b_cst_39 : Ref sig .tc := ⟨.hbm, 288, rfl⟩
abbrev main_while0b_v200 : Ref sig .tc := ⟨.hbm, 289, rfl⟩
abbrev main_while0b_v201 : Ref sig .tc := ⟨.hbm, 290, rfl⟩
abbrev main_while0b_cst_40 : Ref sig .tc := ⟨.hbm, 291, rfl⟩
abbrev main_while0b_v202 : Ref sig .tc := ⟨.hbm, 292, rfl⟩
abbrev main_while0b_v203 : Ref sig .tc := ⟨.hbm, 293, rfl⟩
abbrev main_while0b_v204 : Ref sig .tc := ⟨.hbm, 294, rfl⟩
abbrev main_while0b_v205 : Ref sig .tc := ⟨.hbm, 295, rfl⟩
abbrev main_while0b_v206 : Ref sig .tc := ⟨.hbm, 296, rfl⟩
abbrev main_while0b_cst_41 : Ref sig .tc := ⟨.hbm, 297, rfl⟩
abbrev main_while0b_v207 : Ref sig .tc := ⟨.hbm, 298, rfl⟩
abbrev main_while0b_v208 : Ref sig .tc := ⟨.hbm, 299, rfl⟩
abbrev main_while0b_cst_42 : Ref sig .tc := ⟨.hbm, 300, rfl⟩
abbrev main_while0b_v209 : Ref sig .tc := ⟨.hbm, 301, rfl⟩
abbrev main_while0b_v210 : Ref sig .tc := ⟨.hbm, 302, rfl⟩
abbrev main_while0b_v211 : Ref sig .tc := ⟨.hbm, 303, rfl⟩
abbrev main_while0b_v212 : Ref sig .tc := ⟨.hbm, 304, rfl⟩
abbrev main_while0b_v213 : Ref sig .tc := ⟨.hbm, 305, rfl⟩
abbrev main_while0b_v214 : Ref sig .tc := ⟨.hbm, 306, rfl⟩
abbrev main_while0b_v215 : Ref sig .tc := ⟨.hbm, 307, rfl⟩
abbrev main_while0b_call11_v0 : Ref sig .tc := ⟨.hbm, 308, rfl⟩
abbrev main_while0b_call11_v1 : Ref sig .tc := ⟨.hbm, 309, rfl⟩
abbrev main_while0b_call11_v2 : Ref sig .tc := ⟨.hbm, 310, rfl⟩
abbrev main_while0b_v216 : Ref sig .tc := ⟨.hbm, 311, rfl⟩
abbrev main_while0b_v217 : Ref sig .tc := ⟨.hbm, 312, rfl⟩
abbrev main_while0b_call12_v0 : Ref sig .tc := ⟨.hbm, 313, rfl⟩
abbrev main_while0b_call12_c : Ref sig .tc := ⟨.hbm, 314, rfl⟩
abbrev main_while0b_call12_c_0 : Ref sig .tc := ⟨.hbm, 315, rfl⟩
abbrev main_while0b_v218 : Ref sig .tc := ⟨.hbm, 316, rfl⟩
abbrev main_while0b_call13_v0 : Ref sig .tc := ⟨.hbm, 317, rfl⟩
abbrev main_while0b_call13_c : Ref sig .tc := ⟨.hbm, 318, rfl⟩
abbrev main_while0b_call13_c_0 : Ref sig .tc := ⟨.hbm, 319, rfl⟩
abbrev main_while0b_v219 : Ref sig .tc := ⟨.hbm, 320, rfl⟩
abbrev main_while0b_call14_v0 : Ref sig .tc := ⟨.hbm, 321, rfl⟩
abbrev main_while0b_call14_c : Ref sig .tc := ⟨.hbm, 322, rfl⟩
abbrev main_while0b_call14_c_0 : Ref sig .tc := ⟨.hbm, 323, rfl⟩
abbrev main_while0b_v220 : Ref sig .tc := ⟨.hbm, 324, rfl⟩
abbrev main_while0b_c_43 : Ref sig .tc := ⟨.hbm, 325, rfl⟩
abbrev main_while0b_v221 : Ref sig .tc := ⟨.hbm, 326, rfl⟩
abbrev main_v34 : Ref sig .tc := ⟨.hbm, 327, rfl⟩
abbrev main_c_4 : Ref sig .tc := ⟨.hbm, 328, rfl⟩
abbrev main_call15_v0 : Ref sig .tc := ⟨.hbm, 329, rfl⟩
abbrev main_v35 : Ref sig .tc := ⟨.hbm, 330, rfl⟩
abbrev main_v36 : Ref sig .tc := ⟨.hbm, 331, rfl⟩
abbrev main_c_5 : Ref sig .tc := ⟨.hbm, 332, rfl⟩
abbrev main_call16_v0 : Ref sig .tc := ⟨.hbm, 333, rfl⟩
abbrev main_v37 : Ref sig .tc := ⟨.hbm, 334, rfl⟩
abbrev main_v38 : Ref sig .tc := ⟨.hbm, 335, rfl⟩
abbrev main_c_6 : Ref sig .tc := ⟨.hbm, 336, rfl⟩
abbrev main_call17_v0 : Ref sig .tc := ⟨.hbm, 337, rfl⟩
abbrev main_v39 : Ref sig .tc := ⟨.hbm, 338, rfl⟩
abbrev main_v40 : Ref sig .tc := ⟨.hbm, 339, rfl⟩
abbrev main_v41 : Ref sig .tc := ⟨.hbm, 340, rfl⟩
abbrev main_v42 : Ref sig .tc := ⟨.hbm, 341, rfl⟩
abbrev main_v43 : Ref sig .tc := ⟨.hbm, 342, rfl⟩

abbrev nD : Nat := 1
abbrev τ : Topo := Topo.v7x

variable {F : FTy → Type} [FloatOps F]

abbrev main_while0_count : Scf.Loop 32 := ⟨0#32, 264#32, 1#32⟩
-- ==== Kernel2.lean ====
abbrev S8448x11264 : Shape := ⟨2, ![8448, 11264]⟩
abbrev S8x2048x1408 : Shape := ⟨3, ![8, 2048, 1408]⟩
abbrev S8448x2048 : Shape := ⟨2, ![8448, 2048]⟩
abbrev S1056x1408 : Shape := ⟨2, ![1056, 1408]⟩
abbrev S1x1024x1408 : Shape := ⟨3, ![1, 1024, 1408]⟩
abbrev S1056x1024 : Shape := ⟨2, ![1056, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S8x2048x1408, .bf16⟩
  | .hbm, ⟨2, _⟩ => ⟨S8448x2048, .f32⟩
  | .local _ .vmem, ⟨0, _⟩ => ⟨S1056x1408, .bf16⟩
  | .local _ .vmem, ⟨1, _⟩ => ⟨S1056x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x11264 : Shape := ⟨2, ![8448, 11264]⟩
abbrev S8x2048x1408 : Shape := ⟨3, ![8, 2048, 1408]⟩
abbrev S_ : Shape := ⟨0, ![]⟩
abbrev S8448x2048 : Shape := ⟨2, ![8448, 2048]⟩
abbrev S2048x8x1408 : Shape := ⟨3, ![2048, 8, 1408]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8x2048x1408, .bf16⟩
  | .hbm, ⟨2, _⟩ => ⟨S_, .f32⟩
  | .hbm, ⟨3, _⟩ => ⟨S8448x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S8448x11264, .f32⟩
  | .hbm, ⟨8, _⟩ => ⟨S8448x11264, .f32⟩
  | .hbm, ⟨9, _⟩ => ⟨S8448x2048, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x8448 : Shape := ⟨2, ![2048, 8448]⟩
abbrev S8448x11264 : Shape := ⟨2, ![8448, 11264]⟩
abbrev S8x2048x1408 : Shape := ⟨3, ![8, 2048, 1408]⟩
abbrev S1024x2816 : Shape := ⟨2, ![1024, 2816]⟩
abbrev S2816x1408 : Shape := ⟨2, ![2816, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x11264, .bf16⟩
  | .hbm, ⟨2, _⟩ => ⟨S8x2048x1408, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1408, .bf16⟩
  | .local _ .vmem, ⟨3, _⟩ => ⟨S2816x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8448 : Shape := ⟨2, ![2048, 8448]⟩
abbrev S8448x11264 : Shape := ⟨2, ![8448, 11264]⟩
abbrev S_ : Shape := ⟨0, ![]⟩
abbrev S8x2048x1408 : Shape := ⟨3, ![8, 2048, 1408]⟩
abbrev S8448x2048 : Shape := ⟨2, ![8448, 2048]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x11264, .bf16⟩
  | .hbm, ⟨2, _⟩ => ⟨S_, .bf16⟩
  | .hbm, ⟨3, _⟩ => ⟨S8x2048x1408, .bf16⟩
  | .hbm, ⟨4, _⟩ => ⟨S8448x2048, .bf16⟩
  | .hbm, ⟨5, _⟩ => ⟨S8448x2048, .f32⟩
  | .hbm, ⟨6, _⟩ => ⟨S8x2048x1408, .f32⟩
  | .hbm, ⟨7, _⟩ => ⟨S2048x8x1408, .f32⟩
  | .hbm, ⟨8, _⟩ => ⟨S2048x11264, .f32⟩
  | .hbm, ⟨9, _⟩ => ⟨S8448x11264, .f32⟩
  | .hbm, ⟨10, _⟩ => ⟨S8448x11264, .f32⟩
  | .hbm, ⟨11, _⟩ => ⟨S11264x2048, .f32⟩
  | .hbm, ⟨12, _⟩ => ⟨S2048x11264, .f32⟩
  | .hbm, ⟨13, _⟩ => ⟨S2048x8x1408, .f32⟩
  | .hbm, ⟨14, _⟩ => ⟨S8x2048x1408, .f32⟩
  | .hbm, ⟨15, _⟩ => ⟨S8x2048x1408, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S8448x2048 : Shape := ⟨2, ![8448, 2048]⟩
abbrev S5632x2048 : Shape := ⟨2, ![5632, 2048]⟩
abbrev S8448x5632 : Shape := ⟨2, ![8448, 5632]⟩
abbrev S1056x2048 : Shape := ⟨2, ![1056, 2048]⟩
abbrev S1408x2048 : Shape := ⟨2, ![1408, 2048]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x5632, .f32⟩
  | .local _ .vmem, ⟨0, _⟩ => ⟨S1056x2048, .bf16⟩
  | .local _ .vmem, ⟨1, _⟩ => ⟨S1056x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1056x1408, .f32⟩
  | .local _ .vmem, ⟨5, _⟩ => ⟨S1056x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x2048 : Shape := ⟨2, ![8448, 2048]⟩
abbrev S5632x2048 : Shape := ⟨2, ![5632, 2048]⟩
abbrev S_ : Shape := ⟨0, ![]⟩
abbrev S8448x5632 : Shape := ⟨2, ![8448, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S_, .f32⟩
  | .hbm, ⟨3, _⟩ => ⟨S8448x5632, .f32⟩
  | .hbm, ⟨4, _⟩ => ⟨S5632x2048, .f32⟩
  | .hbm, ⟨5, _⟩ => ⟨S8448x2048, .f32⟩
  | .hbm, ⟨6, _⟩ => ⟨S8448x2048, .f32⟩
  | .hbm, ⟨7, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8448x5632 : Shape := ⟨2, ![8448, 5632]⟩
abbrev S8448x2048 : Shape := ⟨2, ![8448, 2048]⟩
abbrev S5632x2048 : Shape := ⟨2, ![5632, 2048]⟩
abbrev S1056x1408 : Shape := ⟨2, ![1056, 1408]⟩
abbrev S1056x2048 : Shape := ⟨2, ![1056, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S5632x2048, .bf16⟩
  | .local _ .vmem, ⟨0, _⟩ => ⟨S1056x1408, .bf16⟩
  | .local _ .vmem, ⟨1, _⟩ => ⟨S1056x1408, .bf16⟩
  | .local _ .vmem, ⟨2, _⟩ => ⟨S1056x2048, .bf16⟩
  | .local _ .vmem, ⟨3, _⟩ => ⟨S1056x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S_, .bf16⟩
  | .hbm, ⟨3, _⟩ => ⟨S5632x2048, .bf16⟩
  | .hbm, ⟨4, _⟩ => ⟨S8448x5632, .f32⟩
  | .hbm, ⟨5, _⟩ => ⟨S5632x2048, .f32⟩
  | .hbm, ⟨6, _⟩ => ⟨S8448x2048, .f32⟩
  | .hbm, ⟨7, _⟩ => ⟨S8448x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8448x2048 : Shape := ⟨2, ![8448, 2048]⟩
abbrev S8x2048x1408 : Shape := ⟨3, ![8, 2048, 1408]⟩
abbrev S8448x11264 : Shape := ⟨2, ![8448, 11264]⟩
abbrev S1056x2048 : Shape := ⟨2, ![1056, 2048]⟩
abbrev S1x2048x1408 : Shape := ⟨3, ![1, 2048, 1408]⟩
abbrev S1056x1408 : Shape := ⟨2, ![1056, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x11264, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1056x1408, .bf16⟩
  | .local _ .vmem, ⟨5, _⟩ => ⟨S1056x1408, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x2048 : Shape := ⟨2, ![8448, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8448x11264 : Shape := ⟨2, ![8448, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S8448x11264, .f32⟩
  | .hbm, ⟨7, _⟩ => ⟨S8448x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S8448x5632 : Shape := ⟨2, ![8448, 5632]⟩
abbrev S5632x2048 : Shape := ⟨2, ![5632, 2048]⟩
abbrev S8448x2048 : Shape := ⟨2, ![8448, 2048]⟩
abbrev S1056x2816 : Shape := ⟨2, ![1056, 2816]⟩
abbrev S2816x1024 : Shape := ⟨2, ![2816, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .local _ .vmem, ⟨0, _⟩ => ⟨S1056x2816, .bf16⟩
  | .local _ .vmem, ⟨1, _⟩ => ⟨S1056x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x5632, .f32⟩
  | .hbm, ⟨3, _⟩ => ⟨S5632x2048, .f32⟩
  | .hbm, ⟨4, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8448x2048 : Shape := ⟨2, ![8448, 2048]⟩
abbrev S8x2048x768 : Shape := ⟨3, ![8, 2048, 768]⟩
abbrev S8448x6144 : Shape := ⟨2, ![8448, 6144]⟩
abbrev S1056x2048 : Shape := ⟨2, ![1056, 2048]⟩
abbrev S1x2048x768 : Shape := ⟨3, ![1, 2048, 768]⟩
abbrev S1056x768 : Shape := ⟨2, ![1056, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x768, .bf16⟩
  | .hbm, ⟨2, _⟩ => ⟨S8448x6144, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1056x768, .f32⟩
  | .local _ .vmem, ⟨5, _⟩ => ⟨S1056x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x2048 : Shape := ⟨2, ![8448, 2048]⟩
abbrev S8x2048x768 : Shape := ⟨3, ![8, 2048, 768]⟩
abbrev S2048x8x768 : Shape := ⟨3, ![2048, 8, 768]⟩
abbrev S2048x6144 : Shape := ⟨2, ![2048, 6144]⟩
abbrev S8448x6144 : Shape := ⟨2, ![8448, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x768, .bf16⟩
  | .hbm, ⟨2, _⟩ => ⟨S8448x2048, .f32⟩
  | .hbm, ⟨3, _⟩ => ⟨S8x2048x768, .f32⟩
  | .hbm, ⟨4, _⟩ => ⟨S2048x8x768, .f32⟩
  | .hbm, ⟨5, _⟩ => ⟨S2048x6144, .f32⟩
  | .hbm, ⟨6, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8448x6144 : Shape := ⟨2, ![8448, 6144]⟩
abbrev S8x2048x768 : Shape := ⟨3, ![8, 2048, 768]⟩
abbrev S8448x2048 : Shape := ⟨2, ![8448, 2048]⟩
abbrev S1056x768 : Shape := ⟨2, ![1056, 768]⟩
abbrev S1x1024x768 : Shape := ⟨3, ![1, 1024, 768]⟩
abbrev S1056x1024 : Shape := ⟨2, ![1056, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8448x6144, .bf16⟩
  | .hbm, ⟨1, _⟩ => ⟨S8x2048x768, .bf16⟩
  | .hbm, ⟨2, _⟩ => ⟨S8448x2048, .f32⟩
  | .local _ .vmem, ⟨0, _⟩ => ⟨S1056x768, .bf16⟩
  | .local _ .vmem, ⟨1, _⟩ => ⟨S1056x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x6144 : Shape := ⟨2, ![8448, 6144]⟩
abbrev S8x2048x768 : Shape := ⟨3, ![8, 2048, 768]⟩
abbrev S_ : Shape := ⟨0, ![]⟩
abbrev S8448x2048 : Shape := ⟨2, ![8448, 2048]⟩
abbrev S2048x8x768 : Shape := ⟨3, ![2048, 8, 768]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S8x2048x768, .bf16⟩
  | .hbm, ⟨2, _⟩ => ⟨S_, .f32⟩
  | .hbm, ⟨3, _⟩ => ⟨S8448x2048, .f32⟩
  | .hbm, ⟨4, _⟩ => ⟨S8x2048x768, .f32⟩
  | .hbm, ⟨5, _⟩ => ⟨S2048x8x768, .f32⟩
  | .hbm, ⟨6, _⟩ => ⟨S2048x6144, .f32⟩
  | .hbm, ⟨7, _⟩ => ⟨S8448x6144, .f32⟩
  | .hbm, ⟨8, _⟩ => ⟨S8448x6144, .f32⟩
  | .hbm, ⟨9, _⟩ => ⟨S8448x2048, .f32⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x8448 : Shape := ⟨2, ![2048, 8448]⟩
abbrev S8448x6144 : Shape := ⟨2, ![8448, 6144]⟩
abbrev S8x2048x768 : Shape := ⟨3, ![8, 2048, 768]⟩
abbrev S1024x2816 : Shape := ⟨2, ![1024, 2816]⟩
abbrev S2816x768 : Shape := ⟨2, ![2816, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x6144, .bf16⟩
  | .hbm, ⟨2, _⟩ => ⟨S8x2048x768, .bf16⟩
  | .local _ .vmem, ⟨0, _⟩ => ⟨S1024x2816, .bf16⟩
  | .local _ .vmem, ⟨1, _⟩ => ⟨S1024x2816, .bf16⟩
  | .local _ .vmem, ⟨2, _⟩ => ⟨S2816x768, .bf16⟩
  | .local _ .vmem, ⟨3, _⟩ => ⟨S2816x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x8448 : Shape := ⟨2, ![2048, 8448]⟩
abbrev S8448x6144 : Shape := ⟨2, ![8448, 6144]⟩
abbrev S_ : Shape := ⟨0, ![]⟩
abbrev S8x2048x768 : Shape := ⟨3, ![8, 2048, 768]⟩
abbrev S8448x2048 : Shape := ⟨2, ![8448, 2048]⟩
abbrev S2048x8x768 : Shape := ⟨3, ![2048, 8, 768]⟩
abbrev S2048x6144 : Shape := ⟨2, ![2048, 6144]⟩
abbrev S6144x2048 : Shape := ⟨2, ![6144, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x6144, .bf16⟩
  | .hbm, ⟨2, _⟩ => ⟨S_, .bf16⟩
  | .hbm, ⟨3, _⟩ => ⟨S8x2048x768, .bf16⟩
  | .hbm, ⟨4, _⟩ => ⟨S8448x2048, .bf16⟩
  | .hbm, ⟨5, _⟩ => ⟨S8448x2048, .f32⟩
  | .hbm, ⟨6, _⟩ => ⟨S8x2048x768, .f32⟩
  | .hbm, ⟨7, _⟩ => ⟨S2048x8x768, .f32⟩
  | .hbm, ⟨8, _⟩ => ⟨S2048x6144, .f32⟩
  | .hbm, ⟨9, _⟩ => ⟨S8448x6144, .f32⟩
  | .hbm, ⟨10, _⟩ => ⟨S8448x6144, .f32⟩
  | .hbm, ⟨11, _⟩ => ⟨S6144x2048, .f32⟩
  | .hbm, ⟨12, _⟩ => ⟨S2048x6144, .f32⟩
  | .hbm, ⟨13, _⟩ => ⟨S2048x8x768, .f32⟩
  | .hbm, ⟨14, _⟩ => ⟨S8x2048x768, .f32⟩
  | .hbm, ⟨15, _⟩ => ⟨S8x2048x768, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel11.lean ====
abbrev S8448x2048 : Shape := ⟨2, ![8448, 2048]⟩
abbrev S2048x2048 : Shape := ⟨2, ![2048, 2048]⟩
abbrev S1056x2048 : Shape := ⟨2, ![1056, 2048]⟩
abbrev S2048x1024 : Shape := ⟨2, ![2048, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1056x1024, .f32⟩
  | .local _ .vmem, ⟨5, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8448x2048 : Shape := ⟨2, ![8448, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2048x2048, .f32⟩
  | .hbm, ⟨4, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8448x2048 : Shape := ⟨2, ![8448, 2048]⟩
abbrev S2048x2048 : Shape := ⟨2, ![2048, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S_, .f32⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8448x2048 : Shape := ⟨2, ![8448, 2048]⟩
abbrev S2048x2048 : Shape := ⟨2, ![2048, 2048]⟩
abbrev S1056x1024 : Shape := ⟨2, ![1056, 1024]⟩
abbrev S1056x2048 : Shape := ⟨2, ![1056, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2048x2048, .bf16⟩
  | .local _ .vmem, ⟨0, _⟩ => ⟨S1056x1024, .bf16⟩
  | .local _ .vmem, ⟨1, _⟩ => ⟨S1056x1024, .bf16⟩
  | .local _ .vmem, ⟨2, _⟩ => ⟨S1056x2048, .bf16⟩
  | .local _ .vmem, ⟨3, _⟩ => ⟨S1056x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S_, .bf16⟩
  | .hbm, ⟨3, _⟩ => ⟨S2048x2048, .bf16⟩
  | .hbm, ⟨4, _⟩ => ⟨S8448x2048, .f32⟩
  | .hbm, ⟨5, _⟩ => ⟨S2048x2048, .f32⟩
  | .hbm, ⟨6, _⟩ => ⟨S8448x2048, .f32⟩
  | .hbm, ⟨7, _⟩ => ⟨S8448x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8448x2048 : Shape := ⟨2, ![8448, 2048]⟩
abbrev S2048x12288 : Shape := ⟨2, ![2048, 12288]⟩
abbrev S8448x12288 : Shape := ⟨2, ![8448, 12288]⟩
abbrev S1056x2048 : Shape := ⟨2, ![1056, 2048]⟩
abbrev S2048x768 : Shape := ⟨2, ![2048, 768]⟩
abbrev S1056x768 : Shape := ⟨2, ![1056, 768]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x12288, .bf16⟩
  | .hbm, ⟨2, _⟩ => ⟨S8448x12288, .f32⟩
  | .local _ .vmem, ⟨0, _⟩ => ⟨S1056x2048, .bf16⟩
  | .local _ .vmem, ⟨1, _⟩ => ⟨S1056x2048, .bf16⟩
  | .local _ .vmem, ⟨2, _⟩ => ⟨S2048x768, .bf16⟩
  | .local _ .vmem, ⟨3, _⟩ => ⟨S2048x768, .bf16⟩
  | .local _ .vmem, ⟨4, _⟩ => ⟨S1056x768, .f32⟩
  | .local _ .vmem, ⟨5, _⟩ => ⟨S1056x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x2048 : Shape := ⟨2, ![8448, 2048]⟩
abbrev S2048x12288 : Shape := ⟨2, ![2048, 12288]⟩
abbrev S8448x12288 : Shape := ⟨2, ![8448, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x12288, .bf16⟩
  | .hbm, ⟨2, _⟩ => ⟨S8448x2048, .f32⟩
  | .hbm, ⟨3, _⟩ => ⟨S2048x12288, .f32⟩
  | .hbm, ⟨4, _⟩ => ⟨S8448x12288, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8448x12288 : Shape := ⟨2, ![8448, 12288]⟩
abbrev S2048x12288 : Shape := ⟨2, ![2048, 12288]⟩
abbrev S8448x2048 : Shape := ⟨2, ![8448, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x12288, .bf16⟩
  | .hbm, ⟨1, _⟩ => ⟨S2048x12288, .bf16⟩
  | .hbm, ⟨2, _⟩ => ⟨S8448x2048, .f32⟩
  | .hbm, ⟨3, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S8448x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8448x12288 : Shape := ⟨2, ![8448, 12288]⟩
abbrev S2048x12288 : Shape := ⟨2, ![2048, 12288]⟩
abbrev S8448x2048 : Shape := ⟨2, ![8448, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8448x12288, .bf16⟩
  | .hbm, ⟨1, _⟩ => ⟨S2048x12288, .bf16⟩
  | .hbm, ⟨2, _⟩ => ⟨S8448x2048, .f32⟩
  | .hbm, ⟨3, _⟩ => ⟨S_, .f32⟩
  | .hbm, ⟨4, _⟩ => ⟨S8448x2048, .f32⟩
  | .hbm, ⟨5, _⟩ => ⟨S2048x12288, .f32⟩
  | .hbm, ⟨6, _⟩ => ⟨S8448x12288, .f32⟩
  | .hbm, ⟨7, _⟩ => ⟨S8448x12288, .f32⟩
  | .hbm, ⟨8, _⟩ => ⟨S8448x2048, .f32⟩
  | .hbm, ⟨9, _⟩ => ⟨S8448x2048, .f32⟩
  | _, _ => ⟨S8448x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S2048x8448 : Shape := ⟨2, ![2048, 8448]⟩
abbrev S8448x12288 : Shape := ⟨2, ![8448, 12288]⟩
abbrev S2048x12288 : Shape := ⟨2, ![2048, 12288]⟩
abbrev S1024x2816 : Shape := ⟨2, ![1024, 2816]⟩
abbrev S2816x768 : Shape := ⟨2, ![2816, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x12288, .bf16⟩
  | .hbm, ⟨2, _⟩ => ⟨S2048x12288, .bf16⟩
  | .local _ .vmem, ⟨0, _⟩ => ⟨S1024x2816, .bf16⟩
  | .local _ .vmem, ⟨1, _⟩ => ⟨S1024x2816, .bf16⟩
  | .local _ .vmem, ⟨2, _⟩ => ⟨S2816x768, .bf16⟩
  | .local _ .vmem, ⟨3, _⟩ => ⟨S2816x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x8448 : Shape := ⟨2, ![2048, 8448]⟩
abbrev S8448x12288 : Shape := ⟨2, ![8448, 12288]⟩
abbrev S_ : Shape := ⟨0, ![]⟩
abbrev S2048x12288 : Shape := ⟨2, ![2048, 12288]⟩
abbrev S8448x2048 : Shape := ⟨2, ![8448, 2048]⟩
abbrev S12288x2048 : Shape := ⟨2, ![12288, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x12288, .bf16⟩
  | .hbm, ⟨2, _⟩ => ⟨S_, .bf16⟩
  | .hbm, ⟨3, _⟩ => ⟨S2048x12288, .bf16⟩
  | .hbm, ⟨4, _⟩ => ⟨S8448x2048, .bf16⟩
  | .hbm, ⟨5, _⟩ => ⟨S8448x2048, .f32⟩
  | .hbm, ⟨6, _⟩ => ⟨S2048x12288, .f32⟩
  | .hbm, ⟨7, _⟩ => ⟨S8448x12288, .f32⟩
  | .hbm, ⟨8, _⟩ => ⟨S8448x12288, .f32⟩
  | .hbm, ⟨9, _⟩ => ⟨S12288x2048, .f32⟩
  | .hbm, ⟨10, _⟩ => ⟨S2048x12288, .f32⟩
  | .hbm, ⟨11, _⟩ => ⟨S2048x12288, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S8448x4096 : Shape := ⟨2, ![8448, 4096]⟩
abbrev S4096x2048 : Shape := ⟨2, ![4096, 2048]⟩
abbrev S8448x2048 : Shape := ⟨2, ![8448, 2048]⟩
abbrev S1056x2048 : Shape := ⟨2, ![1056, 2048]⟩
abbrev S2048x1024 : Shape := ⟨2, ![2048, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8448x4096 : Shape := ⟨2, ![8448, 4096]⟩
abbrev S4096x2048 : Shape := ⟨2, ![4096, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x4096, .f32⟩
  | .hbm, ⟨3, _⟩ => ⟨S4096x2048, .f32⟩
  | .hbm, ⟨4, _⟩ => ⟨S8448x2048, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8448x2048 : Shape := ⟨2, ![8448, 2048]⟩
abbrev S4096x2048 : Shape := ⟨2, ![4096, 2048]⟩
abbrev S8448x4096 : Shape := ⟨2, ![8448, 4096]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4096x2048, .bf16⟩
  | .hbm, ⟨2, _⟩ => ⟨S8448x4096, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8448x2048 : Shape := ⟨2, ![8448, 2048]⟩
abbrev S4096x2048 : Shape := ⟨2, ![4096, 2048]⟩
abbrev S_ : Shape := ⟨0, ![]⟩
abbrev S8448x4096 : Shape := ⟨2, ![8448, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4096x2048, .bf16⟩
  | .hbm, ⟨2, _⟩ => ⟨S_, .f32⟩
  | .hbm, ⟨3, _⟩ => ⟨S8448x4096, .f32⟩
  | .hbm, ⟨4, _⟩ => ⟨S4096x2048, .f32⟩
  | .hbm, ⟨5, _⟩ => ⟨S8448x2048, .f32⟩
  | .hbm, ⟨6, _⟩ => ⟨S8448x2048, .f32⟩
  | .hbm, ⟨7, _⟩ => ⟨S8448x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8448x4096 : Shape := ⟨2, ![8448, 4096]⟩
abbrev S8448x2048 : Shape := ⟨2, ![8448, 2048]⟩
abbrev S4096x2048 : Shape := ⟨2, ![4096, 2048]⟩
abbrev S1056x1024 : Shape := ⟨2, ![1056, 1024]⟩
abbrev S1056x2048 : Shape := ⟨2, ![1056, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S8448x2048, .bf16⟩
  | .hbm, ⟨2, _⟩ => ⟨S4096x2048, .bf16⟩
  | .local _ .vmem, ⟨0, _⟩ => ⟨S1056x1024, .bf16⟩
  | .local _ .vmem, ⟨1, _⟩ => ⟨S1056x1024, .bf16⟩
  | .local _ .vmem, ⟨2, _⟩ => ⟨S1056x2048, .bf16⟩
  | .local _ .vmem, ⟨3, _⟩ => ⟨S1056x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8448x4096 : Shape := ⟨2, ![8448, 4096]⟩
abbrev S8448x2048 : Shape := ⟨2, ![8448, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x2048, .bf16⟩
  | .hbm, ⟨2, _⟩ => ⟨S_, .bf16⟩
  | .hbm, ⟨3, _⟩ => ⟨S4096x2048, .bf16⟩
  | .hbm, ⟨4, _⟩ => ⟨S8448x4096, .f32⟩
  | .hbm, ⟨5, _⟩ => ⟨S4096x2048, .f32⟩
  | .hbm, ⟨6, _⟩ => ⟨S8448x2048, .f32⟩
  | .hbm, ⟨7, _⟩ => ⟨S8448x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8448x11264 : Shape := ⟨2, ![8448, 11264]⟩
abbrev S8x2048x1408 : Shape := ⟨3, ![8, 2048, 1408]⟩
abbrev S8448x2048 : Shape := ⟨2, ![8448, 2048]⟩
abbrev S1056x1408 : Shape := ⟨2, ![1056, 1408]⟩
abbrev S1x1024x1408 : Shape := ⟨3, ![1, 1024, 1408]⟩
abbrev S1056x1024 : Shape := ⟨2, ![1056, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S8x2048x1408, .bf16⟩
  | .hbm, ⟨2, _⟩ => ⟨S8448x2048, .f32⟩
  | .local _ .vmem, ⟨0, _⟩ => ⟨S1056x1408, .bf16⟩
  | .local _ .vmem, ⟨1, _⟩ => ⟨S1056x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8448x11264 : Shape := ⟨2, ![8448, 11264]⟩
abbrev S8x2048x1408 : Shape := ⟨3, ![8, 2048, 1408]⟩
abbrev S_ : Shape := ⟨0, ![]⟩
abbrev S8448x2048 : Shape := ⟨2, ![8448, 2048]⟩
abbrev S2048x8x1408 : Shape := ⟨3, ![2048, 8, 1408]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8x2048x1408, .bf16⟩
  | .hbm, ⟨2, _⟩ => ⟨S_, .f32⟩
  | .hbm, ⟨3, _⟩ => ⟨S8448x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S8448x11264, .f32⟩
  | .hbm, ⟨8, _⟩ => ⟨S8448x11264, .f32⟩
  | .hbm, ⟨9, _⟩ => ⟨S8448x2048, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S2048x8448 : Shape := ⟨2, ![2048, 8448]⟩
abbrev S8448x11264 : Shape := ⟨2, ![8448, 11264]⟩
abbrev S8x2048x1408 : Shape := ⟨3, ![8, 2048, 1408]⟩
abbrev S1024x2816 : Shape := ⟨2, ![1024, 2816]⟩
abbrev S2816x1408 : Shape := ⟨2, ![2816, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x8448, .bf16⟩
  | .hbm, ⟨1, _⟩ => ⟨S8448x11264, .bf16⟩
  | .hbm, ⟨2, _⟩ => ⟨S8x2048x1408, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1408, .bf16⟩
  | .local _ .vmem, ⟨3, _⟩ => ⟨S2816x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x8448 : Shape := ⟨2, ![2048, 8448]⟩
abbrev S8448x11264 : Shape := ⟨2, ![8448, 11264]⟩
abbrev S_ : Shape := ⟨0, ![]⟩
abbrev S8x2048x1408 : Shape := ⟨3, ![8, 2048, 1408]⟩
abbrev S8448x2048 : Shape := ⟨2, ![8448, 2048]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S8448x11264, .bf16⟩
  | .hbm, ⟨2, _⟩ => ⟨S_, .bf16⟩
  | .hbm, ⟨3, _⟩ => ⟨S8x2048x1408, .bf16⟩
  | .hbm, ⟨4, _⟩ => ⟨S8448x2048, .bf16⟩
  | .hbm, ⟨5, _⟩ => ⟨S8448x2048, .f32⟩
  | .hbm, ⟨6, _⟩ => ⟨S8x2048x1408, .f32⟩
  | .hbm, ⟨7, _⟩ => ⟨S2048x8x1408, .f32⟩
  | .hbm, ⟨8, _⟩ => ⟨S2048x11264, .f32⟩
  | .hbm, ⟨9, _⟩ => ⟨S8448x11264, .f32⟩
  | .hbm, ⟨10, _⟩ => ⟨S8448x11264, .f32⟩
  | .hbm, ⟨11, _⟩ => ⟨S11264x2048, .f32⟩
  | .hbm, ⟨12, _⟩ => ⟨S2048x11264, .f32⟩
  | .hbm, ⟨13, _⟩ => ⟨S2048x8x1408, .f32⟩
  | .hbm, ⟨14, _⟩ => ⟨S8x2048x1408, .f32⟩
  | .hbm, ⟨15, _⟩ => ⟨S8x2048x1408, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel22.lean ====
abbrev S8448x2048 : Shape := ⟨2, ![8448, 2048]⟩
abbrev S5632x2048 : Shape := ⟨2, ![5632, 2048]⟩
abbrev S8448x5632 : Shape := ⟨2, ![8448, 5632]⟩
abbrev S1056x2048 : Shape := ⟨2, ![1056, 2048]⟩
abbrev S1408x2048 : Shape := ⟨2, ![1408, 2048]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x5632, .f32⟩
  | .local _ .vmem, ⟨0, _⟩ => ⟨S1056x2048, .bf16⟩
  | .local _ .vmem, ⟨1, _⟩ => ⟨S1056x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1056x1408, .f32⟩
  | .local _ .vmem, ⟨5, _⟩ => ⟨S1056x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8448x2048 : Shape := ⟨2, ![8448, 2048]⟩
abbrev S5632x2048 : Shape := ⟨2, ![5632, 2048]⟩
abbrev S_ : Shape := ⟨0, ![]⟩
abbrev S8448x5632 : Shape := ⟨2, ![8448, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S_, .f32⟩
  | .hbm, ⟨3, _⟩ => ⟨S8448x5632, .f32⟩
  | .hbm, ⟨4, _⟩ => ⟨S5632x2048, .f32⟩
  | .hbm, ⟨5, _⟩ => ⟨S8448x2048, .f32⟩
  | .hbm, ⟨6, _⟩ => ⟨S8448x2048, .f32⟩
  | .hbm, ⟨7, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8448x5632 : Shape := ⟨2, ![8448, 5632]⟩
abbrev S8448x2048 : Shape := ⟨2, ![8448, 2048]⟩
abbrev S5632x2048 : Shape := ⟨2, ![5632, 2048]⟩
abbrev S1056x1408 : Shape := ⟨2, ![1056, 1408]⟩
abbrev S1056x2048 : Shape := ⟨2, ![1056, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S5632x2048, .bf16⟩
  | .local _ .vmem, ⟨0, _⟩ => ⟨S1056x1408, .bf16⟩
  | .local _ .vmem, ⟨1, _⟩ => ⟨S1056x1408, .bf16⟩
  | .local _ .vmem, ⟨2, _⟩ => ⟨S1056x2048, .bf16⟩
  | .local _ .vmem, ⟨3, _⟩ => ⟨S1056x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S_, .bf16⟩
  | .hbm, ⟨3, _⟩ => ⟨S5632x2048, .bf16⟩
  | .hbm, ⟨4, _⟩ => ⟨S8448x5632, .f32⟩
  | .hbm, ⟨5, _⟩ => ⟨S5632x2048, .f32⟩
  | .hbm, ⟨6, _⟩ => ⟨S8448x2048, .f32⟩
  | .hbm, ⟨7, _⟩ => ⟨S8448x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel24.lean ====
abbrev S8448x2048 : Shape := ⟨2, ![8448, 2048]⟩
abbrev S8x2048x1408 : Shape := ⟨3, ![8, 2048, 1408]⟩
abbrev S8448x11264 : Shape := ⟨2, ![8448, 11264]⟩
abbrev S1056x2048 : Shape := ⟨2, ![1056, 2048]⟩
abbrev S1x2048x1408 : Shape := ⟨3, ![1, 2048, 1408]⟩
abbrev S1056x1408 : Shape := ⟨2, ![1056, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x11264, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1056x1408, .bf16⟩
  | .local _ .vmem, ⟨5, _⟩ => ⟨S1056x1408, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8448x2048 : Shape := ⟨2, ![8448, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8448x11264 : Shape := ⟨2, ![8448, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S8448x11264, .f32⟩
  | .hbm, ⟨7, _⟩ => ⟨S8448x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel25.lean ====
abbrev S8448x5632 : Shape := ⟨2, ![8448, 5632]⟩
abbrev S5632x2048 : Shape := ⟨2, ![5632, 2048]⟩
abbrev S8448x2048 : Shape := ⟨2, ![8448, 2048]⟩
abbrev S1056x2816 : Shape := ⟨2, ![1056, 2816]⟩
abbrev S2816x1024 : Shape := ⟨2, ![2816, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .local _ .vmem, ⟨0, _⟩ => ⟨S1056x2816, .bf16⟩
  | .local _ .vmem, ⟨1, _⟩ => ⟨S1056x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x5632, .f32⟩
  | .hbm, ⟨3, _⟩ => ⟨S5632x2048, .f32⟩
  | .hbm, ⟨4, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S2x2048x1536 : Shape := ⟨3, ![2, 2048, 1536]⟩
abbrev S4096x1536 : Shape := ⟨2, ![4096, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2x2048x1536 : Shape := ⟨3, ![2, 2048, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S_, .f32⟩
  | .hbm, ⟨5, _⟩ => ⟨S2x2048x1536, .f32⟩
  | .hbm, ⟨6, _⟩ => ⟨S2x2048x1536, .f32⟩
  | .hbm, ⟨7, _⟩ => ⟨S_, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S_, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S1x2048x768 : Shape := ⟨3, ![1, 2048, 768]⟩
abbrev S2048x768 : Shape := ⟨2, ![2048, 768]⟩
abbrev S128x768 : Shape := ⟨2, ![128, 768]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1x2048x768 : Shape := ⟨3, ![1, 2048, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S_, .f32⟩
  | .hbm, ⟨5, _⟩ => ⟨S1x2048x768, .f32⟩
  | .hbm, ⟨6, _⟩ => ⟨S1x2048x768, .f32⟩
  | .hbm, ⟨7, _⟩ => ⟨S_, .f32⟩
  | .hbm, ⟨8, _⟩ => ⟨S1x2048x768, .f32⟩
  | .hbm, ⟨9, _⟩ => ⟨S1x2048x768, .f32⟩
  | .hbm, ⟨10, _⟩ => ⟨S1x2048x768, .f32⟩
  | .hbm, ⟨11, _⟩ => ⟨S_, .f32⟩
  | .hbm, ⟨12, _⟩ => ⟨S1x2048x768, .f32⟩
  | .hbm, ⟨13, _⟩ => ⟨S1x2048x768, .f32⟩
  | .hbm, ⟨14, _⟩ => ⟨S1x2048x768, .f32⟩
  | .hbm, ⟨15, _⟩ => ⟨S_, .f32⟩
  | .hbm, ⟨16, _⟩ => ⟨S1x2048x768, .f32⟩
  | .hbm, ⟨17, _⟩ => ⟨S1x2048x768, .f32⟩
  | .hbm, ⟨18, _⟩ => ⟨S1x2048x768, .f32⟩
  | .hbm, ⟨19, _⟩ => ⟨S_, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S_, .f32⟩
  | .hbm, ⟨35, _⟩ => ⟨S1x2048x768, .f32⟩
  | .hbm, ⟨36, _⟩ => ⟨S1x2048x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S1x256x2048 : Shape := ⟨3, ![1, 256, 2048]⟩
abbrev S256x2048 : Shape := ⟨2, ![256, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S1x256x2048 : Shape := ⟨3, ![1, 256, 2048]⟩
abbrev S_ : Shape := ⟨0, ![]⟩
abbrev S256x2048 : Shape := ⟨2, ![256, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S_, .f32⟩
  | .hbm, ⟨5, _⟩ => ⟨S1x256x2048, .f32⟩
  | .hbm, ⟨6, _⟩ => ⟨S1x256x2048, .f32⟩
  | .hbm, ⟨7, _⟩ => ⟨S_, .f32⟩
  | .hbm, ⟨8, _⟩ => ⟨S1x256x2048, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S_, .f32⟩
  | .hbm, ⟨23, _⟩ => ⟨S1x256x2048, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S256x2048, .f32⟩
  | .hbm, ⟨38, _⟩ => ⟨S256x2048, .f32⟩
  | .hbm, ⟨39, _⟩ => ⟨S256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S1x2048x1552 : Shape := ⟨3, ![1, 2048, 1552]⟩
abbrev S2048x1552 : Shape := ⟨2, ![2048, 1552]⟩
abbrev S128x1552 : Shape := ⟨2, ![128, 1552]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1552, .f32⟩
  | .hbm, ⟨1, _⟩ => ⟨S1x2048x1552, .f32⟩
  | .hbm, ⟨2, _⟩ => ⟨S1x2048x1552, .f32⟩
  | .hbm, ⟨3, _⟩ => ⟨S1x2048x1552, .f32⟩
  | .hbm, ⟨4, _⟩ => ⟨S2048x1552, .f32⟩
  | .hbm, ⟨5, _⟩ => ⟨S2048x1552, .f32⟩
  | .hbm, ⟨6, _⟩ => ⟨S2048x1552, .f32⟩
  | .hbm, ⟨7, _⟩ => ⟨S2048x1552, .f32⟩
  | .hbm, ⟨8, _⟩ => ⟨S2048x1552, .f32⟩
  | .hbm, ⟨9, _⟩ => ⟨S2048x1552, .f32⟩
  | .hbm, ⟨10, _⟩ => ⟨S2048x1552, .f32⟩
  | .local _ .vmem, ⟨0, _⟩ => ⟨S128x1552, .f32⟩
  | .local _ .vmem, ⟨1, _⟩ => ⟨S128x1552, .f32⟩
  | .local _ .vmem, ⟨2, _⟩ => ⟨S128x1552, .f32⟩
  | .local _ .vmem, ⟨3, _⟩ => ⟨S128x1552, .f32⟩
  | .local _ .vmem, ⟨4, _⟩ => ⟨S128x1552, .f32⟩
  | .local _ .vmem, ⟨5, _⟩ => ⟨S128x1552, .f32⟩
  | .local _ .vmem, ⟨6, _⟩ => ⟨S128x1552, .f32⟩
  | .local _ .vmem, ⟨7, _⟩ => ⟨S128x1552, .f32⟩
  | .local _ .vmem, ⟨8, _⟩ => ⟨S128x1552, .f32⟩
  | .local _ .vmem, ⟨9, _⟩ => ⟨S128x1552, .f32⟩
  | .local _ .vmem, ⟨10, _⟩ => ⟨S128x1552, .f32⟩
  | .local _ .vmem, ⟨11, _⟩ => ⟨S128x1552, .f32⟩
  | .local _ .vmem, ⟨12, _⟩ => ⟨S128x1552, .f32⟩
  | .local _ .vmem, ⟨13, _⟩ => ⟨S128x1552, .f32⟩
  | _, _ => ⟨S1x2048x1552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1552 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1552 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1552 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1552 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1552 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1552 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1552 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S1x2048x1552 : Shape := ⟨3, ![1, 2048, 1552]⟩
abbrev S_ : Shape := ⟨0, ![]⟩
abbrev S2048x1552 : Shape := ⟨2, ![2048, 1552]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1552, .f32⟩
  | .hbm, ⟨1, _⟩ => ⟨S1x2048x1552, .f32⟩
  | .hbm, ⟨2, _⟩ => ⟨S1x2048x1552, .f32⟩
  | .hbm, ⟨3, _⟩ => ⟨S1x2048x1552, .f32⟩
  | .hbm, ⟨4, _⟩ => ⟨S_, .f32⟩
  | .hbm, ⟨5, _⟩ => ⟨S1x2048x1552, .f32⟩
  | .hbm, ⟨6, _⟩ => ⟨S1x2048x1552, .f32⟩
  | .hbm, ⟨7, _⟩ => ⟨S_, .f32⟩
  | .hbm, ⟨8, _⟩ => ⟨S1x2048x1552, .f32⟩
  | .hbm, ⟨9, _⟩ => ⟨S1x2048x1552, .f32⟩
  | .hbm, ⟨10, _⟩ => ⟨S1x2048x1552, .f32⟩
  | .hbm, ⟨11, _⟩ => ⟨S_, .f32⟩
  | .hbm, ⟨12, _⟩ => ⟨S1x2048x1552, .f32⟩
  | .hbm, ⟨13, _⟩ => ⟨S1x2048x1552, .f32⟩
  | .hbm, ⟨14, _⟩ => ⟨S1x2048x1552, .f32⟩
  | .hbm, ⟨15, _⟩ => ⟨S_, .f32⟩
  | .hbm, ⟨16, _⟩ => ⟨S1x2048x1552, .f32⟩
  | .hbm, ⟨17, _⟩ => ⟨S1x2048x1552, .f32⟩
  | .hbm, ⟨18, _⟩ => ⟨S1x2048x1552, .f32⟩
  | .hbm, ⟨19, _⟩ => ⟨S_, .f32⟩
  | .hbm, ⟨20, _⟩ => ⟨S1x2048x1552, .f32⟩
  | .hbm, ⟨21, _⟩ => ⟨S1x2048x1552, .f32⟩
  | .hbm, ⟨22, _⟩ => ⟨S_, .f32⟩
  | .hbm, ⟨23, _⟩ => ⟨S1x2048x1552, .f32⟩
  | .hbm, ⟨24, _⟩ => ⟨S1x2048x1552, .f32⟩
  | .hbm, ⟨25, _⟩ => ⟨S1x2048x1552, .f32⟩
  | .hbm, ⟨26, _⟩ => ⟨S_, .f32⟩
  | .hbm, ⟨27, _⟩ => ⟨S1x2048x1552, .f32⟩
  | .hbm, ⟨28, _⟩ => ⟨S1x2048x1552, .f32⟩
  | .hbm, ⟨29, _⟩ => ⟨S1x2048x1552, .f32⟩
  | .hbm, ⟨30, _⟩ => ⟨S_, .f32⟩
  | .hbm, ⟨31, _⟩ => ⟨S1x2048x1552, .f32⟩
  | .hbm, ⟨32, _⟩ => ⟨S1x2048x1552, .f32⟩
  | .hbm, ⟨33, _⟩ => ⟨S1x2048x1552, .f32⟩
  | .hbm, ⟨34, _⟩ => ⟨S_, .f32⟩
  | .hbm, ⟨35, _⟩ => ⟨S1x2048x1552, .f32⟩
  | .hbm, ⟨36, _⟩ => ⟨S1x2048x1552, .f32⟩
  | .hbm, ⟨37, _⟩ => ⟨S2048x1552, .f32⟩
  | .hbm, ⟨38, _⟩ => ⟨S2048x1552, .f32⟩
  | .hbm, ⟨39, _⟩ => ⟨S2048x1552, .f32⟩
  | _, _ => ⟨S1x2048x1552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel31.lean ====
abbrev S2x2048x1408 : Shape := ⟨3, ![2, 2048, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2x2048x1408 : Shape := ⟨3, ![2, 2048, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S_, .f32⟩
  | .hbm, ⟨5, _⟩ => ⟨S2x2048x1408, .f32⟩
  | .hbm, ⟨6, _⟩ => ⟨S2x2048x1408, .f32⟩
  | .hbm, ⟨7, _⟩ => ⟨S_, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S_, .f32⟩
  | .hbm, ⟨23, _⟩ => ⟨S2x2048x1408, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S2x704x2048 : Shape := ⟨3, ![2, 704, 2048]⟩
abbrev S1408x2048 : Shape := ⟨2, ![1408, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .hbm, ⟨9, _⟩ => ⟨S1408x2048, .f32⟩
  | .hbm, ⟨10, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2x704x2048 : Shape := ⟨3, ![2, 704, 2048]⟩
abbrev S_ : Shape := ⟨0, ![]⟩
abbrev S1408x2048 : Shape := ⟨2, ![1408, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S_, .f32⟩
  | .hbm, ⟨5, _⟩ => ⟨S2x704x2048, .f32⟩
  | .hbm, ⟨6, _⟩ => ⟨S2x704x2048, .f32⟩
  | .hbm, ⟨7, _⟩ => ⟨S_, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S_, .f32⟩
  | .hbm, ⟨12, _⟩ => ⟨S2x704x2048, .f32⟩
  | .hbm, ⟨13, _⟩ => ⟨S2x704x2048, .f32⟩
  | .hbm, ⟨14, _⟩ => ⟨S2x704x2048, .f32⟩
  | .hbm, ⟨15, _⟩ => ⟨S_, .f32⟩
  | .hbm, ⟨16, _⟩ => ⟨S2x704x2048, .f32⟩
  | .hbm, ⟨17, _⟩ => ⟨S2x704x2048, .f32⟩
  | .hbm, ⟨18, _⟩ => ⟨S2x704x2048, .f32⟩
  | .hbm, ⟨19, _⟩ => ⟨S_, .f32⟩
  | .hbm, ⟨20, _⟩ => ⟨S2x704x2048, .f32⟩
  | .hbm, ⟨21, _⟩ => ⟨S2x704x2048, .f32⟩
  | .hbm, ⟨22, _⟩ => ⟨S_, .f32⟩
  | .hbm, ⟨23, _⟩ => ⟨S2x704x2048, .f32⟩
  | .hbm, ⟨24, _⟩ => ⟨S2x704x2048, .f32⟩
  | .hbm, ⟨25, _⟩ => ⟨S2x704x2048, .f32⟩
  | .hbm, ⟨26, _⟩ => ⟨S_, .f32⟩
  | .hbm, ⟨27, _⟩ => ⟨S2x704x2048, .f32⟩
  | .hbm, ⟨28, _⟩ => ⟨S2x704x2048, .f32⟩
  | .hbm, ⟨29, _⟩ => ⟨S2x704x2048, .f32⟩
  | .hbm, ⟨30, _⟩ => ⟨S_, .f32⟩
  | .hbm, ⟨31, _⟩ => ⟨S2x704x2048, .f32⟩
  | .hbm, ⟨32, _⟩ => ⟨S2x704x2048, .f32⟩
  | .hbm, ⟨33, _⟩ => ⟨S2x704x2048, .f32⟩
  | .hbm, ⟨34, _⟩ => ⟨S_, .f32⟩
  | .hbm, ⟨35, _⟩ => ⟨S2x704x2048, .f32⟩
  | .hbm, ⟨36, _⟩ => ⟨S2x704x2048, .f32⟩
  | .hbm, ⟨37, _⟩ => ⟨S1408x2048, .f32⟩
  | .hbm, ⟨38, _⟩ => ⟨S1408x2048, .f32⟩
  | .hbm, ⟨39, _⟩ => ⟨S1408x2048, .f32⟩
  | _, _ => ⟨S2x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Sums.lean ====
/-
What the tiled products share: an array's entry by its coordinates' numbers, and a sum taken block by block.
-/
module

public import Idealize.ShloMosaic.PureOps.Ideal
public import Idealize.ShloMosaic.Lib.Pointwise
public import Idealize.ShloMosaic.Lib.MatmulPlain
public import Idealize.ShloMosaic.Lib.StableHlo.Run
public import Mathlib.Algebra.BigOperators.Fin
public import Mathlib.Algebra.BigOperators.Intervals

@[expose] public section

noncomputable section

namespace Cert.Products

open Idealize.ShloMosaic Idealize.ShloMosaic.Pointwise

/-- A matrix's entry by the numbers of its row and column. -/
def at2 {R C : ℕ} [NeZero R] [NeZero C] (a : (⟨2, ![R, C]⟩ : Shape).Idx → EReal) (i j : ℕ) : EReal :=
  a (ix2 (Fin.ofNat R i) (Fin.ofNat C j))

/-- A stack's entry by the numbers of its matrix, row and column. -/
def at3 {B R C : ℕ} [NeZero B] [NeZero R] [NeZero C] (a : (⟨3, ![B, R, C]⟩ : Shape).Idx → EReal) (b i j : ℕ) : EReal :=
  a (ix3 (Fin.ofNat B b) (Fin.ofNat R i) (Fin.ofNat C j))

/-- A matrix read at an index is its entry by the index's numbers. -/
theorem eq_at2 {R C : ℕ} [NeZero R] [NeZero C] (a : (⟨2, ![R, C]⟩ : Shape).Idx → EReal) (x : (⟨2, ![R, C]⟩ : Shape).Idx) {i j : ℕ}
    (hi : (x 0).val = i) (hj : (x 1).val = j) : a x = at2 a i j := by
  subst hi hj
  unfold at2
  congr 1
  funext d
  match d with
  | 0 => exact Fin.ext (Nat.mod_eq_of_lt (x 0).isLt).symm
  | 1 => exact Fin.ext (Nat.mod_eq_of_lt (x 1).isLt).symm

/-- A stack read at an index is its entry by the index's numbers. -/
theorem eq_at3 {B R C : ℕ} [NeZero B] [NeZero R] [NeZero C] (a : (⟨3, ![B, R, C]⟩ : Shape).Idx → EReal) (x : (⟨3, ![B, R, C]⟩ : Shape).Idx)
    {b i j : ℕ} (hb : (x 0).val = b) (hi : (x 1).val = i) (hj : (x 2).val = j) : a x = at3 a b i j := by
  subst hb hi hj
  unfold at3
  congr 1
  funext d
  match d with
  | 0 => exact Fin.ext (Nat.mod_eq_of_lt (x 0).isLt).symm
  | 1 => exact Fin.ext (Nat.mod_eq_of_lt (x 1).isLt).symm
  | 2 => exact Fin.ext (Nat.mod_eq_of_lt (x 2).isLt).symm

/-- One more block of a sum. -/
theorem sum_block (f : ℕ → EReal) (a b : ℕ) : ∑ k ∈ Finset.range (a * b), f k + ∑ k : Fin b, f (a * b + k.val) = ∑ k ∈ Finset.range ((a + 1) * b), f k := by
  rw [Nat.add_mul, Nat.one_mul, Finset.sum_range_add, Fin.sum_univ_eq_sum_range (fun k => f (a * b + k)) b]

/-- The first block of a sum. -/
theorem sum_first (f : ℕ → EReal) (b : ℕ) : ∑ k : Fin b, f (0 * b + k.val) = ∑ k ∈ Finset.range ((0 + 1) * b), f k := by
  have h := sum_block f 0 b
  simp only [Nat.zero_mul, Finset.range_zero, Finset.sum_empty, zero_add] at h ⊢
  exact h

/-- A running sum that starts anew every `L` blocks and adds one block at a time holds, before the last block of a row, all terms so far. -/
theorem sum_blocks (L D N : ℕ) (hL : 0 < L) (s : (n : ℕ) → n < N → EReal) (f : ℕ → ℕ → EReal)
    (h0 : ∀ n (hn : n < N), n % L = 0 → s n hn = ∑ k : Fin D, f (n / L) (n % L * D + k.val))
    (h1 : ∀ n (hn : n + 1 < N), (n + 1) % L ≠ 0 → (n + 1) % L ≠ L - 1 →
      s (n + 1) hn = s n (Nat.lt_of_succ_lt hn) + ∑ k : Fin D, f ((n + 1) / L) ((n + 1) % L * D + k.val)) :
    ∀ n (hn : n < N), n % L ≠ L - 1 → s n hn = ∑ k ∈ Finset.range ((n % L + 1) * D), f (n / L) k := by
  intro n
  induction n with
  | zero =>
    intro hn _
    rw [h0 0 hn (Nat.zero_mod L), Nat.zero_mod, sum_first]
  | succ n ih =>
    intro hn h
    by_cases hz : (n + 1) % L = 0
    · rw [h0 _ hn hz, hz, sum_first]
    · have hd : (n + 1) / L = n / L := by rw [Nat.succ_div, if_neg (fun d => hz (Nat.mod_eq_zero_of_dvd d)), Nat.add_zero]
      have e1 := Nat.div_add_mod (n + 1) L
      have e2 := Nat.div_add_mod n L
      rw [hd] at e1
      have hm : (n + 1) % L = n % L + 1 := by omega
      have hlt := Nat.mod_lt (n + 1) hL
      rw [h1 n hn hz h, ih _ (by omega), hd, hm, sum_block]

/-- A sum over all columns. -/
theorem sum_all (f : ℕ → EReal) (b : ℕ) : ∑ k : Fin b, f k.val = ∑ k ∈ Finset.range b, f k := Fin.sum_univ_eq_sum_range f b

theorem z2 : (![0, 0] : Fin 2 → Nat) = fun _ => 0 := funext fun a => by fin_cases a <;> rfl

theorem z3 : (![0, 0, 0] : Fin 3 → Nat) = fun _ => 0 := funext fun a => by fin_cases a <;> rfl

/-- An index of a stack of one matrix. -/
theorem eta3 {b c : ℕ} (x : (⟨3, ![1, b, c]⟩ : Shape).Idx) : x = ix3 0 (x 1) (x 2) := by
  funext d
  match d with
  | 0 => exact Subsingleton.elim (α := Fin 1) _ _
  | 1 => rfl
  | 2 => rfl

end Cert.Products

end
-- ==== Proof.Product2.lean ====
/-
The input gradient of the feed-forward block's first product.
-/
module

public import proofs.«01_k».proof.Proof.Sums
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent
public import Idealize.ShloMosaic.Lib.Pipeline.ValueKit.Geometry

@[expose] public section

set_option maxRecDepth 65536

noncomputable section

namespace Cert.Products.P2

open Cert.Kernel2Ideal Cert.Kernel2Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x1408 .bf16) (h3 : a3.IsWhole) (a4 : Memref sig .tc .vmem S1x1024x1408 .bf16) (h4 : a4.IsWhole)
  (a5 : Memref sig .tc .vmem S1056x1024 .f32) (h5 : a5.IsWhole) (a6 : Memref sig .tc .vmem S1056x1024 .f32) (h6 : a6.IsWhole)
  (x0 : Vec F S1056x1408 .bf16) (x1 : Vec F S1x1024x1408 .bf16) (xs : Vec F S1056x1024 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x1408) z2, View.ld_unit_zero (S := S1x1024x1408) z3, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1056x1408) z2, View.ld_unit_zero (S := S1x1024x1408) z3, View.ld_unit_zero (S := S1056x1024) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z2, View.readCov_unit_zero (S := S1056x1024) _ z2]
  unfold k0_pay3
  simp only [View.readAt_eq_ld, h3.read_unread, h4.read_unread, h6.read_unread, View.ld_unit_zero (S := S1056x1408) z2, View.ld_unit_zero (S := S1x1024x1408) z3, View.ld_unit_zero (S := S1056x1024) z2, shapeCast_self]

end cases

/-- One block's product, read at an entry. -/
theorem block (v0 : Vec Ideal S1056x1408 .bf16) (v1 : Vec Ideal S1x1024x1408 .bf16) (y : Fin 1056) (x : Fin 1024) :
    k0_pay1 (F := Ideal) v0 v1 (ix2 y x) = ∑ k : Fin 1408, v0 (ix2 y k) * v1 (ix3 0 x k) := by
  pointwise [k0_pay1]

/-- One product under the sum of output row `r`, column `s`. -/
def term (a : S8448x11264.Idx → EReal) (w : S8x2048x1408.Idx → EReal) (r s k : ℕ) : EReal :=
  at2 (R := 8448) (C := 11264) a (r) (k) * at3 (B := 8) (R := 2048) (C := 1408) w (k / 1408) (s) (k % 1408)

/-- The full sum. -/
def entry (a : S8448x11264.Idx → EReal) (w : S8x2048x1408.Idx → EReal) (r s : ℕ) : EReal := ∑ k ∈ Finset.range (8 * 1408), term a w r s k

/-- The array of the full sums. -/
def full (a : S8448x11264.Idx → EReal) (w : S8x2048x1408.Idx → EReal) : S8448x2048.Idx → EReal := fun i => entry a w (i 0).val (i 1).val

section array
variable (m : (ℓ : Loc nD τ sig) → Buf (Elt Ideal) ℓ) (c : Dev nD)

/-- The two arguments. -/
abbrev A0 : S8448x11264.Idx → EReal := m ((c.tc : Thread nD τ).loc main_arg0)
abbrev A1 : S8x2048x1408.Idx → EReal := m ((c.tc : Thread nD τ).loc main_arg1)

theorem at_0 : ∀ t : Fin cfg0.N, win0_0.index t = ![t.val / 8 / 2, t.val % 8] := by decide +kernel
theorem at_1 : ∀ t : Fin cfg0.N, win0_1.index t = ![t.val % 8, t.val / 8 % 2, 0] := by decide +kernel

/-- What window 0 reads. -/
theorem blk_0 (t : Fin cfg0.N) (y : Fin 1056) (k : Fin 1408) :
    (iblk m c 0 t : Vec Ideal S1056x1408 .bf16) (ix2 y k)
      = at2 (R := 8448) (C := 11264) (A0 m c) (t.val / 8 / 2 * 1056 + y.val) (t.val % 8 * 1408 + k.val) := by
  have e := at_0 t
  blk_simp [iblk]
  refine eq_at2 (R := 8448) (C := 11264) _ _ ?_ ?_ <;> simp [e, ix2]

/-- What window 1 reads. -/
theorem blk_1 (t : Fin cfg0.N) (x : Fin 1024) (k : Fin 1408) :
    (iblk m c 1 t : Vec Ideal S1x1024x1408 .bf16) (ix3 0 x k)
      = at3 (B := 8) (R := 2048) (C := 1408) (A1 m c) (t.val % 8) (t.val / 8 % 2 * 1024 + x.val) (0 * 1408 + k.val) := by
  have e := at_1 t
  blk_simp [iblk]
  refine eq_at3 (B := 8) (R := 2048) (C := 1408) _ _ ?_ ?_ ?_ <;> simp [e, ix3]

/-- One grid point's block product is the sum's next block. -/
theorem step (t : Fin cfg0.N) (y : Fin 1056) (x : Fin 1024) :
    k0_pay1 (F := Ideal) (iblk m c 0 t) (iblk m c 1 t) (ix2 y x)
      = ∑ k : Fin 1408, term (A0 m c) (A1 m c) (t.val / 8 / 2 * 1056 + y.val) (t.val / 8 % 2 * 1024 + x.val) (t.val % 8 * 1408 + k.val) := by
  rw [block]
  refine Finset.sum_congr rfl fun k _ => ?_
  have hk := k.isLt
  have hx := x.isLt
  rw [blk_0, blk_1, term, show (t.val % 8 * 1408 + k.val) / 1408 = t.val % 8 from by omega, show (t.val % 8 * 1408 + k.val) % 1408 = k.val from by omega]
  simp only [Nat.zero_mul, Nat.zero_add, Nat.add_zero]

/-- The running sum after a grid point that is not the last of its row. -/
theorem running (y : Fin 1056) (x : Fin 1024) (n : ℕ) (hn : n < cfg0.N) (h : n % 8 ≠ 7) : (outsAt0 m c n hn).2 (ix2 y x)
    = ∑ k ∈ Finset.range ((n % 8 + 1) * 1408), term (A0 m c) (A1 m c) (n / 8 / 2 * 1056 + y.val) (n / 8 % 2 * 1024 + x.val) k := by
  refine sum_blocks 8 1408 cfg0.N (by decide) (fun n hn => (outsAt0 m c n hn).2 (ix2 y x)) (fun b => term (A0 m c) (A1 m c) (b / 2 * 1056 + y.val) (b % 2 * 1024 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 8 = 7) (y : Fin 1056) (x : Fin 1024) : (outsAt0 m c t.val t.isLt).1 (ix2 y x)
    = entry (A0 m c) (A1 m c) (t.val / 8 / 2 * 1056 + y.val) (t.val / 8 % 2 * 1024 + x.val) := by
  rw [outsAt0_C m c t (by omega) (by omega) h]
  dsimp only
  rw [last]
  show (outsAt0 m c (t.val - 1) _).2 (ix2 y x) + _ = _
  rw [running m c y x _ _ (by omega), step, show (t.val - 1) / 8 = t.val / 8 from by omega, show (t.val - 1) % 8 + 1 = t.val % 8 from by omega, sum_block, h, entry]

/-- What the kernel's array ends holding. -/
theorem array : Value.G2 m c = full (A0 m c) (A1 m c) := by
  funext i
  have h0 : (i 0).val < 8448 := (i 0).isLt
  have h1 : (i 1).val < 2048 := (i 1).isLt
  have hp : Value.pt2Of i < cfg0.N := lt_of_lt_of_eq (show Value.pt2Of i < 128 by unfold Value.pt2Of Value.run2Of; omega) (show 128 = cfg0.N from N_0.symm)
  unfold Value.G2
  rw [dif_pos hp, ← Value.outsAt0_sweep m c _ hp]
  have h7 : Value.pt2Of i % 8 = 7 := by unfold Value.pt2Of; omega
  refine Eq.trans (Eq.trans (congrArg _ ((ix2_eta (Value.loc2Of i)).symm)) (whole m c ⟨Value.pt2Of i, hp⟩ h7 _ _)) ?_
  have e0 : Value.pt2Of i / 8 / 2 * 1056 + (i 0).val % 1056 = (i 0).val := by unfold Value.pt2Of Value.run2Of; omega
  have e1 : Value.pt2Of i / 8 % 2 * 1024 + (i 1).val % 1024 = (i 1).val := by unfold Value.pt2Of Value.run2Of; omega
  show entry _ _ (Value.pt2Of i / 8 / 2 * 1056 + (i 0).val % 1056) (Value.pt2Of i / 8 % 2 * 1024 + (i 1).val % 1024) = entry _ _ ((i 0).val) ((i 1).val)
  rw [e0, e1]

end array

/-- What the reference computes. -/
theorem expected (a : S8448x11264.Idx → EReal) (w : S8x2048x1408.Idx → EReal) : Cert.Reference2Ideal.Read.val_main_v6 (F := Ideal) a w = full a w := by
  funext i
  rw [Cert.Reference2Ideal.Read.val_main_v6_apply]
  refine Eq.trans (Finset.sum_congr rfl fun k _ => ?_) (sum_all (fun k => term a w (i 0).val (i 1).val k) 11264)
  rw [Cert.Reference2Ideal.Read.val_main_v5_apply, Cert.Reference2Ideal.Read.val_main_v3_apply, Cert.Reference2Ideal.Read.val_main_v2_apply, Cert.Reference2Ideal.Read.val_main_v1_apply]
  have hk : k.val < 11264 := k.isLt
  have h0 : (i 0).val < 8448 := (i 0).isLt
  have h1 : (i 1).val < 2048 := (i 1).isLt
  refine congrArg₂ (· * ·) ?_ ?_
  · exact eq_at2 (R := 8448) (C := 11264) a _ rfl rfl
  · exact eq_at3 (B := 8) (R := 2048) (C := 1408) w _ (show ((i 1).val * 11264 + k.val) / 1408 % 8 = k.val / 1408 from by omega) (show ((i 1).val * 11264 + k.val) / 11264 = (i 1).val from by omega) (show ((i 1).val * 11264 + k.val) % 1408 = k.val % 1408 from by omega)

end Cert.Products.P2

end
-- ==== Proof.Product3.lean ====
/-
The weight gradient of the feed-forward block's first product.
-/
module

public import proofs.«01_k».proof.Proof.Sums
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent
public import Idealize.ShloMosaic.Lib.Pipeline.ValueKit.Geometry

@[expose] public section

set_option maxRecDepth 65536

noncomputable section

namespace Cert.Products.P3

open Cert.Kernel3Ideal Cert.Kernel3Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1024x2816 .bf16) (h3 : a3.IsWhole) (a4 : Memref sig .tc .vmem S2816x1408 .bf16) (h4 : a4.IsWhole)
  (a5 : Memref sig .tc .vmem S1x1024x1408 .bf16) (h5 : a5.IsWhole) (a6 : Memref sig .tc .vmem S1024x1408 .f32) (h6 : a6.IsWhole)
  (x0 : Vec F S1024x2816 .bf16) (x1 : Vec F S2816x1408 .bf16) (xs : Vec F S1024x1408 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1024x2816) z2, View.ld_unit_zero (S := S2816x1408) z2, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1024x2816) z2, View.ld_unit_zero (S := S2816x1408) z2, View.ld_unit_zero (S := S1024x1408) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z3, View.readCov_unit_zero (S := S1024x1408) _ z2]
  unfold k0_pay3
  simp only [View.readAt_eq_ld, h3.read_unread, h4.read_unread, h6.read_unread, View.ld_unit_zero (S := S1024x2816) z2, View.ld_unit_zero (S := S2816x1408) z2, View.ld_unit_zero (S := S1024x1408) z2, shapeCast_self]

end cases

/-- One block's product, read at an entry. -/
theorem block (v0 : Vec Ideal S1024x2816 .bf16) (v1 : Vec Ideal S2816x1408 .bf16) (y : Fin 1024) (x : Fin 1408) :
    k0_pay1 (F := Ideal) v0 v1 (ix2 y x) = ∑ k : Fin 2816, v0 (ix2 y k) * v1 (ix2 k x) := by
  pointwise [k0_pay1]

/-- The rounding of the sum changes nothing. -/
theorem rounded (v : Vec Ideal S1024x1408 .f32) (y : Fin 1024) (x : Fin 1408) : (k0_pay4 (F := Ideal) v : Vec Ideal S1x1024x1408 .bf16) (ix3 0 y x) = v (ix2 y x) := by
  pointwise [k0_pay4]

/-- One product under the sum of output row `r`, column `s`. -/
def term (a : S2048x8448.Idx → EReal) (w : S8448x11264.Idx → EReal) (r s k : ℕ) : EReal :=
  at2 (R := 2048) (C := 8448) a (r) (k) * at2 (R := 8448) (C := 11264) w (k) (s)

/-- The full sum. -/
def entry (a : S2048x8448.Idx → EReal) (w : S8448x11264.Idx → EReal) (r s : ℕ) : EReal := ∑ k ∈ Finset.range (3 * 2816), term a w r s k

/-- The array of the full sums. -/
def full (a : S2048x8448.Idx → EReal) (w : S8448x11264.Idx → EReal) : S8x2048x1408.Idx → EReal := fun i => entry a w (i 1).val ((i 0).val * 1408 + (i 2).val)

section array
variable (m : (ℓ : Loc nD τ sig) → Buf (Elt Ideal) ℓ) (c : Dev nD)

/-- The two arguments. -/
abbrev A0 : S2048x8448.Idx → EReal := m ((c.tc : Thread nD τ).loc main_arg0)
abbrev A1 : S8448x11264.Idx → EReal := m ((c.tc : Thread nD τ).loc main_arg1)

theorem at_0 : ∀ t : Fin cfg0.N, win0_0.index t = ![t.val / 3 / 8, t.val % 3] := by decide +kernel
theorem at_1 : ∀ t : Fin cfg0.N, win0_1.index t = ![t.val % 3, t.val / 3 % 8] := by decide +kernel

/-- What window 0 reads. -/
theorem blk_0 (t : Fin cfg0.N) (y : Fin 1024) (k : Fin 2816) :
    (iblk m c 0 t : Vec Ideal S1024x2816 .bf16) (ix2 y k)
      = at2 (R := 2048) (C := 8448) (A0 m c) (t.val / 3 / 8 * 1024 + y.val) (t.val % 3 * 2816 + k.val) := by
  have e := at_0 t
  blk_simp [iblk]
  refine eq_at2 (R := 2048) (C := 8448) _ _ ?_ ?_ <;> simp [e, ix2]

/-- What window 1 reads. -/
theorem blk_1 (t : Fin cfg0.N) (k : Fin 2816) (x : Fin 1408) :
    (iblk m c 1 t : Vec Ideal S2816x1408 .bf16) (ix2 k x)
      = at2 (R := 8448) (C := 11264) (A1 m c) (t.val % 3 * 2816 + k.val) (t.val / 3 % 8 * 1408 + x.val) := by
  have e := at_1 t
  blk_simp [iblk]
  refine eq_at2 (R := 8448) (C := 11264) _ _ ?_ ?_ <;> simp [e, ix2]

/-- One grid point's block product is the sum's next block. -/
theorem step (t : Fin cfg0.N) (y : Fin 1024) (x : Fin 1408) :
    k0_pay1 (F := Ideal) (iblk m c 0 t) (iblk m c 1 t) (ix2 y x)
      = ∑ k : Fin 2816, term (A0 m c) (A1 m c) (t.val / 3 / 8 * 1024 + y.val) (t.val / 3 % 8 * 1408 + x.val) (t.val % 3 * 2816 + k.val) := by
  rw [block]
  refine Finset.sum_congr rfl fun k _ => ?_
  have hk := k.isLt
  have hx := x.isLt
  rw [blk_0, blk_1, term]

/-- The running sum after a grid point that is not the last of its row. -/
theorem running (y : Fin 1024) (x : Fin 1408) (n : ℕ) (hn : n < cfg0.N) (h : n % 3 ≠ 2) : (outsAt0 m c n hn).2 (ix2 y x)
    = ∑ k ∈ Finset.range ((n % 3 + 1) * 2816), term (A0 m c) (A1 m c) (n / 3 / 8 * 1024 + y.val) (n / 3 % 8 * 1408 + x.val) k := by
  refine sum_blocks 3 2816 cfg0.N (by decide) (fun n hn => (outsAt0 m c n hn).2 (ix2 y x)) (fun b => term (A0 m c) (A1 m c) (b / 8 * 1024 + y.val) (b % 8 * 1408 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 3 = 2) (y : Fin 1024) (x : Fin 1408) : (outsAt0 m c t.val t.isLt).1 (ix3 0 y x)
    = entry (A0 m c) (A1 m c) (t.val / 3 / 8 * 1024 + y.val) (t.val / 3 % 8 * 1408 + x.val) := by
  rw [outsAt0_C m c t (by omega) (by omega) h]
  dsimp only
  rw [last, rounded]
  show (outsAt0 m c (t.val - 1) _).2 (ix2 y x) + _ = _
  rw [running m c y x _ _ (by omega), step, show (t.val - 1) / 3 = t.val / 3 from by omega, show (t.val - 1) % 3 + 1 = t.val % 3 from by omega, sum_block, h, entry]

/-- What the kernel's array ends holding. -/
theorem array : Value.G2 m c = full (A0 m c) (A1 m c) := by
  funext i
  have h0 : (i 0).val < 8 := (i 0).isLt
  have h1 : (i 1).val < 2048 := (i 1).isLt
  have h2 : (i 2).val < 1408 := (i 2).isLt
  have hp : Value.pt2Of i < cfg0.N := lt_of_lt_of_eq (show Value.pt2Of i < 48 by unfold Value.pt2Of Value.run2Of; omega) (show 48 = cfg0.N from N_0.symm)
  unfold Value.G2
  rw [dif_pos hp, ← Value.outsAt0_sweep m c _ hp]
  have h7 : Value.pt2Of i % 3 = 2 := by unfold Value.pt2Of; omega
  refine Eq.trans (Eq.trans (congrArg _ (eta3 (b := 1024) (c := 1408) (Value.loc2Of i))) (whole m c ⟨Value.pt2Of i, hp⟩ h7 _ _)) ?_
  have e0 : Value.pt2Of i / 3 / 8 * 1024 + (i 1).val % 1024 = (i 1).val := by unfold Value.pt2Of Value.run2Of; omega
  have e1 : Value.pt2Of i / 3 % 8 * 1408 + (i 2).val % 1408 = (i 0).val * 1408 + (i 2).val := by unfold Value.pt2Of Value.run2Of; omega
  show entry _ _ (Value.pt2Of i / 3 / 8 * 1024 + (i 1).val % 1024) (Value.pt2Of i / 3 % 8 * 1408 + (i 2).val % 1408) = entry _ _ ((i 1).val) ((i 0).val * 1408 + (i 2).val)
  rw [e0, e1]

end array

/-- What the reference computes. -/
theorem expected (a : S2048x8448.Idx → EReal) (w : S8448x11264.Idx → EReal) : Cert.Reference3Ideal.Read.val_main_v12 (F := Ideal) a w = full a w := by
  funext i
  rw [Cert.Reference3Ideal.Read.val_main_v12_apply, Cert.Reference3Ideal.Read.val_main_v11_apply, Cert.Reference3Ideal.Read.val_main_v10_apply, Cert.Reference3Ideal.Read.val_main_v9_apply, Cert.Reference3Ideal.Read.val_main_v8_apply]
  refine Eq.trans (Finset.sum_congr rfl fun k _ => ?_) (sum_all (fun k => term a w (i 1).val ((i 0).val * 1408 + (i 2).val) k) 8448)
  rw [Cert.Reference3Ideal.Read.val_main_v7_apply, Cert.Reference3Ideal.Read.val_main_v2_apply, Cert.Reference3Ideal.Read.val_main_v1_apply]
  have hk : k.val < 8448 := k.isLt
  have h0 : (i 0).val < 8 := (i 0).isLt
  have h1 : (i 1).val < 2048 := (i 1).isLt
  have h2 : (i 2).val < 1408 := (i 2).isLt
  refine Eq.trans (mul_comm _ _) ?_
  refine congrArg₂ (· * ·) ?_ ?_
  · exact eq_at2 (R := 2048) (C := 8448) a _ (show (((i 1).val * 8 + (i 0).val) * 1408 + (i 2).val) / 11264 = (i 1).val from by omega) rfl
  · exact eq_at2 (R := 8448) (C := 11264) w _ rfl (show (((i 1).val * 8 + (i 0).val) * 1408 + (i 2).val) % 11264 = (i 0).val * 1408 + (i 2).val from by omega)

end Cert.Products.P3

end
-- ==== Proof.Product4.lean ====
/-
The input gradient of the feed-forward block's second product.
-/
module

public import proofs.«01_k».proof.Proof.Sums
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent
public import Idealize.ShloMosaic.Lib.Pipeline.ValueKit.Geometry

@[expose] public section

set_option maxRecDepth 65536

noncomputable section

namespace Cert.Products.P4

open Cert.Kernel4Ideal Cert.Kernel4Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S1408x2048 .bf16) (y : Fin 1056) (x : Fin 1408) :
    k0_pay1 (F := Ideal) v0 v1 (ix2 y x) = ∑ k : Fin 2048, v0 (ix2 y k) * v1 (ix2 x k) := by
  pointwise [k0_pay1]

/-- One product under the sum of output row `r`, column `s`. -/
def term (a : S8448x2048.Idx → EReal) (w : S5632x2048.Idx → EReal) (r s k : ℕ) : EReal :=
  at2 (R := 8448) (C := 2048) a (r) (k) * at2 (R := 5632) (C := 2048) w (s) (k)

/-- The full sum. -/
def entry (a : S8448x2048.Idx → EReal) (w : S5632x2048.Idx → EReal) (r s : ℕ) : EReal := ∑ k ∈ Finset.range (1 * 2048), term a w r s k

/-- The array of the full sums. -/
def full (a : S8448x2048.Idx → EReal) (w : S5632x2048.Idx → EReal) : S8448x5632.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S5632x2048.Idx → EReal := m ((c.tc : Thread nD τ).loc main_arg1)

theorem at_0 : ∀ t : Fin cfg0.N, win0_0.index t = ![t.val / 4, 0] := by decide +kernel
theorem at_1 : ∀ t : Fin cfg0.N, win0_1.index t = ![t.val % 4, 0] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 4 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (x : Fin 1408) (k : Fin 2048) :
    (iblk m c 1 t : Vec Ideal S1408x2048 .bf16) (ix2 x k)
      = at2 (R := 5632) (C := 2048) (A1 m c) (t.val % 4 * 1408 + x.val) (0 * 2048 + k.val) := by
  have e := at_1 t
  blk_simp [iblk]
  refine eq_at2 (R := 5632) (C := 2048) _ _ ?_ ?_ <;> simp [e, ix2]

/-- One grid point's block product is the sum's next block. -/
theorem step (t : Fin cfg0.N) (y : Fin 1056) (x : Fin 1408) :
    k0_pay1 (F := Ideal) (iblk m c 0 t) (iblk m c 1 t) (ix2 y x)
      = ∑ k : Fin 2048, term (A0 m c) (A1 m c) (t.val / 4 * 1056 + y.val) (t.val % 4 * 1408 + x.val) (0 * 2048 + k.val) := by
  rw [block]
  refine Finset.sum_congr rfl fun k _ => ?_
  have hk := k.isLt
  have hx := x.isLt
  rw [blk_0, blk_1, term]

theorem at_2 : ∀ t : Fin cfg0.N, win0_2.index t = ![t.val / 4, t.val % 4] := by decide +kernel
theorem flush_2 : ∀ t : Fin cfg0.N, (cfg0.win 2).flush t = true := by decide +kernel

/-- The block a grid point computes holds the full sums. -/
theorem whole (t : Fin cfg0.N) (y : Fin 1056) (x : Fin 1408) : (out0_2 (iblk m c 0 t) (iblk m c 1 t) : Vec Ideal S1056x1408 .f32) (ix2 y x) = entry (A0 m c) (A1 m c) (t.val / 4 * 1056 + y.val) (t.val % 4 * 1408 + x.val) := by
  unfold out0_2
  rw [View.canon_unit_zero z2]
  simp only [View.ld_unit_zero (S := S1056x2048) z2, View.ld_unit_zero (S := S1408x2048) z2]
  rw [step, sum_first, entry]

/-- The array at an entry of a grid point's block. -/
theorem array_at (t : Fin cfg0.N) (y : Fin 1056) (x : Fin 1408) (i : S8448x5632.Idx) (h0 : (i 0).val = t.val / 4 * 1056 + y.val) (h1 : (i 1).val = t.val % 4 * 1408 + x.val) :
    ((dats m 0 c).arrAt 2 cfg0.N : Vec Ideal S8448x5632 .f32) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 5632 := (i 1).isLt
  have hp : (i 0).val / 1056 * 4 + (i 1).val / 1408 < cfg0.N := lt_of_lt_of_eq (show _ < 32 by omega) (show 32 = cfg0.N from N_0.symm)
  refine array_at m c ⟨_, hp⟩ ⟨(i 0).val % 1056, by omega⟩ ⟨(i 1).val % 1408, by omega⟩ i ?_ ?_ <;> dsimp only <;> omega

end array

/-- What the reference computes. -/
theorem expected (a : S8448x2048.Idx → EReal) (w : S5632x2048.Idx → EReal) : Cert.Reference4Ideal.Read.val_main_v4 (F := Ideal) a w = full a w := by
  funext i
  rw [Cert.Reference4Ideal.Read.val_main_v4_apply]
  refine Eq.trans (Finset.sum_congr rfl fun k _ => ?_) (sum_all (fun k => term a w (i 0).val (i 1).val k) 2048)
  rw [Cert.Reference4Ideal.Read.val_main_v3_apply, Cert.Reference4Ideal.Read.val_main_v1_apply]
  have hk : k.val < 2048 := k.isLt
  have h0 : (i 0).val < 8448 := (i 0).isLt
  have h1 : (i 1).val < 5632 := (i 1).isLt
  refine congrArg₂ (· * ·) ?_ ?_
  · exact eq_at2 (R := 8448) (C := 2048) a _ rfl rfl
  · exact eq_at2 (R := 5632) (C := 2048) w _ rfl rfl

end Cert.Products.P4

end
-- ==== Proof.Product5.lean ====
/-
The weight gradient of the feed-forward block's second product.
-/
module

public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent
public import Idealize.ShloMosaic.Lib.Pipeline.ValueKit.Geometry

@[expose] public section

set_option maxRecDepth 65536

noncomputable section

namespace Cert.Products.P5

open Cert.Kernel5Ideal Cert.Kernel5Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x1408 .bf16) (h3 : a3.IsWhole) (a4 : Memref sig .tc .vmem S1056x2048 .bf16) (h4 : a4.IsWhole)
  (a5 : Memref sig .tc .vmem S1408x2048 .bf16) (h5 : a5.IsWhole) (a6 : Memref sig .tc .vmem S1408x2048 .f32) (h6 : a6.IsWhole)
  (x0 : Vec F S1056x1408 .bf16) (x1 : Vec F S1056x2048 .bf16) (xs : Vec F S1408x2048 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x1408) z2, View.ld_unit_zero (S := S1056x2048) z2, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1056x1408) z2, View.ld_unit_zero (S := S1056x2048) z2, View.ld_unit_zero (S := S1408x2048) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z2, View.readCov_unit_zero (S := S1408x2048) _ z2]
  unfold k0_pay3
  simp only [View.readAt_eq_ld, h3.read_unread, h4.read_unread, h6.read_unread, View.ld_unit_zero (S := S1056x1408) z2, View.ld_unit_zero (S := S1056x2048) z2, View.ld_unit_zero (S := S1408x2048) z2, shapeCast_self]

end cases

/-- One block's product, read at an entry. -/
theorem block (v0 : Vec Ideal S1056x1408 .bf16) (v1 : Vec Ideal S1056x2048 .bf16) (y : Fin 1408) (x : Fin 2048) :
    k0_pay1 (F := Ideal) v0 v1 (ix2 y x) = ∑ k : Fin 1056, v0 (ix2 k y) * v1 (ix2 k x) := by
  pointwise [k0_pay1]

/-- The rounding of the sum changes nothing. -/
theorem rounded (v : Vec Ideal S1408x2048 .f32) (y : Fin 1408) (x : Fin 2048) : (k0_pay4 (F := Ideal) v : Vec Ideal S1408x2048 .bf16) (ix2 y x) = v (ix2 y x) := by
  pointwise [k0_pay4]

/-- One product under the sum of output row `r`, column `s`. -/
def term (a : S8448x5632.Idx → EReal) (w : S8448x2048.Idx → EReal) (r s k : ℕ) : EReal :=
  at2 (R := 8448) (C := 5632) a (k) (r) * at2 (R := 8448) (C := 2048) w (k) (s)

/-- The full sum. -/
def entry (a : S8448x5632.Idx → EReal) (w : S8448x2048.Idx → EReal) (r s : ℕ) : EReal := ∑ k ∈ Finset.range (8 * 1056), term a w r s k

/-- The array of the full sums. -/
def full (a : S8448x5632.Idx → EReal) (w : S8448x2048.Idx → EReal) : S5632x2048.Idx → EReal := fun i => entry a w (i 0).val (i 1).val

section array
variable (m : (ℓ : Loc nD τ sig) → Buf (Elt Ideal) ℓ) (c : Dev nD)

/-- The two arguments. -/
abbrev A0 : S8448x5632.Idx → EReal := m ((c.tc : Thread nD τ).loc main_arg0)
abbrev A1 : S8448x2048.Idx → EReal := m ((c.tc : Thread nD τ).loc main_arg1)

theorem at_0 : ∀ t : Fin cfg0.N, win0_0.index t = ![t.val % 8, t.val / 8] := by decide +kernel
theorem at_1 : ∀ t : Fin cfg0.N, win0_1.index t = ![t.val % 8, 0] := by decide +kernel

/-- What window 0 reads. -/
theorem blk_0 (t : Fin cfg0.N) (k : Fin 1056) (y : Fin 1408) :
    (iblk m c 0 t : Vec Ideal S1056x1408 .bf16) (ix2 k y)
      = at2 (R := 8448) (C := 5632) (A0 m c) (t.val % 8 * 1056 + k.val) (t.val / 8 * 1408 + y.val) := by
  have e := at_0 t
  blk_simp [iblk]
  refine eq_at2 (R := 8448) (C := 5632) _ _ ?_ ?_ <;> simp [e, ix2]

/-- What window 1 reads. -/
theorem blk_1 (t : Fin cfg0.N) (k : Fin 1056) (x : Fin 2048) :
    (iblk m c 1 t : Vec Ideal S1056x2048 .bf16) (ix2 k x)
      = at2 (R := 8448) (C := 2048) (A1 m c) (t.val % 8 * 1056 + k.val) (0 * 2048 + x.val) := by
  have e := at_1 t
  blk_simp [iblk]
  refine eq_at2 (R := 8448) (C := 2048) _ _ ?_ ?_ <;> simp [e, ix2]

/-- One grid point's block product is the sum's next block. -/
theorem step (t : Fin cfg0.N) (y : Fin 1408) (x : Fin 2048) :
    k0_pay1 (F := Ideal) (iblk m c 0 t) (iblk m c 1 t) (ix2 y x)
      = ∑ k : Fin 1056, term (A0 m c) (A1 m c) (t.val / 8 * 1408 + y.val) (0 * 2048 + x.val) (t.val % 8 * 1056 + k.val) := by
  rw [block]
  refine Finset.sum_congr rfl fun k _ => ?_
  have hk := k.isLt
  have hx := x.isLt
  rw [blk_0, blk_1, term]

/-- The running sum after a grid point that is not the last of its row. -/
theorem running (y : Fin 1408) (x : Fin 2048) (n : ℕ) (hn : n < cfg0.N) (h : n % 8 ≠ 7) : (outsAt0 m c n hn).2 (ix2 y x)
    = ∑ k ∈ Finset.range ((n % 8 + 1) * 1056), term (A0 m c) (A1 m c) (n / 8 * 1408 + y.val) (0 * 2048 + x.val) k := by
  refine sum_blocks 8 1056 cfg0.N (by decide) (fun n hn => (outsAt0 m c n hn).2 (ix2 y x)) (fun b => term (A0 m c) (A1 m c) (b * 1408 + y.val) (0 * 2048 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 8 = 7) (y : Fin 1408) (x : Fin 2048) : (outsAt0 m c t.val t.isLt).1 (ix2 y x)
    = entry (A0 m c) (A1 m c) (t.val / 8 * 1408 + y.val) (0 * 2048 + x.val) := by
  rw [outsAt0_C m c t (by omega) (by omega) h]
  dsimp only
  rw [last, rounded]
  show (outsAt0 m c (t.val - 1) _).2 (ix2 y x) + _ = _
  rw [running m c y x _ _ (by omega), step, show (t.val - 1) / 8 = t.val / 8 from by omega, show (t.val - 1) % 8 + 1 = t.val % 8 from by omega, sum_block, h, entry]

/-- What the kernel's array ends holding. -/
theorem array : Value.G2 m c = full (A0 m c) (A1 m c) := by
  funext i
  have h0 : (i 0).val < 5632 := (i 0).isLt
  have h1 : (i 1).val < 2048 := (i 1).isLt
  have hp : Value.pt2Of i < cfg0.N := lt_of_lt_of_eq (show Value.pt2Of i < 32 by unfold Value.pt2Of Value.run2Of; omega) (show 32 = cfg0.N from N_0.symm)
  unfold Value.G2
  rw [dif_pos hp, ← Value.outsAt0_sweep m c _ hp]
  have h7 : Value.pt2Of i % 8 = 7 := by unfold Value.pt2Of; omega
  refine Eq.trans (Eq.trans (congrArg _ ((ix2_eta (Value.loc2Of i)).symm)) (whole m c ⟨Value.pt2Of i, hp⟩ h7 _ _)) ?_
  have e0 : Value.pt2Of i / 8 * 1408 + (i 0).val % 1408 = (i 0).val := by unfold Value.pt2Of Value.run2Of; omega
  have e1 : 0 * 2048 + (i 1).val % 2048 = (i 1).val := by rw [Nat.zero_mul, Nat.zero_add, Nat.mod_eq_of_lt h1]
  show entry _ _ (Value.pt2Of i / 8 * 1408 + (i 0).val % 1408) (0 * 2048 + (i 1).val % 2048) = entry _ _ ((i 0).val) ((i 1).val)
  rw [e0, e1]

end array

/-- What the reference computes. -/
theorem expected (a : S8448x5632.Idx → EReal) (w : S8448x2048.Idx → EReal) : Cert.Reference5Ideal.Read.val_main_v7 (F := Ideal) a w = full a w := by
  funext i
  rw [Cert.Reference5Ideal.Read.val_main_v7_apply, Cert.Reference5Ideal.Read.val_main_v6_apply, Cert.Reference5Ideal.Read.val_main_v5_apply]
  refine Eq.trans (Finset.sum_congr rfl fun k _ => ?_) (sum_all (fun k => term a w (i 0).val (i 1).val k) 8448)
  rw [Cert.Reference5Ideal.Read.val_main_v4_apply, Cert.Reference5Ideal.Read.val_main_v1_apply]
  have hk : k.val < 8448 := k.isLt
  have h0 : (i 0).val < 5632 := (i 0).isLt
  have h1 : (i 1).val < 2048 := (i 1).isLt
  refine Eq.trans (mul_comm _ _) ?_
  refine congrArg₂ (· * ·) ?_ ?_
  · exact eq_at2 (R := 8448) (C := 5632) a _ rfl rfl
  · exact eq_at2 (R := 8448) (C := 2048) w _ rfl rfl

end Cert.Products.P5

end
-- ==== Proof.Product6.lean ====
/-
The feed-forward block's first product.
-/
module

public import proofs.«01_k».proof.Proof.Sums
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent
public import Idealize.ShloMosaic.Lib.Pipeline.ValueKit.Geometry

@[expose] public section

set_option maxRecDepth 65536

noncomputable section

namespace Cert.Products.P6

open Cert.Kernel6Ideal Cert.Kernel6Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S1x2048x1408 .bf16) (y : Fin 1056) (x : Fin 1408) :
    k0_pay1 (F := Ideal) v0 v1 (ix2 y x) = ∑ k : Fin 2048, v0 (ix2 y k) * v1 (ix3 0 k x) := by
  pointwise [k0_pay1]

/-- One product under the sum of output row `r`, column `s`. -/
def term (a : S8448x2048.Idx → EReal) (w : S8x2048x1408.Idx → EReal) (r s k : ℕ) : EReal :=
  at2 (R := 8448) (C := 2048) a (r) (k) * at3 (B := 8) (R := 2048) (C := 1408) w (s / 1408) (k) (s % 1408)

/-- The full sum. -/
def entry (a : S8448x2048.Idx → EReal) (w : S8x2048x1408.Idx → EReal) (r s : ℕ) : EReal := ∑ k ∈ Finset.range (1 * 2048), term a w r s k

/-- The array of the full sums. -/
def full (a : S8448x2048.Idx → EReal) (w : S8x2048x1408.Idx → EReal) : S8448x11264.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S8x2048x1408.Idx → EReal := m ((c.tc : Thread nD τ).loc main_arg1)

theorem at_0 : ∀ t : Fin cfg0.N, win0_0.index t = ![t.val / 8, 0] := by decide +kernel
theorem at_1 : ∀ t : Fin cfg0.N, win0_1.index t = ![t.val % 8, 0, 0] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 8 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (k : Fin 2048) (x : Fin 1408) :
    (iblk m c 1 t : Vec Ideal S1x2048x1408 .bf16) (ix3 0 k x)
      = at3 (B := 8) (R := 2048) (C := 1408) (A1 m c) (t.val % 8) (0 * 2048 + k.val) (0 * 1408 + x.val) := by
  have e := at_1 t
  blk_simp [iblk]
  refine eq_at3 (B := 8) (R := 2048) (C := 1408) _ _ ?_ ?_ ?_ <;> simp [e, ix3]

/-- One grid point's block product is the sum's next block. -/
theorem step (t : Fin cfg0.N) (y : Fin 1056) (x : Fin 1408) :
    k0_pay1 (F := Ideal) (iblk m c 0 t) (iblk m c 1 t) (ix2 y x)
      = ∑ k : Fin 2048, term (A0 m c) (A1 m c) (t.val / 8 * 1056 + y.val) (t.val % 8 * 1408 + x.val) (0 * 2048 + k.val) := by
  rw [block]
  refine Finset.sum_congr rfl fun k _ => ?_
  have hk := k.isLt
  have hx := x.isLt
  rw [blk_0, blk_1, term, show (t.val % 8 * 1408 + x.val) / 1408 = t.val % 8 from by omega, show (t.val % 8 * 1408 + x.val) % 1408 = x.val from by omega]
  simp only [Nat.zero_mul, Nat.zero_add, Nat.add_zero]

theorem at_2 : ∀ t : Fin cfg0.N, win0_2.index t = ![t.val / 8, t.val % 8] := by decide +kernel
theorem flush_2 : ∀ t : Fin cfg0.N, (cfg0.win 2).flush t = true := by decide +kernel

/-- The block a grid point computes holds the full sums. -/
theorem whole (t : Fin cfg0.N) (y : Fin 1056) (x : Fin 1408) : (out0_2 (iblk m c 0 t) (iblk m c 1 t) : Vec Ideal S1056x1408 .bf16) (ix2 y x) = entry (A0 m c) (A1 m c) (t.val / 8 * 1056 + y.val) (t.val % 8 * 1408 + x.val) := by
  unfold out0_2
  rw [View.canon_unit_zero z2]
  simp only [View.ld_unit_zero (S := S1056x2048) z2, View.ld_unit_zero (S := S1x2048x1408) z3]
  rw [step, sum_first, entry]

/-- The array at an entry of a grid point's block. -/
theorem array_at (t : Fin cfg0.N) (y : Fin 1056) (x : Fin 1408) (i : S8448x11264.Idx) (h0 : (i 0).val = t.val / 8 * 1056 + y.val) (h1 : (i 1).val = t.val % 8 * 1408 + x.val) :
    ((dats m 0 c).arrAt 2 cfg0.N : Vec Ideal S8448x11264 .bf16) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 11264 := (i 1).isLt
  have hp : (i 0).val / 1056 * 8 + (i 1).val / 1408 < cfg0.N := lt_of_lt_of_eq (show _ < 64 by omega) (show 64 = cfg0.N from N_0.symm)
  refine array_at m c ⟨_, hp⟩ ⟨(i 0).val % 1056, by omega⟩ ⟨(i 1).val % 1408, by omega⟩ i ?_ ?_ <;> dsimp only <;> omega

end array

/-- What the reference computes. -/
theorem expected (a : S8448x2048.Idx → EReal) (w : S8x2048x1408.Idx → EReal) : Cert.Reference6Ideal.Read.val_main_v5 (F := Ideal) a w = full a w := by
  funext i
  rw [Cert.Reference6Ideal.Read.val_main_v5_apply, Cert.Reference6Ideal.Read.val_main_v4_apply]
  refine Eq.trans (Finset.sum_congr rfl fun k _ => ?_) (sum_all (fun k => term a w (i 0).val (i 1).val k) 2048)
  rw [Cert.Reference6Ideal.Read.val_main_v0_apply, Cert.Reference6Ideal.Read.val_main_v3_apply, Cert.Reference6Ideal.Read.val_main_v2_apply, Cert.Reference6Ideal.Read.val_main_v1_apply]
  have hk : k.val < 2048 := k.isLt
  have h0 : (i 0).val < 8448 := (i 0).isLt
  have h1 : (i 1).val < 11264 := (i 1).isLt
  refine congrArg₂ (· * ·) ?_ ?_
  · exact eq_at2 (R := 8448) (C := 2048) a _ rfl rfl
  · exact eq_at3 (B := 8) (R := 2048) (C := 1408) w _ (show (k.val * 11264 + (i 1).val) / 1408 % 8 = (i 1).val / 1408 from by omega) (show (k.val * 11264 + (i 1).val) / 11264 = k.val from by omega) (show (k.val * 11264 + (i 1).val) % 1408 = (i 1).val % 1408 from by omega)

end Cert.Products.P6

end
-- ==== Proof.Product7.lean ====
/-
The feed-forward block's second product.
-/
module

public import proofs.«01_k».proof.Proof.Sums
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent
public import Idealize.ShloMosaic.Lib.Pipeline.ValueKit.Geometry

@[expose] public section

set_option maxRecDepth 65536

noncomputable section

namespace Cert.Products.P7

open Cert.Kernel7Ideal Cert.Kernel7Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x2816 .bf16) (h3 : a3.IsWhole) (a4 : Memref sig .tc .vmem S2816x1024 .bf16) (h4 : a4.IsWhole)
  (a5 : Memref sig .tc .vmem S1056x1024 .f32) (h5 : a5.IsWhole) (a6 : Memref sig .tc .vmem S1056x1024 .f32) (h6 : a6.IsWhole)
  (x0 : Vec F S1056x2816 .bf16) (x1 : Vec F S2816x1024 .bf16) (xs : Vec F S1056x1024 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x2816) z2, View.ld_unit_zero (S := S2816x1024) z2, shapeCast_self]

/-- The last block's product is added and the sum written out. -/
theorem last (hc0 : ¬cond0_0 i) (hc1 : cond0_1 i) (hc2 : cond0_2 i) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero z2, View.readCov_unit_zero (S := S1056x1024) _ z2]
  unfold k0_pay3
  simp only [View.readAt_eq_ld, h3.read_unread, h4.read_unread, h6.read_unread, View.ld_unit_zero (S := S1056x2816) z2, View.ld_unit_zero (S := S2816x1024) z2, View.ld_unit_zero (S := S1056x1024) z2, shapeCast_self]

end cases

/-- One block's product, read at an entry. -/
theorem block (v0 : Vec Ideal S1056x2816 .bf16) (v1 : Vec Ideal S2816x1024 .bf16) (y : Fin 1056) (x : Fin 1024) :
    k0_pay1 (F := Ideal) v0 v1 (ix2 y x) = ∑ k : Fin 2816, v0 (ix2 y k) * v1 (ix2 k x) := by
  pointwise [k0_pay1]

/-- One product under the sum of output row `r`, column `s`. -/
def term (a : S8448x5632.Idx → EReal) (w : S5632x2048.Idx → EReal) (r s k : ℕ) : EReal :=
  at2 (R := 8448) (C := 5632) a (r) (k) * at2 (R := 5632) (C := 2048) w (k) (s)

/-- The full sum. -/
def entry (a : S8448x5632.Idx → EReal) (w : S5632x2048.Idx → EReal) (r s : ℕ) : EReal := ∑ k ∈ Finset.range (2 * 2816), term a w r s k

/-- The array of the full sums. -/
def full (a : S8448x5632.Idx → EReal) (w : S5632x2048.Idx → EReal) : S8448x2048.Idx → EReal := fun i => entry a w (i 0).val (i 1).val

section array
variable (m : (ℓ : Loc nD τ sig) → Buf (Elt Ideal) ℓ) (c : Dev nD)

/-- The two arguments. -/
abbrev A0 : S8448x5632.Idx → EReal := m ((c.tc : Thread nD τ).loc main_arg0)
abbrev A1 : S5632x2048.Idx → EReal := m ((c.tc : Thread nD τ).loc main_arg1)

theorem at_0 : ∀ t : Fin cfg0.N, win0_0.index t = ![t.val / 2 / 2, t.val % 2] := by decide +kernel
theorem at_1 : ∀ t : Fin cfg0.N, win0_1.index t = ![t.val % 2, t.val / 2 % 2] := by decide +kernel

/-- What window 0 reads. -/
theorem blk_0 (t : Fin cfg0.N) (y : Fin 1056) (k : Fin 2816) :
    (iblk m c 0 t : Vec Ideal S1056x2816 .bf16) (ix2 y k)
      = at2 (R := 8448) (C := 5632) (A0 m c) (t.val / 2 / 2 * 1056 + y.val) (t.val % 2 * 2816 + k.val) := by
  have e := at_0 t
  blk_simp [iblk]
  refine eq_at2 (R := 8448) (C := 5632) _ _ ?_ ?_ <;> simp [e, ix2]

/-- What window 1 reads. -/
theorem blk_1 (t : Fin cfg0.N) (k : Fin 2816) (x : Fin 1024) :
    (iblk m c 1 t : Vec Ideal S2816x1024 .bf16) (ix2 k x)
      = at2 (R := 5632) (C := 2048) (A1 m c) (t.val % 2 * 2816 + k.val) (t.val / 2 % 2 * 1024 + x.val) := by
  have e := at_1 t
  blk_simp [iblk]
  refine eq_at2 (R := 5632) (C := 2048) _ _ ?_ ?_ <;> simp [e, ix2]

/-- One grid point's block product is the sum's next block. -/
theorem step (t : Fin cfg0.N) (y : Fin 1056) (x : Fin 1024) :
    k0_pay1 (F := Ideal) (iblk m c 0 t) (iblk m c 1 t) (ix2 y x)
      = ∑ k : Fin 2816, term (A0 m c) (A1 m c) (t.val / 2 / 2 * 1056 + y.val) (t.val / 2 % 2 * 1024 + x.val) (t.val % 2 * 2816 + k.val) := by
  rw [block]
  refine Finset.sum_congr rfl fun k _ => ?_
  have hk := k.isLt
  have hx := x.isLt
  rw [blk_0, blk_1, term]

/-- The running sum after a grid point that is not the last of its row. -/
theorem running (y : Fin 1056) (x : Fin 1024) (n : ℕ) (hn : n < cfg0.N) (h : n % 2 ≠ 1) : (outsAt0 m c n hn).2 (ix2 y x)
    = ∑ k ∈ Finset.range ((n % 2 + 1) * 2816), term (A0 m c) (A1 m c) (n / 2 / 2 * 1056 + y.val) (n / 2 % 2 * 1024 + x.val) k := by
  refine sum_blocks 2 2816 cfg0.N (by decide) (fun n hn => (outsAt0 m c n hn).2 (ix2 y x)) (fun b => term (A0 m c) (A1 m c) (b / 2 * 1056 + y.val) (b % 2 * 1024 + x.val)) ?_ ?_ n hn h
  · intro n hn h0
    rw [outsAt0_A m c ⟨n, hn⟩ h0 (by dsimp only; omega) (by dsimp only; omega)]
    dsimp only
    rw [first, step]
  · intro n hn h0 h7
    omega

/-- The block written back at a row's last grid point holds the full sums. -/
theorem whole (t : Fin cfg0.N) (h : t.val % 2 = 1) (y : Fin 1056) (x : Fin 1024) : (outsAt0 m c t.val t.isLt).1 (ix2 y x)
    = entry (A0 m c) (A1 m c) (t.val / 2 / 2 * 1056 + y.val) (t.val / 2 % 2 * 1024 + x.val) := by
  rw [outsAt0_B m c t (by omega) (by omega) h]
  dsimp only
  rw [last]
  show (outsAt0 m c (t.val - 1) _).2 (ix2 y x) + _ = _
  rw [running m c y x _ _ (by omega), step, show (t.val - 1) / 2 = t.val / 2 from by omega, show (t.val - 1) % 2 + 1 = t.val % 2 from by omega, sum_block, h, entry]

/-- What the kernel's array ends holding. -/
theorem array : Value.G2 m c = full (A0 m c) (A1 m c) := by
  funext i
  have h0 : (i 0).val < 8448 := (i 0).isLt
  have h1 : (i 1).val < 2048 := (i 1).isLt
  have hp : Value.pt2Of i < cfg0.N := lt_of_lt_of_eq (show Value.pt2Of i < 32 by unfold Value.pt2Of Value.run2Of; omega) (show 32 = cfg0.N from N_0.symm)
  unfold Value.G2
  rw [dif_pos hp, ← Value.outsAt0_sweep m c _ hp]
  have h7 : Value.pt2Of i % 2 = 1 := by unfold Value.pt2Of; omega
  refine Eq.trans (Eq.trans (congrArg _ ((ix2_eta (Value.loc2Of i)).symm)) (whole m c ⟨Value.pt2Of i, hp⟩ h7 _ _)) ?_
  have e0 : Value.pt2Of i / 2 / 2 * 1056 + (i 0).val % 1056 = (i 0).val := by unfold Value.pt2Of Value.run2Of; omega
  have e1 : Value.pt2Of i / 2 % 2 * 1024 + (i 1).val % 1024 = (i 1).val := by unfold Value.pt2Of Value.run2Of; omega
  show entry _ _ (Value.pt2Of i / 2 / 2 * 1056 + (i 0).val % 1056) (Value.pt2Of i / 2 % 2 * 1024 + (i 1).val % 1024) = entry _ _ ((i 0).val) ((i 1).val)
  rw [e0, e1]

end array

/-- What the reference computes. -/
theorem expected (a : S8448x5632.Idx → EReal) (w : S5632x2048.Idx → EReal) : Cert.Reference7Ideal.Read.val_main_v2 (F := Ideal) a w = full a w := by
  funext i
  rw [Cert.Reference7Ideal.Read.val_main_v2_apply]
  refine Eq.trans (Finset.sum_congr rfl fun k _ => ?_) (sum_all (fun k => term a w (i 0).val (i 1).val k) 5632)
  rw [Cert.Reference7Ideal.Read.val_main_v0_apply, Cert.Reference7Ideal.Read.val_main_v1_apply]
  have hk : k.val < 5632 := k.isLt
  have h0 : (i 0).val < 8448 := (i 0).isLt
  have h1 : (i 1).val < 2048 := (i 1).isLt
  refine congrArg₂ (· * ·) ?_ ?_
  · exact eq_at2 (R := 8448) (C := 5632) a _ rfl rfl
  · exact eq_at2 (R := 5632) (C := 2048) w _ rfl rfl

end Cert.Products.P7

end
-- ==== Proof.Product8.lean ====
/-
The first mixer's input product.
-/
module

public import proofs.«01_k».proof.Proof.Sums
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent
public import Idealize.ShloMosaic.Lib.Pipeline.ValueKit.Geometry

@[expose] public section

set_option maxRecDepth 65536

noncomputable section

namespace Cert.Products.P8

open Cert.Kernel8Ideal Cert.Kernel8Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S1x2048x768 .bf16) (y : Fin 1056) (x : Fin 768) :
    k0_pay1 (F := Ideal) v0 v1 (ix2 y x) = ∑ k : Fin 2048, v0 (ix2 y k) * v1 (ix3 0 k x) := by
  pointwise [k0_pay1]

/-- One product under the sum of output row `r`, column `s`. -/
def term (a : S8448x2048.Idx → EReal) (w : S8x2048x768.Idx → EReal) (r s k : ℕ) : EReal :=
  at2 (R := 8448) (C := 2048) a (r) (k) * at3 (B := 8) (R := 2048) (C := 768) w (s / 768) (k) (s % 768)

/-- The full sum. -/
def entry (a : S8448x2048.Idx → EReal) (w : S8x2048x768.Idx → EReal) (r s : ℕ) : EReal := ∑ k ∈ Finset.range (1 * 2048), term a w r s k

/-- The array of the full sums. -/
def full (a : S8448x2048.Idx → EReal) (w : S8x2048x768.Idx → EReal) : S8448x6144.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S8x2048x768.Idx → EReal := m ((c.tc : Thread nD τ).loc main_arg1)

theorem at_0 : ∀ t : Fin cfg0.N, win0_0.index t = ![t.val / 8, 0] := by decide +kernel
theorem at_1 : ∀ t : Fin cfg0.N, win0_1.index t = ![t.val % 8, 0, 0] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 8 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (k : Fin 2048) (x : Fin 768) :
    (iblk m c 1 t : Vec Ideal S1x2048x768 .bf16) (ix3 0 k x)
      = at3 (B := 8) (R := 2048) (C := 768) (A1 m c) (t.val % 8) (0 * 2048 + k.val) (0 * 768 + x.val) := by
  have e := at_1 t
  blk_simp [iblk]
  refine eq_at3 (B := 8) (R := 2048) (C := 768) _ _ ?_ ?_ ?_ <;> simp [e, ix3]

/-- One grid point's block product is the sum's next block. -/
theorem step (t : Fin cfg0.N) (y : Fin 1056) (x : Fin 768) :
    k0_pay1 (F := Ideal) (iblk m c 0 t) (iblk m c 1 t) (ix2 y x)
      = ∑ k : Fin 2048, term (A0 m c) (A1 m c) (t.val / 8 * 1056 + y.val) (t.val % 8 * 768 + x.val) (0 * 2048 + k.val) := by
  rw [block]
  refine Finset.sum_congr rfl fun k _ => ?_
  have hk := k.isLt
  have hx := x.isLt
  rw [blk_0, blk_1, term, show (t.val % 8 * 768 + x.val) / 768 = t.val % 8 from by omega, show (t.val % 8 * 768 + x.val) % 768 = x.val from by omega]
  simp only [Nat.zero_mul, Nat.zero_add, Nat.add_zero]

theorem at_2 : ∀ t : Fin cfg0.N, win0_2.index t = ![t.val / 8, t.val % 8] := by decide +kernel
theorem flush_2 : ∀ t : Fin cfg0.N, (cfg0.win 2).flush t = true := by decide +kernel

/-- The block a grid point computes holds the full sums. -/
theorem whole (t : Fin cfg0.N) (y : Fin 1056) (x : Fin 768) : (out0_2 (iblk m c 0 t) (iblk m c 1 t) : Vec Ideal S1056x768 .f32) (ix2 y x) = entry (A0 m c) (A1 m c) (t.val / 8 * 1056 + y.val) (t.val % 8 * 768 + x.val) := by
  unfold out0_2
  rw [View.canon_unit_zero z2]
  simp only [View.ld_unit_zero (S := S1056x2048) z2, View.ld_unit_zero (S := S1x2048x768) z3]
  rw [step, sum_first, entry]

/-- The array at an entry of a grid point's block. -/
theorem array_at (t : Fin cfg0.N) (y : Fin 1056) (x : Fin 768) (i : S8448x6144.Idx) (h0 : (i 0).val = t.val / 8 * 1056 + y.val) (h1 : (i 1).val = t.val % 8 * 768 + x.val) :
    ((dats m 0 c).arrAt 2 cfg0.N : Vec Ideal S8448x6144 .f32) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 6144 := (i 1).isLt
  have hp : (i 0).val / 1056 * 8 + (i 1).val / 768 < cfg0.N := lt_of_lt_of_eq (show _ < 64 by omega) (show 64 = cfg0.N from N_0.symm)
  refine array_at m c ⟨_, hp⟩ ⟨(i 0).val % 1056, by omega⟩ ⟨(i 1).val % 768, by omega⟩ i ?_ ?_ <;> dsimp only <;> omega

end array

/-- What the reference computes. -/
theorem expected (a : S8448x2048.Idx → EReal) (w : S8x2048x768.Idx → EReal) : Cert.Reference8Ideal.Read.val_main_v4 (F := Ideal) a w = full a w := by
  funext i
  rw [Cert.Reference8Ideal.Read.val_main_v4_apply]
  refine Eq.trans (Finset.sum_congr rfl fun k _ => ?_) (sum_all (fun k => term a w (i 0).val (i 1).val k) 2048)
  rw [Cert.Reference8Ideal.Read.val_main_v0_apply, Cert.Reference8Ideal.Read.val_main_v3_apply, Cert.Reference8Ideal.Read.val_main_v2_apply, Cert.Reference8Ideal.Read.val_main_v1_apply]
  have hk : k.val < 2048 := k.isLt
  have h0 : (i 0).val < 8448 := (i 0).isLt
  have h1 : (i 1).val < 6144 := (i 1).isLt
  refine congrArg₂ (· * ·) ?_ ?_
  · exact eq_at2 (R := 8448) (C := 2048) a _ rfl rfl
  · exact eq_at3 (B := 8) (R := 2048) (C := 768) w _ (show (k.val * 6144 + (i 1).val) / 768 % 8 = (i 1).val / 768 from by omega) (show (k.val * 6144 + (i 1).val) / 6144 = k.val from by omega) (show (k.val * 6144 + (i 1).val) % 768 = (i 1).val % 768 from by omega)

end Cert.Products.P8

end
-- ==== Proof.Product9.lean ====
/-
The input gradient of the first mixer's input product.
-/
module

public import proofs.«01_k».proof.Proof.Sums
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent
public import Idealize.ShloMosaic.Lib.Pipeline.ValueKit.Geometry

@[expose] public section

set_option maxRecDepth 65536

noncomputable section

namespace Cert.Products.P9

open Cert.Kernel9Ideal Cert.Kernel9Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x768 .bf16) (h3 : a3.IsWhole) (a4 : Memref sig .tc .vmem S1x1024x768 .bf16) (h4 : a4.IsWhole)
  (a5 : Memref sig .tc .vmem S1056x1024 .f32) (h5 : a5.IsWhole) (a6 : Memref sig .tc .vmem S1056x1024 .f32) (h6 : a6.IsWhole)
  (x0 : Vec F S1056x768 .bf16) (x1 : Vec F S1x1024x768 .bf16) (xs : Vec F S1056x1024 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x768) z2, View.ld_unit_zero (S := S1x1024x768) z3, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1056x768) z2, View.ld_unit_zero (S := S1x1024x768) z3, View.ld_unit_zero (S := S1056x1024) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z2, View.readCov_unit_zero (S := S1056x1024) _ z2]
  unfold k0_pay3
  simp only [View.readAt_eq_ld, h3.read_unread, h4.read_unread, h6.read_unread, View.ld_unit_zero (S := S1056x768) z2, View.ld_unit_zero (S := S1x1024x768) z3, View.ld_unit_zero (S := S1056x1024) z2, shapeCast_self]

end cases

/-- One block's product, read at an entry. -/
theorem block (v0 : Vec Ideal S1056x768 .bf16) (v1 : Vec Ideal S1x1024x768 .bf16) (y : Fin 1056) (x : Fin 1024) :
    k0_pay1 (F := Ideal) v0 v1 (ix2 y x) = ∑ k : Fin 768, v0 (ix2 y k) * v1 (ix3 0 x k) := by
  pointwise [k0_pay1]

/-- One product under the sum of output row `r`, column `s`. -/
def term (a : S8448x6144.Idx → EReal) (w : S8x2048x768.Idx → EReal) (r s k : ℕ) : EReal :=
  at2 (R := 8448) (C := 6144) a (r) (k) * at3 (B := 8) (R := 2048) (C := 768) w (k / 768) (s) (k % 768)

/-- The full sum. -/
def entry (a : S8448x6144.Idx → EReal) (w : S8x2048x768.Idx → EReal) (r s : ℕ) : EReal := ∑ k ∈ Finset.range (8 * 768), term a w r s k

/-- The array of the full sums. -/
def full (a : S8448x6144.Idx → EReal) (w : S8x2048x768.Idx → EReal) : S8448x2048.Idx → EReal := fun i => entry a w (i 0).val (i 1).val

section array
variable (m : (ℓ : Loc nD τ sig) → Buf (Elt Ideal) ℓ) (c : Dev nD)

/-- The two arguments. -/
abbrev A0 : S8448x6144.Idx → EReal := m ((c.tc : Thread nD τ).loc main_arg0)
abbrev A1 : S8x2048x768.Idx → EReal := m ((c.tc : Thread nD τ).loc main_arg1)

theorem at_0 : ∀ t : Fin cfg0.N, win0_0.index t = ![t.val / 8 / 2, t.val % 8] := by decide +kernel
theorem at_1 : ∀ t : Fin cfg0.N, win0_1.index t = ![t.val % 8, t.val / 8 % 2, 0] := by decide +kernel

/-- What window 0 reads. -/
theorem blk_0 (t : Fin cfg0.N) (y : Fin 1056) (k : Fin 768) :
    (iblk m c 0 t : Vec Ideal S1056x768 .bf16) (ix2 y k)
      = at2 (R := 8448) (C := 6144) (A0 m c) (t.val / 8 / 2 * 1056 + y.val) (t.val % 8 * 768 + k.val) := by
  have e := at_0 t
  blk_simp [iblk]
  refine eq_at2 (R := 8448) (C := 6144) _ _ ?_ ?_ <;> simp [e, ix2]

/-- What window 1 reads. -/
theorem blk_1 (t : Fin cfg0.N) (x : Fin 1024) (k : Fin 768) :
    (iblk m c 1 t : Vec Ideal S1x1024x768 .bf16) (ix3 0 x k)
      = at3 (B := 8) (R := 2048) (C := 768) (A1 m c) (t.val % 8) (t.val / 8 % 2 * 1024 + x.val) (0 * 768 + k.val) := by
  have e := at_1 t
  blk_simp [iblk]
  refine eq_at3 (B := 8) (R := 2048) (C := 768) _ _ ?_ ?_ ?_ <;> simp [e, ix3]

/-- One grid point's block product is the sum's next block. -/
theorem step (t : Fin cfg0.N) (y : Fin 1056) (x : Fin 1024) :
    k0_pay1 (F := Ideal) (iblk m c 0 t) (iblk m c 1 t) (ix2 y x)
      = ∑ k : Fin 768, term (A0 m c) (A1 m c) (t.val / 8 / 2 * 1056 + y.val) (t.val / 8 % 2 * 1024 + x.val) (t.val % 8 * 768 + k.val) := by
  rw [block]
  refine Finset.sum_congr rfl fun k _ => ?_
  have hk := k.isLt
  have hx := x.isLt
  rw [blk_0, blk_1, term, show (t.val % 8 * 768 + k.val) / 768 = t.val % 8 from by omega, show (t.val % 8 * 768 + k.val) % 768 = k.val from by omega]
  simp only [Nat.zero_mul, Nat.zero_add, Nat.add_zero]

/-- The running sum after a grid point that is not the last of its row. -/
theorem running (y : Fin 1056) (x : Fin 1024) (n : ℕ) (hn : n < cfg0.N) (h : n % 8 ≠ 7) : (outsAt0 m c n hn).2 (ix2 y x)
    = ∑ k ∈ Finset.range ((n % 8 + 1) * 768), term (A0 m c) (A1 m c) (n / 8 / 2 * 1056 + y.val) (n / 8 % 2 * 1024 + x.val) k := by
  refine sum_blocks 8 768 cfg0.N (by decide) (fun n hn => (outsAt0 m c n hn).2 (ix2 y x)) (fun b => term (A0 m c) (A1 m c) (b / 2 * 1056 + y.val) (b % 2 * 1024 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 8 = 7) (y : Fin 1056) (x : Fin 1024) : (outsAt0 m c t.val t.isLt).1 (ix2 y x)
    = entry (A0 m c) (A1 m c) (t.val / 8 / 2 * 1056 + y.val) (t.val / 8 % 2 * 1024 + x.val) := by
  rw [outsAt0_C m c t (by omega) (by omega) h]
  dsimp only
  rw [last]
  show (outsAt0 m c (t.val - 1) _).2 (ix2 y x) + _ = _
  rw [running m c y x _ _ (by omega), step, show (t.val - 1) / 8 = t.val / 8 from by omega, show (t.val - 1) % 8 + 1 = t.val % 8 from by omega, sum_block, h, entry]

/-- What the kernel's array ends holding. -/
theorem array : Value.G2 m c = full (A0 m c) (A1 m c) := by
  funext i
  have h0 : (i 0).val < 8448 := (i 0).isLt
  have h1 : (i 1).val < 2048 := (i 1).isLt
  have hp : Value.pt2Of i < cfg0.N := lt_of_lt_of_eq (show Value.pt2Of i < 128 by unfold Value.pt2Of Value.run2Of; omega) (show 128 = cfg0.N from N_0.symm)
  unfold Value.G2
  rw [dif_pos hp, ← Value.outsAt0_sweep m c _ hp]
  have h7 : Value.pt2Of i % 8 = 7 := by unfold Value.pt2Of; omega
  refine Eq.trans (Eq.trans (congrArg _ ((ix2_eta (Value.loc2Of i)).symm)) (whole m c ⟨Value.pt2Of i, hp⟩ h7 _ _)) ?_
  have e0 : Value.pt2Of i / 8 / 2 * 1056 + (i 0).val % 1056 = (i 0).val := by unfold Value.pt2Of Value.run2Of; omega
  have e1 : Value.pt2Of i / 8 % 2 * 1024 + (i 1).val % 1024 = (i 1).val := by unfold Value.pt2Of Value.run2Of; omega
  show entry _ _ (Value.pt2Of i / 8 / 2 * 1056 + (i 0).val % 1056) (Value.pt2Of i / 8 % 2 * 1024 + (i 1).val % 1024) = entry _ _ ((i 0).val) ((i 1).val)
  rw [e0, e1]

end array

/-- What the reference computes. -/
theorem expected (a : S8448x6144.Idx → EReal) (w : S8x2048x768.Idx → EReal) : Cert.Reference9Ideal.Read.val_main_v6 (F := Ideal) a w = full a w := by
  funext i
  rw [Cert.Reference9Ideal.Read.val_main_v6_apply]
  refine Eq.trans (Finset.sum_congr rfl fun k _ => ?_) (sum_all (fun k => term a w (i 0).val (i 1).val k) 6144)
  rw [Cert.Reference9Ideal.Read.val_main_v5_apply, Cert.Reference9Ideal.Read.val_main_v3_apply, Cert.Reference9Ideal.Read.val_main_v2_apply, Cert.Reference9Ideal.Read.val_main_v1_apply]
  have hk : k.val < 6144 := k.isLt
  have h0 : (i 0).val < 8448 := (i 0).isLt
  have h1 : (i 1).val < 2048 := (i 1).isLt
  refine congrArg₂ (· * ·) ?_ ?_
  · exact eq_at2 (R := 8448) (C := 6144) a _ rfl rfl
  · exact eq_at3 (B := 8) (R := 2048) (C := 768) w _ (show ((i 1).val * 6144 + k.val) / 768 % 8 = k.val / 768 from by omega) (show ((i 1).val * 6144 + k.val) / 6144 = (i 1).val from by omega) (show ((i 1).val * 6144 + k.val) % 768 = k.val % 768 from by omega)

end Cert.Products.P9

end
-- ==== Proof.Product10.lean ====
/-
The weight gradient of the first mixer's input product.
-/
module

public import proofs.«01_k».proof.Proof.Sums
public import proofs.«01_k».proof.Proof.Gen.Kernel10Ideal.Value
public import proofs.«01_k».proof.Proof.Gen.Reference10Ideal.Run
public import proofs.«01_k».proof.Proof.Gen.Reference10Ideal.Read
public import Idealize.ShloMosaic.Lib.Quiescent
public import Idealize.ShloMosaic.Lib.Pipeline.ValueKit.Geometry

@[expose] public section

set_option maxRecDepth 65536

noncomputable section

namespace Cert.Products.P10

open Cert.Kernel10Ideal Cert.Kernel10Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1024x2816 .bf16) (h3 : a3.IsWhole) (a4 : Memref sig .tc .vmem S2816x768 .bf16) (h4 : a4.IsWhole)
  (a5 : Memref sig .tc .vmem S1x1024x768 .bf16) (h5 : a5.IsWhole) (a6 : Memref sig .tc .vmem S1024x768 .f32) (h6 : a6.IsWhole)
  (x0 : Vec F S1024x2816 .bf16) (x1 : Vec F S2816x768 .bf16) (xs : Vec F S1024x768 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1024x2816) z2, View.ld_unit_zero (S := S2816x768) z2, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1024x2816) z2, View.ld_unit_zero (S := S2816x768) z2, View.ld_unit_zero (S := S1024x768) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z3, View.readCov_unit_zero (S := S1024x768) _ z2]
  unfold k0_pay3
  simp only [View.readAt_eq_ld, h3.read_unread, h4.read_unread, h6.read_unread, View.ld_unit_zero (S := S1024x2816) z2, View.ld_unit_zero (S := S2816x768) z2, View.ld_unit_zero (S := S1024x768) z2, shapeCast_self]

end cases

/-- One block's product, read at an entry. -/
theorem block (v0 : Vec Ideal S1024x2816 .bf16) (v1 : Vec Ideal S2816x768 .bf16) (y : Fin 1024) (x : Fin 768) :
    k0_pay1 (F := Ideal) v0 v1 (ix2 y x) = ∑ k : Fin 2816, v0 (ix2 y k) * v1 (ix2 k x) := by
  pointwise [k0_pay1]

/-- The rounding of the sum changes nothing. -/
theorem rounded (v : Vec Ideal S1024x768 .f32) (y : Fin 1024) (x : Fin 768) : (k0_pay4 (F := Ideal) v : Vec Ideal S1x1024x768 .bf16) (ix3 0 y x) = v (ix2 y x) := by
  pointwise [k0_pay4]

/-- One product under the sum of output row `r`, column `s`. -/
def term (a : S2048x8448.Idx → EReal) (w : S8448x6144.Idx → EReal) (r s k : ℕ) : EReal :=
  at2 (R := 2048) (C := 8448) a (r) (k) * at2 (R := 8448) (C := 6144) w (k) (s)

/-- The full sum. -/
def entry (a : S2048x8448.Idx → EReal) (w : S8448x6144.Idx → EReal) (r s : ℕ) : EReal := ∑ k ∈ Finset.range (3 * 2816), term a w r s k

/-- The array of the full sums. -/
def full (a : S2048x8448.Idx → EReal) (w : S8448x6144.Idx → EReal) : S8x2048x768.Idx → EReal := fun i => entry a w (i 1).val ((i 0).val * 768 + (i 2).val)

section array
variable (m : (ℓ : Loc nD τ sig) → Buf (Elt Ideal) ℓ) (c : Dev nD)

/-- The two arguments. -/
abbrev A0 : S2048x8448.Idx → EReal := m ((c.tc : Thread nD τ).loc main_arg0)
abbrev A1 : S8448x6144.Idx → EReal := m ((c.tc : Thread nD τ).loc main_arg1)

theorem at_0 : ∀ t : Fin cfg0.N, win0_0.index t = ![t.val / 3 / 8, t.val % 3] := by decide +kernel
theorem at_1 : ∀ t : Fin cfg0.N, win0_1.index t = ![t.val % 3, t.val / 3 % 8] := by decide +kernel

/-- What window 0 reads. -/
theorem blk_0 (t : Fin cfg0.N) (y : Fin 1024) (k : Fin 2816) :
    (iblk m c 0 t : Vec Ideal S1024x2816 .bf16) (ix2 y k)
      = at2 (R := 2048) (C := 8448) (A0 m c) (t.val / 3 / 8 * 1024 + y.val) (t.val % 3 * 2816 + k.val) := by
  have e := at_0 t
  blk_simp [iblk]
  refine eq_at2 (R := 2048) (C := 8448) _ _ ?_ ?_ <;> simp [e, ix2]

/-- What window 1 reads. -/
theorem blk_1 (t : Fin cfg0.N) (k : Fin 2816) (x : Fin 768) :
    (iblk m c 1 t : Vec Ideal S2816x768 .bf16) (ix2 k x)
      = at2 (R := 8448) (C := 6144) (A1 m c) (t.val % 3 * 2816 + k.val) (t.val / 3 % 8 * 768 + x.val) := by
  have e := at_1 t
  blk_simp [iblk]
  refine eq_at2 (R := 8448) (C := 6144) _ _ ?_ ?_ <;> simp [e, ix2]

/-- One grid point's block product is the sum's next block. -/
theorem step (t : Fin cfg0.N) (y : Fin 1024) (x : Fin 768) :
    k0_pay1 (F := Ideal) (iblk m c 0 t) (iblk m c 1 t) (ix2 y x)
      = ∑ k : Fin 2816, term (A0 m c) (A1 m c) (t.val / 3 / 8 * 1024 + y.val) (t.val / 3 % 8 * 768 + x.val) (t.val % 3 * 2816 + k.val) := by
  rw [block]
  refine Finset.sum_congr rfl fun k _ => ?_
  have hk := k.isLt
  have hx := x.isLt
  rw [blk_0, blk_1, term]

/-- The running sum after a grid point that is not the last of its row. -/
theorem running (y : Fin 1024) (x : Fin 768) (n : ℕ) (hn : n < cfg0.N) (h : n % 3 ≠ 2) : (outsAt0 m c n hn).2 (ix2 y x)
    = ∑ k ∈ Finset.range ((n % 3 + 1) * 2816), term (A0 m c) (A1 m c) (n / 3 / 8 * 1024 + y.val) (n / 3 % 8 * 768 + x.val) k := by
  refine sum_blocks 3 2816 cfg0.N (by decide) (fun n hn => (outsAt0 m c n hn).2 (ix2 y x)) (fun b => term (A0 m c) (A1 m c) (b / 8 * 1024 + y.val) (b % 8 * 768 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 3 = 2) (y : Fin 1024) (x : Fin 768) : (outsAt0 m c t.val t.isLt).1 (ix3 0 y x)
    = entry (A0 m c) (A1 m c) (t.val / 3 / 8 * 1024 + y.val) (t.val / 3 % 8 * 768 + x.val) := by
  rw [outsAt0_C m c t (by omega) (by omega) h]
  dsimp only
  rw [last, rounded]
  show (outsAt0 m c (t.val - 1) _).2 (ix2 y x) + _ = _
  rw [running m c y x _ _ (by omega), step, show (t.val - 1) / 3 = t.val / 3 from by omega, show (t.val - 1) % 3 + 1 = t.val % 3 from by omega, sum_block, h, entry]

/-- What the kernel's array ends holding. -/
theorem array : Value.G2 m c = full (A0 m c) (A1 m c) := by
  funext i
  have h0 : (i 0).val < 8 := (i 0).isLt
  have h1 : (i 1).val < 2048 := (i 1).isLt
  have h2 : (i 2).val < 768 := (i 2).isLt
  have hp : Value.pt2Of i < cfg0.N := lt_of_lt_of_eq (show Value.pt2Of i < 48 by unfold Value.pt2Of Value.run2Of; omega) (show 48 = cfg0.N from N_0.symm)
  unfold Value.G2
  rw [dif_pos hp, ← Value.outsAt0_sweep m c _ hp]
  have h7 : Value.pt2Of i % 3 = 2 := by unfold Value.pt2Of; omega
  refine Eq.trans (Eq.trans (congrArg _ (eta3 (b := 1024) (c := 768) (Value.loc2Of i))) (whole m c ⟨Value.pt2Of i, hp⟩ h7 _ _)) ?_
  have e0 : Value.pt2Of i / 3 / 8 * 1024 + (i 1).val % 1024 = (i 1).val := by unfold Value.pt2Of Value.run2Of; omega
  have e1 : Value.pt2Of i / 3 % 8 * 768 + (i 2).val % 768 = (i 0).val * 768 + (i 2).val := by unfold Value.pt2Of Value.run2Of; omega
  show entry _ _ (Value.pt2Of i / 3 / 8 * 1024 + (i 1).val % 1024) (Value.pt2Of i / 3 % 8 * 768 + (i 2).val % 768) = entry _ _ ((i 1).val) ((i 0).val * 768 + (i 2).val)
  rw [e0, e1]

end array

/-- What the reference computes. -/
theorem expected (a : S2048x8448.Idx → EReal) (w : S8448x6144.Idx → EReal) : Cert.Reference10Ideal.Read.val_main_v12 (F := Ideal) a w = full a w := by
  funext i
  rw [Cert.Reference10Ideal.Read.val_main_v12_apply, Cert.Reference10Ideal.Read.val_main_v11_apply, Cert.Reference10Ideal.Read.val_main_v10_apply, Cert.Reference10Ideal.Read.val_main_v9_apply, Cert.Reference10Ideal.Read.val_main_v8_apply]
  refine Eq.trans (Finset.sum_congr rfl fun k _ => ?_) (sum_all (fun k => term a w (i 1).val ((i 0).val * 768 + (i 2).val) k) 8448)
  rw [Cert.Reference10Ideal.Read.val_main_v7_apply, Cert.Reference10Ideal.Read.val_main_v2_apply, Cert.Reference10Ideal.Read.val_main_v1_apply]
  have hk : k.val < 8448 := k.isLt
  have h0 : (i 0).val < 8 := (i 0).isLt
  have h1 : (i 1).val < 2048 := (i 1).isLt
  have h2 : (i 2).val < 768 := (i 2).isLt
  refine Eq.trans (mul_comm _ _) ?_
  refine congrArg₂ (· * ·) ?_ ?_
  · exact eq_at2 (R := 2048) (C := 8448) a _ (show (((i 1).val * 8 + (i 0).val) * 768 + (i 2).val) / 6144 = (i 1).val from by omega) rfl
  · exact eq_at2 (R := 8448) (C := 6144) w _ rfl (show (((i 1).val * 8 + (i 0).val) * 768 + (i 2).val) % 6144 = (i 0).val * 768 + (i 2).val from by omega)

end Cert.Products.P10

end
-- ==== Proof.Product11.lean ====
/-
The first mixer's output product.
-/
module

public import proofs.«01_k».proof.Proof.Sums
public import proofs.«01_k».proof.Proof.Gen.Kernel11Ideal.Value
public import proofs.«01_k».proof.Proof.Gen.Reference11Ideal.Run
public import proofs.«01_k».proof.Proof.Gen.Reference11Ideal.Read
public import Idealize.ShloMosaic.Lib.Quiescent
public import Idealize.ShloMosaic.Lib.Pipeline.ValueKit.Geometry

@[expose] public section

set_option maxRecDepth 65536

noncomputable section

namespace Cert.Products.P11

open Cert.Kernel11Ideal Cert.Kernel11Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S2048x1024 .bf16) (y : Fin 1056) (x : Fin 1024) :
    k0_pay1 (F := Ideal) v0 v1 (ix2 y x) = ∑ k : Fin 2048, v0 (ix2 y k) * v1 (ix2 k x) := by
  pointwise [k0_pay1]

/-- One product under the sum of output row `r`, column `s`. -/
def term (a : S8448x2048.Idx → EReal) (w : S2048x2048.Idx → EReal) (r s k : ℕ) : EReal :=
  at2 (R := 8448) (C := 2048) a (r) (k) * at2 (R := 2048) (C := 2048) w (k) (s)

/-- The full sum. -/
def entry (a : S8448x2048.Idx → EReal) (w : S2048x2048.Idx → EReal) (r s : ℕ) : EReal := ∑ k ∈ Finset.range (1 * 2048), term a w r s k

/-- The array of the full sums. -/
def full (a : S8448x2048.Idx → EReal) (w : S2048x2048.Idx → EReal) : S8448x2048.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S2048x2048.Idx → EReal := m ((c.tc : Thread nD τ).loc main_arg1)

theorem at_0 : ∀ t : Fin cfg0.N, win0_0.index t = ![t.val / 2, 0] := by decide +kernel
theorem at_1 : ∀ t : Fin cfg0.N, win0_1.index t = ![0, t.val % 2] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 2 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (k : Fin 2048) (x : Fin 1024) :
    (iblk m c 1 t : Vec Ideal S2048x1024 .bf16) (ix2 k x)
      = at2 (R := 2048) (C := 2048) (A1 m c) (0 * 2048 + k.val) (t.val % 2 * 1024 + x.val) := by
  have e := at_1 t
  blk_simp [iblk]
  refine eq_at2 (R := 2048) (C := 2048) _ _ ?_ ?_ <;> simp [e, ix2]

/-- One grid point's block product is the sum's next block. -/
theorem step (t : Fin cfg0.N) (y : Fin 1056) (x : Fin 1024) :
    k0_pay1 (F := Ideal) (iblk m c 0 t) (iblk m c 1 t) (ix2 y x)
      = ∑ k : Fin 2048, term (A0 m c) (A1 m c) (t.val / 2 * 1056 + y.val) (t.val % 2 * 1024 + x.val) (0 * 2048 + k.val) := by
  rw [block]
  refine Finset.sum_congr rfl fun k _ => ?_
  have hk := k.isLt
  have hx := x.isLt
  rw [blk_0, blk_1, term]

theorem at_2 : ∀ t : Fin cfg0.N, win0_2.index t = ![t.val / 2, t.val % 2] := by decide +kernel
theorem flush_2 : ∀ t : Fin cfg0.N, (cfg0.win 2).flush t = true := by decide +kernel

/-- The block a grid point computes holds the full sums. -/
theorem whole (t : Fin cfg0.N) (y : Fin 1056) (x : Fin 1024) : (out0_2 (iblk m c 0 t) (iblk m c 1 t) : Vec Ideal S1056x1024 .f32) (ix2 y x) = entry (A0 m c) (A1 m c) (t.val / 2 * 1056 + y.val) (t.val % 2 * 1024 + x.val) := by
  unfold out0_2
  rw [View.canon_unit_zero z2]
  simp only [View.ld_unit_zero (S := S1056x2048) z2, View.ld_unit_zero (S := S2048x1024) z2]
  rw [step, sum_first, entry]

/-- The array at an entry of a grid point's block. -/
theorem array_at (t : Fin cfg0.N) (y : Fin 1056) (x : Fin 1024) (i : S8448x2048.Idx) (h0 : (i 0).val = t.val / 2 * 1056 + y.val) (h1 : (i 1).val = t.val % 2 * 1024 + x.val) :
    ((dats m 0 c).arrAt 2 cfg0.N : Vec Ideal S8448x2048 .f32) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 2048 := (i 1).isLt
  have hp : (i 0).val / 1056 * 2 + (i 1).val / 1024 < cfg0.N := lt_of_lt_of_eq (show _ < 16 by omega) (show 16 = cfg0.N from N_0.symm)
  refine array_at m c ⟨_, hp⟩ ⟨(i 0).val % 1056, by omega⟩ ⟨(i 1).val % 1024, by omega⟩ i ?_ ?_ <;> dsimp only <;> omega

end array

/-- What the reference computes. -/
theorem expected (a : S8448x2048.Idx → EReal) (w : S2048x2048.Idx → EReal) : Cert.Reference11Ideal.Read.val_main_v2 (F := Ideal) a w = full a w := by
  funext i
  rw [Cert.Reference11Ideal.Read.val_main_v2_apply]
  refine Eq.trans (Finset.sum_congr rfl fun k _ => ?_) (sum_all (fun k => term a w (i 0).val (i 1).val k) 2048)
  rw [Cert.Reference11Ideal.Read.val_main_v0_apply, Cert.Reference11Ideal.Read.val_main_v1_apply]
  have hk : k.val < 2048 := k.isLt
  have h0 : (i 0).val < 8448 := (i 0).isLt
  have h1 : (i 1).val < 2048 := (i 1).isLt
  refine congrArg₂ (· * ·) ?_ ?_
  · exact eq_at2 (R := 8448) (C := 2048) a _ rfl rfl
  · exact eq_at2 (R := 2048) (C := 2048) w _ rfl rfl

end Cert.Products.P11

end
-- ==== Proof.Product12.lean ====
/-
The input gradient of the first mixer's output product.
-/
module

public import proofs.«01_k».proof.Proof.Sums
public import proofs.«01_k».proof.Proof.Gen.Kernel12Ideal.Value
public import proofs.«01_k».proof.Proof.Gen.Reference12Ideal.Run
public import proofs.«01_k».proof.Proof.Gen.Reference12Ideal.Read
public import Idealize.ShloMosaic.Lib.Quiescent
public import Idealize.ShloMosaic.Lib.Pipeline.ValueKit.Geometry

@[expose] public section

set_option maxRecDepth 65536

noncomputable section

namespace Cert.Products.P12

open Cert.Kernel12Ideal Cert.Kernel12Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S1024x2048 .bf16) (y : Fin 1056) (x : Fin 1024) :
    k0_pay1 (F := Ideal) v0 v1 (ix2 y x) = ∑ k : Fin 2048, v0 (ix2 y k) * v1 (ix2 x k) := by
  pointwise [k0_pay1]

/-- One product under the sum of output row `r`, column `s`. -/
def term (a : S8448x2048.Idx → EReal) (w : S2048x2048.Idx → EReal) (r s k : ℕ) : EReal :=
  at2 (R := 8448) (C := 2048) a (r) (k) * at2 (R := 2048) (C := 2048) w (s) (k)

/-- The full sum. -/
def entry (a : S8448x2048.Idx → EReal) (w : S2048x2048.Idx → EReal) (r s : ℕ) : EReal := ∑ k ∈ Finset.range (1 * 2048), term a w r s k

/-- The array of the full sums. -/
def full (a : S8448x2048.Idx → EReal) (w : S2048x2048.Idx → EReal) : S8448x2048.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S2048x2048.Idx → EReal := m ((c.tc : Thread nD τ).loc main_arg1)

theorem at_0 : ∀ t : Fin cfg0.N, win0_0.index t = ![t.val / 2, 0] := by decide +kernel
theorem at_1 : ∀ t : Fin cfg0.N, win0_1.index t = ![t.val % 2, 0] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 2 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (x : Fin 1024) (k : Fin 2048) :
    (iblk m c 1 t : Vec Ideal S1024x2048 .bf16) (ix2 x k)
      = at2 (R := 2048) (C := 2048) (A1 m c) (t.val % 2 * 1024 + x.val) (0 * 2048 + k.val) := by
  have e := at_1 t
  blk_simp [iblk]
  refine eq_at2 (R := 2048) (C := 2048) _ _ ?_ ?_ <;> simp [e, ix2]

/-- One grid point's block product is the sum's next block. -/
theorem step (t : Fin cfg0.N) (y : Fin 1056) (x : Fin 1024) :
    k0_pay1 (F := Ideal) (iblk m c 0 t) (iblk m c 1 t) (ix2 y x)
      = ∑ k : Fin 2048, term (A0 m c) (A1 m c) (t.val / 2 * 1056 + y.val) (t.val % 2 * 1024 + x.val) (0 * 2048 + k.val) := by
  rw [block]
  refine Finset.sum_congr rfl fun k _ => ?_
  have hk := k.isLt
  have hx := x.isLt
  rw [blk_0, blk_1, term]

theorem at_2 : ∀ t : Fin cfg0.N, win0_2.index t = ![t.val / 2, t.val % 2] := by decide +kernel
theorem flush_2 : ∀ t : Fin cfg0.N, (cfg0.win 2).flush t = true := by decide +kernel

/-- The block a grid point computes holds the full sums. -/
theorem whole (t : Fin cfg0.N) (y : Fin 1056) (x : Fin 1024) : (out0_2 (iblk m c 0 t) (iblk m c 1 t) : Vec Ideal S1056x1024 .f32) (ix2 y x) = entry (A0 m c) (A1 m c) (t.val / 2 * 1056 + y.val) (t.val % 2 * 1024 + x.val) := by
  unfold out0_2
  rw [View.canon_unit_zero z2]
  simp only [View.ld_unit_zero (S := S1056x2048) z2, View.ld_unit_zero (S := S1024x2048) z2]
  rw [step, sum_first, entry]

/-- The array at an entry of a grid point's block. -/
theorem array_at (t : Fin cfg0.N) (y : Fin 1056) (x : Fin 1024) (i : S8448x2048.Idx) (h0 : (i 0).val = t.val / 2 * 1056 + y.val) (h1 : (i 1).val = t.val % 2 * 1024 + x.val) :
    ((dats m 0 c).arrAt 2 cfg0.N : Vec Ideal S8448x2048 .f32) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 2048 := (i 1).isLt
  have hp : (i 0).val / 1056 * 2 + (i 1).val / 1024 < cfg0.N := lt_of_lt_of_eq (show _ < 16 by omega) (show 16 = cfg0.N from N_0.symm)
  refine array_at m c ⟨_, hp⟩ ⟨(i 0).val % 1056, by omega⟩ ⟨(i 1).val % 1024, by omega⟩ i ?_ ?_ <;> dsimp only <;> omega

end array

/-- What the reference computes. -/
theorem expected (a : S8448x2048.Idx → EReal) (w : S2048x2048.Idx → EReal) : Cert.Reference12Ideal.Read.val_main_v4 (F := Ideal) a w = full a w := by
  funext i
  rw [Cert.Reference12Ideal.Read.val_main_v4_apply]
  refine Eq.trans (Finset.sum_congr rfl fun k _ => ?_) (sum_all (fun k => term a w (i 0).val (i 1).val k) 2048)
  rw [Cert.Reference12Ideal.Read.val_main_v3_apply, Cert.Reference12Ideal.Read.val_main_v1_apply]
  have hk : k.val < 2048 := k.isLt
  have h0 : (i 0).val < 8448 := (i 0).isLt
  have h1 : (i 1).val < 2048 := (i 1).isLt
  refine congrArg₂ (· * ·) ?_ ?_
  · exact eq_at2 (R := 8448) (C := 2048) a _ rfl rfl
  · exact eq_at2 (R := 2048) (C := 2048) w _ rfl rfl

end Cert.Products.P12

end
-- ==== Proof.Product13.lean ====
/-
The weight gradient of the first mixer's output product.
-/
module

public import proofs.«01_k».proof.Proof.Sums
public import proofs.«01_k».proof.Proof.Gen.Kernel13Ideal.Value
public import proofs.«01_k».proof.Proof.Gen.Reference13Ideal.Run
public import proofs.«01_k».proof.Proof.Gen.Reference13Ideal.Read
public import Idealize.ShloMosaic.Lib.Quiescent
public import Idealize.ShloMosaic.Lib.Pipeline.ValueKit.Geometry

@[expose] public section

set_option maxRecDepth 65536

noncomputable section

namespace Cert.Products.P13

open Cert.Kernel13Ideal Cert.Kernel13Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x1024 .bf16) (h3 : a3.IsWhole) (a4 : Memref sig .tc .vmem S1056x2048 .bf16) (h4 : a4.IsWhole)
  (a5 : Memref sig .tc .vmem S1024x2048 .bf16) (h5 : a5.IsWhole) (a6 : Memref sig .tc .vmem S1024x2048 .f32) (h6 : a6.IsWhole)
  (x0 : Vec F S1056x1024 .bf16) (x1 : Vec F S1056x2048 .bf16) (xs : Vec F S1024x2048 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x1024) z2, View.ld_unit_zero (S := S1056x2048) z2, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1056x1024) z2, View.ld_unit_zero (S := S1056x2048) z2, View.ld_unit_zero (S := S1024x2048) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z2, View.readCov_unit_zero (S := S1024x2048) _ z2]
  unfold k0_pay3
  simp only [View.readAt_eq_ld, h3.read_unread, h4.read_unread, h6.read_unread, View.ld_unit_zero (S := S1056x1024) z2, View.ld_unit_zero (S := S1056x2048) z2, View.ld_unit_zero (S := S1024x2048) z2, shapeCast_self]

end cases

/-- One block's product, read at an entry. -/
theorem block (v0 : Vec Ideal S1056x1024 .bf16) (v1 : Vec Ideal S1056x2048 .bf16) (y : Fin 1024) (x : Fin 2048) :
    k0_pay1 (F := Ideal) v0 v1 (ix2 y x) = ∑ k : Fin 1056, v0 (ix2 k y) * v1 (ix2 k x) := by
  pointwise [k0_pay1]

/-- The rounding of the sum changes nothing. -/
theorem rounded (v : Vec Ideal S1024x2048 .f32) (y : Fin 1024) (x : Fin 2048) : (k0_pay4 (F := Ideal) v : Vec Ideal S1024x2048 .bf16) (ix2 y x) = v (ix2 y x) := by
  pointwise [k0_pay4]

/-- One product under the sum of output row `r`, column `s`. -/
def term (a : S8448x2048.Idx → EReal) (w : S8448x2048.Idx → EReal) (r s k : ℕ) : EReal :=
  at2 (R := 8448) (C := 2048) a (k) (r) * at2 (R := 8448) (C := 2048) w (k) (s)

/-- The full sum. -/
def entry (a : S8448x2048.Idx → EReal) (w : S8448x2048.Idx → EReal) (r s : ℕ) : EReal := ∑ k ∈ Finset.range (8 * 1056), term a w r s k

/-- The array of the full sums. -/
def full (a : S8448x2048.Idx → EReal) (w : S8448x2048.Idx → EReal) : S2048x2048.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S8448x2048.Idx → EReal := m ((c.tc : Thread nD τ).loc main_arg1)

theorem at_0 : ∀ t : Fin cfg0.N, win0_0.index t = ![t.val % 8, t.val / 8] := by decide +kernel
theorem at_1 : ∀ t : Fin cfg0.N, win0_1.index t = ![t.val % 8, 0] := by decide +kernel

/-- What window 0 reads. -/
theorem blk_0 (t : Fin cfg0.N) (k : Fin 1056) (y : Fin 1024) :
    (iblk m c 0 t : Vec Ideal S1056x1024 .bf16) (ix2 k y)
      = at2 (R := 8448) (C := 2048) (A0 m c) (t.val % 8 * 1056 + k.val) (t.val / 8 * 1024 + y.val) := by
  have e := at_0 t
  blk_simp [iblk]
  refine eq_at2 (R := 8448) (C := 2048) _ _ ?_ ?_ <;> simp [e, ix2]

/-- What window 1 reads. -/
theorem blk_1 (t : Fin cfg0.N) (k : Fin 1056) (x : Fin 2048) :
    (iblk m c 1 t : Vec Ideal S1056x2048 .bf16) (ix2 k x)
      = at2 (R := 8448) (C := 2048) (A1 m c) (t.val % 8 * 1056 + k.val) (0 * 2048 + x.val) := by
  have e := at_1 t
  blk_simp [iblk]
  refine eq_at2 (R := 8448) (C := 2048) _ _ ?_ ?_ <;> simp [e, ix2]

/-- One grid point's block product is the sum's next block. -/
theorem step (t : Fin cfg0.N) (y : Fin 1024) (x : Fin 2048) :
    k0_pay1 (F := Ideal) (iblk m c 0 t) (iblk m c 1 t) (ix2 y x)
      = ∑ k : Fin 1056, term (A0 m c) (A1 m c) (t.val / 8 * 1024 + y.val) (0 * 2048 + x.val) (t.val % 8 * 1056 + k.val) := by
  rw [block]
  refine Finset.sum_congr rfl fun k _ => ?_
  have hk := k.isLt
  have hx := x.isLt
  rw [blk_0, blk_1, term]

/-- The running sum after a grid point that is not the last of its row. -/
theorem running (y : Fin 1024) (x : Fin 2048) (n : ℕ) (hn : n < cfg0.N) (h : n % 8 ≠ 7) : (outsAt0 m c n hn).2 (ix2 y x)
    = ∑ k ∈ Finset.range ((n % 8 + 1) * 1056), term (A0 m c) (A1 m c) (n / 8 * 1024 + y.val) (0 * 2048 + x.val) k := by
  refine sum_blocks 8 1056 cfg0.N (by decide) (fun n hn => (outsAt0 m c n hn).2 (ix2 y x)) (fun b => term (A0 m c) (A1 m c) (b * 1024 + y.val) (0 * 2048 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 8 = 7) (y : Fin 1024) (x : Fin 2048) : (outsAt0 m c t.val t.isLt).1 (ix2 y x)
    = entry (A0 m c) (A1 m c) (t.val / 8 * 1024 + y.val) (0 * 2048 + x.val) := by
  rw [outsAt0_C m c t (by omega) (by omega) h]
  dsimp only
  rw [last, rounded]
  show (outsAt0 m c (t.val - 1) _).2 (ix2 y x) + _ = _
  rw [running m c y x _ _ (by omega), step, show (t.val - 1) / 8 = t.val / 8 from by omega, show (t.val - 1) % 8 + 1 = t.val % 8 from by omega, sum_block, h, entry]

/-- What the kernel's array ends holding. -/
theorem array : Value.G2 m c = full (A0 m c) (A1 m c) := by
  funext i
  have h0 : (i 0).val < 2048 := (i 0).isLt
  have h1 : (i 1).val < 2048 := (i 1).isLt
  have hp : Value.pt2Of i < cfg0.N := lt_of_lt_of_eq (show Value.pt2Of i < 16 by unfold Value.pt2Of Value.run2Of; omega) (show 16 = cfg0.N from N_0.symm)
  unfold Value.G2
  rw [dif_pos hp, ← Value.outsAt0_sweep m c _ hp]
  have h7 : Value.pt2Of i % 8 = 7 := by unfold Value.pt2Of; omega
  refine Eq.trans (Eq.trans (congrArg _ ((ix2_eta (Value.loc2Of i)).symm)) (whole m c ⟨Value.pt2Of i, hp⟩ h7 _ _)) ?_
  have e0 : Value.pt2Of i / 8 * 1024 + (i 0).val % 1024 = (i 0).val := by unfold Value.pt2Of Value.run2Of; omega
  have e1 : 0 * 2048 + (i 1).val % 2048 = (i 1).val := by rw [Nat.zero_mul, Nat.zero_add, Nat.mod_eq_of_lt h1]
  show entry _ _ (Value.pt2Of i / 8 * 1024 + (i 0).val % 1024) (0 * 2048 + (i 1).val % 2048) = entry _ _ ((i 0).val) ((i 1).val)
  rw [e0, e1]

end array

/-- What the reference computes. -/
theorem expected (a : S8448x2048.Idx → EReal) (w : S8448x2048.Idx → EReal) : Cert.Reference13Ideal.Read.val_main_v7 (F := Ideal) a w = full a w := by
  funext i
  rw [Cert.Reference13Ideal.Read.val_main_v7_apply, Cert.Reference13Ideal.Read.val_main_v6_apply, Cert.Reference13Ideal.Read.val_main_v5_apply]
  refine Eq.trans (Finset.sum_congr rfl fun k _ => ?_) (sum_all (fun k => term a w (i 0).val (i 1).val k) 8448)
  rw [Cert.Reference13Ideal.Read.val_main_v4_apply, Cert.Reference13Ideal.Read.val_main_v1_apply]
  have hk : k.val < 8448 := k.isLt
  have h0 : (i 0).val < 2048 := (i 0).isLt
  have h1 : (i 1).val < 2048 := (i 1).isLt
  refine Eq.trans (mul_comm _ _) ?_
  refine congrArg₂ (· * ·) ?_ ?_
  · exact eq_at2 (R := 8448) (C := 2048) a _ rfl rfl
  · exact eq_at2 (R := 8448) (C := 2048) w _ rfl rfl

end Cert.Products.P13

end
-- ==== Proof.Product14.lean ====
/-
The second mixer's input product.
-/
module

public import proofs.«01_k».proof.Proof.Sums
public import proofs.«01_k».proof.Proof.Gen.Kernel14Ideal.Value
public import proofs.«01_k».proof.Proof.Gen.Reference14Ideal.Run
public import proofs.«01_k».proof.Proof.Gen.Reference14Ideal.Read
public import Idealize.ShloMosaic.Lib.Quiescent
public import Idealize.ShloMosaic.Lib.Pipeline.ValueKit.Geometry

@[expose] public section

set_option maxRecDepth 65536

noncomputable section

namespace Cert.Products.P14

open Cert.Kernel14Ideal Cert.Kernel14Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S2048x768 .bf16) (y : Fin 1056) (x : Fin 768) :
    k0_pay1 (F := Ideal) v0 v1 (ix2 y x) = ∑ k : Fin 2048, v0 (ix2 y k) * v1 (ix2 k x) := by
  pointwise [k0_pay1]

/-- One product under the sum of output row `r`, column `s`. -/
def term (a : S8448x2048.Idx → EReal) (w : S2048x12288.Idx → EReal) (r s k : ℕ) : EReal :=
  at2 (R := 8448) (C := 2048) a (r) (k) * at2 (R := 2048) (C := 12288) w (k) (s)

/-- The full sum. -/
def entry (a : S8448x2048.Idx → EReal) (w : S2048x12288.Idx → EReal) (r s : ℕ) : EReal := ∑ k ∈ Finset.range (1 * 2048), term a w r s k

/-- The array of the full sums. -/
def full (a : S8448x2048.Idx → EReal) (w : S2048x12288.Idx → EReal) : S8448x12288.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S2048x12288.Idx → EReal := m ((c.tc : Thread nD τ).loc main_arg1)

theorem at_0 : ∀ t : Fin cfg0.N, win0_0.index t = ![t.val / 16, 0] := by decide +kernel
theorem at_1 : ∀ t : Fin cfg0.N, win0_1.index t = ![0, t.val % 16] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 16 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (k : Fin 2048) (x : Fin 768) :
    (iblk m c 1 t : Vec Ideal S2048x768 .bf16) (ix2 k x)
      = at2 (R := 2048) (C := 12288) (A1 m c) (0 * 2048 + k.val) (t.val % 16 * 768 + x.val) := by
  have e := at_1 t
  blk_simp [iblk]
  refine eq_at2 (R := 2048) (C := 12288) _ _ ?_ ?_ <;> simp [e, ix2]

/-- One grid point's block product is the sum's next block. -/
theorem step (t : Fin cfg0.N) (y : Fin 1056) (x : Fin 768) :
    k0_pay1 (F := Ideal) (iblk m c 0 t) (iblk m c 1 t) (ix2 y x)
      = ∑ k : Fin 2048, term (A0 m c) (A1 m c) (t.val / 16 * 1056 + y.val) (t.val % 16 * 768 + x.val) (0 * 2048 + k.val) := by
  rw [block]
  refine Finset.sum_congr rfl fun k _ => ?_
  have hk := k.isLt
  have hx := x.isLt
  rw [blk_0, blk_1, term]

theorem at_2 : ∀ t : Fin cfg0.N, win0_2.index t = ![t.val / 16, t.val % 16] := by decide +kernel
theorem flush_2 : ∀ t : Fin cfg0.N, (cfg0.win 2).flush t = true := by decide +kernel

/-- The block a grid point computes holds the full sums. -/
theorem whole (t : Fin cfg0.N) (y : Fin 1056) (x : Fin 768) : (out0_2 (iblk m c 0 t) (iblk m c 1 t) : Vec Ideal S1056x768 .f32) (ix2 y x) = entry (A0 m c) (A1 m c) (t.val / 16 * 1056 + y.val) (t.val % 16 * 768 + x.val) := by
  unfold out0_2
  rw [View.canon_unit_zero z2]
  simp only [View.ld_unit_zero (S := S1056x2048) z2, View.ld_unit_zero (S := S2048x768) z2]
  rw [step, sum_first, entry]

/-- The array at an entry of a grid point's block. -/
theorem array_at (t : Fin cfg0.N) (y : Fin 1056) (x : Fin 768) (i : S8448x12288.Idx) (h0 : (i 0).val = t.val / 16 * 1056 + y.val) (h1 : (i 1).val = t.val % 16 * 768 + x.val) :
    ((dats m 0 c).arrAt 2 cfg0.N : Vec Ideal S8448x12288 .f32) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 12288 := (i 1).isLt
  have hp : (i 0).val / 1056 * 16 + (i 1).val / 768 < cfg0.N := lt_of_lt_of_eq (show _ < 128 by omega) (show 128 = cfg0.N from N_0.symm)
  refine array_at m c ⟨_, hp⟩ ⟨(i 0).val % 1056, by omega⟩ ⟨(i 1).val % 768, by omega⟩ i ?_ ?_ <;> dsimp only <;> omega

end array

/-- What the reference computes. -/
theorem expected (a : S8448x2048.Idx → EReal) (w : S2048x12288.Idx → EReal) : Cert.Reference14Ideal.Read.val_main_v2 (F := Ideal) a w = full a w := by
  funext i
  rw [Cert.Reference14Ideal.Read.val_main_v2_apply]
  refine Eq.trans (Finset.sum_congr rfl fun k _ => ?_) (sum_all (fun k => term a w (i 0).val (i 1).val k) 2048)
  rw [Cert.Reference14Ideal.Read.val_main_v0_apply, Cert.Reference14Ideal.Read.val_main_v1_apply]
  have hk : k.val < 2048 := k.isLt
  have h0 : (i 0).val < 8448 := (i 0).isLt
  have h1 : (i 1).val < 12288 := (i 1).isLt
  refine congrArg₂ (· * ·) ?_ ?_
  · exact eq_at2 (R := 8448) (C := 2048) a _ rfl rfl
  · exact eq_at2 (R := 2048) (C := 12288) w _ rfl rfl

end Cert.Products.P14

end
-- ==== Proof.Product15.lean ====
/-
The input gradient of the second mixer's input product, added to the gates' part.
-/
module

public import proofs.«01_k».proof.Proof.Sums
public import proofs.«01_k».proof.Proof.Gen.Kernel15Ideal.Value
public import proofs.«01_k».proof.Proof.Gen.Reference15Ideal.Run
public import proofs.«01_k».proof.Proof.Gen.Reference15Ideal.Read
public import Idealize.ShloMosaic.Lib.Quiescent
public import Idealize.ShloMosaic.Lib.Pipeline.ValueKit.Geometry

@[expose] public section

set_option maxRecDepth 65536

noncomputable section

namespace Cert.Products.P15

open Cert.Kernel15Ideal Cert.Kernel15Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x2048 .bf16) (h3 : a3.IsWhole) (a4 : Memref sig .tc .vmem S1024x2048 .bf16) (h4 : a4.IsWhole)
  (a5 : Memref sig .tc .vmem S1056x1024 .f32) (h5 : a5.IsWhole) (a6 : Memref sig .tc .vmem S1056x1024 .f32) (h6 : a6.IsWhole) (a7 : Memref sig .tc .vmem S1056x1024 .f32) (h7 : a7.IsWhole) (x2 : Vec F S1056x1024 .f32)
  (x0 : Vec F S1056x2048 .bf16) (x1 : Vec F S1024x2048 .bf16) (xs : Vec F S1056x1024 .f32)

/-- The first block's product starts the running sum. -/
theorem first (hc0 : cond0_0 i) (hc1 : ¬cond0_1 i) (hc2 : ¬cond0_2 i) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero z2]
  unfold k0_pay2
  simp only [View.readAt_eq_ld, h3.read_unread, h4.read_unread, View.ld_unit_zero (S := S1056x2048) z2, View.ld_unit_zero (S := S1024x2048) z2, shapeCast_self]

/-- A later block's product is added to it. -/
theorem next (hc0 : ¬cond0_0 i) (hc1 : cond0_1 i) (hc2 : ¬cond0_2 i) :
    sout0_B_0 c i a3 h3 a4 h4 a5 h5 a6 h6 a7 h7 hc0 hc1 hc2 x0 x1 x2 xs = addf xs (k0_pay1 x0 x1) := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  sl_unfold_words
  rw [View.canon_unit_zero z2]
  unfold k0_pay3
  simp only [View.readAt_eq_ld, h3.read_unread, h4.read_unread, h5.read_unread, h7.read_unread, View.ld_unit_zero (S := S1056x2048) z2, View.ld_unit_zero (S := S1024x2048) z2, View.ld_unit_zero (S := S1056x1024) z2, shapeCast_self]

/-- The last block's product is added and the sum written out. -/
theorem last (hc0 : ¬cond0_0 i) (hc1 : cond0_1 i) (hc2 : cond0_2 i) :
    out0_C_3 c i a3 h3 a4 h4 a5 h5 a6 h6 a7 h7 hc0 hc1 hc2 x0 x1 x2 xs = k0_pay4 (addf xs (k0_pay1 x0 x1)) x2 := by
  unfold out0_C_3
  rw [View.read_writes_eq_canon _ _ _ (cover0_C_3 c i a3 h3 a4 h4 a5 h5 a6 h6 a7 h7 hc0 hc1 hc2 x0 x1 x2 xs)]
  unfold kernelRun0_C
  dsimp only
  sl_unfold_words
  rw [View.canon_unit_zero z2, View.readCov_unit_zero (S := S1056x1024) _ z2]
  unfold k0_pay3
  simp only [View.readAt_eq_ld, h3.read_unread, h4.read_unread, h5.read_unread, h7.read_unread, View.ld_unit_zero (S := S1056x2048) z2, View.ld_unit_zero (S := S1024x2048) z2, View.ld_unit_zero (S := S1056x1024) z2, shapeCast_self]

end cases

/-- One block's product, read at an entry. -/
theorem block (v0 : Vec Ideal S1056x2048 .bf16) (v1 : Vec Ideal S1024x2048 .bf16) (y : Fin 1056) (x : Fin 1024) :
    k0_pay1 (F := Ideal) v0 v1 (ix2 y x) = ∑ k : Fin 2048, v0 (ix2 y k) * v1 (ix2 x k) := by
  pointwise [k0_pay1]

/-- The third argument is added to the sum. -/
theorem added (v u : Vec Ideal S1056x1024 .f32) (y : Fin 1056) (x : Fin 1024) : (k0_pay4 (F := Ideal) v u) (ix2 y x) = v (ix2 y x) + u (ix2 y x) := by
  pointwise [k0_pay4]

/-- One product under the sum of output row `r`, column `s`. -/
def term (a : S8448x12288.Idx → EReal) (w : S2048x12288.Idx → EReal) (r s k : ℕ) : EReal :=
  at2 (R := 8448) (C := 12288) a (r) (k) * at2 (R := 2048) (C := 12288) w (s) (k)

/-- The full sum. -/
def entry (a : S8448x12288.Idx → EReal) (w : S2048x12288.Idx → EReal) (r s : ℕ) : EReal := ∑ k ∈ Finset.range (6 * 2048), term a w r s k

/-- The array of the full sums. -/
def full (a : S8448x12288.Idx → EReal) (w : S2048x12288.Idx → EReal) (u : S8448x2048.Idx → EReal) : S8448x2048.Idx → EReal := fun i => entry a w (i 0).val (i 1).val + at2 (R := 8448) (C := 2048) u (i 0).val (i 1).val

section array
variable (m : (ℓ : Loc nD τ sig) → Buf (Elt Ideal) ℓ) (c : Dev nD)

/-- The three arguments. -/
abbrev A0 : S8448x12288.Idx → EReal := m ((c.tc : Thread nD τ).loc main_arg0)
abbrev A1 : S2048x12288.Idx → EReal := m ((c.tc : Thread nD τ).loc main_arg1)
abbrev A2 : S8448x2048.Idx → EReal := m ((c.tc : Thread nD τ).loc main_arg2)

theorem at_0 : ∀ t : Fin cfg0.N, win0_0.index t = ![t.val / 6 / 2, t.val % 6] := by decide +kernel
theorem at_1 : ∀ t : Fin cfg0.N, win0_1.index t = ![t.val / 6 % 2, t.val % 6] := by decide +kernel

/-- What window 0 reads. -/
theorem blk_0 (t : Fin cfg0.N) (y : Fin 1056) (k : Fin 2048) :
    (iblk m c 0 t : Vec Ideal S1056x2048 .bf16) (ix2 y k)
      = at2 (R := 8448) (C := 12288) (A0 m c) (t.val / 6 / 2 * 1056 + y.val) (t.val % 6 * 2048 + k.val) := by
  have e := at_0 t
  blk_simp [iblk]
  refine eq_at2 (R := 8448) (C := 12288) _ _ ?_ ?_ <;> simp [e, ix2]

/-- What window 1 reads. -/
theorem blk_1 (t : Fin cfg0.N) (x : Fin 1024) (k : Fin 2048) :
    (iblk m c 1 t : Vec Ideal S1024x2048 .bf16) (ix2 x k)
      = at2 (R := 2048) (C := 12288) (A1 m c) (t.val / 6 % 2 * 1024 + x.val) (t.val % 6 * 2048 + k.val) := by
  have e := at_1 t
  blk_simp [iblk]
  refine eq_at2 (R := 2048) (C := 12288) _ _ ?_ ?_ <;> simp [e, ix2]

theorem at_2 : ∀ t : Fin cfg0.N, win0_2.index t = ![t.val / 6 / 2, t.val / 6 % 2] := by decide +kernel

/-- What window 2 reads. -/
theorem blk_2 (t : Fin cfg0.N) (y : Fin 1056) (x : Fin 1024) :
    (iblk m c 2 t : Vec Ideal S1056x1024 .f32) (ix2 y x)
      = at2 (R := 8448) (C := 2048) (A2 m c) (t.val / 6 / 2 * 1056 + y.val) (t.val / 6 % 2 * 1024 + x.val) := by
  have e := at_2 t
  blk_simp [iblk]
  refine eq_at2 (R := 8448) (C := 2048) _ _ ?_ ?_ <;> simp [e, ix2]

/-- One grid point's block product is the sum's next block. -/
theorem step (t : Fin cfg0.N) (y : Fin 1056) (x : Fin 1024) :
    k0_pay1 (F := Ideal) (iblk m c 0 t) (iblk m c 1 t) (ix2 y x)
      = ∑ k : Fin 2048, term (A0 m c) (A1 m c) (t.val / 6 / 2 * 1056 + y.val) (t.val / 6 % 2 * 1024 + x.val) (t.val % 6 * 2048 + k.val) := by
  rw [block]
  refine Finset.sum_congr rfl fun k _ => ?_
  have hk := k.isLt
  have hx := x.isLt
  rw [blk_0, blk_1, term]

/-- The running sum after a grid point that is not the last of its row. -/
theorem running (y : Fin 1056) (x : Fin 1024) (n : ℕ) (hn : n < cfg0.N) (h : n % 6 ≠ 5) : (outsAt0 m c n hn).2 (ix2 y x)
    = ∑ k ∈ Finset.range ((n % 6 + 1) * 2048), term (A0 m c) (A1 m c) (n / 6 / 2 * 1056 + y.val) (n / 6 % 2 * 1024 + x.val) k := by
  refine sum_blocks 6 2048 cfg0.N (by decide) (fun n hn => (outsAt0 m c n hn).2 (ix2 y x)) (fun b => term (A0 m c) (A1 m c) (b / 2 * 1056 + y.val) (b % 2 * 1024 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 6 = 5) (y : Fin 1056) (x : Fin 1024) : (outsAt0 m c t.val t.isLt).1 (ix2 y x)
    = entry (A0 m c) (A1 m c) (t.val / 6 / 2 * 1056 + y.val) (t.val / 6 % 2 * 1024 + x.val) + at2 (R := 8448) (C := 2048) (A2 m c) (t.val / 6 / 2 * 1056 + y.val) (t.val / 6 % 2 * 1024 + x.val) := by
  rw [outsAt0_C m c t (by omega) (by omega) h]
  dsimp only
  rw [last, added, blk_2]
  refine congrArg (· + _) ?_
  show (outsAt0 m c (t.val - 1) _).2 (ix2 y x) + _ = _
  rw [running m c y x _ _ (by omega), step, show (t.val - 1) / 6 = t.val / 6 from by omega, show (t.val - 1) % 6 + 1 = t.val % 6 from by omega, sum_block, h, entry]

/-- What the kernel's array ends holding. -/
theorem array : Value.G3 m c = full (A0 m c) (A1 m c) (A2 m c) := by
  funext i
  have h0 : (i 0).val < 8448 := (i 0).isLt
  have h1 : (i 1).val < 2048 := (i 1).isLt
  have hp : Value.pt3Of i < cfg0.N := lt_of_lt_of_eq (show Value.pt3Of i < 96 by unfold Value.pt3Of Value.run3Of; omega) (show 96 = cfg0.N from N_0.symm)
  unfold Value.G3
  rw [dif_pos hp, ← Value.outsAt0_sweep m c _ hp]
  have h7 : Value.pt3Of i % 6 = 5 := by unfold Value.pt3Of; omega
  refine Eq.trans (Eq.trans (congrArg _ ((ix2_eta (Value.loc3Of i)).symm)) (whole m c ⟨Value.pt3Of i, hp⟩ h7 _ _)) ?_
  have e0 : Value.pt3Of i / 6 / 2 * 1056 + (i 0).val % 1056 = (i 0).val := by unfold Value.pt3Of Value.run3Of; omega
  have e1 : Value.pt3Of i / 6 % 2 * 1024 + (i 1).val % 1024 = (i 1).val := by unfold Value.pt3Of Value.run3Of; omega
  show entry _ _ (Value.pt3Of i / 6 / 2 * 1056 + (i 0).val % 1056) (Value.pt3Of i / 6 % 2 * 1024 + (i 1).val % 1024) + at2 _ (Value.pt3Of i / 6 / 2 * 1056 + (i 0).val % 1056) (Value.pt3Of i / 6 % 2 * 1024 + (i 1).val % 1024) = _
  rw [e0, e1]
  rfl

end array

/-- What the reference computes. -/
theorem expected (a : S8448x12288.Idx → EReal) (w : S2048x12288.Idx → EReal) (u : S8448x2048.Idx → EReal) : Cert.Reference15Ideal.Read.val_main_v5 (F := Ideal) a w u = full a w u := by
  funext i
  rw [Cert.Reference15Ideal.Read.val_main_v5_apply]
  refine Eq.trans (add_comm _ _) (congrArg₂ (· + ·) ?_ (eq_at2 (R := 8448) (C := 2048) u i rfl rfl))
  rw [Cert.Reference15Ideal.Read.val_main_v4_apply]
  refine Eq.trans (Finset.sum_congr rfl fun k _ => ?_) (sum_all (fun k => term a w (i 0).val (i 1).val k) 12288)
  rw [Cert.Reference15Ideal.Read.val_main_v3_apply, Cert.Reference15Ideal.Read.val_main_v1_apply]
  have hk : k.val < 12288 := k.isLt
  have h0 : (i 0).val < 8448 := (i 0).isLt
  have h1 : (i 1).val < 2048 := (i 1).isLt
  refine congrArg₂ (· * ·) ?_ ?_
  · exact eq_at2 (R := 8448) (C := 12288) a _ rfl rfl
  · exact eq_at2 (R := 2048) (C := 12288) w _ rfl rfl

end Cert.Products.P15

end
-- ==== Proof.Product16.lean ====
/-
The weight gradient of the second mixer's input product.
-/
module

public import proofs.«01_k».proof.Proof.Sums
public import proofs.«01_k».proof.Proof.Gen.Kernel16Ideal.Value
public import proofs.«01_k».proof.Proof.Gen.Reference16Ideal.Run
public import proofs.«01_k».proof.Proof.Gen.Reference16Ideal.Read
public import Idealize.ShloMosaic.Lib.Quiescent
public import Idealize.ShloMosaic.Lib.Pipeline.ValueKit.Geometry

@[expose] public section

set_option maxRecDepth 65536

noncomputable section

namespace Cert.Products.P16

open Cert.Kernel16Ideal Cert.Kernel16Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1024x2816 .bf16) (h3 : a3.IsWhole) (a4 : Memref sig .tc .vmem S2816x768 .bf16) (h4 : a4.IsWhole)
  (a5 : Memref sig .tc .vmem S1024x768 .bf16) (h5 : a5.IsWhole) (a6 : Memref sig .tc .vmem S1024x768 .f32) (h6 : a6.IsWhole)
  (x0 : Vec F S1024x2816 .bf16) (x1 : Vec F S2816x768 .bf16) (xs : Vec F S1024x768 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1024x2816) z2, View.ld_unit_zero (S := S2816x768) z2, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1024x2816) z2, View.ld_unit_zero (S := S2816x768) z2, View.ld_unit_zero (S := S1024x768) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z2, View.readCov_unit_zero (S := S1024x768) _ z2]
  unfold k0_pay3
  simp only [View.readAt_eq_ld, h3.read_unread, h4.read_unread, h6.read_unread, View.ld_unit_zero (S := S1024x2816) z2, View.ld_unit_zero (S := S2816x768) z2, View.ld_unit_zero (S := S1024x768) z2, shapeCast_self]

end cases

/-- One block's product, read at an entry. -/
theorem block (v0 : Vec Ideal S1024x2816 .bf16) (v1 : Vec Ideal S2816x768 .bf16) (y : Fin 1024) (x : Fin 768) :
    k0_pay1 (F := Ideal) v0 v1 (ix2 y x) = ∑ k : Fin 2816, v0 (ix2 y k) * v1 (ix2 k x) := by
  pointwise [k0_pay1]

/-- The rounding of the sum changes nothing. -/
theorem rounded (v : Vec Ideal S1024x768 .f32) (y : Fin 1024) (x : Fin 768) : (k0_pay4 (F := Ideal) v : Vec Ideal S1024x768 .bf16) (ix2 y x) = v (ix2 y x) := by
  pointwise [k0_pay4]

/-- One product under the sum of output row `r`, column `s`. -/
def term (a : S2048x8448.Idx → EReal) (w : S8448x12288.Idx → EReal) (r s k : ℕ) : EReal :=
  at2 (R := 2048) (C := 8448) a (r) (k) * at2 (R := 8448) (C := 12288) w (k) (s)

/-- The full sum. -/
def entry (a : S2048x8448.Idx → EReal) (w : S8448x12288.Idx → EReal) (r s : ℕ) : EReal := ∑ k ∈ Finset.range (3 * 2816), term a w r s k

/-- The array of the full sums. -/
def full (a : S2048x8448.Idx → EReal) (w : S8448x12288.Idx → EReal) : S2048x12288.Idx → EReal := fun i => entry a w (i 0).val (i 1).val

section array
variable (m : (ℓ : Loc nD τ sig) → Buf (Elt Ideal) ℓ) (c : Dev nD)

/-- The two arguments. -/
abbrev A0 : S2048x8448.Idx → EReal := m ((c.tc : Thread nD τ).loc main_arg0)
abbrev A1 : S8448x12288.Idx → EReal := m ((c.tc : Thread nD τ).loc main_arg1)

theorem at_0 : ∀ t : Fin cfg0.N, win0_0.index t = ![t.val / 3 / 16, t.val % 3] := by decide +kernel
theorem at_1 : ∀ t : Fin cfg0.N, win0_1.index t = ![t.val % 3, t.val / 3 % 16] := by decide +kernel

/-- What window 0 reads. -/
theorem blk_0 (t : Fin cfg0.N) (y : Fin 1024) (k : Fin 2816) :
    (iblk m c 0 t : Vec Ideal S1024x2816 .bf16) (ix2 y k)
      = at2 (R := 2048) (C := 8448) (A0 m c) (t.val / 3 / 16 * 1024 + y.val) (t.val % 3 * 2816 + k.val) := by
  have e := at_0 t
  blk_simp [iblk]
  refine eq_at2 (R := 2048) (C := 8448) _ _ ?_ ?_ <;> simp [e, ix2]

/-- What window 1 reads. -/
theorem blk_1 (t : Fin cfg0.N) (k : Fin 2816) (x : Fin 768) :
    (iblk m c 1 t : Vec Ideal S2816x768 .bf16) (ix2 k x)
      = at2 (R := 8448) (C := 12288) (A1 m c) (t.val % 3 * 2816 + k.val) (t.val / 3 % 16 * 768 + x.val) := by
  have e := at_1 t
  blk_simp [iblk]
  refine eq_at2 (R := 8448) (C := 12288) _ _ ?_ ?_ <;> simp [e, ix2]

/-- One grid point's block product is the sum's next block. -/
theorem step (t : Fin cfg0.N) (y : Fin 1024) (x : Fin 768) :
    k0_pay1 (F := Ideal) (iblk m c 0 t) (iblk m c 1 t) (ix2 y x)
      = ∑ k : Fin 2816, term (A0 m c) (A1 m c) (t.val / 3 / 16 * 1024 + y.val) (t.val / 3 % 16 * 768 + x.val) (t.val % 3 * 2816 + k.val) := by
  rw [block]
  refine Finset.sum_congr rfl fun k _ => ?_
  have hk := k.isLt
  have hx := x.isLt
  rw [blk_0, blk_1, term]

/-- The running sum after a grid point that is not the last of its row. -/
theorem running (y : Fin 1024) (x : Fin 768) (n : ℕ) (hn : n < cfg0.N) (h : n % 3 ≠ 2) : (outsAt0 m c n hn).2 (ix2 y x)
    = ∑ k ∈ Finset.range ((n % 3 + 1) * 2816), term (A0 m c) (A1 m c) (n / 3 / 16 * 1024 + y.val) (n / 3 % 16 * 768 + x.val) k := by
  refine sum_blocks 3 2816 cfg0.N (by decide) (fun n hn => (outsAt0 m c n hn).2 (ix2 y x)) (fun b => term (A0 m c) (A1 m c) (b / 16 * 1024 + y.val) (b % 16 * 768 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 3 = 2) (y : Fin 1024) (x : Fin 768) : (outsAt0 m c t.val t.isLt).1 (ix2 y x)
    = entry (A0 m c) (A1 m c) (t.val / 3 / 16 * 1024 + y.val) (t.val / 3 % 16 * 768 + x.val) := by
  rw [outsAt0_C m c t (by omega) (by omega) h]
  dsimp only
  rw [last, rounded]
  show (outsAt0 m c (t.val - 1) _).2 (ix2 y x) + _ = _
  rw [running m c y x _ _ (by omega), step, show (t.val - 1) / 3 = t.val / 3 from by omega, show (t.val - 1) % 3 + 1 = t.val % 3 from by omega, sum_block, h, entry]

/-- What the kernel's array ends holding. -/
theorem array : Value.G2 m c = full (A0 m c) (A1 m c) := by
  funext i
  have h0 : (i 0).val < 2048 := (i 0).isLt
  have h1 : (i 1).val < 12288 := (i 1).isLt
  have hp : Value.pt2Of i < cfg0.N := lt_of_lt_of_eq (show Value.pt2Of i < 96 by unfold Value.pt2Of Value.run2Of; omega) (show 96 = cfg0.N from N_0.symm)
  unfold Value.G2
  rw [dif_pos hp, ← Value.outsAt0_sweep m c _ hp]
  have h7 : Value.pt2Of i % 3 = 2 := by unfold Value.pt2Of; omega
  refine Eq.trans (Eq.trans (congrArg _ ((ix2_eta (Value.loc2Of i)).symm)) (whole m c ⟨Value.pt2Of i, hp⟩ h7 _ _)) ?_
  have e0 : Value.pt2Of i / 3 / 16 * 1024 + (i 0).val % 1024 = (i 0).val := by unfold Value.pt2Of Value.run2Of; omega
  have e1 : Value.pt2Of i / 3 % 16 * 768 + (i 1).val % 768 = (i 1).val := by unfold Value.pt2Of Value.run2Of; omega
  show entry _ _ (Value.pt2Of i / 3 / 16 * 1024 + (i 0).val % 1024) (Value.pt2Of i / 3 % 16 * 768 + (i 1).val % 768) = entry _ _ ((i 0).val) ((i 1).val)
  rw [e0, e1]

end array

/-- What the reference computes. -/
theorem expected (a : S2048x8448.Idx → EReal) (w : S8448x12288.Idx → EReal) : Cert.Reference16Ideal.Read.val_main_v8 (F := Ideal) a w = full a w := by
  funext i
  rw [Cert.Reference16Ideal.Read.val_main_v8_apply, Cert.Reference16Ideal.Read.val_main_v7_apply, Cert.Reference16Ideal.Read.val_main_v6_apply]
  refine Eq.trans (Finset.sum_congr rfl fun k _ => ?_) (sum_all (fun k => term a w (i 0).val (i 1).val k) 8448)
  rw [Cert.Reference16Ideal.Read.val_main_v5_apply, Cert.Reference16Ideal.Read.val_main_v2_apply, Cert.Reference16Ideal.Read.val_main_v1_apply]
  have hk : k.val < 8448 := k.isLt
  have h0 : (i 0).val < 2048 := (i 0).isLt
  have h1 : (i 1).val < 12288 := (i 1).isLt
  refine Eq.trans (mul_comm _ _) ?_
  refine congrArg₂ (· * ·) ?_ ?_
  · exact eq_at2 (R := 2048) (C := 8448) a _ rfl rfl
  · exact eq_at2 (R := 8448) (C := 12288) w _ rfl rfl

end Cert.Products.P16

end
-- ==== Proof.Product17.lean ====
/-
The second mixer's output product.
-/
module

public import proofs.«01_k».proof.Proof.Sums
public import proofs.«01_k».proof.Proof.Gen.Kernel17Ideal.Value
public import proofs.«01_k».proof.Proof.Gen.Reference17Ideal.Run
public import proofs.«01_k».proof.Proof.Gen.Reference17Ideal.Read
public import Idealize.ShloMosaic.Lib.Quiescent
public import Idealize.ShloMosaic.Lib.Pipeline.ValueKit.Geometry

@[expose] public section

set_option maxRecDepth 65536

noncomputable section

namespace Cert.Products.P17

open Cert.Kernel17Ideal Cert.Kernel17Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x2048 .bf16) (h3 : a3.IsWhole) (a4 : Memref sig .tc .vmem S2048x1024 .bf16) (h4 : a4.IsWhole)
  (a5 : Memref sig .tc .vmem S1056x1024 .f32) (h5 : a5.IsWhole) (a6 : Memref sig .tc .vmem S1056x1024 .f32) (h6 : a6.IsWhole)
  (x0 : Vec F S1056x2048 .bf16) (x1 : Vec F S2048x1024 .bf16) (xs : Vec F S1056x1024 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x2048) z2, View.ld_unit_zero (S := S2048x1024) z2, shapeCast_self]

/-- The last block's product is added and the sum written out. -/
theorem last (hc0 : ¬cond0_0 i) (hc1 : cond0_1 i) (hc2 : cond0_2 i) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero z2, View.readCov_unit_zero (S := S1056x1024) _ z2]
  unfold k0_pay3
  simp only [View.readAt_eq_ld, h3.read_unread, h4.read_unread, h6.read_unread, View.ld_unit_zero (S := S1056x2048) z2, View.ld_unit_zero (S := S2048x1024) z2, View.ld_unit_zero (S := S1056x1024) z2, shapeCast_self]

end cases

/-- One block's product, read at an entry. -/
theorem block (v0 : Vec Ideal S1056x2048 .bf16) (v1 : Vec Ideal S2048x1024 .bf16) (y : Fin 1056) (x : Fin 1024) :
    k0_pay1 (F := Ideal) v0 v1 (ix2 y x) = ∑ k : Fin 2048, v0 (ix2 y k) * v1 (ix2 k x) := by
  pointwise [k0_pay1]

/-- One product under the sum of output row `r`, column `s`. -/
def term (a : S8448x4096.Idx → EReal) (w : S4096x2048.Idx → EReal) (r s k : ℕ) : EReal :=
  at2 (R := 8448) (C := 4096) a (r) (k) * at2 (R := 4096) (C := 2048) w (k) (s)

/-- The full sum. -/
def entry (a : S8448x4096.Idx → EReal) (w : S4096x2048.Idx → EReal) (r s : ℕ) : EReal := ∑ k ∈ Finset.range (2 * 2048), term a w r s k

/-- The array of the full sums. -/
def full (a : S8448x4096.Idx → EReal) (w : S4096x2048.Idx → EReal) : S8448x2048.Idx → EReal := fun i => entry a w (i 0).val (i 1).val

section array
variable (m : (ℓ : Loc nD τ sig) → Buf (Elt Ideal) ℓ) (c : Dev nD)

/-- The two arguments. -/
abbrev A0 : S8448x4096.Idx → EReal := m ((c.tc : Thread nD τ).loc main_arg0)
abbrev A1 : S4096x2048.Idx → EReal := m ((c.tc : Thread nD τ).loc main_arg1)

theorem at_0 : ∀ t : Fin cfg0.N, win0_0.index t = ![t.val / 2 / 2, t.val % 2] := by decide +kernel
theorem at_1 : ∀ t : Fin cfg0.N, win0_1.index t = ![t.val % 2, t.val / 2 % 2] := by decide +kernel

/-- What window 0 reads. -/
theorem blk_0 (t : Fin cfg0.N) (y : Fin 1056) (k : Fin 2048) :
    (iblk m c 0 t : Vec Ideal S1056x2048 .bf16) (ix2 y k)
      = at2 (R := 8448) (C := 4096) (A0 m c) (t.val / 2 / 2 * 1056 + y.val) (t.val % 2 * 2048 + k.val) := by
  have e := at_0 t
  blk_simp [iblk]
  refine eq_at2 (R := 8448) (C := 4096) _ _ ?_ ?_ <;> simp [e, ix2]

/-- What window 1 reads. -/
theorem blk_1 (t : Fin cfg0.N) (k : Fin 2048) (x : Fin 1024) :
    (iblk m c 1 t : Vec Ideal S2048x1024 .bf16) (ix2 k x)
      = at2 (R := 4096) (C := 2048) (A1 m c) (t.val % 2 * 2048 + k.val) (t.val / 2 % 2 * 1024 + x.val) := by
  have e := at_1 t
  blk_simp [iblk]
  refine eq_at2 (R := 4096) (C := 2048) _ _ ?_ ?_ <;> simp [e, ix2]

/-- One grid point's block product is the sum's next block. -/
theorem step (t : Fin cfg0.N) (y : Fin 1056) (x : Fin 1024) :
    k0_pay1 (F := Ideal) (iblk m c 0 t) (iblk m c 1 t) (ix2 y x)
      = ∑ k : Fin 2048, term (A0 m c) (A1 m c) (t.val / 2 / 2 * 1056 + y.val) (t.val / 2 % 2 * 1024 + x.val) (t.val % 2 * 2048 + k.val) := by
  rw [block]
  refine Finset.sum_congr rfl fun k _ => ?_
  have hk := k.isLt
  have hx := x.isLt
  rw [blk_0, blk_1, term]

/-- The running sum after a grid point that is not the last of its row. -/
theorem running (y : Fin 1056) (x : Fin 1024) (n : ℕ) (hn : n < cfg0.N) (h : n % 2 ≠ 1) : (outsAt0 m c n hn).2 (ix2 y x)
    = ∑ k ∈ Finset.range ((n % 2 + 1) * 2048), term (A0 m c) (A1 m c) (n / 2 / 2 * 1056 + y.val) (n / 2 % 2 * 1024 + x.val) k := by
  refine sum_blocks 2 2048 cfg0.N (by decide) (fun n hn => (outsAt0 m c n hn).2 (ix2 y x)) (fun b => term (A0 m c) (A1 m c) (b / 2 * 1056 + y.val) (b % 2 * 1024 + x.val)) ?_ ?_ n hn h
  · intro n hn h0
    rw [outsAt0_A m c ⟨n, hn⟩ h0 (by dsimp only; omega) (by dsimp only; omega)]
    dsimp only
    rw [first, step]
  · intro n hn h0 h7
    omega

/-- The block written back at a row's last grid point holds the full sums. -/
theorem whole (t : Fin cfg0.N) (h : t.val % 2 = 1) (y : Fin 1056) (x : Fin 1024) : (outsAt0 m c t.val t.isLt).1 (ix2 y x)
    = entry (A0 m c) (A1 m c) (t.val / 2 / 2 * 1056 + y.val) (t.val / 2 % 2 * 1024 + x.val) := by
  rw [outsAt0_B m c t (by omega) (by omega) h]
  dsimp only
  rw [last]
  show (outsAt0 m c (t.val - 1) _).2 (ix2 y x) + _ = _
  rw [running m c y x _ _ (by omega), step, show (t.val - 1) / 2 = t.val / 2 from by omega, show (t.val - 1) % 2 + 1 = t.val % 2 from by omega, sum_block, h, entry]

/-- What the kernel's array ends holding. -/
theorem array : Value.G2 m c = full (A0 m c) (A1 m c) := by
  funext i
  have h0 : (i 0).val < 8448 := (i 0).isLt
  have h1 : (i 1).val < 2048 := (i 1).isLt
  have hp : Value.pt2Of i < cfg0.N := lt_of_lt_of_eq (show Value.pt2Of i < 32 by unfold Value.pt2Of Value.run2Of; omega) (show 32 = cfg0.N from N_0.symm)
  unfold Value.G2
  rw [dif_pos hp, ← Value.outsAt0_sweep m c _ hp]
  have h7 : Value.pt2Of i % 2 = 1 := by unfold Value.pt2Of; omega
  refine Eq.trans (Eq.trans (congrArg _ ((ix2_eta (Value.loc2Of i)).symm)) (whole m c ⟨Value.pt2Of i, hp⟩ h7 _ _)) ?_
  have e0 : Value.pt2Of i / 2 / 2 * 1056 + (i 0).val % 1056 = (i 0).val := by unfold Value.pt2Of Value.run2Of; omega
  have e1 : Value.pt2Of i / 2 % 2 * 1024 + (i 1).val % 1024 = (i 1).val := by unfold Value.pt2Of Value.run2Of; omega
  show entry _ _ (Value.pt2Of i / 2 / 2 * 1056 + (i 0).val % 1056) (Value.pt2Of i / 2 % 2 * 1024 + (i 1).val % 1024) = entry _ _ ((i 0).val) ((i 1).val)
  rw [e0, e1]

end array

/-- What the reference computes. -/
theorem expected (a : S8448x4096.Idx → EReal) (w : S4096x2048.Idx → EReal) : Cert.Reference17Ideal.Read.val_main_v2 (F := Ideal) a w = full a w := by
  funext i
  rw [Cert.Reference17Ideal.Read.val_main_v2_apply]
  refine Eq.trans (Finset.sum_congr rfl fun k _ => ?_) (sum_all (fun k => term a w (i 0).val (i 1).val k) 4096)
  rw [Cert.Reference17Ideal.Read.val_main_v0_apply, Cert.Reference17Ideal.Read.val_main_v1_apply]
  have hk : k.val < 4096 := k.isLt
  have h0 : (i 0).val < 8448 := (i 0).isLt
  have h1 : (i 1).val < 2048 := (i 1).isLt
  refine congrArg₂ (· * ·) ?_ ?_
  · exact eq_at2 (R := 8448) (C := 4096) a _ rfl rfl
  · exact eq_at2 (R := 4096) (C := 2048) w _ rfl rfl

end Cert.Products.P17

end
-- ==== Proof.Product18.lean ====
/-
The input gradient of the second mixer's output product.
-/
module

public import proofs.«01_k».proof.Proof.Sums
public import proofs.«01_k».proof.Proof.Gen.Kernel18Ideal.Value
public import proofs.«01_k».proof.Proof.Gen.Reference18Ideal.Run
public import proofs.«01_k».proof.Proof.Gen.Reference18Ideal.Read
public import Idealize.ShloMosaic.Lib.Quiescent
public import Idealize.ShloMosaic.Lib.Pipeline.ValueKit.Geometry

@[expose] public section

set_option maxRecDepth 65536

noncomputable section

namespace Cert.Products.P18

open Cert.Kernel18Ideal Cert.Kernel18Ideal.Gen Idealize.ShloMosaic Idealize.ShloMosaic.TcCoe Idealize.ShloMosaic.Pipeline Idealize.SL.Sem
open Idealize.ShloMosaic.Tactic Idealize.ShloMosaic.Pointwise

/-- One block's product, read at an entry. -/
theorem block (v0 : Vec Ideal S1056x2048 .bf16) (v1 : Vec Ideal S1024x2048 .bf16) (y : Fin 1056) (x : Fin 1024) :
    k0_pay1 (F := Ideal) v0 v1 (ix2 y x) = ∑ k : Fin 2048, v0 (ix2 y k) * v1 (ix2 x k) := by
  pointwise [k0_pay1]

/-- One product under the sum of output row `r`, column `s`. -/
def term (a : S8448x2048.Idx → EReal) (w : S4096x2048.Idx → EReal) (r s k : ℕ) : EReal :=
  at2 (R := 8448) (C := 2048) a (r) (k) * at2 (R := 4096) (C := 2048) w (s) (k)

/-- The full sum. -/
def entry (a : S8448x2048.Idx → EReal) (w : S4096x2048.Idx → EReal) (r s : ℕ) : EReal := ∑ k ∈ Finset.range (1 * 2048), term a w r s k

/-- The array of the full sums. -/
def full (a : S8448x2048.Idx → EReal) (w : S4096x2048.Idx → EReal) : S8448x4096.Idx → EReal := fun i => entry a w (i 0).val (i 1).val

section array
variable (m : (ℓ : Loc nD τ sig) → Buf (Elt Ideal) ℓ) (c : Dev nD)

/-- The two arguments. -/
abbrev A0 : S8448x2048.Idx → EReal := m ((c.tc : Thread nD τ).loc main_arg0)
abbrev A1 : S4096x2048.Idx → EReal := m ((c.tc : Thread nD τ).loc main_arg1)

theorem at_0 : ∀ t : Fin cfg0.N, win0_0.index t = ![t.val / 4, 0] := by decide +kernel
theorem at_1 : ∀ t : Fin cfg0.N, win0_1.index t = ![t.val % 4, 0] := by decide +kernel

/-- What window 0 reads. -/
theorem blk_0 (t : Fin cfg0.N) (y : Fin 1056) (k : Fin 2048) :
    (iblk m c 0 t : Vec Ideal S1056x2048 .bf16) (ix2 y k)
      = at2 (R := 8448) (C := 2048) (A0 m c) (t.val / 4 * 1056 + y.val) (0 * 2048 + k.val) := by
  have e := at_0 t
  blk_simp [iblk]
  refine eq_at2 (R := 8448) (C := 2048) _ _ ?_ ?_ <;> simp [e, ix2]

/-- What window 1 reads. -/
theorem blk_1 (t : Fin cfg0.N) (x : Fin 1024) (k : Fin 2048) :
    (iblk m c 1 t : Vec Ideal S1024x2048 .bf16) (ix2 x k)
      = at2 (R := 4096) (C := 2048) (A1 m c) (t.val % 4 * 1024 + x.val) (0 * 2048 + k.val) := by
  have e := at_1 t
  blk_simp [iblk]
  refine eq_at2 (R := 4096) (C := 2048) _ _ ?_ ?_ <;> simp [e, ix2]

/-- One grid point's block product is the sum's next block. -/
theorem step (t : Fin cfg0.N) (y : Fin 1056) (x : Fin 1024) :
    k0_pay1 (F := Ideal) (iblk m c 0 t) (iblk m c 1 t) (ix2 y x)
      = ∑ k : Fin 2048, term (A0 m c) (A1 m c) (t.val / 4 * 1056 + y.val) (t.val % 4 * 1024 + x.val) (0 * 2048 + k.val) := by
  rw [block]
  refine Finset.sum_congr rfl fun k _ => ?_
  have hk := k.isLt
  have hx := x.isLt
  rw [blk_0, blk_1, term]

theorem at_2 : ∀ t : Fin cfg0.N, win0_2.index t = ![t.val / 4, t.val % 4] := by decide +kernel
theorem flush_2 : ∀ t : Fin cfg0.N, (cfg0.win 2).flush t = true := by decide +kernel

/-- The block a grid point computes holds the full sums. -/
theorem whole (t : Fin cfg0.N) (y : Fin 1056) (x : Fin 1024) : (out0_2 (iblk m c 0 t) (iblk m c 1 t) : Vec Ideal S1056x1024 .f32) (ix2 y x) = entry (A0 m c) (A1 m c) (t.val / 4 * 1056 + y.val) (t.val % 4 * 1024 + x.val) := by
  unfold out0_2
  rw [View.canon_unit_zero z2]
  simp only [View.ld_unit_zero (S := S1056x2048) z2, View.ld_unit_zero (S := S1024x2048) z2]
  rw [step, sum_first, entry]

/-- The array at an entry of a grid point's block. -/
theorem array_at (t : Fin cfg0.N) (y : Fin 1056) (x : Fin 1024) (i : S8448x4096.Idx) (h0 : (i 0).val = t.val / 4 * 1056 + y.val) (h1 : (i 1).val = t.val % 4 * 1024 + x.val) :
    ((dats m 0 c).arrAt 2 cfg0.N : Vec Ideal S8448x4096 .f32) i = full (A0 m c) (A1 m c) i := by
  have e := at_2 t
  have h := (dats m 0 c).arrAt_emb_eq_flushed 2 Value.disjoint2 t (flush_2 t) (ix2 y x)
  have e' : (win0_2.blk t).view.emb (ix2 y x) = i := by
    funext d
    apply Fin.ext
    match d with
    | 0 => rw [h0]; simp [e, ix2]; rfl
    | 1 => rw [h1]; simp [e, ix2]; rfl
  refine (congrArg _ e'.symm).trans (h.trans ?_)
  blk_simp
  rw [after0_2, full, h0, h1]
  exact whole m c t y x

/-- What the kernel's array ends holding. -/
theorem array : (dats m 0 c).arrAt 2 cfg0.N = full (A0 m c) (A1 m c) := by
  funext i
  have h0 : (i 0).val < 8448 := (i 0).isLt
  have h1 : (i 1).val < 4096 := (i 1).isLt
  have hp : (i 0).val / 1056 * 4 + (i 1).val / 1024 < cfg0.N := lt_of_lt_of_eq (show _ < 32 by omega) (show 32 = cfg0.N from N_0.symm)
  refine array_at m c ⟨_, hp⟩ ⟨(i 0).val % 1056, by omega⟩ ⟨(i 1).val % 1024, by omega⟩ i ?_ ?_ <;> dsimp only <;> omega

end array

/-- What the reference computes. -/
theorem expected (a : S8448x2048.Idx → EReal) (w : S4096x2048.Idx → EReal) : Cert.Reference18Ideal.Read.val_main_v4 (F := Ideal) a w = full a w := by
  funext i
  rw [Cert.Reference18Ideal.Read.val_main_v4_apply]
  refine Eq.trans (Finset.sum_congr rfl fun k _ => ?_) (sum_all (fun k => term a w (i 0).val (i 1).val k) 2048)
  rw [Cert.Reference18Ideal.Read.val_main_v3_apply, Cert.Reference18Ideal.Read.val_main_v1_apply]
  have hk : k.val < 2048 := k.isLt
  have h0 : (i 0).val < 8448 := (i 0).isLt
  have h1 : (i 1).val < 4096 := (i 1).isLt
  refine congrArg₂ (· * ·) ?_ ?_
  · exact eq_at2 (R := 8448) (C := 2048) a _ rfl rfl
  · exact eq_at2 (R := 4096) (C := 2048) w _ rfl rfl

end Cert.Products.P18

end
-- ==== Proof.Product19.lean ====
/-
The weight gradient of the second mixer's output product.
-/
module

public import proofs.«01_k».proof.Proof.Sums
public import proofs.«01_k».proof.Proof.Gen.Kernel19Ideal.Value
public import proofs.«01_k».proof.Proof.Gen.Reference19Ideal.Run
public import proofs.«01_k».proof.Proof.Gen.Reference19Ideal.Read
public import Idealize.ShloMosaic.Lib.Quiescent
public import Idealize.ShloMosaic.Lib.Pipeline.ValueKit.Geometry

@[expose] public section

set_option maxRecDepth 65536

noncomputable section

namespace Cert.Products.P19

open Cert.Kernel19Ideal Cert.Kernel19Ideal.Gen Idealize.ShloMosaic Idealize.ShloMosaic.TcCoe Idealize.ShloMosaic.Pipeline Idealize.SL.Sem
open Idealize.ShloMosaic.Tactic Idealize.ShloMosaic.Pointwise

section cases
variable {F : FTy → Type} [FloatOps F] (c : Dev nD) (i : grid0.Coords)
  (a3 : Memref sig .tc .vmem S1056x1024 .bf16) (h3 : a3.IsWhole) (a4 : Memref sig .tc .vmem S1056x2048 .bf16) (h4 : a4.IsWhole)
  (a5 : Memref sig .tc .vmem S1024x2048 .bf16) (h5 : a5.IsWhole) (a6 : Memref sig .tc .vmem S1024x2048 .f32) (h6 : a6.IsWhole)
  (x0 : Vec F S1056x1024 .bf16) (x1 : Vec F S1056x2048 .bf16) (xs : Vec F S1024x2048 .f32)

/-- The first block's product starts the running sum. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero z2]
  unfold k0_pay2
  simp only [View.readAt_eq_ld, h3.read_unread, h4.read_unread, View.ld_unit_zero (S := S1056x1024) z2, View.ld_unit_zero (S := S1056x2048) z2, shapeCast_self]

/-- A later block's product is added to it. -/
theorem next (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero z2]
  unfold k0_pay3
  simp only [View.readAt_eq_ld, h3.read_unread, h4.read_unread, h6.read_unread, View.ld_unit_zero (S := S1056x1024) z2, View.ld_unit_zero (S := S1056x2048) z2, View.ld_unit_zero (S := S1024x2048) z2, shapeCast_self]

/-- The last block's product is added and the sum written out. -/
theorem last (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero z2, View.readCov_unit_zero (S := S1024x2048) _ z2]
  unfold k0_pay3
  simp only [View.readAt_eq_ld, h3.read_unread, h4.read_unread, h6.read_unread, View.ld_unit_zero (S := S1056x1024) z2, View.ld_unit_zero (S := S1056x2048) z2, View.ld_unit_zero (S := S1024x2048) z2, shapeCast_self]

end cases

/-- One block's product, read at an entry. -/
theorem block (v0 : Vec Ideal S1056x1024 .bf16) (v1 : Vec Ideal S1056x2048 .bf16) (y : Fin 1024) (x : Fin 2048) :
    k0_pay1 (F := Ideal) v0 v1 (ix2 y x) = ∑ k : Fin 1056, v0 (ix2 k y) * v1 (ix2 k x) := by
  pointwise [k0_pay1]

/-- The rounding of the sum changes nothing. -/
theorem rounded (v : Vec Ideal S1024x2048 .f32) (y : Fin 1024) (x : Fin 2048) : (k0_pay4 (F := Ideal) v : Vec Ideal S1024x2048 .bf16) (ix2 y x) = v (ix2 y x) := by
  pointwise [k0_pay4]

/-- One product under the sum of output row `r`, column `s`. -/
def term (a : S8448x4096.Idx → EReal) (w : S8448x2048.Idx → EReal) (r s k : ℕ) : EReal :=
  at2 (R := 8448) (C := 4096) a (k) (r) * at2 (R := 8448) (C := 2048) w (k) (s)

/-- The full sum. -/
def entry (a : S8448x4096.Idx → EReal) (w : S8448x2048.Idx → EReal) (r s : ℕ) : EReal := ∑ k ∈ Finset.range (8 * 1056), term a w r s k

/-- The array of the full sums. -/
def full (a : S8448x4096.Idx → EReal) (w : S8448x2048.Idx → EReal) : S4096x2048.Idx → EReal := fun i => entry a w (i 0).val (i 1).val

section array
variable (m : (ℓ : Loc nD τ sig) → Buf (Elt Ideal) ℓ) (c : Dev nD)

/-- The two arguments. -/
abbrev A0 : S8448x4096.Idx → EReal := m ((c.tc : Thread nD τ).loc main_arg0)
abbrev A1 : S8448x2048.Idx → EReal := m ((c.tc : Thread nD τ).loc main_arg1)

theorem at_0 : ∀ t : Fin cfg0.N, win0_0.index t = ![t.val % 8, t.val / 8] := by decide +kernel
theorem at_1 : ∀ t : Fin cfg0.N, win0_1.index t = ![t.val % 8, 0] := by decide +kernel

/-- What window 0 reads. -/
theorem blk_0 (t : Fin cfg0.N) (k : Fin 1056) (y : Fin 1024) :
    (iblk m c 0 t : Vec Ideal S1056x1024 .bf16) (ix2 k y)
      = at2 (R := 8448) (C := 4096) (A0 m c) (t.val % 8 * 1056 + k.val) (t.val / 8 * 1024 + y.val) := by
  have e := at_0 t
  blk_simp [iblk]
  refine eq_at2 (R := 8448) (C := 4096) _ _ ?_ ?_ <;> simp [e, ix2]

/-- What window 1 reads. -/
theorem blk_1 (t : Fin cfg0.N) (k : Fin 1056) (x : Fin 2048) :
    (iblk m c 1 t : Vec Ideal S1056x2048 .bf16) (ix2 k x)
      = at2 (R := 8448) (C := 2048) (A1 m c) (t.val % 8 * 1056 + k.val) (0 * 2048 + x.val) := by
  have e := at_1 t
  blk_simp [iblk]
  refine eq_at2 (R := 8448) (C := 2048) _ _ ?_ ?_ <;> simp [e, ix2]

/-- One grid point's block product is the sum's next block. -/
theorem step (t : Fin cfg0.N) (y : Fin 1024) (x : Fin 2048) :
    k0_pay1 (F := Ideal) (iblk m c 0 t) (iblk m c 1 t) (ix2 y x)
      = ∑ k : Fin 1056, term (A0 m c) (A1 m c) (t.val / 8 * 1024 + y.val) (0 * 2048 + x.val) (t.val % 8 * 1056 + k.val) := by
  rw [block]
  refine Finset.sum_congr rfl fun k _ => ?_
  have hk := k.isLt
  have hx := x.isLt
  rw [blk_0, blk_1, term]

/-- The running sum after a grid point that is not the last of its row. -/
theorem running (y : Fin 1024) (x : Fin 2048) (n : ℕ) (hn : n < cfg0.N) (h : n % 8 ≠ 7) : (outsAt0 m c n hn).2 (ix2 y x)
    = ∑ k ∈ Finset.range ((n % 8 + 1) * 1056), term (A0 m c) (A1 m c) (n / 8 * 1024 + y.val) (0 * 2048 + x.val) k := by
  refine sum_blocks 8 1056 cfg0.N (by decide) (fun n hn => (outsAt0 m c n hn).2 (ix2 y x)) (fun b => term (A0 m c) (A1 m c) (b * 1024 + y.val) (0 * 2048 + x.val)) ?_ ?_ n hn h
  · intro n hn h0
    rw [outsAt0_A m c ⟨n, hn⟩ h0 (by dsimp only; omega) (by dsimp only; omega)]
    dsimp only
    rw [first, step]
  · intro n hn h0 h7
    rw [outsAt0_B m c ⟨n + 1, hn⟩ h0 (by dsimp only; omega) h7]
    dsimp only
    rw [next]
    show (outsAt0 m c n _).2 (ix2 y x) + _ = _
    rw [step]

/-- The block written back at a row's last grid point holds the full sums. -/
theorem whole (t : Fin cfg0.N) (h : t.val % 8 = 7) (y : Fin 1024) (x : Fin 2048) : (outsAt0 m c t.val t.isLt).1 (ix2 y x)
    = entry (A0 m c) (A1 m c) (t.val / 8 * 1024 + y.val) (0 * 2048 + x.val) := by
  rw [outsAt0_C m c t (by omega) (by omega) h]
  dsimp only
  rw [last, rounded]
  show (outsAt0 m c (t.val - 1) _).2 (ix2 y x) + _ = _
  rw [running m c y x _ _ (by omega), step, show (t.val - 1) / 8 = t.val / 8 from by omega, show (t.val - 1) % 8 + 1 = t.val % 8 from by omega, sum_block, h, entry]

/-- What the kernel's array ends holding. -/
theorem array : Value.G2 m c = full (A0 m c) (A1 m c) := by
  funext i
  have h0 : (i 0).val < 4096 := (i 0).isLt
  have h1 : (i 1).val < 2048 := (i 1).isLt
  have hp : Value.pt2Of i < cfg0.N := lt_of_lt_of_eq (show Value.pt2Of i < 32 by unfold Value.pt2Of Value.run2Of; omega) (show 32 = cfg0.N from N_0.symm)
  unfold Value.G2
  rw [dif_pos hp, ← Value.outsAt0_sweep m c _ hp]
  have h7 : Value.pt2Of i % 8 = 7 := by unfold Value.pt2Of; omega
  refine Eq.trans (Eq.trans (congrArg _ ((ix2_eta (Value.loc2Of i)).symm)) (whole m c ⟨Value.pt2Of i, hp⟩ h7 _ _)) ?_
  have e0 : Value.pt2Of i / 8 * 1024 + (i 0).val % 1024 = (i 0).val := by unfold Value.pt2Of Value.run2Of; omega
  have e1 : 0 * 2048 + (i 1).val % 2048 = (i 1).val := by rw [Nat.zero_mul, Nat.zero_add, Nat.mod_eq_of_lt h1]
  show entry _ _ (Value.pt2Of i / 8 * 1024 + (i 0).val % 1024) (0 * 2048 + (i 1).val % 2048) = entry _ _ ((i 0).val) ((i 1).val)
  rw [e0, e1]

end array

/-- What the reference computes. -/
theorem expected (a : S8448x4096.Idx → EReal) (w : S8448x2048.Idx → EReal) : Cert.Reference19Ideal.Read.val_main_v7 (F := Ideal) a w = full a w := by
  funext i
  rw [Cert.Reference19Ideal.Read.val_main_v7_apply, Cert.Reference19Ideal.Read.val_main_v6_apply, Cert.Reference19Ideal.Read.val_main_v5_apply]
  refine Eq.trans (Finset.sum_congr rfl fun k _ => ?_) (sum_all (fun k => term a w (i 0).val (i 1).val k) 8448)
  rw [Cert.Reference19Ideal.Read.val_main_v4_apply, Cert.Reference19Ideal.Read.val_main_v1_apply]
  have hk : k.val < 8448 := k.isLt
  have h0 : (i 0).val < 4096 := (i 0).isLt
  have h1 : (i 1).val < 2048 := (i 1).isLt
  refine Eq.trans (mul_comm _ _) ?_
  refine congrArg₂ (· * ·) ?_ ?_
  · exact eq_at2 (R := 8448) (C := 4096) a _ rfl rfl
  · exact eq_at2 (R := 8448) (C := 2048) w _ rfl rfl

end Cert.Products.P19

end
-- ==== Proof.Products.lean ====
/-
The products' equations: the kernel's array and the reference's are the same full sums.
-/
module

public import proofs.«01_k».proof.Defs
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Product17
public import proofs.«01_k».proof.Proof.Product18
public import proofs.«01_k».proof.Proof.Product19
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run

@[expose] public section

noncomputable section

namespace Cert.Products

open Idealize.ShloMosaic Idealize.ShloMosaic.TcCoe Idealize.SL.Sem

/-- Program 2: the kernel and the reference end with the same array. -/
theorem equal2 : Cert.algebraic_Kernel2Ideal_Reference2Ideal (hKernel2Ideal := Kernel2Ideal.Gen.facts) (hReference2Ideal := Reference2Ideal.Gen.facts) := by
  intro m ρ m' ρ' _ hs
  refine ⟨fun c => P2.full (P2.A0 m c) (P2.A1 m c),
    (θ_run _ _ _).mono (fun _ h c => ⟨(h c).1.trans (P2.array m c), (h c).2⟩) (Kernel2Ideal.Value.run m ρ),
    (θ_run _ _ _).mono (fun _ h c => ⟨(h c).1.trans ((Reference2Ideal.Read.val_main_v6_eq _ _).trans ((P2.expected _ _).trans ?_)), (h c).2⟩) (Reference2Ideal.Value.run m' ρ')⟩
  rw [(hs c).1, (hs c).2]

/-- Program 2's reference runs to its end. -/
theorem frame2 : Cert.quiescent_Reference2Ideal (hReference2Ideal := Reference2Ideal.Gen.facts) :=
  fun m ρ _ => (θ_run _ _ _).mono (fun r h => ⟨fun c => (h c).2, Idealize.ShloMosaic.sem_eq_zero_of_no_sems (by decide) r.2⟩) (Reference2Ideal.Value.run m ρ)

/-- Program 3: the kernel and the reference end with the same array. -/
theorem equal3 : Cert.algebraic_Kernel3Ideal_Reference3Ideal (hKernel3Ideal := Kernel3Ideal.Gen.facts) (hReference3Ideal := Reference3Ideal.Gen.facts) := by
  intro m ρ m' ρ' _ hs
  refine ⟨fun c => P3.full (P3.A0 m c) (P3.A1 m c),
    (θ_run _ _ _).mono (fun _ h c => ⟨(h c).1.trans (P3.array m c), (h c).2⟩) (Kernel3Ideal.Value.run m ρ),
    (θ_run _ _ _).mono (fun _ h c => ⟨(h c).1.trans ((Reference3Ideal.Read.val_main_v12_eq _ _).trans ((P3.expected _ _).trans ?_)), (h c).2⟩) (Reference3Ideal.Value.run m' ρ')⟩
  rw [(hs c).1, (hs c).2]

/-- Program 3's reference runs to its end. -/
theorem frame3 : Cert.quiescent_Reference3Ideal (hReference3Ideal := Reference3Ideal.Gen.facts) :=
  fun m ρ _ => (θ_run _ _ _).mono (fun r h => ⟨fun c => (h c).2, Idealize.ShloMosaic.sem_eq_zero_of_no_sems (by decide) r.2⟩) (Reference3Ideal.Value.run m ρ)

/-- Program 4: the kernel and the reference end with the same array. -/
theorem equal4 : Cert.algebraic_Kernel4Ideal_Reference4Ideal (hKernel4Ideal := Kernel4Ideal.Gen.facts) (hReference4Ideal := Reference4Ideal.Gen.facts) := by
  intro m ρ m' ρ' _ hs
  refine ⟨fun c => P4.full (P4.A0 m c) (P4.A1 m c),
    (θ_run _ _ _).mono (fun _ h c => ⟨(h c).1.trans (P4.array m c), (h c).2⟩) (Kernel4Ideal.Value.run_blocks m ρ),
    (θ_run _ _ _).mono (fun _ h c => ⟨(h c).1.trans ((Reference4Ideal.Read.val_main_v4_eq _ _).trans ((P4.expected _ _).trans ?_)), (h c).2⟩) (Reference4Ideal.Value.run m' ρ')⟩
  rw [(hs c).1, (hs c).2]

/-- Program 4's reference runs to its end. -/
theorem frame4 : Cert.quiescent_Reference4Ideal (hReference4Ideal := Reference4Ideal.Gen.facts) :=
  fun m ρ _ => (θ_run _ _ _).mono (fun r h => ⟨fun c => (h c).2, Idealize.ShloMosaic.sem_eq_zero_of_no_sems (by decide) r.2⟩) (Reference4Ideal.Value.run m ρ)

/-- Program 5: the kernel and the reference end with the same array. -/
theorem equal5 : Cert.algebraic_Kernel5Ideal_Reference5Ideal (hKernel5Ideal := Kernel5Ideal.Gen.facts) (hReference5Ideal := Reference5Ideal.Gen.facts) := by
  intro m ρ m' ρ' _ hs
  refine ⟨fun c => P5.full (P5.A0 m c) (P5.A1 m c),
    (θ_run _ _ _).mono (fun _ h c => ⟨(h c).1.trans (P5.array m c), (h c).2⟩) (Kernel5Ideal.Value.run m ρ),
    (θ_run _ _ _).mono (fun _ h c => ⟨(h c).1.trans ((Reference5Ideal.Read.val_main_v7_eq _ _).trans ((P5.expected _ _).trans ?_)), (h c).2⟩) (Reference5Ideal.Value.run m' ρ')⟩
  rw [(hs c).1, (hs c).2]

/-- Program 5's reference runs to its end. -/
theorem frame5 : Cert.quiescent_Reference5Ideal (hReference5Ideal := Reference5Ideal.Gen.facts) :=
  fun m ρ _ => (θ_run _ _ _).mono (fun r h => ⟨fun c => (h c).2, Idealize.ShloMosaic.sem_eq_zero_of_no_sems (by decide) r.2⟩) (Reference5Ideal.Value.run m ρ)

/-- Program 6: the kernel and the reference end with the same array. -/
theorem equal6 : Cert.algebraic_Kernel6Ideal_Reference6Ideal (hKernel6Ideal := Kernel6Ideal.Gen.facts) (hReference6Ideal := Reference6Ideal.Gen.facts) := by
  intro m ρ m' ρ' _ hs
  refine ⟨fun c => P6.full (P6.A0 m c) (P6.A1 m c),
    (θ_run _ _ _).mono (fun _ h c => ⟨(h c).1.trans (P6.array m c), (h c).2⟩) (Kernel6Ideal.Value.run_blocks m ρ),
    (θ_run _ _ _).mono (fun _ h c => ⟨(h c).1.trans ((Reference6Ideal.Read.val_main_v5_eq _ _).trans ((P6.expected _ _).trans ?_)), (h c).2⟩) (Reference6Ideal.Value.run m' ρ')⟩
  rw [(hs c).1, (hs c).2]

/-- Program 6's reference runs to its end. -/
theorem frame6 : Cert.quiescent_Reference6Ideal (hReference6Ideal := Reference6Ideal.Gen.facts) :=
  fun m ρ _ => (θ_run _ _ _).mono (fun r h => ⟨fun c => (h c).2, Idealize.ShloMosaic.sem_eq_zero_of_no_sems (by decide) r.2⟩) (Reference6Ideal.Value.run m ρ)

/-- Program 7: the kernel and the reference end with the same array. -/
theorem equal7 : Cert.algebraic_Kernel7Ideal_Reference7Ideal (hKernel7Ideal := Kernel7Ideal.Gen.facts) (hReference7Ideal := Reference7Ideal.Gen.facts) := by
  intro m ρ m' ρ' _ hs
  refine ⟨fun c => P7.full (P7.A0 m c) (P7.A1 m c),
    (θ_run _ _ _).mono (fun _ h c => ⟨(h c).1.trans (P7.array m c), (h c).2⟩) (Kernel7Ideal.Value.run m ρ),
    (θ_run _ _ _).mono (fun _ h c => ⟨(h c).1.trans ((Reference7Ideal.Read.val_main_v2_eq _ _).trans ((P7.expected _ _).trans ?_)), (h c).2⟩) (Reference7Ideal.Value.run m' ρ')⟩
  rw [(hs c).1, (hs c).2]

/-- Program 7's reference runs to its end. -/
theorem frame7 : Cert.quiescent_Reference7Ideal (hReference7Ideal := Reference7Ideal.Gen.facts) :=
  fun m ρ _ => (θ_run _ _ _).mono (fun r h => ⟨fun c => (h c).2, Idealize.ShloMosaic.sem_eq_zero_of_no_sems (by decide) r.2⟩) (Reference7Ideal.Value.run m ρ)

/-- Program 8: the kernel and the reference end with the same array. -/
theorem equal8 : Cert.algebraic_Kernel8Ideal_Reference8Ideal (hKernel8Ideal := Kernel8Ideal.Gen.facts) (hReference8Ideal := Reference8Ideal.Gen.facts) := by
  intro m ρ m' ρ' _ hs
  refine ⟨fun c => P8.full (P8.A0 m c) (P8.A1 m c),
    (θ_run _ _ _).mono (fun _ h c => ⟨(h c).1.trans (P8.array m c), (h c).2⟩) (Kernel8Ideal.Value.run_blocks m ρ),
    (θ_run _ _ _).mono (fun _ h c => ⟨(h c).1.trans ((Reference8Ideal.Read.val_main_v4_eq _ _).trans ((P8.expected _ _).trans ?_)), (h c).2⟩) (Reference8Ideal.Value.run m' ρ')⟩
  rw [(hs c).1, (hs c).2]

/-- Program 8's reference runs to its end. -/
theorem frame8 : Cert.quiescent_Reference8Ideal (hReference8Ideal := Reference8Ideal.Gen.facts) :=
  fun m ρ _ => (θ_run _ _ _).mono (fun r h => ⟨fun c => (h c).2, Idealize.ShloMosaic.sem_eq_zero_of_no_sems (by decide) r.2⟩) (Reference8Ideal.Value.run m ρ)

/-- Program 9: the kernel and the reference end with the same array. -/
theorem equal9 : Cert.algebraic_Kernel9Ideal_Reference9Ideal (hKernel9Ideal := Kernel9Ideal.Gen.facts) (hReference9Ideal := Reference9Ideal.Gen.facts) := by
  intro m ρ m' ρ' _ hs
  refine ⟨fun c => P9.full (P9.A0 m c) (P9.A1 m c),
    (θ_run _ _ _).mono (fun _ h c => ⟨(h c).1.trans (P9.array m c), (h c).2⟩) (Kernel9Ideal.Value.run m ρ),
    (θ_run _ _ _).mono (fun _ h c => ⟨(h c).1.trans ((Reference9Ideal.Read.val_main_v6_eq _ _).trans ((P9.expected _ _).trans ?_)), (h c).2⟩) (Reference9Ideal.Value.run m' ρ')⟩
  rw [(hs c).1, (hs c).2]

/-- Program 9's reference runs to its end. -/
theorem frame9 : Cert.quiescent_Reference9Ideal (hReference9Ideal := Reference9Ideal.Gen.facts) :=
  fun m ρ _ => (θ_run _ _ _).mono (fun r h => ⟨fun c => (h c).2, Idealize.ShloMosaic.sem_eq_zero_of_no_sems (by decide) r.2⟩) (Reference9Ideal.Value.run m ρ)

/-- Program 10: the kernel and the reference end with the same array. -/
theorem equal10 : Cert.algebraic_Kernel10Ideal_Reference10Ideal (hKernel10Ideal := Kernel10Ideal.Gen.facts) (hReference10Ideal := Reference10Ideal.Gen.facts) := by
  intro m ρ m' ρ' _ hs
  refine ⟨fun c => P10.full (P10.A0 m c) (P10.A1 m c),
    (θ_run _ _ _).mono (fun _ h c => ⟨(h c).1.trans (P10.array m c), (h c).2⟩) (Kernel10Ideal.Value.run m ρ),
    (θ_run _ _ _).mono (fun _ h c => ⟨(h c).1.trans ((Reference10Ideal.Read.val_main_v12_eq _ _).trans ((P10.expected _ _).trans ?_)), (h c).2⟩) (Reference10Ideal.Value.run m' ρ')⟩
  rw [(hs c).1, (hs c).2]

/-- Program 10's reference runs to its end. -/
theorem frame10 : Cert.quiescent_Reference10Ideal (hReference10Ideal := Reference10Ideal.Gen.facts) :=
  fun m ρ _ => (θ_run _ _ _).mono (fun r h => ⟨fun c => (h c).2, Idealize.ShloMosaic.sem_eq_zero_of_no_sems (by decide) r.2⟩) (Reference10Ideal.Value.run m ρ)

/-- Program 11: the kernel and the reference end with the same array. -/
theorem equal11 : Cert.algebraic_Kernel11Ideal_Reference11Ideal (hKernel11Ideal := Kernel11Ideal.Gen.facts) (hReference11Ideal := Reference11Ideal.Gen.facts) := by
  intro m ρ m' ρ' _ hs
  refine ⟨fun c => P11.full (P11.A0 m c) (P11.A1 m c),
    (θ_run _ _ _).mono (fun _ h c => ⟨(h c).1.trans (P11.array m c), (h c).2⟩) (Kernel11Ideal.Value.run_blocks m ρ),
    (θ_run _ _ _).mono (fun _ h c => ⟨(h c).1.trans ((Reference11Ideal.Read.val_main_v2_eq _ _).trans ((P11.expected _ _).trans ?_)), (h c).2⟩) (Reference11Ideal.Value.run m' ρ')⟩
  rw [(hs c).1, (hs c).2]

/-- Program 11's reference runs to its end. -/
theorem frame11 : Cert.quiescent_Reference11Ideal (hReference11Ideal := Reference11Ideal.Gen.facts) :=
  fun m ρ _ => (θ_run _ _ _).mono (fun r h => ⟨fun c => (h c).2, Idealize.ShloMosaic.sem_eq_zero_of_no_sems (by decide) r.2⟩) (Reference11Ideal.Value.run m ρ)

/-- Program 12: the kernel and the reference end with the same array. -/
theorem equal12 : Cert.algebraic_Kernel12Ideal_Reference12Ideal (hKernel12Ideal := Kernel12Ideal.Gen.facts) (hReference12Ideal := Reference12Ideal.Gen.facts) := by
  intro m ρ m' ρ' _ hs
  refine ⟨fun c => P12.full (P12.A0 m c) (P12.A1 m c),
    (θ_run _ _ _).mono (fun _ h c => ⟨(h c).1.trans (P12.array m c), (h c).2⟩) (Kernel12Ideal.Value.run_blocks m ρ),
    (θ_run _ _ _).mono (fun _ h c => ⟨(h c).1.trans ((Reference12Ideal.Read.val_main_v4_eq _ _).trans ((P12.expected _ _).trans ?_)), (h c).2⟩) (Reference12Ideal.Value.run m' ρ')⟩
  rw [(hs c).1, (hs c).2]

/-- Program 12's reference runs to its end. -/
theorem frame12 : Cert.quiescent_Reference12Ideal (hReference12Ideal := Reference12Ideal.Gen.facts) :=
  fun m ρ _ => (θ_run _ _ _).mono (fun r h => ⟨fun c => (h c).2, Idealize.ShloMosaic.sem_eq_zero_of_no_sems (by decide) r.2⟩) (Reference12Ideal.Value.run m ρ)

/-- Program 13: the kernel and the reference end with the same array. -/
theorem equal13 : Cert.algebraic_Kernel13Ideal_Reference13Ideal (hKernel13Ideal := Kernel13Ideal.Gen.facts) (hReference13Ideal := Reference13Ideal.Gen.facts) := by
  intro m ρ m' ρ' _ hs
  refine ⟨fun c => P13.full (P13.A0 m c) (P13.A1 m c),
    (θ_run _ _ _).mono (fun _ h c => ⟨(h c).1.trans (P13.array m c), (h c).2⟩) (Kernel13Ideal.Value.run m ρ),
    (θ_run _ _ _).mono (fun _ h c => ⟨(h c).1.trans ((Reference13Ideal.Read.val_main_v7_eq _ _).trans ((P13.expected _ _).trans ?_)), (h c).2⟩) (Reference13Ideal.Value.run m' ρ')⟩
  rw [(hs c).1, (hs c).2]

/-- Program 13's reference runs to its end. -/
theorem frame13 : Cert.quiescent_Reference13Ideal (hReference13Ideal := Reference13Ideal.Gen.facts) :=
  fun m ρ _ => (θ_run _ _ _).mono (fun r h => ⟨fun c => (h c).2, Idealize.ShloMosaic.sem_eq_zero_of_no_sems (by decide) r.2⟩) (Reference13Ideal.Value.run m ρ)

/-- Program 14: the kernel and the reference end with the same array. -/
theorem equal14 : Cert.algebraic_Kernel14Ideal_Reference14Ideal (hKernel14Ideal := Kernel14Ideal.Gen.facts) (hReference14Ideal := Reference14Ideal.Gen.facts) := by
  intro m ρ m' ρ' _ hs
  refine ⟨fun c => P14.full (P14.A0 m c) (P14.A1 m c),
    (θ_run _ _ _).mono (fun _ h c => ⟨(h c).1.trans (P14.array m c), (h c).2⟩) (Kernel14Ideal.Value.run_blocks m ρ),
    (θ_run _ _ _).mono (fun _ h c => ⟨(h c).1.trans ((Reference14Ideal.Read.val_main_v2_eq _ _).trans ((P14.expected _ _).trans ?_)), (h c).2⟩) (Reference14Ideal.Value.run m' ρ')⟩
  rw [(hs c).1, (hs c).2]

/-- Program 14's reference runs to its end. -/
theorem frame14 : Cert.quiescent_Reference14Ideal (hReference14Ideal := Reference14Ideal.Gen.facts) :=
  fun m ρ _ => (θ_run _ _ _).mono (fun r h => ⟨fun c => (h c).2, Idealize.ShloMosaic.sem_eq_zero_of_no_sems (by decide) r.2⟩) (Reference14Ideal.Value.run m ρ)

/-- Program 15: the kernel and the reference end with the same array. -/
theorem equal15 : Cert.algebraic_Kernel15Ideal_Reference15Ideal (hKernel15Ideal := Kernel15Ideal.Gen.facts) (hReference15Ideal := Reference15Ideal.Gen.facts) := by
  intro m ρ m' ρ' _ hs
  refine ⟨fun c => P15.full (P15.A0 m c) (P15.A1 m c) (P15.A2 m c),
    (θ_run _ _ _).mono (fun _ h c => ⟨(h c).1.trans (P15.array m c), (h c).2⟩) (Kernel15Ideal.Value.run m ρ),
    (θ_run _ _ _).mono (fun _ h c => ⟨(h c).1.trans ((Reference15Ideal.Read.val_main_v5_eq _ _ _).trans ((P15.expected _ _ _).trans ?_)), (h c).2⟩) (Reference15Ideal.Value.run m' ρ')⟩
  rw [(hs c).1, (hs c).2.1, (hs c).2.2]

/-- Program 15's reference runs to its end. -/
theorem frame15 : Cert.quiescent_Reference15Ideal (hReference15Ideal := Reference15Ideal.Gen.facts) :=
  fun m ρ _ => (θ_run _ _ _).mono (fun r h => ⟨fun c => (h c).2, Idealize.ShloMosaic.sem_eq_zero_of_no_sems (by decide) r.2⟩) (Reference15Ideal.Value.run m ρ)

/-- Program 16: the kernel and the reference end with the same array. -/
theorem equal16 : Cert.algebraic_Kernel16Ideal_Reference16Ideal (hKernel16Ideal := Kernel16Ideal.Gen.facts) (hReference16Ideal := Reference16Ideal.Gen.facts) := by
  intro m ρ m' ρ' _ hs
  refine ⟨fun c => P16.full (P16.A0 m c) (P16.A1 m c),
    (θ_run _ _ _).mono (fun _ h c => ⟨(h c).1.trans (P16.array m c), (h c).2⟩) (Kernel16Ideal.Value.run m ρ),
    (θ_run _ _ _).mono (fun _ h c => ⟨(h c).1.trans ((Reference16Ideal.Read.val_main_v8_eq _ _).trans ((P16.expected _ _).trans ?_)), (h c).2⟩) (Reference16Ideal.Value.run m' ρ')⟩
  rw [(hs c).1, (hs c).2]

/-- Program 16's reference runs to its end. -/
theorem frame16 : Cert.quiescent_Reference16Ideal (hReference16Ideal := Reference16Ideal.Gen.facts) :=
  fun m ρ _ => (θ_run _ _ _).mono (fun r h => ⟨fun c => (h c).2, Idealize.ShloMosaic.sem_eq_zero_of_no_sems (by decide) r.2⟩) (Reference16Ideal.Value.run m ρ)

/-- Program 17: the kernel and the reference end with the same array. -/
theorem equal17 : Cert.algebraic_Kernel17Ideal_Reference17Ideal (hKernel17Ideal := Kernel17Ideal.Gen.facts) (hReference17Ideal := Reference17Ideal.Gen.facts) := by
  intro m ρ m' ρ' _ hs
  refine ⟨fun c => P17.full (P17.A0 m c) (P17.A1 m c),
    (θ_run _ _ _).mono (fun _ h c => ⟨(h c).1.trans (P17.array m c), (h c).2⟩) (Kernel17Ideal.Value.run m ρ),
    (θ_run _ _ _).mono (fun _ h c => ⟨(h c).1.trans ((Reference17Ideal.Read.val_main_v2_eq _ _).trans ((P17.expected _ _).trans ?_)), (h c).2⟩) (Reference17Ideal.Value.run m' ρ')⟩
  rw [(hs c).1, (hs c).2]

/-- Program 17's reference runs to its end. -/
theorem frame17 : Cert.quiescent_Reference17Ideal (hReference17Ideal := Reference17Ideal.Gen.facts) :=
  fun m ρ _ => (θ_run _ _ _).mono (fun r h => ⟨fun c => (h c).2, Idealize.ShloMosaic.sem_eq_zero_of_no_sems (by decide) r.2⟩) (Reference17Ideal.Value.run m ρ)

/-- Program 18: the kernel and the reference end with the same array. -/
theorem equal18 : Cert.algebraic_Kernel18Ideal_Reference18Ideal (hKernel18Ideal := Kernel18Ideal.Gen.facts) (hReference18Ideal := Reference18Ideal.Gen.facts) := by
  intro m ρ m' ρ' _ hs
  refine ⟨fun c => P18.full (P18.A0 m c) (P18.A1 m c),
    (θ_run _ _ _).mono (fun _ h c => ⟨(h c).1.trans (P18.array m c), (h c).2⟩) (Kernel18Ideal.Value.run_blocks m ρ),
    (θ_run _ _ _).mono (fun _ h c => ⟨(h c).1.trans ((Reference18Ideal.Read.val_main_v4_eq _ _).trans ((P18.expected _ _).trans ?_)), (h c).2⟩) (Reference18Ideal.Value.run m' ρ')⟩
  rw [(hs c).1, (hs c).2]

/-- Program 18's reference runs to its end. -/
theorem frame18 : Cert.quiescent_Reference18Ideal (hReference18Ideal := Reference18Ideal.Gen.facts) :=
  fun m ρ _ => (θ_run _ _ _).mono (fun r h => ⟨fun c => (h c).2, Idealize.ShloMosaic.sem_eq_zero_of_no_sems (by decide) r.2⟩) (Reference18Ideal.Value.run m ρ)

/-- Program 19: the kernel and the reference end with the same array. -/
theorem equal19 : Cert.algebraic_Kernel19Ideal_Reference19Ideal (hKernel19Ideal := Kernel19Ideal.Gen.facts) (hReference19Ideal := Reference19Ideal.Gen.facts) := by
  intro m ρ m' ρ' _ hs
  refine ⟨fun c => P19.full (P19.A0 m c) (P19.A1 m c),
    (θ_run _ _ _).mono (fun _ h c => ⟨(h c).1.trans (P19.array m c), (h c).2⟩) (Kernel19Ideal.Value.run m ρ),
    (θ_run _ _ _).mono (fun _ h c => ⟨(h c).1.trans ((Reference19Ideal.Read.val_main_v7_eq _ _).trans ((P19.expected _ _).trans ?_)), (h c).2⟩) (Reference19Ideal.Value.run m' ρ')⟩
  rw [(hs c).1, (hs c).2]

/-- Program 19's reference runs to its end. -/
theorem frame19 : Cert.quiescent_Reference19Ideal (hReference19Ideal := Reference19Ideal.Gen.facts) :=
  fun m ρ _ => (θ_run _ _ _).mono (fun r h => ⟨fun c => (h c).2, Idealize.ShloMosaic.sem_eq_zero_of_no_sems (by decide) r.2⟩) (Reference19Ideal.Value.run m ρ)

end Cert.Products

end
-- ==== Proof.Layer1.lean ====
/-
The second feed-forward block's products: each is the first block's call under another name, so its equation is the first block's.
-/
module

public import proofs.«01_k».proof.Proof.Products
public import proofs.«01_k».proof.Proof.Gen.Kernel20Ideal
public import proofs.«01_k».proof.Proof.Gen.Reference20Ideal
public import proofs.«01_k».proof.Proof.Gen.Kernel21Ideal
public import proofs.«01_k».proof.Proof.Gen.Reference21Ideal
public import proofs.«01_k».proof.Proof.Gen.Kernel22Ideal
public import proofs.«01_k».proof.Proof.Gen.Reference22Ideal
public import proofs.«01_k».proof.Proof.Gen.Kernel23Ideal
public import proofs.«01_k».proof.Proof.Gen.Reference23Ideal
public import proofs.«01_k».proof.Proof.Gen.Kernel24Ideal
public import proofs.«01_k».proof.Proof.Gen.Reference24Ideal
public import proofs.«01_k».proof.Proof.Gen.Kernel25Ideal
public import proofs.«01_k».proof.Proof.Gen.Reference25Ideal

@[expose] public section

noncomputable section

namespace Cert.Products

open Idealize.ShloMosaic Idealize.ShloMosaic.TcCoe Idealize.SL.Sem

/-- What holds with one body table holds with an equal one. -/
theorem moved {α : Type _} (T : α → Prop) {d d' : α} (h : d = d') (r : T d) : T d' := h ▸ r

section
local instance : Kernel20Ideal.Facts := Kernel20Ideal.Gen.facts
local instance : Kernel2Ideal.Facts := Kernel2Ideal.Gen.facts

/-- The two calls of `w13d` have the same body. -/
theorem body20 : Kernel2Ideal.defs₀ (F := Ideal) = Kernel20Ideal.defs₀ (F := Ideal) := by
  unfold Kernel2Ideal.defs₀ Kernel20Ideal.defs₀
  refine congrArg _ (funext fun l => funext fun x => ?_)
  match l, x with
  | 0, (t, s) => rfl

theorem defs20 : Kernel2Ideal.defs (F := Ideal) = Kernel20Ideal.defs (F := Ideal) := congrArg (Pipeline.defs _) body20

end

/-- Program 20: the kernel and the reference end with the same array. -/
theorem equal20 : Cert.algebraic_Kernel20Ideal_Reference20Ideal (hKernel20Ideal := Kernel20Ideal.Gen.facts) (hReference20Ideal := Reference20Ideal.Gen.facts) := by
  intro m ρ m' ρ' p hs
  obtain ⟨v, hk, hr⟩ := equal2 m ρ m' ρ' p hs
  exact ⟨v, moved (fun d => θ_run d (onTc (τ := Kernel20Ideal.τ) (Kernel20Ideal.main (F := Ideal))) ⟨m, fun _ => 0, ρ⟩ _) defs20 hk, hr⟩

/-- Program 20's reference runs to its end. -/
theorem frame20 : Cert.quiescent_Reference20Ideal (hReference20Ideal := Reference20Ideal.Gen.facts) := frame2

section
local instance : Kernel21Ideal.Facts := Kernel21Ideal.Gen.facts
local instance : Kernel3Ideal.Facts := Kernel3Ideal.Gen.facts

/-- The two calls of `w13w` have the same body. -/
theorem body21 : Kernel3Ideal.defs₀ (F := Ideal) = Kernel21Ideal.defs₀ (F := Ideal) := by
  unfold Kernel3Ideal.defs₀ Kernel21Ideal.defs₀
  refine congrArg _ (funext fun l => funext fun x => ?_)
  match l, x with
  | 0, (t, s) => rfl

theorem defs21 : Kernel3Ideal.defs (F := Ideal) = Kernel21Ideal.defs (F := Ideal) := congrArg (Pipeline.defs _) body21

end

/-- Program 21: the kernel and the reference end with the same array. -/
theorem equal21 : Cert.algebraic_Kernel21Ideal_Reference21Ideal (hKernel21Ideal := Kernel21Ideal.Gen.facts) (hReference21Ideal := Reference21Ideal.Gen.facts) := by
  intro m ρ m' ρ' p hs
  obtain ⟨v, hk, hr⟩ := equal3 m ρ m' ρ' p hs
  exact ⟨v, moved (fun d => θ_run d (onTc (τ := Kernel21Ideal.τ) (Kernel21Ideal.main (F := Ideal))) ⟨m, fun _ => 0, ρ⟩ _) defs21 hk, hr⟩

/-- Program 21's reference runs to its end. -/
theorem frame21 : Cert.quiescent_Reference21Ideal (hReference21Ideal := Reference21Ideal.Gen.facts) := frame3

section
local instance : Kernel22Ideal.Facts := Kernel22Ideal.Gen.facts
local instance : Kernel4Ideal.Facts := Kernel4Ideal.Gen.facts

/-- The two calls of `w2d` have the same body. -/
theorem body22 : Kernel4Ideal.defs₀ (F := Ideal) = Kernel22Ideal.defs₀ (F := Ideal) := by
  unfold Kernel4Ideal.defs₀ Kernel22Ideal.defs₀
  refine congrArg _ (funext fun l => funext fun x => ?_)
  match l, x with
  | 0, (t, s) => rfl

theorem defs22 : Kernel4Ideal.defs (F := Ideal) = Kernel22Ideal.defs (F := Ideal) := congrArg (Pipeline.defs _) body22

end

/-- Program 22: the kernel and the reference end with the same array. -/
theorem equal22 : Cert.algebraic_Kernel22Ideal_Reference22Ideal (hKernel22Ideal := Kernel22Ideal.Gen.facts) (hReference22Ideal := Reference22Ideal.Gen.facts) := by
  intro m ρ m' ρ' p hs
  obtain ⟨v, hk, hr⟩ := equal4 m ρ m' ρ' p hs
  exact ⟨v, moved (fun d => θ_run d (onTc (τ := Kernel22Ideal.τ) (Kernel22Ideal.main (F := Ideal))) ⟨m, fun _ => 0, ρ⟩ _) defs22 hk, hr⟩

/-- Program 22's reference runs to its end. -/
theorem frame22 : Cert.quiescent_Reference22Ideal (hReference22Ideal := Reference22Ideal.Gen.facts) := frame4

section
local instance : Kernel23Ideal.Facts := Kernel23Ideal.Gen.facts
local instance : Kernel5Ideal.Facts := Kernel5Ideal.Gen.facts

/-- The two calls of `w2w` have the same body. -/
theorem body23 : Kernel5Ideal.defs₀ (F := Ideal) = Kernel23Ideal.defs₀ (F := Ideal) := by
  unfold Kernel5Ideal.defs₀ Kernel23Ideal.defs₀
  refine congrArg _ (funext fun l => funext fun x => ?_)
  match l, x with
  | 0, (t, s) => rfl

theorem defs23 : Kernel5Ideal.defs (F := Ideal) = Kernel23Ideal.defs (F := Ideal) := congrArg (Pipeline.defs _) body23

end

/-- Program 23: the kernel and the reference end with the same array. -/
theorem equal23 : Cert.algebraic_Kernel23Ideal_Reference23Ideal (hKernel23Ideal := Kernel23Ideal.Gen.facts) (hReference23Ideal := Reference23Ideal.Gen.facts) := by
  intro m ρ m' ρ' p hs
  obtain ⟨v, hk, hr⟩ := equal5 m ρ m' ρ' p hs
  exact ⟨v, moved (fun d => θ_run d (onTc (τ := Kernel23Ideal.τ) (Kernel23Ideal.main (F := Ideal))) ⟨m, fun _ => 0, ρ⟩ _) defs23 hk, hr⟩

/-- Program 23's reference runs to its end. -/
theorem frame23 : Cert.quiescent_Reference23Ideal (hReference23Ideal := Reference23Ideal.Gen.facts) := frame5

section
local instance : Kernel24Ideal.Facts := Kernel24Ideal.Gen.facts
local instance : Kernel6Ideal.Facts := Kernel6Ideal.Gen.facts

/-- The two calls of `w13` have the same body. -/
theorem body24 : Kernel6Ideal.defs₀ (F := Ideal) = Kernel24Ideal.defs₀ (F := Ideal) := by
  unfold Kernel6Ideal.defs₀ Kernel24Ideal.defs₀
  refine congrArg _ (funext fun l => funext fun x => ?_)
  match l, x with
  | 0, (t, s) => rfl

theorem defs24 : Kernel6Ideal.defs (F := Ideal) = Kernel24Ideal.defs (F := Ideal) := congrArg (Pipeline.defs _) body24

end

/-- Program 24: the kernel and the reference end with the same array. -/
theorem equal24 : Cert.algebraic_Kernel24Ideal_Reference24Ideal (hKernel24Ideal := Kernel24Ideal.Gen.facts) (hReference24Ideal := Reference24Ideal.Gen.facts) := by
  intro m ρ m' ρ' p hs
  obtain ⟨v, hk, hr⟩ := equal6 m ρ m' ρ' p hs
  exact ⟨v, moved (fun d => θ_run d (onTc (τ := Kernel24Ideal.τ) (Kernel24Ideal.main (F := Ideal))) ⟨m, fun _ => 0, ρ⟩ _) defs24 hk, hr⟩

/-- Program 24's reference runs to its end. -/
theorem frame24 : Cert.quiescent_Reference24Ideal (hReference24Ideal := Reference24Ideal.Gen.facts) := frame6

section
local instance : Kernel25Ideal.Facts := Kernel25Ideal.Gen.facts
local instance : Kernel7Ideal.Facts := Kernel7Ideal.Gen.facts

/-- The two calls of `w2` have the same body. -/
theorem body25 : Kernel7Ideal.defs₀ (F := Ideal) = Kernel25Ideal.defs₀ (F := Ideal) := by
  unfold Kernel7Ideal.defs₀ Kernel25Ideal.defs₀
  refine congrArg _ (funext fun l => funext fun x => ?_)
  match l, x with
  | 0, (t, s) => rfl

theorem defs25 : Kernel7Ideal.defs (F := Ideal) = Kernel25Ideal.defs (F := Ideal) := congrArg (Pipeline.defs _) body25

end

/-- Program 25: the kernel and the reference end with the same array. -/
theorem equal25 : Cert.algebraic_Kernel25Ideal_Reference25Ideal (hKernel25Ideal := Kernel25Ideal.Gen.facts) (hReference25Ideal := Reference25Ideal.Gen.facts) := by
  intro m ρ m' ρ' p hs
  obtain ⟨v, hk, hr⟩ := equal7 m ρ m' ρ' p hs
  exact ⟨v, moved (fun d => θ_run d (onTc (τ := Kernel25Ideal.τ) (Kernel25Ideal.main (F := Ideal))) ⟨m, fun _ => 0, ρ⟩ _) defs25 hk, hr⟩

/-- Program 25's reference runs to its end. -/
theorem frame25 : Cert.quiescent_Reference25Ideal (hReference25Ideal := Reference25Ideal.Gen.facts) := frame7

end Cert.Products

end
-- ==== Proof.Update.lean ====
/-
The optimiser's step at one entry, from the gradient `g`, the weight `w` and the moments `m`, `v`.
-/
module

public import Idealize.ShloMosaic.PureOps.Ideal
public import Idealize.ShloMosaic.Lib.Pointwise
public import Idealize.ShloMosaic.Lib.MatmulPlain
public import Idealize.ShloMosaic.Lib.StableHlo.Run
public import Mathlib.Algebra.BigOperators.Fin
public import Mathlib.Algebra.BigOperators.Intervals

@[expose] public section

noncomputable section

namespace Cert.Updates

open Idealize.ShloMosaic

/-- The new first moment. -/
def first (g m : EReal) : EReal := FloatOps.ofBits (F := Ideal) .f32 0x3F666666#32 * m + FloatOps.ofBits (F := Ideal) .f32 0x3DCCCCCD#32 * g

/-- The new second moment. -/
def second (g v : EReal) : EReal := FloatOps.ofBits (F := Ideal) .f32 0x3F7FBE77#32 * v + FloatOps.ofBits (F := Ideal) .f32 0x3A83126F#32 * (g * g)

/-- The step of the weight: both moments rescaled, their quotient, the weight's decay. -/
def delta (g w m v : EReal) : EReal :=
  FloatOps.ofBits (F := Ideal) .f32 0xBA83126F#32
    * (FloatOps.divf (F := Ideal) (φ := .f32) (FloatOps.divf (F := Ideal) (φ := .f32) (first g m) (FloatOps.ofBits (F := Ideal) .f32 0x3F26BD02#32))
        (FloatOps.sqrt (F := Ideal) (φ := .f32) (FloatOps.divf (F := Ideal) (φ := .f32) (second g v) (FloatOps.ofBits (F := Ideal) .f32 0x3C231ACC#32)) + FloatOps.ofBits (F := Ideal) .f32 0x322BCC77#32)
      + FloatOps.ofBits (F := Ideal) .f32 0x3C23D70A#32 * w)

end Cert.Updates

end
-- ==== Proof.Update26.lean ====
/-
The optimiser's update of the array `w_ada`.
-/
module

public import proofs.«01_k».proof.Proof.Sums
public import proofs.«01_k».proof.Proof.Update
public import proofs.«01_k».proof.Proof.Gen.Kernel26Ideal.Value

@[expose] public section

set_option maxRecDepth 65536

noncomputable section

namespace Cert.Updates.P26

open Cert.Kernel26Ideal Cert.Kernel26Ideal.Gen Cert.Products Idealize.ShloMosaic Idealize.ShloMosaic.TcCoe Idealize.ShloMosaic.Pipeline
open Idealize.ShloMosaic.Tactic

/-- An array as rows. -/
abbrev rows (a : S2x2048x1536.Idx → EReal) : S4096x1536.Idx → EReal := shapeCast S4096x1536 a shapeCasts_S2x2048x1536_S4096x1536

theorem at_5 : ∀ t : Fin cfg0.N, win0_5.index t = ![t.val, 0] := by decide +kernel

/-- Every entry lies in the block of some grid point. -/
theorem cell (i : S4096x1536.Idx) : ∃ (t : Fin cfg0.N) (y : S128x1536.Idx), ((cfg0.win 5).blk t).view.emb y = i := by
  have h0 : (i 0).val < 4096 := (i 0).isLt
  have h1 : (i 1).val < 1536 := (i 1).isLt
  have hp : (i 0).val / 128 < cfg0.N := lt_of_lt_of_eq (show _ < 32 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 1536 + 1 * (i 1).val = _
    rw [e]
    show 0 * 1536 + 1 * (i 1).val = _
    omega

section array
variable (m : (ℓ : Loc nD τ sig) → Buf (Elt Ideal) ℓ) (c : Dev nD)

/-- The gradient, the weights and the two moments. -/
abbrev A0 : S2x2048x1536.Idx → EReal := m ((c.tc : Thread nD τ).loc main_arg0)
abbrev A1 : S2x2048x1536.Idx → EReal := m ((c.tc : Thread nD τ).loc main_arg1)
abbrev A2 : S2x2048x1536.Idx → EReal := m ((c.tc : Thread nD τ).loc main_arg2)
abbrev A3 : S2x2048x1536.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x1536 .f32) (y : S128x1536.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x1536) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x1536 .f32) (y : S128x1536.Idx) : out0_5 x0 x1 x2 x3 y = first (x0 y) (x2 y) := by
  unfold out0_5
  rw [View.canon_unit_zero z2]
  unfold k0_pay2 k0_pay1
  simp only [View.ld_unit_zero (S := S128x1536) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x1536 .f32) (y : S128x1536.Idx) : out0_6 x0 x1 x2 x3 y = second (x0 y) (x3 y) := by
  unfold out0_6
  rw [View.canon_unit_zero z2]
  unfold k0_pay3 k0_pay1
  simp only [View.ld_unit_zero (S := S128x1536) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P26

end
-- ==== Proof.Update27.lean ====
/-
The optimiser's update of the array `ev_w_in`.
-/
module

public import proofs.«01_k».proof.Proof.Sums
public import proofs.«01_k».proof.Proof.Update
public import proofs.«01_k».proof.Proof.Gen.Kernel27Ideal.Value

@[expose] public section

set_option maxRecDepth 65536

noncomputable section

namespace Cert.Updates.P27

open Cert.Kernel27Ideal Cert.Kernel27Ideal.Gen Cert.Products Idealize.ShloMosaic Idealize.ShloMosaic.TcCoe Idealize.ShloMosaic.Pipeline
open Idealize.ShloMosaic.Tactic

/-- An array as rows. -/
abbrev rows (a : S1x2048x768.Idx → EReal) : S2048x768.Idx → EReal := shapeCast S2048x768 a shapeCasts_S1x2048x768_S2048x768

theorem at_5 : ∀ t : Fin cfg0.N, win0_5.index t = ![t.val, 0] := by decide +kernel

/-- Every entry lies in the block of some grid point. -/
theorem cell (i : S2048x768.Idx) : ∃ (t : Fin cfg0.N) (y : S128x768.Idx), ((cfg0.win 5).blk t).view.emb y = i := by
  have h0 : (i 0).val < 2048 := (i 0).isLt
  have h1 : (i 1).val < 768 := (i 1).isLt
  have hp : (i 0).val / 128 < cfg0.N := lt_of_lt_of_eq (show _ < 16 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 768 + 1 * (i 1).val = _
    rw [e]
    show 0 * 768 + 1 * (i 1).val = _
    omega

section array
variable (m : (ℓ : Loc nD τ sig) → Buf (Elt Ideal) ℓ) (c : Dev nD)

/-- The gradient, the weights and the two moments. -/
abbrev A0 : S1x2048x768.Idx → EReal := m ((c.tc : Thread nD τ).loc main_arg0)
abbrev A1 : S1x2048x768.Idx → EReal := m ((c.tc : Thread nD τ).loc main_arg1)
abbrev A2 : S1x2048x768.Idx → EReal := m ((c.tc : Thread nD τ).loc main_arg2)
abbrev A3 : S1x2048x768.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x768 .f32) (y : S128x768.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x768) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x768 .f32) (y : S128x768.Idx) : out0_5 x0 x1 x2 x3 y = first (x0 y) (x2 y) := by
  unfold out0_5
  rw [View.canon_unit_zero z2]
  unfold k0_pay2 k0_pay1
  simp only [View.ld_unit_zero (S := S128x768) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x768 .f32) (y : S128x768.Idx) : out0_6 x0 x1 x2 x3 y = second (x0 y) (x3 y) := by
  unfold out0_6
  rw [View.canon_unit_zero z2]
  unfold k0_pay3 k0_pay1
  simp only [View.ld_unit_zero (S := S128x768) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P27

end
-- ==== Proof.Update28.lean ====
/-
The optimiser's update of the array `ev_w_out`.
-/
module

public import proofs.«01_k».proof.Proof.Sums
public import proofs.«01_k».proof.Proof.Update
public import proofs.«01_k».proof.Proof.Gen.Kernel28Ideal.Value

@[expose] public section

set_option maxRecDepth 65536

noncomputable section

namespace Cert.Updates.P28

open Cert.Kernel28Ideal Cert.Kernel28Ideal.Gen Cert.Products Idealize.ShloMosaic Idealize.ShloMosaic.TcCoe Idealize.ShloMosaic.Pipeline
open Idealize.ShloMosaic.Tactic

/-- An array as rows. -/
abbrev rows (a : S1x256x2048.Idx → EReal) : S256x2048.Idx → EReal := shapeCast S256x2048 a shapeCasts_S1x256x2048_S256x2048

theorem at_5 : ∀ t : Fin cfg0.N, win0_5.index t = ![t.val, 0] := by decide +kernel

/-- Every entry lies in the block of some grid point. -/
theorem cell (i : S256x2048.Idx) : ∃ (t : Fin cfg0.N) (y : S128x2048.Idx), ((cfg0.win 5).blk t).view.emb y = i := by
  have h0 : (i 0).val < 256 := (i 0).isLt
  have h1 : (i 1).val < 2048 := (i 1).isLt
  have hp : (i 0).val / 128 < cfg0.N := lt_of_lt_of_eq (show _ < 2 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 2048 + 1 * (i 1).val = _
    rw [e]
    show 0 * 2048 + 1 * (i 1).val = _
    omega

section array
variable (m : (ℓ : Loc nD τ sig) → Buf (Elt Ideal) ℓ) (c : Dev nD)

/-- The gradient, the weights and the two moments. -/
abbrev A0 : S1x256x2048.Idx → EReal := m ((c.tc : Thread nD τ).loc main_arg0)
abbrev A1 : S1x256x2048.Idx → EReal := m ((c.tc : Thread nD τ).loc main_arg1)
abbrev A2 : S1x256x2048.Idx → EReal := m ((c.tc : Thread nD τ).loc main_arg2)
abbrev A3 : S1x256x2048.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x2048 .f32) (y : S128x2048.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x2048) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x2048 .f32) (y : S128x2048.Idx) : out0_5 x0 x1 x2 x3 y = first (x0 y) (x2 y) := by
  unfold out0_5
  rw [View.canon_unit_zero z2]
  unfold k0_pay2 k0_pay1
  simp only [View.ld_unit_zero (S := S128x2048) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x2048 .f32) (y : S128x2048.Idx) : out0_6 x0 x1 x2 x3 y = second (x0 y) (x3 y) := by
  unfold out0_6
  rw [View.canon_unit_zero z2]
  unfold k0_pay3 k0_pay1
  simp only [View.ld_unit_zero (S := S128x2048) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P28

end
-- ==== Proof.Update29.lean ====
/-
The optimiser's update of the array `od_w_in`.
-/
module

public import proofs.«01_k».proof.Proof.Sums
public import proofs.«01_k».proof.Proof.Update
public import proofs.«01_k».proof.Proof.Gen.Kernel29Ideal.Value

@[expose] public section

set_option maxRecDepth 65536

noncomputable section

namespace Cert.Updates.P29

open Cert.Kernel29Ideal Cert.Kernel29Ideal.Gen Cert.Products Idealize.ShloMosaic Idealize.ShloMosaic.TcCoe Idealize.ShloMosaic.Pipeline
open Idealize.ShloMosaic.Tactic

/-- An array as rows. -/
abbrev rows (a : S1x2048x1552.Idx → EReal) : S2048x1552.Idx → EReal := shapeCast S2048x1552 a shapeCasts_S1x2048x1552_S2048x1552

theorem at_5 : ∀ t : Fin cfg0.N, win0_5.index t = ![t.val, 0] := by decide +kernel

/-- Every entry lies in the block of some grid point. -/
theorem cell (i : S2048x1552.Idx) : ∃ (t : Fin cfg0.N) (y : S128x1552.Idx), ((cfg0.win 5).blk t).view.emb y = i := by
  have h0 : (i 0).val < 2048 := (i 0).isLt
  have h1 : (i 1).val < 1552 := (i 1).isLt
  have hp : (i 0).val / 128 < cfg0.N := lt_of_lt_of_eq (show _ < 16 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 1552 + 1 * (i 1).val = _
    rw [e]
    show 0 * 1552 + 1 * (i 1).val = _
    omega

section array
variable (m : (ℓ : Loc nD τ sig) → Buf (Elt Ideal) ℓ) (c : Dev nD)

/-- The gradient, the weights and the two moments. -/
abbrev A0 : S1x2048x1552.Idx → EReal := m ((c.tc : Thread nD τ).loc main_arg0)
abbrev A1 : S1x2048x1552.Idx → EReal := m ((c.tc : Thread nD τ).loc main_arg1)
abbrev A2 : S1x2048x1552.Idx → EReal := m ((c.tc : Thread nD τ).loc main_arg2)
abbrev A3 : S1x2048x1552.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x1552 .f32) (y : S128x1552.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x1552) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x1552 .f32) (y : S128x1552.Idx) : out0_5 x0 x1 x2 x3 y = first (x0 y) (x2 y) := by
  unfold out0_5
  rw [View.canon_unit_zero z2]
  unfold k0_pay2 k0_pay1
  simp only [View.ld_unit_zero (S := S128x1552) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x1552 .f32) (y : S128x1552.Idx) : out0_6 x0 x1 x2 x3 y = second (x0 y) (x3 y) := by
  unfold out0_6
  rw [View.canon_unit_zero z2]
  unfold k0_pay3 k0_pay1
  simp only [View.ld_unit_zero (S := S128x1552) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P29

end
-- ==== Proof.Update30.lean ====
/-
The optimiser's update of the array `od_w_out`.
-/
module

public import proofs.«01_k».proof.Proof.Sums
public import proofs.«01_k».proof.Proof.Update
public import proofs.«01_k».proof.Proof.Gen.Kernel30Ideal.Value

@[expose] public section

set_option maxRecDepth 65536

noncomputable section

namespace Cert.Updates.P30

open Cert.Kernel30Ideal Cert.Kernel30Ideal.Gen Cert.Products Idealize.ShloMosaic Idealize.ShloMosaic.TcCoe Idealize.ShloMosaic.Pipeline
open Idealize.ShloMosaic.Tactic

/-- An array as rows. -/
abbrev rows (a : S1x512x2048.Idx → EReal) : S512x2048.Idx → EReal := shapeCast S512x2048 a shapeCasts_S1x512x2048_S512x2048

theorem at_5 : ∀ t : Fin cfg0.N, win0_5.index t = ![t.val, 0] := by decide +kernel

/-- Every entry lies in the block of some grid point. -/
theorem cell (i : S512x2048.Idx) : ∃ (t : Fin cfg0.N) (y : S128x2048.Idx), ((cfg0.win 5).blk t).view.emb y = i := by
  have h0 : (i 0).val < 512 := (i 0).isLt
  have h1 : (i 1).val < 2048 := (i 1).isLt
  have hp : (i 0).val / 128 < cfg0.N := lt_of_lt_of_eq (show _ < 4 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 2048 + 1 * (i 1).val = _
    rw [e]
    show 0 * 2048 + 1 * (i 1).val = _
    omega

section array
variable (m : (ℓ : Loc nD τ sig) → Buf (Elt Ideal) ℓ) (c : Dev nD)

/-- The gradient, the weights and the two moments. -/
abbrev A0 : S1x512x2048.Idx → EReal := m ((c.tc : Thread nD τ).loc main_arg0)
abbrev A1 : S1x512x2048.Idx → EReal := m ((c.tc : Thread nD τ).loc main_arg1)
abbrev A2 : S1x512x2048.Idx → EReal := m ((c.tc : Thread nD τ).loc main_arg2)
abbrev A3 : S1x512x2048.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x2048 .f32) (y : S128x2048.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x2048) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x2048 .f32) (y : S128x2048.Idx) : out0_5 x0 x1 x2 x3 y = first (x0 y) (x2 y) := by
  unfold out0_5
  rw [View.canon_unit_zero z2]
  unfold k0_pay2 k0_pay1
  simp only [View.ld_unit_zero (S := S128x2048) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x2048 .f32) (y : S128x2048.Idx) : out0_6 x0 x1 x2 x3 y = second (x0 y) (x3 y) := by
  unfold out0_6
  rw [View.canon_unit_zero z2]
  unfold k0_pay3 k0_pay1
  simp only [View.ld_unit_zero (S := S128x2048) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P30

end
-- ==== Proof.Update31.lean ====
/-
The optimiser's update of the array `ffn_w13`.
-/
module

public import proofs.«01_k».proof.Proof.Sums
public import proofs.«01_k».proof.Proof.Update
public import proofs.«01_k».proof.Proof.Gen.Kernel31Ideal.Value

@[expose] public section

set_option maxRecDepth 65536

noncomputable section

namespace Cert.Updates.P31

open Cert.Kernel31Ideal Cert.Kernel31Ideal.Gen Cert.Products Idealize.ShloMosaic Idealize.ShloMosaic.TcCoe Idealize.ShloMosaic.Pipeline
open Idealize.ShloMosaic.Tactic

/-- An array as rows. -/
abbrev rows (a : S2x2048x1408.Idx → EReal) : S4096x1408.Idx → EReal := shapeCast S4096x1408 a shapeCasts_S2x2048x1408_S4096x1408

theorem at_5 : ∀ t : Fin cfg0.N, win0_5.index t = ![t.val, 0] := by decide +kernel

/-- Every entry lies in the block of some grid point. -/
theorem cell (i : S4096x1408.Idx) : ∃ (t : Fin cfg0.N) (y : S128x1408.Idx), ((cfg0.win 5).blk t).view.emb y = i := by
  have h0 : (i 0).val < 4096 := (i 0).isLt
  have h1 : (i 1).val < 1408 := (i 1).isLt
  have hp : (i 0).val / 128 < cfg0.N := lt_of_lt_of_eq (show _ < 32 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 1408 + 1 * (i 1).val = _
    rw [e]
    show 0 * 1408 + 1 * (i 1).val = _
    omega

section array
variable (m : (ℓ : Loc nD τ sig) → Buf (Elt Ideal) ℓ) (c : Dev nD)

/-- The gradient, the weights and the two moments. -/
abbrev A0 : S2x2048x1408.Idx → EReal := m ((c.tc : Thread nD τ).loc main_arg0)
abbrev A1 : S2x2048x1408.Idx → EReal := m ((c.tc : Thread nD τ).loc main_arg1)
abbrev A2 : S2x2048x1408.Idx → EReal := m ((c.tc : Thread nD τ).loc main_arg2)
abbrev A3 : S2x2048x1408.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x1408 .f32) (y : S128x1408.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x1408) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x1408 .f32) (y : S128x1408.Idx) : out0_5 x0 x1 x2 x3 y = first (x0 y) (x2 y) := by
  unfold out0_5
  rw [View.canon_unit_zero z2]
  unfold k0_pay2 k0_pay1
  simp only [View.ld_unit_zero (S := S128x1408) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x1408 .f32) (y : S128x1408.Idx) : out0_6 x0 x1 x2 x3 y = second (x0 y) (x3 y) := by
  unfold out0_6
  rw [View.canon_unit_zero z2]
  unfold k0_pay3 k0_pay1
  simp only [View.ld_unit_zero (S := S128x1408) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P31

end
-- ==== Proof.Update32.lean ====
/-
The optimiser's update of the array `ffn_w2`.
-/
module

public import proofs.«01_k».proof.Proof.Sums
public import proofs.«01_k».proof.Proof.Update
public import proofs.«01_k».proof.Proof.Gen.Kernel32Ideal.Value

@[expose] public section

set_option maxRecDepth 65536

noncomputable section

namespace Cert.Updates.P32

open Cert.Kernel32Ideal Cert.Kernel32Ideal.Gen Cert.Products Idealize.ShloMosaic Idealize.ShloMosaic.TcCoe Idealize.ShloMosaic.Pipeline
open Idealize.ShloMosaic.Tactic

/-- An array as rows. -/
abbrev rows (a : S2x704x2048.Idx → EReal) : S1408x2048.Idx → EReal := shapeCast S1408x2048 a shapeCasts_S2x704x2048_S1408x2048

theorem at_5 : ∀ t : Fin cfg0.N, win0_5.index t = ![t.val, 0] := by decide +kernel

/-- Every entry lies in the block of some grid point. -/
theorem cell (i : S1408x2048.Idx) : ∃ (t : Fin cfg0.N) (y : S128x2048.Idx), ((cfg0.win 5).blk t).view.emb y = i := by
  have h0 : (i 0).val < 1408 := (i 0).isLt
  have h1 : (i 1).val < 2048 := (i 1).isLt
  have hp : (i 0).val / 128 < cfg0.N := lt_of_lt_of_eq (show _ < 11 by omega) N_0.symm
  have e := at_5 ⟨(i 0).val / 128, hp⟩
  refine ⟨⟨(i 0).val / 128, hp⟩, fun a => match a with | 0 => ⟨(i 0).val % 128, Nat.mod_lt _ (by decide)⟩ | 1 => i 1, funext fun a => Fin.ext ?_⟩
  match a with
  | 0 =>
    show win0_5.index _ 0 * 128 + 1 * ((i 0).val % 128) = _
    rw [e]
    show (i 0).val / 128 * 128 + 1 * ((i 0).val % 128) = _
    omega
  | 1 =>
    show win0_5.index _ 1 * 2048 + 1 * (i 1).val = _
    rw [e]
    show 0 * 2048 + 1 * (i 1).val = _
    omega

section array
variable (m : (ℓ : Loc nD τ sig) → Buf (Elt Ideal) ℓ) (c : Dev nD)

/-- The gradient, the weights and the two moments. -/
abbrev A0 : S2x704x2048.Idx → EReal := m ((c.tc : Thread nD τ).loc main_arg0)
abbrev A1 : S2x704x2048.Idx → EReal := m ((c.tc : Thread nD τ).loc main_arg1)
abbrev A2 : S2x704x2048.Idx → EReal := m ((c.tc : Thread nD τ).loc main_arg2)
abbrev A3 : S2x704x2048.Idx → EReal := m ((c.tc : Thread nD τ).loc main_arg3)

/-- The call is given each as rows. -/
theorem V0 : V m c main_v0 = rows (A0 m c) := by
  unfold V
  after_results_simp
  rfl
theorem V1 : V m c main_v1 = rows (A1 m c) := by
  unfold V
  after_results_simp
  rfl
theorem V2 : V m c main_v2 = rows (A2 m c) := by
  unfold V
  after_results_simp
  rfl
theorem V3 : V m c main_v3 = rows (A3 m c) := by
  unfold V
  after_results_simp
  rfl

/-- One block of the step. -/
theorem block4 (x0 x1 x2 x3 : Vec Ideal S128x2048 .f32) (y : S128x2048.Idx) : out0_4 x0 x1 x2 x3 y = delta (x0 y) (x1 y) (x2 y) (x3 y) := by
  unfold out0_4
  rw [View.canon_unit_zero z2]
  unfold k0_pay4 k0_pay3 k0_pay2 k0_pay1
  simp only [View.ld_unit_zero (S := S128x2048) z2, shapeCast_self]
  rfl

/-- What the step's array ends holding. -/
theorem array4 : (dats m 0 c).arrAt 4 cfg0.N = fun i => delta (rows (A0 m c) i) (rows (A1 m c) i) (rows (A2 m c) i) (rows (A3 m c) i) := by
  funext i
  obtain ⟨t, y, h⟩ := cell i
  subst h
  refine (congrFun ((Value.blocks4 m c t (flush0_4 t)).trans (Value.flushed4 m c t)) y).trans ((block4 _ _ _ _ _).trans ?_)
  rw [← V0, ← V1, ← V2, ← V3]
  rfl

/-- One block of the first moment. -/
theorem block5 (x0 x1 x2 x3 : Vec Ideal S128x2048 .f32) (y : S128x2048.Idx) : out0_5 x0 x1 x2 x3 y = first (x0 y) (x2 y) := by
  unfold out0_5
  rw [View.canon_unit_zero z2]
  unfold k0_pay2 k0_pay1
  simp only [View.ld_unit_zero (S := S128x2048) z2, shapeCast_self]
  rfl

/-- What the first moment's array ends holding. -/
theorem array5 : (dats m 0 c).arrAt 5 cfg0.N = fun i => first (rows (A0 m c) i) (rows (A2 m c) i) := by
  funext i
  obtain ⟨t, y, h⟩ := cell i
  subst h
  refine (congrFun ((Value.blocks5 m c t (flush0_5 t)).trans (Value.flushed5 m c t)) y).trans ((block5 _ _ _ _ _).trans ?_)
  rw [← V0, ← V2]
  rfl

/-- One block of the second moment. -/
theorem block6 (x0 x1 x2 x3 : Vec Ideal S128x2048 .f32) (y : S128x2048.Idx) : out0_6 x0 x1 x2 x3 y = second (x0 y) (x3 y) := by
  unfold out0_6
  rw [View.canon_unit_zero z2]
  unfold k0_pay3 k0_pay1
  simp only [View.ld_unit_zero (S := S128x2048) z2, shapeCast_self]
  rfl

/-- What the second moment's array ends holding. -/
theorem array6 : (dats m 0 c).arrAt 6 cfg0.N = fun i => second (rows (A0 m c) i) (rows (A3 m c) i) := by
  funext i
  obtain ⟨t, y, h⟩ := cell i
  subst h
  refine (congrFun ((Value.blocks6 m c t (flush0_6 t)).trans (Value.flushed6 m c t)) y).trans ((block6 _ _ _ _ _).trans ?_)
  rw [← V0, ← V3]
  rfl

end array

end Cert.Updates.P32

end
-- ==== Proof.Updates.lean ====
/-
The optimiser's equations: the kernels' arrays and the reference's are the same updates.
-/
module

public import proofs.«01_k».proof.Defs
public import proofs.«01_k».proof.Proof.Update26
public import proofs.«01_k».proof.Proof.Gen.Reference26Ideal.Run
public import proofs.«01_k».proof.Proof.Update27
public import proofs.«01_k».proof.Proof.Gen.Reference27Ideal.Run
public import proofs.«01_k».proof.Proof.Update28
public import proofs.«01_k».proof.Proof.Gen.Reference28Ideal.Run
public import proofs.«01_k».proof.Proof.Update29
public import proofs.«01_k».proof.Proof.Gen.Reference29Ideal.Run
public import proofs.«01_k».proof.Proof.Update30
public import proofs.«01_k».proof.Proof.Gen.Reference30Ideal.Run
public import proofs.«01_k».proof.Proof.Update31
public import proofs.«01_k».proof.Proof.Gen.Reference31Ideal.Run
public import proofs.«01_k».proof.Proof.Update32
public import proofs.«01_k».proof.Proof.Gen.Reference32Ideal.Run

@[expose] public section

noncomputable section

namespace Cert.Updates

open Idealize.ShloMosaic Idealize.ShloMosaic.TcCoe Idealize.SL.Sem

/-- Program 26: the kernel and the reference end with the same three arrays. -/
theorem equal26 : Cert.algebraic_Kernel26Ideal_Reference26Ideal (hKernel26Ideal := Kernel26Ideal.Gen.facts) (hReference26Ideal := Reference26Ideal.Gen.facts) := by
  intro m ρ m' ρ' _ hs
  refine ⟨_, _, _,
    (θ_run _ _ _).mono (fun _ h c => ⟨(h c).1.trans (P26.array4 m c), (h c).2.1.trans (P26.array5 m c), (h c).2.2.1.trans (P26.array6 m c), (h c).2.2.2⟩) (Kernel26Ideal.Value.run_blocks m ρ),
    (θ_run _ _ _).mono (fun _ h c => ⟨(h c).1.trans ?_, (h c).2.1.trans ?_, (h c).2.2.1.trans ?_, (h c).2.2.2⟩) (Reference26Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 26's reference runs to its end. -/
theorem frame26 : Cert.quiescent_Reference26Ideal (hReference26Ideal := Reference26Ideal.Gen.facts) :=
  fun m ρ _ => (θ_run _ _ _).mono (fun r h => ⟨fun c => (h c).2.2.2, Idealize.ShloMosaic.sem_eq_zero_of_no_sems (by decide) r.2⟩) (Reference26Ideal.Value.run m ρ)

/-- Program 27: the kernel and the reference end with the same three arrays. -/
theorem equal27 : Cert.algebraic_Kernel27Ideal_Reference27Ideal (hKernel27Ideal := Kernel27Ideal.Gen.facts) (hReference27Ideal := Reference27Ideal.Gen.facts) := by
  intro m ρ m' ρ' _ hs
  refine ⟨_, _, _,
    (θ_run _ _ _).mono (fun _ h c => ⟨(h c).1.trans (P27.array4 m c), (h c).2.1.trans (P27.array5 m c), (h c).2.2.1.trans (P27.array6 m c), (h c).2.2.2⟩) (Kernel27Ideal.Value.run_blocks m ρ),
    (θ_run _ _ _).mono (fun _ h c => ⟨(h c).1.trans ?_, (h c).2.1.trans ?_, (h c).2.2.1.trans ?_, (h c).2.2.2⟩) (Reference27Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 27's reference runs to its end. -/
theorem frame27 : Cert.quiescent_Reference27Ideal (hReference27Ideal := Reference27Ideal.Gen.facts) :=
  fun m ρ _ => (θ_run _ _ _).mono (fun r h => ⟨fun c => (h c).2.2.2, Idealize.ShloMosaic.sem_eq_zero_of_no_sems (by decide) r.2⟩) (Reference27Ideal.Value.run m ρ)

/-- Program 28: the kernel and the reference end with the same three arrays. -/
theorem equal28 : Cert.algebraic_Kernel28Ideal_Reference28Ideal (hKernel28Ideal := Kernel28Ideal.Gen.facts) (hReference28Ideal := Reference28Ideal.Gen.facts) := by
  intro m ρ m' ρ' _ hs
  refine ⟨_, _, _,
    (θ_run _ _ _).mono (fun _ h c => ⟨(h c).1.trans (P28.array4 m c), (h c).2.1.trans (P28.array5 m c), (h c).2.2.1.trans (P28.array6 m c), (h c).2.2.2⟩) (Kernel28Ideal.Value.run_blocks m ρ),
    (θ_run _ _ _).mono (fun _ h c => ⟨(h c).1.trans ?_, (h c).2.1.trans ?_, (h c).2.2.1.trans ?_, (h c).2.2.2⟩) (Reference28Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 28's reference runs to its end. -/
theorem frame28 : Cert.quiescent_Reference28Ideal (hReference28Ideal := Reference28Ideal.Gen.facts) :=
  fun m ρ _ => (θ_run _ _ _).mono (fun r h => ⟨fun c => (h c).2.2.2, Idealize.ShloMosaic.sem_eq_zero_of_no_sems (by decide) r.2⟩) (Reference28Ideal.Value.run m ρ)

/-- Program 29: the kernel and the reference end with the same three arrays. -/
theorem equal29 : Cert.algebraic_Kernel29Ideal_Reference29Ideal (hKernel29Ideal := Kernel29Ideal.Gen.facts) (hReference29Ideal := Reference29Ideal.Gen.facts) := by
  intro m ρ m' ρ' _ hs
  refine ⟨_, _, _,
    (θ_run _ _ _).mono (fun _ h c => ⟨(h c).1.trans (P29.array4 m c), (h c).2.1.trans (P29.array5 m c), (h c).2.2.1.trans (P29.array6 m c), (h c).2.2.2⟩) (Kernel29Ideal.Value.run_blocks m ρ),
    (θ_run _ _ _).mono (fun _ h c => ⟨(h c).1.trans ?_, (h c).2.1.trans ?_, (h c).2.2.1.trans ?_, (h c).2.2.2⟩) (Reference29Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 29's reference runs to its end. -/
theorem frame29 : Cert.quiescent_Reference29Ideal (hReference29Ideal := Reference29Ideal.Gen.facts) :=
  fun m ρ _ => (θ_run _ _ _).mono (fun r h => ⟨fun c => (h c).2.2.2, Idealize.ShloMosaic.sem_eq_zero_of_no_sems (by decide) r.2⟩) (Reference29Ideal.Value.run m ρ)

/-- Program 30: the kernel and the reference end with the same three arrays. -/
theorem equal30 : Cert.algebraic_Kernel30Ideal_Reference30Ideal (hKernel30Ideal := Kernel30Ideal.Gen.facts) (hReference30Ideal := Reference30Ideal.Gen.facts) := by
  intro m ρ m' ρ' _ hs
  refine ⟨_, _, _,
    (θ_run _ _ _).mono (fun _ h c => ⟨(h c).1.trans (P30.array4 m c), (h c).2.1.trans (P30.array5 m c), (h c).2.2.1.trans (P30.array6 m c), (h c).2.2.2⟩) (Kernel30Ideal.Value.run_blocks m ρ),
    (θ_run _ _ _).mono (fun _ h c => ⟨(h c).1.trans ?_, (h c).2.1.trans ?_, (h c).2.2.1.trans ?_, (h c).2.2.2⟩) (Reference30Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 30's reference runs to its end. -/
theorem frame30 : Cert.quiescent_Reference30Ideal (hReference30Ideal := Reference30Ideal.Gen.facts) :=
  fun m ρ _ => (θ_run _ _ _).mono (fun r h => ⟨fun c => (h c).2.2.2, Idealize.ShloMosaic.sem_eq_zero_of_no_sems (by decide) r.2⟩) (Reference30Ideal.Value.run m ρ)

/-- Program 31: the kernel and the reference end with the same three arrays. -/
theorem equal31 : Cert.algebraic_Kernel31Ideal_Reference31Ideal (hKernel31Ideal := Kernel31Ideal.Gen.facts) (hReference31Ideal := Reference31Ideal.Gen.facts) := by
  intro m ρ m' ρ' _ hs
  refine ⟨_, _, _,
    (θ_run _ _ _).mono (fun _ h c => ⟨(h c).1.trans (P31.array4 m c), (h c).2.1.trans (P31.array5 m c), (h c).2.2.1.trans (P31.array6 m c), (h c).2.2.2⟩) (Kernel31Ideal.Value.run_blocks m ρ),
    (θ_run _ _ _).mono (fun _ h c => ⟨(h c).1.trans ?_, (h c).2.1.trans ?_, (h c).2.2.1.trans ?_, (h c).2.2.2⟩) (Reference31Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 31's reference runs to its end. -/
theorem frame31 : Cert.quiescent_Reference31Ideal (hReference31Ideal := Reference31Ideal.Gen.facts) :=
  fun m ρ _ => (θ_run _ _ _).mono (fun r h => ⟨fun c => (h c).2.2.2, Idealize.ShloMosaic.sem_eq_zero_of_no_sems (by decide) r.2⟩) (Reference31Ideal.Value.run m ρ)

/-- Program 32: the kernel and the reference end with the same three arrays. -/
theorem equal32 : Cert.algebraic_Kernel32Ideal_Reference32Ideal (hKernel32Ideal := Kernel32Ideal.Gen.facts) (hReference32Ideal := Reference32Ideal.Gen.facts) := by
  intro m ρ m' ρ' _ hs
  refine ⟨_, _, _,
    (θ_run _ _ _).mono (fun _ h c => ⟨(h c).1.trans (P32.array4 m c), (h c).2.1.trans (P32.array5 m c), (h c).2.2.1.trans (P32.array6 m c), (h c).2.2.2⟩) (Kernel32Ideal.Value.run_blocks m ρ),
    (θ_run _ _ _).mono (fun _ h c => ⟨(h c).1.trans ?_, (h c).2.1.trans ?_, (h c).2.2.1.trans ?_, (h c).2.2.2⟩) (Reference32Ideal.Value.run m' ρ')⟩
  · rw [(hs c).1, (hs c).2.1, (hs c).2.2.1, (hs c).2.2.2]; rfl
  · rw [(hs c).1, (hs c).2.2.1]; rfl
  · rw [(hs c).1, (hs c).2.2.2]; rfl

/-- Program 32's reference runs to its end. -/
theorem frame32 : Cert.quiescent_Reference32Ideal (hReference32Ideal := Reference32Ideal.Gen.facts) :=
  fun m ρ _ => (θ_run _ _ _).mono (fun r h => ⟨fun c => (h c).2.2.2, Idealize.ShloMosaic.sem_eq_zero_of_no_sems (by decide) r.2⟩) (Reference32Ideal.Value.run m ρ)

end Cert.Updates

end
-- ==== Proof.IdealFrame.lean ====
/-
The last step of the frame of `KernelIdeal`: the run of the body at each grid point (first point, later points), what the eight
carried state gradients and the four outputs hold after each point, the pipeline's proof data, the body obligation and the launch.
-/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Bwd

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept of a grid point: the four output blocks and the eight carried state gradients. -/
abbrev Kept (F : FTy → Type) : Type := Vec F S32x1024 .f32 × Vec F S32x1024 .f32 × Vec F S32x1024 .f32 × Vec F S1x8x1x128 .f32 × Vec F S128x128 .f32 × Vec F S128x128 .f32 × Vec F S128x128 .f32 × Vec F S128x128 .f32 × Vec F S128x128 .f32 × Vec F S128x128 .f32 × Vec F S128x128 .f32 × Vec F S128x128 .f32

/-- The body's run at the first grid point. -/
def rA (c : Dev nD) (t : Fin cfg0.N) (h0 : t.val % 264 = 0) (h1 : t.val % 264 = 0) (h2 : ¬1 ≤ t.val) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at a later grid point, over what the point before left. -/
def rB (c : Dev nD) (t : Fin cfg0.N) (h0 : ¬t.val % 264 = 0) (h1 : ¬t.val % 264 = 0) (h2 : 1 ≤ t.val) (acc : Kept F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2.2.1 acc.2.2.2.2.1 acc.2.2.2.2.2.1 acc.2.2.2.2.2.2.1 acc.2.2.2.2.2.2.2.1 acc.2.2.2.2.2.2.2.2.1 acc.2.2.2.2.2.2.2.2.2.1 acc.2.2.2.2.2.2.2.2.2.2.1 acc.2.2.2.2.2.2.2.2.2.2.2

/-- What the first point leaves. -/
def leftA (c : Dev nD) (t : Fin cfg0.N) (h0 : t.val % 264 = 0) (h1 : t.val % 264 = 0) (h2 : ¬1 ≤ t.val) : Kept F :=
  (VO0_13.read (Elt F) (VO0_13.writes (Elt F) VO0_13.junk (rA m c t h0 h1 h2).1),
   VO0_14.read (Elt F) (VO0_14.writes (Elt F) VO0_14.junk (rA m c t h0 h1 h2).2.1),
   VO0_15.read (Elt F) (VO0_15.writes (Elt F) VO0_15.junk (rA m c t h0 h1 h2).2.2.1),
   VO0_16.read (Elt F) (VO0_16.writes (Elt F) VO0_16.junk (rA m c t h0 h1 h2).2.2.2.1),
   VS0_0.read (Elt F) (VS0_0.writes (Elt F) VS0_0.junk (rA m c t h0 h1 h2).2.2.2.2.1),
   VS0_1.read (Elt F) (VS0_1.writes (Elt F) VS0_1.junk (rA m c t h0 h1 h2).2.2.2.2.2.1),
   VS0_2.read (Elt F) (VS0_2.writes (Elt F) VS0_2.junk (rA m c t h0 h1 h2).2.2.2.2.2.2.1),
   VS0_3.read (Elt F) (VS0_3.writes (Elt F) VS0_3.junk (rA m c t h0 h1 h2).2.2.2.2.2.2.2.1),
   VS0_4.read (Elt F) (VS0_4.writes (Elt F) VS0_4.junk (rA m c t h0 h1 h2).2.2.2.2.2.2.2.2.1),
   VS0_5.read (Elt F) (VS0_5.writes (Elt F) VS0_5.junk (rA m c t h0 h1 h2).2.2.2.2.2.2.2.2.2.1),
   VS0_6.read (Elt F) (VS0_6.writes (Elt F) VS0_6.junk (rA m c t h0 h1 h2).2.2.2.2.2.2.2.2.2.2.1),
   VS0_7.read (Elt F) (VS0_7.writes (Elt F) VS0_7.junk (rA m c t h0 h1 h2).2.2.2.2.2.2.2.2.2.2.2.1))

theorem cover0_A_13 (c : Dev nD) (t : Fin cfg0.N) (h0 : t.val % 264 = 0) (h1 : t.val % 264 = 0) (h2 : ¬1 ≤ t.val) (y : S32x1024.Idx) :
    ∃ pc ∈ (rA m c t h0 h1 h2).1, y ∈ pc.1.set :=
  View.cover_of_tiledL (rA m c t h0 h1 h2).1 S32x1024.size (by sl_kernel_rfl) y

theorem cover0_A_14 (c : Dev nD) (t : Fin cfg0.N) (h0 : t.val % 264 = 0) (h1 : t.val % 264 = 0) (h2 : ¬1 ≤ t.val) (y : S32x1024.Idx) :
    ∃ pc ∈ (rA m c t h0 h1 h2).2.1, y ∈ pc.1.set :=
  View.cover_of_tiledL (rA m c t h0 h1 h2).2.1 S32x1024.size (by sl_kernel_rfl) y

theorem cover0_A_15 (c : Dev nD) (t : Fin cfg0.N) (h0 : t.val % 264 = 0) (h1 : t.val % 264 = 0) (h2 : ¬1 ≤ t.val) (y : S32x1024.Idx) :
    ∃ pc ∈ (rA m c t h0 h1 h2).2.2.1, y ∈ pc.1.set :=
  View.cover_of_tiledL (rA m c t h0 h1 h2).2.2.1 S32x1024.size (by sl_kernel_rfl) y

theorem cover0_A_16 (c : Dev nD) (t : Fin cfg0.N) (h0 : t.val % 264 = 0) (h1 : t.val % 264 = 0) (h2 : ¬1 ≤ t.val) (y : S1x8x1x128.Idx) :
    ∃ pc ∈ (rA m c t h0 h1 h2).2.2.2.1, y ∈ pc.1.set :=
  View.cover_of_tiledL (rA m c t h0 h1 h2).2.2.2.1 S1x8x1x128.size (by sl_kernel_rfl) y

theorem scover0_A_0 (c : Dev nD) (t : Fin cfg0.N) (h0 : t.val % 264 = 0) (h1 : t.val % 264 = 0) (h2 : ¬1 ≤ t.val) (y : S128x128.Idx) :
    ∃ pc ∈ (rA m c t h0 h1 h2).2.2.2.2.1, y ∈ pc.1.set :=
  View.cover_of_tiledL (rA m c t h0 h1 h2).2.2.2.2.1 S128x128.size (by sl_kernel_rfl) y

theorem scover0_A_1 (c : Dev nD) (t : Fin cfg0.N) (h0 : t.val % 264 = 0) (h1 : t.val % 264 = 0) (h2 : ¬1 ≤ t.val) (y : S128x128.Idx) :
    ∃ pc ∈ (rA m c t h0 h1 h2).2.2.2.2.2.1, y ∈ pc.1.set :=
  View.cover_of_tiledL (rA m c t h0 h1 h2).2.2.2.2.2.1 S128x128.size (by sl_kernel_rfl) y

theorem scover0_A_2 (c : Dev nD) (t : Fin cfg0.N) (h0 : t.val % 264 = 0) (h1 : t.val % 264 = 0) (h2 : ¬1 ≤ t.val) (y : S128x128.Idx) :
    ∃ pc ∈ (rA m c t h0 h1 h2).2.2.2.2.2.2.1, y ∈ pc.1.set :=
  View.cover_of_tiledL (rA m c t h0 h1 h2).2.2.2.2.2.2.1 S128x128.size (by sl_kernel_rfl) y

theorem scover0_A_3 (c : Dev nD) (t : Fin cfg0.N) (h0 : t.val % 264 = 0) (h1 : t.val % 264 = 0) (h2 : ¬1 ≤ t.val) (y : S128x128.Idx) :
    ∃ pc ∈ (rA m c t h0 h1 h2).2.2.2.2.2.2.2.1, y ∈ pc.1.set :=
  View.cover_of_tiledL (rA m c t h0 h1 h2).2.2.2.2.2.2.2.1 S128x128.size (by sl_kernel_rfl) y

theorem scover0_A_4 (c : Dev nD) (t : Fin cfg0.N) (h0 : t.val % 264 = 0) (h1 : t.val % 264 = 0) (h2 : ¬1 ≤ t.val) (y : S128x128.Idx) :
    ∃ pc ∈ (rA m c t h0 h1 h2).2.2.2.2.2.2.2.2.1, y ∈ pc.1.set :=
  View.cover_of_tiledL (rA m c t h0 h1 h2).2.2.2.2.2.2.2.2.1 S128x128.size (by sl_kernel_rfl) y

theorem scover0_A_5 (c : Dev nD) (t : Fin cfg0.N) (h0 : t.val % 264 = 0) (h1 : t.val % 264 = 0) (h2 : ¬1 ≤ t.val) (y : S128x128.Idx) :
    ∃ pc ∈ (rA m c t h0 h1 h2).2.2.2.2.2.2.2.2.2.1, y ∈ pc.1.set :=
  View.cover_of_tiledL (rA m c t h0 h1 h2).2.2.2.2.2.2.2.2.2.1 S128x128.size (by sl_kernel_rfl) y

theorem scover0_A_6 (c : Dev nD) (t : Fin cfg0.N) (h0 : t.val % 264 = 0) (h1 : t.val % 264 = 0) (h2 : ¬1 ≤ t.val) (y : S128x128.Idx) :
    ∃ pc ∈ (rA m c t h0 h1 h2).2.2.2.2.2.2.2.2.2.2.1, y ∈ pc.1.set :=
  View.cover_of_tiledL (rA m c t h0 h1 h2).2.2.2.2.2.2.2.2.2.2.1 S128x128.size (by sl_kernel_rfl) y

theorem scover0_A_7 (c : Dev nD) (t : Fin cfg0.N) (h0 : t.val % 264 = 0) (h1 : t.val % 264 = 0) (h2 : ¬1 ≤ t.val) (y : S128x128.Idx) :
    ∃ pc ∈ (rA m c t h0 h1 h2).2.2.2.2.2.2.2.2.2.2.2.1, y ∈ pc.1.set :=
  View.cover_of_tiledL (rA m c t h0 h1 h2).2.2.2.2.2.2.2.2.2.2.2.1 S128x128.size (by sl_kernel_rfl) y

/-- What a later point leaves. -/
def leftB (c : Dev nD) (t : Fin cfg0.N) (h0 : ¬t.val % 264 = 0) (h1 : ¬t.val % 264 = 0) (h2 : 1 ≤ t.val) (acc : Kept F) : Kept F :=
  (VO0_13.read (Elt F) (VO0_13.writes (Elt F) VO0_13.junk (rB m c t h0 h1 h2 acc).1),
   VO0_14.read (Elt F) (VO0_14.writes (Elt F) VO0_14.junk (rB m c t h0 h1 h2 acc).2.1),
   VO0_15.read (Elt F) (VO0_15.writes (Elt F) VO0_15.junk (rB m c t h0 h1 h2 acc).2.2.1),
   VO0_16.read (Elt F) (VO0_16.writes (Elt F) VO0_16.junk (rB m c t h0 h1 h2 acc).2.2.2.1),
   VS0_0.read (Elt F) (VS0_0.writes (Elt F) VS0_0.junk (rB m c t h0 h1 h2 acc).2.2.2.2.1),
   VS0_1.read (Elt F) (VS0_1.writes (Elt F) VS0_1.junk (rB m c t h0 h1 h2 acc).2.2.2.2.2.1),
   VS0_2.read (Elt F) (VS0_2.writes (Elt F) VS0_2.junk (rB m c t h0 h1 h2 acc).2.2.2.2.2.2.1),
   VS0_3.read (Elt F) (VS0_3.writes (Elt F) VS0_3.junk (rB m c t h0 h1 h2 acc).2.2.2.2.2.2.2.1),
   VS0_4.read (Elt F) (VS0_4.writes (Elt F) VS0_4.junk (rB m c t h0 h1 h2 acc).2.2.2.2.2.2.2.2.1),
   VS0_5.read (Elt F) (VS0_5.writes (Elt F) VS0_5.junk (rB m c t h0 h1 h2 acc).2.2.2.2.2.2.2.2.2.1),
   VS0_6.read (Elt F) (VS0_6.writes (Elt F) VS0_6.junk (rB m c t h0 h1 h2 acc).2.2.2.2.2.2.2.2.2.2.1),
   VS0_7.read (Elt F) (VS0_7.writes (Elt F) VS0_7.junk (rB m c t h0 h1 h2 acc).2.2.2.2.2.2.2.2.2.2.2.1))

theorem cover0_B_13 (c : Dev nD) (t : Fin cfg0.N) (h0 : ¬t.val % 264 = 0) (h1 : ¬t.val % 264 = 0) (h2 : 1 ≤ t.val) (acc : Kept F) (y : S32x1024.Idx) :
    ∃ pc ∈ (rB m c t h0 h1 h2 acc).1, y ∈ pc.1.set :=
  View.cover_of_tiledL (rB m c t h0 h1 h2 acc).1 S32x1024.size (by sl_kernel_rfl) y

theorem cover0_B_14 (c : Dev nD) (t : Fin cfg0.N) (h0 : ¬t.val % 264 = 0) (h1 : ¬t.val % 264 = 0) (h2 : 1 ≤ t.val) (acc : Kept F) (y : S32x1024.Idx) :
    ∃ pc ∈ (rB m c t h0 h1 h2 acc).2.1, y ∈ pc.1.set :=
  View.cover_of_tiledL (rB m c t h0 h1 h2 acc).2.1 S32x1024.size (by sl_kernel_rfl) y

theorem cover0_B_15 (c : Dev nD) (t : Fin cfg0.N) (h0 : ¬t.val % 264 = 0) (h1 : ¬t.val % 264 = 0) (h2 : 1 ≤ t.val) (acc : Kept F) (y : S32x1024.Idx) :
    ∃ pc ∈ (rB m c t h0 h1 h2 acc).2.2.1, y ∈ pc.1.set :=
  View.cover_of_tiledL (rB m c t h0 h1 h2 acc).2.2.1 S32x1024.size (by sl_kernel_rfl) y

theorem cover0_B_16 (c : Dev nD) (t : Fin cfg0.N) (h0 : ¬t.val % 264 = 0) (h1 : ¬t.val % 264 = 0) (h2 : 1 ≤ t.val) (acc : Kept F) (y : S1x8x1x128.Idx) :
    ∃ pc ∈ (rB m c t h0 h1 h2 acc).2.2.2.1, y ∈ pc.1.set :=
  View.cover_of_tiledL (rB m c t h0 h1 h2 acc).2.2.2.1 S1x8x1x128.size (by sl_kernel_rfl) y

theorem scover0_B_0 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.1, y ∈ pc.1.set :=
  View.cover_of_tiledL (rB m c t h0 h1 h2 acc).2.2.2.2.1 S128x128.size (by sl_kernel_rfl) y

theorem scover0_B_1 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.1, y ∈ pc.1.set :=
  View.cover_of_tiledL (rB m c t h0 h1 h2 acc).2.2.2.2.2.1 S128x128.size (by sl_kernel_rfl) y

theorem scover0_B_2 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.2.1, y ∈ pc.1.set :=
  View.cover_of_tiledL (rB m c t h0 h1 h2 acc).2.2.2.2.2.2.1 S128x128.size (by sl_kernel_rfl) y

theorem scover0_B_3 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.2.2.1, y ∈ pc.1.set :=
  View.cover_of_tiledL (rB m c t h0 h1 h2 acc).2.2.2.2.2.2.2.1 S128x128.size (by sl_kernel_rfl) y

theorem scover0_B_4 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.2.2.2.1, y ∈ pc.1.set :=
  View.cover_of_tiledL (rB m c t h0 h1 h2 acc).2.2.2.2.2.2.2.2.1 S128x128.size (by sl_kernel_rfl) y

theorem scover0_B_5 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.2.2.2.2.1, y ∈ pc.1.set :=
  View.cover_of_tiledL (rB m c t h0 h1 h2 acc).2.2.2.2.2.2.2.2.2.1 S128x128.size (by sl_kernel_rfl) y

theorem scover0_B_6 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.2.2.2.2.2.1, y ∈ pc.1.set :=
  View.cover_of_tiledL (rB m c t h0 h1 h2 acc).2.2.2.2.2.2.2.2.2.2.1 S128x128.size (by sl_kernel_rfl) y

theorem scover0_B_7 (c : Dev nD) (t : Fin cfg0.N) (h0 : ¬t.val % 264 = 0) (h1 : ¬t.val % 264 = 0) (h2 : 1 ≤ t.val) (acc : Kept F) (y : S128x128.Idx) :
    ∃ pc ∈ (rB m c t h0 h1 h2 acc).2.2.2.2.2.2.2.2.2.2.2.1, y ∈ pc.1.set :=
  View.cover_of_tiledL (rB m c t h0 h1 h2 acc).2.2.2.2.2.2.2.2.2.2.2.1 S128x128.size (by sl_kernel_rfl) y

theorem point_pos {n : ℕ} (hn : n + 1 < cfg0.N) : ¬(n + 1) % 264 = 0 := by
  have hN : n + 1 < 264 := lt_of_lt_of_eq hn (show cfg0.N = 264 from N_0)
  omega

/-- What is kept after each grid point. -/
def outsAt0 (c : Dev nD) : (n : ℕ) → n < cfg0.N → Kept F
  | 0, hn => leftA m c ⟨0, hn⟩ (Nat.zero_mod _) (Nat.zero_mod _) (Nat.not_succ_le_zero 0)
  | n + 1, hn => leftB m c ⟨n + 1, hn⟩ (point_pos hn) (point_pos hn) (Nat.le_add_left 1 n)
      (outsAt0 c n (Nat.lt_of_succ_lt hn))

theorem outsAt0_A (c : Dev nD) (t : Fin cfg0.N) (h0 : t.val % 264 = 0) (h1 : t.val % 264 = 0) (h2 : ¬1 ≤ t.val) :
    outsAt0 m c t.val t.isLt = leftA m c t h0 h1 h2 := by
  obtain ⟨n, hn⟩ := t
  cases n with
  | zero => rfl
  | succ n => exact absurd (Nat.le_add_left 1 n) h2

theorem outsAt0_B (c : Dev nD) (t : Fin cfg0.N) (h0 : ¬t.val % 264 = 0) (h1 : ¬t.val % 264 = 0) (h2 : 1 ≤ t.val) :
    outsAt0 m c t.val t.isLt
      = leftB m c t h0 h1 h2 (outsAt0 m c (t.val - 1) (Nat.lt_of_le_of_lt (Nat.sub_le _ _) t.isLt)) := by
  obtain ⟨n, hn⟩ := t
  cases n with
  | zero => exact absurd h2 (Nat.not_succ_le_zero 0)
  | succ n => rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2.1) ∗ owns (c : Thread nD τ) scM0_4 fullShare ((outsAt0 m c n hn).2.2.2.2.2.2.2.2.1) ∗ owns (c : Thread nD τ) scM0_5 fullShare ((outsAt0 m c n hn).2.2.2.2.2.2.2.2.2.1) ∗ owns (c : Thread nD τ) scM0_6 fullShare ((outsAt0 m c n hn).2.2.2.2.2.2.2.2.2.2.1) ∗ owns (c : Thread nD τ) scM0_7 fullShare ((outsAt0 m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2.1) ∗ owns (c : Thread nD τ) scM0_4 fullShare ((outsAt0 m c n hn).2.2.2.2.2.2.2.2.1) ∗ owns (c : Thread nD τ) scM0_5 fullShare ((outsAt0 m c n hn).2.2.2.2.2.2.2.2.2.1) ∗ owns (c : Thread nD τ) scM0_6 fullShare ((outsAt0 m c n hn).2.2.2.2.2.2.2.2.2.2.1) ∗ owns (c : Thread nD τ) scM0_7 fullShare ((outsAt0 m c n hn).2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2.1) ∗ owns (c : Thread nD τ) scM0_3 fullShare ((outsAt0 m c (n - 1) (by omega)).2.2.2.2.2.2.2.1) ∗ owns (c : Thread nD τ) scM0_4 fullShare ((outsAt0 m c (n - 1) (by omega)).2.2.2.2.2.2.2.2.1) ∗ owns (c : Thread nD τ) scM0_5 fullShare ((outsAt0 m c (n - 1) (by omega)).2.2.2.2.2.2.2.2.2.1) ∗ owns (c : Thread nD τ) scM0_6 fullShare ((outsAt0 m c (n - 1) (by omega)).2.2.2.2.2.2.2.2.2.2.1) ∗ owns (c : Thread nD τ) scM0_7 fullShare ((outsAt0 m c (n - 1) (by omega)).2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨_ + 17, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]

/-- What each live window is left with. -/
theorem leaves0_0 (c : Dev nD) (t : Fin cfg0.N) : (dats m 0 c).leavesExact 0 t = owns (c : Thread nD τ) (ms0_0 t) fullShare ((dats m 0 c).after 0 t) := by
  unfold Dat.leavesExact; rw [liveAt0_0 t]

theorem leaves0_1 (c : Dev nD) (t : Fin cfg0.N) : (dats m 0 c).leavesExact 1 t = owns (c : Thread nD τ) (ms0_1 t) fullShare ((dats m 0 c).after 1 t) := by
  unfold Dat.leavesExact; rw [liveAt0_1 t]

theorem leaves0_2 (c : Dev nD) (t : Fin cfg0.N) : (dats m 0 c).leavesExact 2 t = owns (c : Thread nD τ) (ms0_2 t) fullShare ((dats m 0 c).after 2 t) := by
  unfold Dat.leavesExact; rw [liveAt0_2 t]

theorem leaves0_3 (c : Dev nD) (t : Fin cfg0.N) : (dats m 0 c).leavesExact 3 t = owns (c : Thread nD τ) (ms0_3 t) fullShare ((dats m 0 c).after 3 t) := by
  unfold Dat.leavesExact; rw [liveAt0_3 t]

theorem leaves0_4 (c : Dev nD) (t : Fin cfg0.N) : (dats m 0 c).leavesExact 4 t = owns (c : Thread nD τ) (ms0_4 t) fullShare ((dats m 0 c).after 4 t) := by
  unfold Dat.leavesExact; rw [liveAt0_4 t]

theorem leaves0_5 (c : Dev nD) (t : Fin cfg0.N) : (dats m 0 c).leavesExact 5 t = owns (c : Thread nD τ) (ms0_5 t) fullShare ((dats m 0 c).after 5 t) := by
  unfold Dat.leavesExact; rw [liveAt0_5 t]

theorem leaves0_6 (c : Dev nD) (t : Fin cfg0.N) : (dats m 0 c).leavesExact 6 t = owns (c : Thread nD τ) (ms0_6 t) fullShare ((dats m 0 c).after 6 t) := by
  unfold Dat.leavesExact; rw [liveAt0_6 t]

theorem leaves0_7 (c : Dev nD) (t : Fin cfg0.N) : (dats m 0 c).leavesExact 7 t = owns (c : Thread nD τ) (ms0_7 t) fullShare ((dats m 0 c).after 7 t) := by
  unfold Dat.leavesExact; rw [liveAt0_7 t]

theorem leaves0_8 (c : Dev nD) (t : Fin cfg0.N) : (dats m 0 c).leavesExact 8 t = owns (c : Thread nD τ) (ms0_8 t) fullShare ((dats m 0 c).after 8 t) := by
  unfold Dat.leavesExact; rw [liveAt0_8 t]

theorem leaves0_9 (c : Dev nD) (t : Fin cfg0.N) : (dats m 0 c).leavesExact 9 t = owns (c : Thread nD τ) (ms0_9 t) fullShare ((dats m 0 c).after 9 t) := by
  unfold Dat.leavesExact; rw [liveAt0_9 t]

theorem leaves0_10 (c : Dev nD) (t : Fin cfg0.N) : (dats m 0 c).leavesExact 10 t = owns (c : Thread nD τ) (ms0_10 t) fullShare ((dats m 0 c).after 10 t) := by
  unfold Dat.leavesExact; rw [liveAt0_10 t]

theorem leaves0_11 (c : Dev nD) (t : Fin cfg0.N) : (dats m 0 c).leavesExact 11 t = owns (c : Thread nD τ) (ms0_11 t) fullShare ((dats m 0 c).after 11 t) := by
  unfold Dat.leavesExact; rw [liveAt0_11 t]

theorem leaves0_12 (c : Dev nD) (t : Fin cfg0.N) : (dats m 0 c).leavesExact 12 t = owns (c : Thread nD τ) (ms0_12 t) fullShare ((dats m 0 c).after 12 t) := by
  unfold Dat.leavesExact; rw [liveAt0_12 t]

theorem leaves0_13 (c : Dev nD) (t : Fin cfg0.N) : (dats m 0 c).leavesExact 13 t = owns (c : Thread nD τ) (ms0_13 t) fullShare ((dats m 0 c).after 13 t) := by
  unfold Dat.leavesExact; rw [liveAt0_13 t]

theorem leaves0_14 (c : Dev nD) (t : Fin cfg0.N) : (dats m 0 c).leavesExact 14 t = owns (c : Thread nD τ) (ms0_14 t) fullShare ((dats m 0 c).after 14 t) := by
  unfold Dat.leavesExact; rw [liveAt0_14 t]

theorem leaves0_15 (c : Dev nD) (t : Fin cfg0.N) : (dats m 0 c).leavesExact 15 t = owns (c : Thread nD τ) (ms0_15 t) fullShare ((dats m 0 c).after 15 t) := by
  unfold Dat.leavesExact; rw [liveAt0_15 t]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- Output 16's contents CARRY through the points that leave it idle: at such a point, its buffer not fresh, the proof data's
    `after` is the point before's (the case there stores nothing into the window and its term says so; a case that stores
    into it is not idle there by `liveAt0_16_κ`) — the hypothesis of Lib/Pipeline/TableIdle.lean `Dat.before_out_traj`. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 264 := lt_of_lt_of_eq t.isLt (show cfg0.N = 264 from N_0)
  rw [after0_16, after0_16]
  by_cases h0 : t.val % 264 = 0
  · by_cases h1 : t.val % 264 = 0
    · by_cases h2 : 1 ≤ t.val
      · exfalso; omega
      · rw [liveAt0_16_A t ((hcond0_0 t).mpr h0) ((hcond0_1 t).mpr h1) (fun h => h2 ((hcond0_2 t).mp h))] at hi
        exact absurd hi Bool.false_ne_true
    · exfalso; omega
  · by_cases h1 : t.val % 264 = 0
    · exfalso; omega
    · by_cases h2 : 1 ≤ t.val
      · rw [liveAt0_16_B t (fun h => h0 ((hcond0_0 t).mp h)) (fun h => h1 ((hcond0_1 t).mp h)) ((hcond0_2 t).mpr h2)] at hi
        exact absurd hi Bool.false_ne_true
      · exfalso; omega
/-- At a point of case B output 16's current staging buffer holds what the point before left: the buffer is not fresh
    there (`notFresh0_16_B`: stored into since the region's entry or the last write-back, carried through the points that
    leave it idle by `hcarry0_16`; Lib/Pipeline/TableIdle.lean `Dat.before_out_traj`). -/
theorem before0_16_B (c : Dev nD) (t : Fin cfg0.N) (h0 : ¬t.val % 264 = 0) (h1 : ¬t.val % 264 = 0) (h2 : 1 ≤ t.val) (d) :
    (dats m 0 c).before 16 t d = (outsAt0 m c (t.val - 1) (Nat.lt_of_le_of_lt (Nat.sub_le _ _) t.isLt)).2.2.2.1 := by
  rw [Dat.before_out_traj _ 16 rfl (fun _ _ => rfl) (hcarry0_16 m c) t.val t rfl d,
    if_neg (by rw [notFresh0_16_B t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 264 := lt_of_lt_of_eq t.isLt (show cfg0.N = 264 from N_0)
  by_cases h0 : t.val % 264 = 0
  · by_cases h1 : t.val % 264 = 0
    · by_cases h2 : 1 ≤ t.val
      · exfalso; omega
      · rw [leaves0_0, after0_0]
        rw [leaves0_1, after0_1]
        rw [leaves0_2, after0_2]
        rw [leaves0_3, after0_3]
        rw [leaves0_4, after0_4]
        rw [leaves0_5, after0_5]
        rw [leaves0_6, after0_6]
        rw [leaves0_7, after0_7]
        rw [leaves0_8, after0_8]
        rw [leaves0_9, after0_9]
        rw [leaves0_10, after0_10]
        rw [leaves0_11, after0_11]
        rw [leaves0_12, after0_12]
        rw [leaves0_13, after0_13]
        rw [leaves0_14, after0_14]
        rw [leaves0_15, after0_15]
        rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1) (fun h => h2 ((hcond0_2 t).mp h))], after0_16]
        by_cases hz : t.val = 0
        · rw [PhiS_castSucc m c t, PhiS_zero m c _ _ hz, PhiA0_eq]
          rw [outsAt0_A m c t h0 h1 h2]
          unfold leftA; dsimp only
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((rA m c t h0 h1 h2).2.2.2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexists _; iexact H14
          isplitl [H15]; · iexists _; iexact H15
          isplitl [H16]; · iexists _; iexact H16
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, H11, H12, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
          isplitl [HS0 HS1 HS2 HS3 HS4 HS5 HS6 HS7 Hg]
          · isplitl [HS0 HS1 HS2 HS3 HS4 HS5 HS6 HS7]
            · isplitl [HS0]
              · unfold owns; iexists _; isplitr
                swap; · iexact HS0
                ipureintro; exact View.read_writes_of_cover _ _ _ _ _ (scover0_A_0 m c t h0 h1 h2)
              isplitl [HS1]
              · unfold owns; iexists _; isplitr
                swap; · iexact HS1
                ipureintro; exact View.read_writes_of_cover _ _ _ _ _ (scover0_A_1 m c t h0 h1 h2)
              isplitl [HS2]
              · unfold owns; iexists _; isplitr
                swap; · iexact HS2
                ipureintro; exact View.read_writes_of_cover _ _ _ _ _ (scover0_A_2 m c t h0 h1 h2)
              isplitl [HS3]
              · unfold owns; iexists _; isplitr
                swap; · iexact HS3
                ipureintro; exact View.read_writes_of_cover _ _ _ _ _ (scover0_A_3 m c t h0 h1 h2)
              isplitl [HS4]
              · unfold owns; iexists _; isplitr
                swap; · iexact HS4
                ipureintro; exact View.read_writes_of_cover _ _ _ _ _ (scover0_A_4 m c t h0 h1 h2)
              isplitl [HS5]
              · unfold owns; iexists _; isplitr
                swap; · iexact HS5
                ipureintro; exact View.read_writes_of_cover _ _ _ _ _ (scover0_A_5 m c t h0 h1 h2)
              isplitl [HS6]
              · unfold owns; iexists _; isplitr
                swap; · iexact HS6
                ipureintro; exact View.read_writes_of_cover _ _ _ _ _ (scover0_A_6 m c t h0 h1 h2)
              unfold owns; iexists _; isplitr
              swap; · iexact HS7
              ipureintro; exact View.read_writes_of_cover _ _ _ _ _ (scover0_A_7 m c t h0 h1 h2)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]
          · unfold owns; iexists _; isplitr
            swap; · iexact H13
            ipureintro; exact View.read_writes_of_cover _ _ _ _ _ (cover0_A_13 m c t h0 h1 h2)
          isplitl [H14]
          · unfold owns; iexists _; isplitr
            swap; · iexact H14
            ipureintro; exact View.read_writes_of_cover _ _ _ _ _ (cover0_A_14 m c t h0 h1 h2)
          isplitl [H15]
          · unfold owns; iexists _; isplitr
            swap; · iexact H15
            ipureintro; exact View.read_writes_of_cover _ _ _ _ _ (cover0_A_15 m c t h0 h1 h2)
          unfold owns; iexists _; isplitr
          swap; · iexact H16
          ipureintro; exact View.read_writes_of_cover _ _ _ _ _ (cover0_A_16 m c t h0 h1 h2)
        · exfalso; have hN : t.val < 264 := lt_of_lt_of_eq t.isLt (show cfg0.N = 264 from N_0); omega
    · exfalso; omega
  · by_cases h1 : t.val % 264 = 0
    · exfalso; omega
    · by_cases h2 : 1 ≤ t.val
      · rw [leaves0_0, after0_0]
        rw [leaves0_1, after0_1]
        rw [leaves0_2, after0_2]
        rw [leaves0_3, after0_3]
        rw [leaves0_4, after0_4]
        rw [leaves0_5, after0_5]
        rw [leaves0_6, after0_6]
        rw [leaves0_7, after0_7]
        rw [leaves0_8, after0_8]
        rw [leaves0_9, after0_9]
        rw [leaves0_10, after0_10]
        rw [leaves0_11, after0_11]
        rw [leaves0_12, after0_12]
        rw [leaves0_13, after0_13]
        rw [leaves0_14, after0_14]
        rw [leaves0_15, after0_15]
        rw [show (dats m 0 c).leavesExact 16 t = owns (c : Thread nD τ) (ms0_16 t) fullShare ((dats m 0 c).after 16 t) from by
      unfold Dat.leavesExact; rw [liveAt0_16_B t (fun h => h0 ((hcond0_0 t).mp h)) (fun h => h1 ((hcond0_1 t).mp h)) ((hcond0_2 t).mpr h2)], after0_16]
        by_cases hz : t.val = 0
        · exfalso; have hN : t.val < 264 := lt_of_lt_of_eq t.isLt (show cfg0.N = 264 from N_0); omega
        · rw [PhiS_castSucc m c t, PhiS_pos m c _ _ hz]
          rw [outsAt0_B m c t h0 h1 h2]
          simp only [before0_16_B m c t h0 h1 h2]
          unfold leftB; dsimp only
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((rB m c t h0 h1 h2 _).2.2.2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexists _; iexact H14
          isplitl [H15]; · iexists _; iexact H15
          isplitl [H16]; · iexact H16
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, H11, H12, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
          isplitl [HS0 HS1 HS2 HS3 HS4 HS5 HS6 HS7 Hg]
          · isplitl [HS0 HS1 HS2 HS3 HS4 HS5 HS6 HS7]
            · isplitl [HS0]
              · unfold owns; iexists _; isplitr
                swap; · iexact HS0
                ipureintro; exact View.read_writes_of_cover _ _ _ _ _ (scover0_B_0 m c t h0 h1 h2 _)
              isplitl [HS1]
              · unfold owns; iexists _; isplitr
                swap; · iexact HS1
                ipureintro; exact View.read_writes_of_cover _ _ _ _ _ (scover0_B_1 m c t h0 h1 h2 _)
              isplitl [HS2]
              · unfold owns; iexists _; isplitr
                swap; · iexact HS2
                ipureintro; exact View.read_writes_of_cover _ _ _ _ _ (scover0_B_2 m c t h0 h1 h2 _)
              isplitl [HS3]
              · unfold owns; iexists _; isplitr
                swap; · iexact HS3
                ipureintro; exact View.read_writes_of_cover _ _ _ _ _ (scover0_B_3 m c t h0 h1 h2 _)
              isplitl [HS4]
              · unfold owns; iexists _; isplitr
                swap; · iexact HS4
                ipureintro; exact View.read_writes_of_cover _ _ _ _ _ (scover0_B_4 m c t h0 h1 h2 _)
              isplitl [HS5]
              · unfold owns; iexists _; isplitr
                swap; · iexact HS5
                ipureintro; exact View.read_writes_of_cover _ _ _ _ _ (scover0_B_5 m c t h0 h1 h2 _)
              isplitl [HS6]
              · unfold owns; iexists _; isplitr
                swap; · iexact HS6
                ipureintro; exact View.read_writes_of_cover _ _ _ _ _ (scover0_B_6 m c t h0 h1 h2 _)
              unfold owns; iexists _; isplitr
              swap; · iexact HS7
              ipureintro; exact View.read_writes_of_cover _ _ _ _ _ (scover0_B_7 m c t h0 h1 h2 _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]
          · unfold owns; iexists _; isplitr
            swap; · iexact H13
            ipureintro; exact View.read_writes_of_cover _ _ _ _ _ (cover0_B_13 m c t h0 h1 h2 _)
          isplitl [H14]
          · unfold owns; iexists _; isplitr
            swap; · iexact H14
            ipureintro; exact View.read_writes_of_cover _ _ _ _ _ (cover0_B_14 m c t h0 h1 h2 _)
          isplitl [H15]
          · unfold owns; iexists _; isplitr
            swap; · iexact H15
            ipureintro; exact View.read_writes_of_cover _ _ _ _ _ (cover0_B_15 m c t h0 h1 h2 _)
          unfold owns; iexists _; isplitr
          swap; · iexact H16
          ipureintro; exact View.read_writes_of_cover _ _ _ _ _ (cover0_B_16 m c t h0 h1 h2 _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 264 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The kernel runs to its end and keeps its arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Bwd

end
-- ==== Proof.KernelFrame.lean ====
/-
The frame of `Kernel`: its text is that of `KernelIdeal`, and the run proved of the one is the run of the other.
-/
module

public import proofs.«01_k».proof.Defs
public import proofs.«01_k».proof.Proof.IdealFrame
public import proofs.«01_k».proof.Proof.Gen.Kernel

@[expose] public section

noncomputable section

namespace Cert.Kernel.Bwd

open Idealize.ShloMosaic Idealize.SL.Sem

local instance : Cert.Kernel.Facts := Cert.Kernel.Gen.facts
local instance : Cert.KernelIdeal.Facts := Cert.KernelIdeal.Gen.facts

set_option maxHeartbeats 4000000 in
/-- The two bodies' code is the same. -/
theorem code : @KernelIdeal.cc0_hgrnb_l0_0 Bits _ _ = @cc0_hgrnb_l0_0 Bits _ _ := by
  unfold KernelIdeal.cc0_hgrnb_l0_0 cc0_hgrnb_l0_0
  rfl

set_option maxHeartbeats 20000000 in
/-- The two bodies are the same. -/
theorem body : KernelIdeal.defs₀ (F := Bits) = defs₀ (F := Bits) := by
  unfold KernelIdeal.defs₀ defs₀
  refine congrArg Defs.onTc (funext fun l => funext fun x => ?_)
  match l, x with
  | 0, (t, s) =>
    dsimp only
    rw [code]
    rfl

theorem table : KernelIdeal.defs (F := Bits) = defs (F := Bits) := congrArg (Pipeline.defs _) body

/-- What holds with one body table holds with an equal one. -/
theorem moved {α : Type _} (T : α → Prop) {d d' : α} (h : d = d') (r : T d) : T d' := h ▸ r

/-- Over the machine's floats the kernel runs to its end and keeps its arguments. -/
theorem frame : Cert.quiescent_Kernel := fun m ρ _ =>
  moved (fun d => θ_run d (onTc (τ := τ) (main (F := Bits))) ⟨m, fun _ => 0, ρ⟩ _) table (Cert.KernelIdeal.Bwd.frame (F := Bits) m ρ)

end Cert.Kernel.Bwd

end
-- ==== Proof.Trips.lean ====
/-
One trip of the reference's loop at a valuation that holds a state: every value of the trip is the one that the step module
names, so the loop's own step keeps holding with the step applied; what stands before the loop holds the initial state; and the
results of the run are the fields of the iterated step.
-/
module

public import proofs.«01_k».proof.Proof.Gen.ReferenceIdeal.Run
public import proofs.«01_k».proof.Proof.Gen.ReferenceIdeal.Step

@[expose] public section

set_option maxRecDepth 8192

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v33_7) = s.main_v33_7
  f_8 : V0 (Proc.devRef .tc main_v33_8) = s.main_v33_8
  f_9 : V0 (Proc.devRef .tc main_v33_9) = s.main_v33_9
  f_10 : V0 (Proc.devRef .tc main_v33_10) = s.main_v33_10
  f_11 : V0 (Proc.devRef .tc main_v33_11) = s.main_v33_11
  f_0 : V0 (Proc.devRef .tc main_v33_0) = s.main_v33_0
  f_1 : V0 (Proc.devRef .tc main_v33_1) = s.main_v33_1
  f_2 : V0 (Proc.devRef .tc main_v33_2) = s.main_v33_2
  f_3 : V0 (Proc.devRef .tc main_v33_3) = s.main_v33_3
  f_4 : V0 (Proc.devRef .tc main_v33_4) = s.main_v33_4
  f_5 : V0 (Proc.devRef .tc main_v33_5) = s.main_v33_5
  n_6 : V0 (Proc.devRef .tc main_v33_6) = constantI S_ 32 (BitVec.ofNat 32 j)

variable {V0 s j}

theorem al_0 (h : Holds V0 s j) : (constantI S_ 32 264#32 : (Proc.devRef .tc main_while0b_c_18 : DevRef τ sig).ty.Contents (Elt F)) = Step.b0 j s := by
  unfold Step.b0
  rfl
theorem al_1 (h : Holds V0 s j) : (subi (constantI S_ 32 264#32) (V0 (Proc.devRef .tc main_v33_6)) : (Proc.devRef .tc main_while0b_v44 : DevRef τ sig).ty.Contents (Elt F)) = Step.b1 j s := by
  unfold Step.b1
  rw [← al_0 h, h.n_6]
  try rfl
theorem al_2 (h : Holds V0 s j) : (constantI S_ 32 1#32 : (Proc.devRef .tc main_while0b_c_19 : DevRef τ sig).ty.Contents (Elt F)) = Step.b2 j s := by
  unfold Step.b2
  rfl
theorem al_3 (h : Holds V0 s j) : (res_main_while0b_v45 V0 : (Proc.devRef .tc main_while0b_v45 : DevRef τ sig).ty.Contents (Elt F)) = Step.b3 j s := by
  unfold res_main_while0b_v45 Step.b3
  rw [← al_1 h, ← al_2 h]
  try rfl
theorem al_4 (h : Holds V0 s j) : (constantI S_ 32 0#32 : (Proc.devRef .tc main_while0b_call0_c : DevRef τ sig).ty.Contents (Elt F)) = Step.b4 j s := by
  unfold Step.b4
  rfl
theorem al_5 (h : Holds V0 s j) : (constantI S_ 32 0#32 : (Proc.devRef .tc main_while0b_call0_c_0 : DevRef τ sig).ty.Contents (Elt F)) = Step.b5 j s := by
  unfold Step.b5
  rfl
theorem al_6 (h : Holds V0 s j) : (constantI S_ 32 0#32 : (Proc.devRef .tc main_while0b_call0_c_1 : DevRef τ sig).ty.Contents (Elt F)) = Step.b6 j s := by
  unfold Step.b6
  rfl
theorem al_7 (h : Holds V0 s j) : (Host.dynamicSlice S1x8x128x128 (V0 (Proc.devRef .tc main_v33_0)) (fun k => (((![res_main_while0b_v45 V0, constantI S_ 32 0#32, constantI S_ 32 0#32, constantI S_ 32 0#32] : Fin 4 → (⟨S_, .i32⟩ : BufTy).Contents (Elt F))) k (Shape.Idx.first h_S_)).toInt) sliceFits_S264x8x128x128_S1x8x128x128 : (Proc.devRef .tc main_while0b_call0_v0 : DevRef τ sig).ty.Contents (Elt F)) = Step.b7 j s := by
  unfold Step.b7
  rw [← al_3 h, ← al_4 h, ← al_5 h, ← al_6 h, h.f_0]
  try rfl
theorem al_8 (h : Holds V0 s j) : (res_main_while0b_v46 V0 : (Proc.devRef .tc main_while0b_v46 : DevRef τ sig).ty.Contents (Elt F)) = Step.b8 j s := by
  unfold res_main_while0b_v46 Step.b8
  rw [← al_7 h]
  try rfl
theorem al_9 (h : Holds V0 s j) : (constantI S_ 32 0#32 : (Proc.devRef .tc main_while0b_call1_c : DevRef τ sig).ty.Contents (Elt F)) = Step.b9 j s := by
  unfold Step.b9
  rfl
theorem al_10 (h : Holds V0 s j) : (constantI S_ 32 0#32 : (Proc.devRef .tc main_while0b_call1_c_0 : DevRef τ sig).ty.Contents (Elt F)) = Step.b10 j s := by
  unfold Step.b10
  rfl
theorem al_11 (h : Holds V0 s j) : (Host.dynamicSlice S1x32x1024 (V0 (Proc.devRef .tc main_v33_1)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024 : (Proc.devRef .tc main_while0b_call1_v0 : DevRef τ sig).ty.Contents (Elt F)) = Step.b11 j s := by
  unfold Step.b11
  rw [← al_3 h, ← al_9 h, ← al_10 h, h.f_1]
  try rfl
theorem al_12 (h : Holds V0 s j) : (res_main_while0b_v47 V0 : (Proc.devRef .tc main_while0b_v47 : DevRef τ sig).ty.Contents (Elt F)) = Step.b12 j s := by
  unfold res_main_while0b_v47 Step.b12
  rw [← al_11 h]
  try rfl
theorem al_13 (h : Holds V0 s j) : (constantI S_ 32 0#32 : (Proc.devRef .tc main_while0b_call2_c : DevRef τ sig).ty.Contents (Elt F)) = Step.b13 j s := by
  unfold Step.b13
  rfl
theorem al_14 (h : Holds V0 s j) : (constantI S_ 32 0#32 : (Proc.devRef .tc main_while0b_call2_c_0 : DevRef τ sig).ty.Contents (Elt F)) = Step.b14 j s := by
  unfold Step.b14
  rfl
theorem al_15 (h : Holds V0 s j) : (Host.dynamicSlice S1x32x1024 (V0 (Proc.devRef .tc main_v33_2)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024 : (Proc.devRef .tc main_while0b_call2_v0 : DevRef τ sig).ty.Contents (Elt F)) = Step.b15 j s := by
  unfold Step.b15
  rw [← al_3 h, ← al_13 h, ← al_14 h, h.f_2]
  try rfl
theorem al_16 (h : Holds V0 s j) : (res_main_while0b_v48 V0 : (Proc.devRef .tc main_while0b_v48 : DevRef τ sig).ty.Contents (Elt F)) = Step.b16 j s := by
  unfold res_main_while0b_v48 Step.b16
  rw [← al_15 h]
  try rfl
theorem al_17 (h : Holds V0 s j) : (constantI S_ 32 0#32 : (Proc.devRef .tc main_while0b_call3_c : DevRef τ sig).ty.Contents (Elt F)) = Step.b17 j s := by
  unfold Step.b17
  rfl
theorem al_18 (h : Holds V0 s j) : (constantI S_ 32 0#32 : (Proc.devRef .tc main_while0b_call3_c_0 : DevRef τ sig).ty.Contents (Elt F)) = Step.b18 j s := by
  unfold Step.b18
  rfl
theorem al_19 (h : Holds V0 s j) : (Host.dynamicSlice S1x32x1024 (V0 (Proc.devRef .tc main_v33_3)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024 : (Proc.devRef .tc main_while0b_call3_v0 : DevRef τ sig).ty.Contents (Elt F)) = Step.b19 j s := by
  unfold Step.b19
  rw [← al_3 h, ← al_17 h, ← al_18 h, h.f_3]
  try rfl
theorem al_20 (h : Holds V0 s j) : (shapeCast S32x1024 (Host.dynamicSlice S1x32x1024 (V0 (Proc.devRef .tc main_v33_3)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024) shapeCasts_S1x32x1024_S32x1024 : (Proc.devRef .tc main_while0b_v49 : DevRef τ sig).ty.Contents (Elt F)) = Step.b20 j s := by
  unfold Step.b20
  rw [← al_19 h]
  try rfl
theorem al_21 (h : Holds V0 s j) : (constantI S_ 32 0#32 : (Proc.devRef .tc main_while0b_call4_c : DevRef τ sig).ty.Contents (Elt F)) = Step.b21 j s := by
  unfold Step.b21
  rfl
theorem al_22 (h : Holds V0 s j) : (constantI S_ 32 0#32 : (Proc.devRef .tc main_while0b_call4_c_0 : DevRef τ sig).ty.Contents (Elt F)) = Step.b22 j s := by
  unfold Step.b22
  rfl
theorem al_23 (h : Holds V0 s j) : (Host.dynamicSlice S1x32x1024 (V0 (Proc.devRef .tc main_v33_4)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024 : (Proc.devRef .tc main_while0b_call4_v0 : DevRef τ sig).ty.Contents (Elt F)) = Step.b23 j s := by
  unfold Step.b23
  rw [← al_3 h, ← al_21 h, ← al_22 h, h.f_4]
  try rfl
theorem al_24 (h : Holds V0 s j) : (shapeCast S32x1024 (Host.dynamicSlice S1x32x1024 (V0 (Proc.devRef .tc main_v33_4)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024) shapeCasts_S1x32x1024_S32x1024 : (Proc.devRef .tc main_while0b_v50 : DevRef τ sig).ty.Contents (Elt F)) = Step.b24 j s := by
  unfold Step.b24
  rw [← al_23 h]
  try rfl
theorem al_25 (h : Holds V0 s j) : (Host.negf (res_main_while0b_v47 V0) : (Proc.devRef .tc main_while0b_call5_v0 : DevRef τ sig).ty.Contents (Elt F)) = Step.b25 j s := by
  unfold Step.b25
  rw [← al_12 h]
  try rfl
theorem al_26 (h : Holds V0 s j) : (Host.exp (Host.negf (res_main_while0b_v47 V0)) : (Proc.devRef .tc main_while0b_call5_v1 : DevRef τ sig).ty.Contents (Elt F)) = Step.b26 j s := by
  unfold Step.b26
  rw [← al_25 h]
  try rfl
theorem al_27 (h : Holds V0 s j) : (constant S_ .f32 0x3F800000#32 : (Proc.devRef .tc main_while0b_call5_cst : DevRef τ sig).ty.Contents (Elt F)) = Step.b27 j s := by
  unfold Step.b27
  rfl
theorem al_28 (h : Holds V0 s j) : (broadcastInDim S32x1024 ![] bcast_S_S32x1024 (constant S_ .f32 0x3F800000#32) : (Proc.devRef .tc main_while0b_call5_v2 : DevRef τ sig).ty.Contents (Elt F)) = Step.b28 j s := by
  unfold Step.b28
  rw [← al_27 h]
  try rfl
theorem al_29 (h : Holds V0 s j) : (addf (broadcastInDim S32x1024 ![] bcast_S_S32x1024 (constant S_ .f32 0x3F800000#32)) (Host.exp (Host.negf (res_main_while0b_v47 V0))) : (Proc.devRef .tc main_while0b_call5_v3 : DevRef τ sig).ty.Contents (Elt F)) = Step.b29 j s := by
  unfold Step.b29
  rw [← al_28 h, ← al_26 h]
  try rfl
theorem al_30 (h : Holds V0 s j) : (constant S_ .f32 0x3F800000#32 : (Proc.devRef .tc main_while0b_call5_cst_0 : DevRef τ sig).ty.Contents (Elt F)) = Step.b30 j s := by
  unfold Step.b30
  rfl
theorem al_31 (h : Holds V0 s j) : (broadcastInDim S32x1024 ![] bcast_S_S32x1024 (constant S_ .f32 0x3F800000#32) : (Proc.devRef .tc main_while0b_call5_v4 : DevRef τ sig).ty.Contents (Elt F)) = Step.b31 j s := by
  unfold Step.b31
  rw [← al_30 h]
  try rfl
theorem al_32 (h : Holds V0 s j) : (res_main_while0b_v51_2 V0 : (Proc.devRef .tc main_while0b_v51_2 : DevRef τ sig).ty.Contents (Elt F)) = Step.b32 j s := by
  unfold res_main_while0b_v51_2 Step.b32
  rw [← al_31 h, ← al_29 h]
  try rfl
theorem al_33 (h : Holds V0 s j) : (constant S_ .f32 0x3F800000#32 : (Proc.devRef .tc main_while0b_call5_cst_1 : DevRef τ sig).ty.Contents (Elt F)) = Step.b33 j s := by
  unfold Step.b33
  rfl
theorem al_34 (h : Holds V0 s j) : (broadcastInDim S32x1024 ![] bcast_S_S32x1024 (constant S_ .f32 0x3F800000#32) : (Proc.devRef .tc main_while0b_call5_v6 : DevRef τ sig).ty.Contents (Elt F)) = Step.b34 j s := by
  unfold Step.b34
  rw [← al_33 h]
  try rfl
theorem al_35 (h : Holds V0 s j) : (subf (broadcastInDim S32x1024 ![] bcast_S_S32x1024 (constant S_ .f32 0x3F800000#32)) (res_main_while0b_v51_2 V0) : (Proc.devRef .tc main_while0b_call5_v7 : DevRef τ sig).ty.Contents (Elt F)) = Step.b35 j s := by
  unfold Step.b35
  rw [← al_34 h, ← al_32 h]
  try rfl
theorem al_36 (h : Holds V0 s j) : (mulf (res_main_while0b_v51_2 V0) (subf (broadcastInDim S32x1024 ![] bcast_S_S32x1024 (constant S_ .f32 0x3F800000#32)) (res_main_while0b_v51_2 V0)) : (Proc.devRef .tc main_while0b_v51_1 : DevRef τ sig).ty.Contents (Elt F)) = Step.b36 j s := by
  unfold Step.b36
  rw [← al_32 h, ← al_35 h]
  try rfl
theorem al_37 (h : Holds V0 s j) : (mulf (res_main_while0b_v47 V0) (res_main_while0b_v51_2 V0) : (Proc.devRef .tc main_while0b_v51_0 : DevRef τ sig).ty.Contents (Elt F)) = Step.b37 j s := by
  unfold Step.b37
  rw [← al_12 h, ← al_32 h]
  try rfl
theorem al_38 (h : Holds V0 s j) : (shapeCast S32x8x128 (mulf (res_main_while0b_v47 V0) (res_main_while0b_v51_2 V0)) shapeCasts_S32x1024_S32x8x128 : (Proc.devRef .tc main_while0b_v52 : DevRef τ sig).ty.Contents (Elt F)) = Step.b38 j s := by
  unfold Step.b38
  rw [← al_37 h]
  try rfl
theorem al_39 (h : Holds V0 s j) : (shapeCast S32x8x128 (shapeCast S32x1024 (Host.dynamicSlice S1x32x1024 (V0 (Proc.devRef .tc main_v33_3)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024) shapeCasts_S1x32x1024_S32x1024) shapeCasts_S32x1024_S32x8x128 : (Proc.devRef .tc main_while0b_v53 : DevRef τ sig).ty.Contents (Elt F)) = Step.b39 j s := by
  unfold Step.b39
  rw [← al_20 h]
  try rfl
theorem al_40 (h : Holds V0 s j) : (constant S_ .f32 0x3F800000#32 : (Proc.devRef .tc main_while0b_cst_20 : DevRef τ sig).ty.Contents (Elt F)) = Step.b40 j s := by
  unfold Step.b40
  rfl
theorem al_41 (h : Holds V0 s j) : (broadcastInDim S1024 ![] bcast_S_S1024 (constant S_ .f32 0x3F800000#32) : (Proc.devRef .tc main_while0b_v54 : DevRef τ sig).ty.Contents (Elt F)) = Step.b41 j s := by
  unfold Step.b41
  rw [← al_40 h]
  try rfl
theorem al_42 (h : Holds V0 s j) : (subf (broadcastInDim S1024 ![] bcast_S_S1024 (constant S_ .f32 0x3F800000#32)) (V0 (Proc.devRef .tc main_v33_5)) : (Proc.devRef .tc main_while0b_v55 : DevRef τ sig).ty.Contents (Elt F)) = Step.b42 j s := by
  unfold Step.b42
  rw [← al_41 h, h.f_5]
  try rfl
theorem al_43 (h : Holds V0 s j) : (Host.negf (res_main_while0b_v48 V0) : (Proc.devRef .tc main_while0b_v56 : DevRef τ sig).ty.Contents (Elt F)) = Step.b43 j s := by
  unfold Step.b43
  rw [← al_16 h]
  try rfl
theorem al_44 (h : Holds V0 s j) : (Host.exp (Host.negf (res_main_while0b_v48 V0)) : (Proc.devRef .tc main_while0b_v57 : DevRef τ sig).ty.Contents (Elt F)) = Step.b44 j s := by
  unfold Step.b44
  rw [← al_43 h]
  try rfl
theorem al_45 (h : Holds V0 s j) : (constant S_ .f32 0x3F800000#32 : (Proc.devRef .tc main_while0b_cst_21 : DevRef τ sig).ty.Contents (Elt F)) = Step.b45 j s := by
  unfold Step.b45
  rfl
theorem al_46 (h : Holds V0 s j) : (broadcastInDim S32x1024 ![] bcast_S_S32x1024 (constant S_ .f32 0x3F800000#32) : (Proc.devRef .tc main_while0b_v58 : DevRef τ sig).ty.Contents (Elt F)) = Step.b46 j s := by
  unfold Step.b46
  rw [← al_45 h]
  try rfl
theorem al_47 (h : Holds V0 s j) : (addf (broadcastInDim S32x1024 ![] bcast_S_S32x1024 (constant S_ .f32 0x3F800000#32)) (Host.exp (Host.negf (res_main_while0b_v48 V0))) : (Proc.devRef .tc main_while0b_v59 : DevRef τ sig).ty.Contents (Elt F)) = Step.b47 j s := by
  unfold Step.b47
  rw [← al_46 h, ← al_44 h]
  try rfl
theorem al_48 (h : Holds V0 s j) : (constant S_ .f32 0x3F800000#32 : (Proc.devRef .tc main_while0b_cst_22 : DevRef τ sig).ty.Contents (Elt F)) = Step.b48 j s := by
  unfold Step.b48
  rfl
theorem al_49 (h : Holds V0 s j) : (broadcastInDim S32x1024 ![] bcast_S_S32x1024 (constant S_ .f32 0x3F800000#32) : (Proc.devRef .tc main_while0b_v60 : DevRef τ sig).ty.Contents (Elt F)) = Step.b49 j s := by
  unfold Step.b49
  rw [← al_48 h]
  try rfl
theorem al_50 (h : Holds V0 s j) : (res_main_while0b_v61 V0 : (Proc.devRef .tc main_while0b_v61 : DevRef τ sig).ty.Contents (Elt F)) = Step.b50 j s := by
  unfold res_main_while0b_v61 Step.b50
  rw [← al_49 h, ← al_47 h]
  try rfl
theorem al_51 (h : Holds V0 s j) : (constant S_ .f32 0x3F800000#32 : (Proc.devRef .tc main_while0b_cst_23 : DevRef τ sig).ty.Contents (Elt F)) = Step.b51 j s := by
  unfold Step.b51
  rfl
theorem al_52 (h : Holds V0 s j) : (broadcastInDim S32x1024 ![] bcast_S_S32x1024 (constant S_ .f32 0x3F800000#32) : (Proc.devRef .tc main_while0b_v62 : DevRef τ sig).ty.Contents (Elt F)) = Step.b52 j s := by
  unfold Step.b52
  rw [← al_51 h]
  try rfl
theorem al_53 (h : Holds V0 s j) : (subf (broadcastInDim S32x1024 ![] bcast_S_S32x1024 (constant S_ .f32 0x3F800000#32)) (res_main_while0b_v61 V0) : (Proc.devRef .tc main_while0b_v63 : DevRef τ sig).ty.Contents (Elt F)) = Step.b53 j s := by
  unfold Step.b53
  rw [← al_52 h, ← al_50 h]
  try rfl
theorem al_54 (h : Holds V0 s j) : (mulf (res_main_while0b_v61 V0) (subf (broadcastInDim S32x1024 ![] bcast_S_S32x1024 (constant S_ .f32 0x3F800000#32)) (res_main_while0b_v61 V0)) : (Proc.devRef .tc main_while0b_v64 : DevRef τ sig).ty.Contents (Elt F)) = Step.b54 j s := by
  unfold Step.b54
  rw [← al_50 h, ← al_53 h]
  try rfl
theorem al_55 (h : Holds V0 s j) : (res_main_while0b_v65 V0 : (Proc.devRef .tc main_while0b_v65 : DevRef τ sig).ty.Contents (Elt F)) = Step.b55 j s := by
  unfold res_main_while0b_v65 Step.b55
  rw [← al_42 h]
  try rfl
theorem al_56 (h : Holds V0 s j) : (broadcastInDim S32x1024 ![0, 1] bcast_S1x1024_S32x1024_0_1 (res_main_while0b_v65 V0) : (Proc.devRef .tc main_while0b_v66 : DevRef τ sig).ty.Contents (Elt F)) = Step.b56 j s := by
  unfold Step.b56
  rw [← al_55 h]
  try rfl
theorem al_57 (h : Holds V0 s j) : (mulf (broadcastInDim S32x1024 ![0, 1] bcast_S1x1024_S32x1024_0_1 (res_main_while0b_v65 V0)) (res_main_while0b_v61 V0) : (Proc.devRef .tc main_while0b_v67 : DevRef τ sig).ty.Contents (Elt F)) = Step.b57 j s := by
  unfold Step.b57
  rw [← al_56 h, ← al_50 h]
  try rfl
theorem al_58 (h : Holds V0 s j) : (broadcastInDim S1x1024 ![1] bcast_S1024_S1x1024_1 (V0 (Proc.devRef .tc main_v33_5)) : (Proc.devRef .tc main_while0b_v68 : DevRef τ sig).ty.Contents (Elt F)) = Step.b58 j s := by
  unfold Step.b58
  rw [h.f_5]
  try rfl
theorem al_59 (h : Holds V0 s j) : (broadcastInDim S32x1024 ![0, 1] bcast_S1x1024_S32x1024_0_1 (broadcastInDim S1x1024 ![1] bcast_S1024_S1x1024_1 (V0 (Proc.devRef .tc main_v33_5))) : (Proc.devRef .tc main_while0b_v69 : DevRef τ sig).ty.Contents (Elt F)) = Step.b59 j s := by
  unfold Step.b59
  rw [← al_58 h]
  try rfl
theorem al_60 (h : Holds V0 s j) : (res_main_while0b_v70 V0 : (Proc.devRef .tc main_while0b_v70 : DevRef τ sig).ty.Contents (Elt F)) = Step.b60 j s := by
  unfold res_main_while0b_v70 Step.b60
  rw [← al_59 h, ← al_57 h]
  try rfl
theorem al_61 (h : Holds V0 s j) : (Host.log (res_main_while0b_v70 V0) : (Proc.devRef .tc main_while0b_v71 : DevRef τ sig).ty.Contents (Elt F)) = Step.b61 j s := by
  unfold Step.b61
  rw [← al_60 h]
  try rfl
theorem al_62 (h : Holds V0 s j) : (constant S_ .f32 0x3F800000#32 : (Proc.devRef .tc main_while0b_cst_24 : DevRef τ sig).ty.Contents (Elt F)) = Step.b62 j s := by
  unfold Step.b62
  rfl
theorem al_63 (h : Holds V0 s j) : (broadcastInDim S1024 ![] bcast_S_S1024 (constant S_ .f32 0x3F800000#32) : (Proc.devRef .tc main_while0b_v72 : DevRef τ sig).ty.Contents (Elt F)) = Step.b63 j s := by
  unfold Step.b63
  rw [← al_62 h]
  try rfl
theorem al_64 (h : Holds V0 s j) : (subf (broadcastInDim S1024 ![] bcast_S_S1024 (constant S_ .f32 0x3F800000#32)) (V0 (Proc.devRef .tc main_v33_5)) : (Proc.devRef .tc main_while0b_v73 : DevRef τ sig).ty.Contents (Elt F)) = Step.b64 j s := by
  unfold Step.b64
  rw [← al_63 h, h.f_5]
  try rfl
theorem al_65 (h : Holds V0 s j) : (Host.negf (res_main_while0b_v48 V0) : (Proc.devRef .tc main_while0b_v74 : DevRef τ sig).ty.Contents (Elt F)) = Step.b65 j s := by
  unfold Step.b65
  rw [← al_16 h]
  try rfl
theorem al_66 (h : Holds V0 s j) : (Host.negf (Host.negf (res_main_while0b_v48 V0)) : (Proc.devRef .tc main_while0b_v75 : DevRef τ sig).ty.Contents (Elt F)) = Step.b66 j s := by
  unfold Step.b66
  rw [← al_65 h]
  try rfl
theorem al_67 (h : Holds V0 s j) : (Host.exp (Host.negf (Host.negf (res_main_while0b_v48 V0))) : (Proc.devRef .tc main_while0b_v76 : DevRef τ sig).ty.Contents (Elt F)) = Step.b67 j s := by
  unfold Step.b67
  rw [← al_66 h]
  try rfl
theorem al_68 (h : Holds V0 s j) : (constant S_ .f32 0x3F800000#32 : (Proc.devRef .tc main_while0b_cst_25 : DevRef τ sig).ty.Contents (Elt F)) = Step.b68 j s := by
  unfold Step.b68
  rfl
theorem al_69 (h : Holds V0 s j) : (broadcastInDim S32x1024 ![] bcast_S_S32x1024 (constant S_ .f32 0x3F800000#32) : (Proc.devRef .tc main_while0b_v77 : DevRef τ sig).ty.Contents (Elt F)) = Step.b69 j s := by
  unfold Step.b69
  rw [← al_68 h]
  try rfl
theorem al_70 (h : Holds V0 s j) : (addf (broadcastInDim S32x1024 ![] bcast_S_S32x1024 (constant S_ .f32 0x3F800000#32)) (Host.exp (Host.negf (Host.negf (res_main_while0b_v48 V0)))) : (Proc.devRef .tc main_while0b_v78 : DevRef τ sig).ty.Contents (Elt F)) = Step.b70 j s := by
  unfold Step.b70
  rw [← al_69 h, ← al_67 h]
  try rfl
theorem al_71 (h : Holds V0 s j) : (constant S_ .f32 0x3F800000#32 : (Proc.devRef .tc main_while0b_cst_26 : DevRef τ sig).ty.Contents (Elt F)) = Step.b71 j s := by
  unfold Step.b71
  rfl
theorem al_72 (h : Holds V0 s j) : (broadcastInDim S32x1024 ![] bcast_S_S32x1024 (constant S_ .f32 0x3F800000#32) : (Proc.devRef .tc main_while0b_v79 : DevRef τ sig).ty.Contents (Elt F)) = Step.b72 j s := by
  unfold Step.b72
  rw [← al_71 h]
  try rfl
theorem al_73 (h : Holds V0 s j) : (res_main_while0b_v80 V0 : (Proc.devRef .tc main_while0b_v80 : DevRef τ sig).ty.Contents (Elt F)) = Step.b73 j s := by
  unfold res_main_while0b_v80 Step.b73
  rw [← al_72 h, ← al_70 h]
  try rfl
theorem al_74 (h : Holds V0 s j) : (constant S_ .f32 0x3F800000#32 : (Proc.devRef .tc main_while0b_cst_27 : DevRef τ sig).ty.Contents (Elt F)) = Step.b74 j s := by
  unfold Step.b74
  rfl
theorem al_75 (h : Holds V0 s j) : (broadcastInDim S32x1024 ![] bcast_S_S32x1024 (constant S_ .f32 0x3F800000#32) : (Proc.devRef .tc main_while0b_v81 : DevRef τ sig).ty.Contents (Elt F)) = Step.b75 j s := by
  unfold Step.b75
  rw [← al_74 h]
  try rfl
theorem al_76 (h : Holds V0 s j) : (subf (broadcastInDim S32x1024 ![] bcast_S_S32x1024 (constant S_ .f32 0x3F800000#32)) (res_main_while0b_v80 V0) : (Proc.devRef .tc main_while0b_v82 : DevRef τ sig).ty.Contents (Elt F)) = Step.b76 j s := by
  unfold Step.b76
  rw [← al_75 h, ← al_73 h]
  try rfl
theorem al_77 (h : Holds V0 s j) : (mulf (res_main_while0b_v80 V0) (subf (broadcastInDim S32x1024 ![] bcast_S_S32x1024 (constant S_ .f32 0x3F800000#32)) (res_main_while0b_v80 V0)) : (Proc.devRef .tc main_while0b_v83 : DevRef τ sig).ty.Contents (Elt F)) = Step.b77 j s := by
  unfold Step.b77
  rw [← al_73 h, ← al_76 h]
  try rfl
theorem al_78 (h : Holds V0 s j) : (res_main_while0b_v84 V0 : (Proc.devRef .tc main_while0b_v84 : DevRef τ sig).ty.Contents (Elt F)) = Step.b78 j s := by
  unfold res_main_while0b_v84 Step.b78
  rw [← al_64 h]
  try rfl
theorem al_79 (h : Holds V0 s j) : (broadcastInDim S32x1024 ![0, 1] bcast_S1x1024_S32x1024_0_1 (res_main_while0b_v84 V0) : (Proc.devRef .tc main_while0b_v85 : DevRef τ sig).ty.Contents (Elt F)) = Step.b79 j s := by
  unfold Step.b79
  rw [← al_78 h]
  try rfl
theorem al_80 (h : Holds V0 s j) : (mulf (broadcastInDim S32x1024 ![0, 1] bcast_S1x1024_S32x1024_0_1 (res_main_while0b_v84 V0)) (res_main_while0b_v80 V0) : (Proc.devRef .tc main_while0b_v86 : DevRef τ sig).ty.Contents (Elt F)) = Step.b80 j s := by
  unfold Step.b80
  rw [← al_79 h, ← al_73 h]
  try rfl
theorem al_81 (h : Holds V0 s j) : (shapeCast S32x8x128 (mulf (broadcastInDim S32x1024 ![0, 1] bcast_S1x1024_S32x1024_0_1 (res_main_while0b_v84 V0)) (res_main_while0b_v80 V0)) shapeCasts_S32x1024_S32x8x128 : (Proc.devRef .tc main_while0b_v87 : DevRef τ sig).ty.Contents (Elt F)) = Step.b81 j s := by
  unfold Step.b81
  rw [← al_80 h]
  try rfl
theorem al_82 (h : Holds V0 s j) : (shapeCast S32x8x128 (Host.log (res_main_while0b_v70 V0)) shapeCasts_S32x1024_S32x8x128 : (Proc.devRef .tc main_while0b_v88 : DevRef τ sig).ty.Contents (Elt F)) = Step.b82 j s := by
  unfold Step.b82
  rw [← al_61 h]
  try rfl
theorem al_83 (h : Holds V0 s j) : (res_main_while0b_v89 V0 : (Proc.devRef .tc main_while0b_v89 : DevRef τ sig).ty.Contents (Elt F)) = Step.b83 j s := by
  unfold res_main_while0b_v89 Step.b83
  rw [← al_38 h]
  try rfl
theorem al_84 (h : Holds V0 s j) : (res_main_while0b_v90 V0 : (Proc.devRef .tc main_while0b_v90 : DevRef τ sig).ty.Contents (Elt F)) = Step.b84 j s := by
  unfold res_main_while0b_v90 Step.b84
  rw [← al_81 h]
  try rfl
theorem al_85 (h : Holds V0 s j) : (res_main_while0b_v91 V0 : (Proc.devRef .tc main_while0b_v91 : DevRef τ sig).ty.Contents (Elt F)) = Step.b85 j s := by
  unfold res_main_while0b_v91 Step.b85
  rw [← al_39 h]
  try rfl
theorem al_86 (h : Holds V0 s j) : (transpose S8x32x128 [1, 0, 2] (shapeCast S32x8x128 (Host.log (res_main_while0b_v70 V0)) shapeCasts_S32x1024_S32x8x128) transposes_S32x8x128_S8x32x128_1_0_2 : (Proc.devRef .tc main_while0b_v92 : DevRef τ sig).ty.Contents (Elt F)) = Step.b86 j s := by
  unfold Step.b86
  rw [← al_82 h]
  try rfl
theorem al_87 (h : Holds V0 s j) : (constant S_ .f32 0x00000000#32 : (Proc.devRef .tc main_while0b_call6_call0_cst : DevRef τ sig).ty.Contents (Elt F)) = Step.b87 j s := by
  unfold Step.b87
  rfl
theorem al_88 (h : Holds V0 s j) : (broadcastInDim S_ ![] bcast_S_S_ (constant S_ .f32 0x00000000#32) : (Proc.devRef .tc main_while0b_call6_call0_v0 : DevRef τ sig).ty.Contents (Elt F)) = Step.b88 j s := by
  unfold Step.b88
  rw [← al_87 h]
  try rfl
theorem al_89 (h : Holds V0 s j) : (res_main_while0b_v93 V0 : (Proc.devRef .tc main_while0b_v93 : DevRef τ sig).ty.Contents (Elt F)) = Step.b89 j s := by
  unfold res_main_while0b_v93 Step.b89
  rw [← al_86 h, ← al_88 h]
  try rfl
theorem al_90 (h : Holds V0 s j) : (res_main_while0b_v94 V0 : (Proc.devRef .tc main_while0b_v94 : DevRef τ sig).ty.Contents (Elt F)) = Step.b90 j s := by
  unfold res_main_while0b_v94 Step.b90
  rw [← al_89 h]
  try rfl
theorem al_91 (h : Holds V0 s j) : (res_main_while0b_v95 V0 : (Proc.devRef .tc main_while0b_v95 : DevRef τ sig).ty.Contents (Elt F)) = Step.b91 j s := by
  unfold res_main_while0b_v95 Step.b91
  rw [← al_89 h]
  try rfl
theorem al_92 (h : Holds V0 s j) : (constantI S_ 1 1#1 : (Proc.devRef .tc main_while0b_c_28 : DevRef τ sig).ty.Contents (Elt F)) = Step.b92 j s := by
  unfold Step.b92
  rfl
theorem al_93 (h : Holds V0 s j) : (broadcastInDim S32x32 ![] bcast_S_S32x32 (constantI S_ 1 1#1) : (Proc.devRef .tc main_while0b_v96 : DevRef τ sig).ty.Contents (Elt F)) = Step.b93 j s := by
  unfold Step.b93
  rw [← al_92 h]
  try rfl
theorem al_94 (h : Holds V0 s j) : (iotaInDim S32x32 32 0 : (Proc.devRef .tc main_while0b_call7_v0 : DevRef τ sig).ty.Contents (Elt F)) = Step.b94 j s := by
  unfold Step.b94
  rfl
theorem al_95 (h : Holds V0 s j) : (constantI S_ 32 0#32 : (Proc.devRef .tc main_while0b_call7_c : DevRef τ sig).ty.Contents (Elt F)) = Step.b95 j s := by
  unfold Step.b95
  rfl
theorem al_96 (h : Holds V0 s j) : (broadcastInDim S32x32 ![] bcast_S_S32x32 (constantI S_ 32 0#32) : (Proc.devRef .tc main_while0b_call7_v1 : DevRef τ sig).ty.Contents (Elt F)) = Step.b96 j s := by
  unfold Step.b96
  rw [← al_95 h]
  try rfl
theorem al_97 (h : Holds V0 s j) : (addi (iotaInDim S32x32 32 0) (broadcastInDim S32x32 ![] bcast_S_S32x32 (constantI S_ 32 0#32)) : (Proc.devRef .tc main_while0b_call7_v2 : DevRef τ sig).ty.Contents (Elt F)) = Step.b97 j s := by
  unfold Step.b97
  rw [← al_94 h, ← al_96 h]
  try rfl
theorem al_98 (h : Holds V0 s j) : (iotaInDim S32x32 32 1 : (Proc.devRef .tc main_while0b_call7_v3 : DevRef τ sig).ty.Contents (Elt F)) = Step.b98 j s := by
  unfold Step.b98
  rfl
theorem al_99 (h : Holds V0 s j) : (cmpi .sge (addi (iotaInDim S32x32 32 0) (broadcastInDim S32x32 ![] bcast_S_S32x32 (constantI S_ 32 0#32))) (iotaInDim S32x32 32 1) : (Proc.devRef .tc main_while0b_call7_v4 : DevRef τ sig).ty.Contents (Elt F)) = Step.b99 j s := by
  unfold Step.b99
  rw [← al_97 h, ← al_98 h]
  try rfl
theorem al_100 (h : Holds V0 s j) : (constantI S_ 1 0#1 : (Proc.devRef .tc main_while0b_call7_c_0 : DevRef τ sig).ty.Contents (Elt F)) = Step.b100 j s := by
  unfold Step.b100
  rfl
theorem al_101 (h : Holds V0 s j) : (broadcastInDim S32x32 ![] bcast_S_S32x32 (constantI S_ 1 0#1) : (Proc.devRef .tc main_while0b_call7_v5 : DevRef τ sig).ty.Contents (Elt F)) = Step.b101 j s := by
  unfold Step.b101
  rw [← al_100 h]
  try rfl
theorem al_102 (h : Holds V0 s j) : (select (cmpi .sge (addi (iotaInDim S32x32 32 0) (broadcastInDim S32x32 ![] bcast_S_S32x32 (constantI S_ 32 0#32))) (iotaInDim S32x32 32 1)) (broadcastInDim S32x32 ![] bcast_S_S32x32 (constantI S_ 1 1#1)) (broadcastInDim S32x32 ![] bcast_S_S32x32 (constantI S_ 1 0#1)) : (Proc.devRef .tc main_while0b_v97 : DevRef τ sig).ty.Contents (Elt F)) = Step.b102 j s := by
  unfold Step.b102
  rw [← al_99 h, ← al_93 h, ← al_101 h]
  try rfl
theorem al_103 (h : Holds V0 s j) : (broadcastInDim S8x32x128 ![0, 1, 2] bcast_S8x1x128_S8x32x128_0_1_2 (res_main_while0b_v95 V0) : (Proc.devRef .tc main_while0b_v98 : DevRef τ sig).ty.Contents (Elt F)) = Step.b103 j s := by
  unfold Step.b103
  rw [← al_91 h]
  try rfl
theorem al_104 (h : Holds V0 s j) : (subf (res_main_while0b_v93 V0) (broadcastInDim S8x32x128 ![0, 1, 2] bcast_S8x1x128_S8x32x128_0_1_2 (res_main_while0b_v95 V0)) : (Proc.devRef .tc main_while0b_v99 : DevRef τ sig).ty.Contents (Elt F)) = Step.b104 j s := by
  unfold Step.b104
  rw [← al_89 h, ← al_103 h]
  try rfl
theorem al_105 (h : Holds V0 s j) : (res_main_while0b_v100 V0 : (Proc.devRef .tc main_while0b_v100 : DevRef τ sig).ty.Contents (Elt F)) = Step.b105 j s := by
  unfold res_main_while0b_v100 Step.b105
  rw [← al_104 h]
  try rfl
theorem al_106 (h : Holds V0 s j) : (res_main_while0b_v101 V0 : (Proc.devRef .tc main_while0b_v101 : DevRef τ sig).ty.Contents (Elt F)) = Step.b106 j s := by
  unfold res_main_while0b_v101 Step.b106
  rw [← al_83 h, ← al_105 h]
  try rfl
theorem al_107 (h : Holds V0 s j) : (broadcastInDim S8x32x128 ![0, 1, 2] bcast_S8x1x128_S8x32x128_0_1_2 (res_main_while0b_v95 V0) : (Proc.devRef .tc main_while0b_v102 : DevRef τ sig).ty.Contents (Elt F)) = Step.b107 j s := by
  unfold Step.b107
  rw [← al_91 h]
  try rfl
theorem al_108 (h : Holds V0 s j) : (subf (broadcastInDim S8x32x128 ![0, 1, 2] bcast_S8x1x128_S8x32x128_0_1_2 (res_main_while0b_v95 V0)) (res_main_while0b_v93 V0) : (Proc.devRef .tc main_while0b_v103 : DevRef τ sig).ty.Contents (Elt F)) = Step.b108 j s := by
  unfold Step.b108
  rw [← al_107 h, ← al_89 h]
  try rfl
theorem al_109 (h : Holds V0 s j) : (res_main_while0b_v104 V0 : (Proc.devRef .tc main_while0b_v104 : DevRef τ sig).ty.Contents (Elt F)) = Step.b109 j s := by
  unfold res_main_while0b_v104 Step.b109
  rw [← al_108 h]
  try rfl
theorem al_110 (h : Holds V0 s j) : (res_main_while0b_v105 V0 : (Proc.devRef .tc main_while0b_v105 : DevRef τ sig).ty.Contents (Elt F)) = Step.b110 j s := by
  unfold res_main_while0b_v105 Step.b110
  rw [← al_84 h, ← al_109 h]
  try rfl
theorem al_111 (h : Holds V0 s j) : (Host.dotGeneral dot_S8x32x128_S8x32x128_S8x32x32_2_2_1_1_0_0 none (res_main_while0b_v101 V0) (res_main_while0b_v105 V0) : (Proc.devRef .tc main_while0b_v106 : DevRef τ sig).ty.Contents (Elt F)) = Step.b111 j s := by
  unfold Step.b111
  rw [← al_106 h, ← al_110 h]
  try rfl
theorem al_112 (h : Holds V0 s j) : (constant S_ .f32 0x00000000#32 : (Proc.devRef .tc main_while0b_cst_29 : DevRef τ sig).ty.Contents (Elt F)) = Step.b112 j s := by
  unfold Step.b112
  rfl
theorem al_113 (h : Holds V0 s j) : (id (constant S_ .f32 0x00000000#32) : (Proc.devRef .tc main_while0b_call8_v0 : DevRef τ sig).ty.Contents (Elt F)) = Step.b113 j s := by
  unfold Step.b113
  rw [← al_112 h]
  try rfl
theorem al_114 (h : Holds V0 s j) : (res_main_while0b_v107_1 V0 : (Proc.devRef .tc main_while0b_v107_1 : DevRef τ sig).ty.Contents (Elt F)) = Step.b114 j s := by
  unfold res_main_while0b_v107_1 Step.b114
  rw [← al_102 h]
  try rfl
theorem al_115 (h : Holds V0 s j) : (broadcastInDim S8x32x32 ![] bcast_S_S8x32x32 (id (constant S_ .f32 0x00000000#32)) : (Proc.devRef .tc main_while0b_call8_v2 : DevRef τ sig).ty.Contents (Elt F)) = Step.b115 j s := by
  unfold Step.b115
  rw [← al_113 h]
  try rfl
theorem al_116 (h : Holds V0 s j) : (res_main_while0b_v107_0 V0 : (Proc.devRef .tc main_while0b_v107_0 : DevRef τ sig).ty.Contents (Elt F)) = Step.b116 j s := by
  unfold res_main_while0b_v107_0 Step.b116
  rw [← al_114 h, ← al_111 h, ← al_115 h]
  try rfl
theorem al_117 (h : Holds V0 s j) : (constant S_ .f32 0x00000000#32 : (Proc.devRef .tc main_while0b_call8_cst : DevRef τ sig).ty.Contents (Elt F)) = Step.b117 j s := by
  unfold Step.b117
  rfl
theorem al_118 (h : Holds V0 s j) : (broadcastInDim S8x32x32 ![] bcast_S_S8x32x32 (constant S_ .f32 0x00000000#32) : (Proc.devRef .tc main_while0b_v107_2 : DevRef τ sig).ty.Contents (Elt F)) = Step.b118 j s := by
  unfold Step.b118
  rw [← al_117 h]
  try rfl
theorem al_119 (h : Holds V0 s j) : (Host.dotGeneral dot_S8x32x32_S8x32x128_S8x32x128_2_1_1_2_0_0 none (res_main_while0b_v107_0 V0) (res_main_while0b_v91 V0) : (Proc.devRef .tc main_while0b_v108 : DevRef τ sig).ty.Contents (Elt F)) = Step.b119 j s := by
  unfold Step.b119
  rw [← al_116 h, ← al_85 h]
  try rfl
theorem al_120 (h : Holds V0 s j) : (res_main_while0b_v109 V0 : (Proc.devRef .tc main_while0b_v109 : DevRef τ sig).ty.Contents (Elt F)) = Step.b120 j s := by
  unfold res_main_while0b_v109 Step.b120
  rw [← al_89 h]
  try rfl
theorem al_121 (h : Holds V0 s j) : (res_main_while0b_v110 V0 : (Proc.devRef .tc main_while0b_v110 : DevRef τ sig).ty.Contents (Elt F)) = Step.b121 j s := by
  unfold res_main_while0b_v110 Step.b121
  rw [← al_83 h, ← al_120 h]
  try rfl
theorem al_122 (h : Holds V0 s j) : (broadcastInDim S8x32x128 ![0, 1, 2] bcast_S8x1x128_S8x32x128_0_1_2 (res_main_while0b_v94 V0) : (Proc.devRef .tc main_while0b_v111 : DevRef τ sig).ty.Contents (Elt F)) = Step.b122 j s := by
  unfold Step.b122
  rw [← al_90 h]
  try rfl
theorem al_123 (h : Holds V0 s j) : (subf (broadcastInDim S8x32x128 ![0, 1, 2] bcast_S8x1x128_S8x32x128_0_1_2 (res_main_while0b_v94 V0)) (res_main_while0b_v93 V0) : (Proc.devRef .tc main_while0b_v112 : DevRef τ sig).ty.Contents (Elt F)) = Step.b123 j s := by
  unfold Step.b123
  rw [← al_122 h, ← al_89 h]
  try rfl
theorem al_124 (h : Holds V0 s j) : (res_main_while0b_v113 V0 : (Proc.devRef .tc main_while0b_v113 : DevRef τ sig).ty.Contents (Elt F)) = Step.b124 j s := by
  unfold res_main_while0b_v113 Step.b124
  rw [← al_123 h]
  try rfl
theorem al_125 (h : Holds V0 s j) : (res_main_while0b_v114 V0 : (Proc.devRef .tc main_while0b_v114 : DevRef τ sig).ty.Contents (Elt F)) = Step.b125 j s := by
  unfold res_main_while0b_v114 Step.b125
  rw [← al_84 h, ← al_124 h]
  try rfl
theorem al_126 (h : Holds V0 s j) : (res_main_while0b_v115 V0 : (Proc.devRef .tc main_while0b_v115 : DevRef τ sig).ty.Contents (Elt F)) = Step.b126 j s := by
  unfold res_main_while0b_v115 Step.b126
  rw [← al_90 h]
  try rfl
theorem al_127 (h : Holds V0 s j) : (Host.dotGeneral dot_S8x32x128_S8x128x128_S8x32x128_2_1_1_2_0_0 none (res_main_while0b_v110 V0) (res_main_while0b_v46 V0) : (Proc.devRef .tc main_while0b_v116 : DevRef τ sig).ty.Contents (Elt F)) = Step.b127 j s := by
  unfold Step.b127
  rw [← al_121 h, ← al_8 h]
  try rfl
theorem al_128 (h : Holds V0 s j) : (shapeCast S8x128 (res_main_while0b_v115 V0) shapeCasts_S8x1x128_S8x128 : (Proc.devRef .tc main_while0b_v117 : DevRef τ sig).ty.Contents (Elt F)) = Step.b128 j s := by
  unfold Step.b128
  rw [← al_126 h]
  try rfl
theorem al_129 (h : Holds V0 s j) : (res_main_while0b_v118 V0 : (Proc.devRef .tc main_while0b_v118 : DevRef τ sig).ty.Contents (Elt F)) = Step.b129 j s := by
  unfold res_main_while0b_v118 Step.b129
  rw [← al_128 h]
  try rfl
theorem al_130 (h : Holds V0 s j) : (broadcastInDim S8x128x128 ![0, 1, 2] bcast_S8x128x1_S8x128x128_0_1_2 (res_main_while0b_v118 V0) : (Proc.devRef .tc main_while0b_v119 : DevRef τ sig).ty.Contents (Elt F)) = Step.b130 j s := by
  unfold Step.b130
  rw [← al_129 h]
  try rfl
theorem al_131 (h : Holds V0 s j) : (mulf (res_main_while0b_v46 V0) (broadcastInDim S8x128x128 ![0, 1, 2] bcast_S8x128x1_S8x128x128_0_1_2 (res_main_while0b_v118 V0)) : (Proc.devRef .tc main_while0b_v120 : DevRef τ sig).ty.Contents (Elt F)) = Step.b131 j s := by
  unfold Step.b131
  rw [← al_8 h, ← al_130 h]
  try rfl
theorem al_132 (h : Holds V0 s j) : (Host.dotGeneral dot_S8x32x128_S8x32x128_S8x128x128_1_1_2_2_0_0 none (res_main_while0b_v114 V0) (res_main_while0b_v91 V0) : (Proc.devRef .tc main_while0b_v121 : DevRef τ sig).ty.Contents (Elt F)) = Step.b132 j s := by
  unfold Step.b132
  rw [← al_125 h, ← al_85 h]
  try rfl
theorem al_133 (h : Holds V0 s j) : (addf (mulf (res_main_while0b_v46 V0) (broadcastInDim S8x128x128 ![0, 1, 2] bcast_S8x128x1_S8x128x128_0_1_2 (res_main_while0b_v118 V0))) (Host.dotGeneral dot_S8x32x128_S8x32x128_S8x128x128_1_1_2_2_0_0 none (res_main_while0b_v114 V0) (res_main_while0b_v91 V0)) : (Proc.devRef .tc main_while0b_v122 : DevRef τ sig).ty.Contents (Elt F)) = Step.b133 j s := by
  unfold Step.b133
  rw [← al_131 h, ← al_132 h]
  try rfl
theorem al_134 (h : Holds V0 s j) : (addf (Host.dotGeneral dot_S8x32x32_S8x32x128_S8x32x128_2_1_1_2_0_0 none (res_main_while0b_v107_0 V0) (res_main_while0b_v91 V0)) (Host.dotGeneral dot_S8x32x128_S8x128x128_S8x32x128_2_1_1_2_0_0 none (res_main_while0b_v110 V0) (res_main_while0b_v46 V0)) : (Proc.devRef .tc main_while0b_v123 : DevRef τ sig).ty.Contents (Elt F)) = Step.b134 j s := by
  unfold Step.b134
  rw [← al_119 h, ← al_127 h]
  try rfl
theorem al_135 (h : Holds V0 s j) : (transpose S32x8x128 [1, 0, 2] (addf (Host.dotGeneral dot_S8x32x32_S8x32x128_S8x32x128_2_1_1_2_0_0 none (res_main_while0b_v107_0 V0) (res_main_while0b_v91 V0)) (Host.dotGeneral dot_S8x32x128_S8x128x128_S8x32x128_2_1_1_2_0_0 none (res_main_while0b_v110 V0) (res_main_while0b_v46 V0))) transposes_S8x32x128_S32x8x128_1_0_2 : (Proc.devRef .tc main_while0b_v124 : DevRef τ sig).ty.Contents (Elt F)) = Step.b135 j s := by
  unfold Step.b135
  rw [← al_134 h]
  try rfl
theorem al_136 (h : Holds V0 s j) : (shapeCast S32x1024 (transpose S32x8x128 [1, 0, 2] (addf (Host.dotGeneral dot_S8x32x32_S8x32x128_S8x32x128_2_1_1_2_0_0 none (res_main_while0b_v107_0 V0) (res_main_while0b_v91 V0)) (Host.dotGeneral dot_S8x32x128_S8x128x128_S8x32x128_2_1_1_2_0_0 none (res_main_while0b_v110 V0) (res_main_while0b_v46 V0))) transposes_S8x32x128_S32x8x128_1_0_2) shapeCasts_S32x8x128_S32x1024 : (Proc.devRef .tc main_while0b_v125 : DevRef τ sig).ty.Contents (Elt F)) = Step.b136 j s := by
  unfold Step.b136
  rw [← al_135 h]
  try rfl
theorem al_137 (h : Holds V0 s j) : (shapeCast S32x8x128 (shapeCast S32x1024 (Host.dynamicSlice S1x32x1024 (V0 (Proc.devRef .tc main_v33_4)) (fun k => (((![res_main_while0b_v45 V0, constantI S_ 32 0#32, constantI S_ 32 0#32] : Fin 3 → (⟨S_, .i32⟩ : BufTy).Contents (Elt F))) k (Shape.Idx.first h_S_)).toInt) sliceFits_S264x32x1024_S1x32x1024) shapeCasts_S1x32x1024_S32x1024) shapeCasts_S32x1024_S32x8x128 : (Proc.devRef .tc main_while0b_v126 : DevRef τ sig).ty.Contents (Elt F)) = Step.b137 j s := by
  unfold Step.b137
  rw [← al_24 h]
  try rfl
theorem al_138 (h : Holds V0 s j) : (res_main_while0b_v127 V0 : (Proc.devRef .tc main_while0b_v127 : DevRef τ sig).ty.Contents (Elt F)) = Step.b138 j s := by
  unfold res_main_while0b_v127 Step.b138
  rw [← al_137 h]
  try rfl
theorem al_139 (h : Holds V0 s j) : (Host.dotGeneral dot_S8x128x128_S8x32x128_S8x128x32_1_2_2_1_0_0 none (V0 (Proc.devRef .tc main_v33_7)) (res_main_while0b_v114 V0) : (Proc.devRef .tc main_while0b_v128 : DevRef τ sig).ty.Contents (Elt F)) = Step.b139 j s := by
  unfold Step.b139
  rw [← al_125 h, h.f_7]
  try rfl
theorem al_140 (h : Holds V0 s j) : (transpose S8x32x128 [0, 2, 1] (Host.dotGeneral dot_S8x128x128_S8x32x128_S8x128x32_1_2_2_1_0_0 none (V0 (Proc.devRef .tc main_v33_7)) (res_main_while0b_v114 V0)) transposes_S8x128x32_S8x32x128_0_2_1 : (Proc.devRef .tc main_while0b_v129 : DevRef τ sig).ty.Contents (Elt F)) = Step.b140 j s := by
  unfold Step.b140
  rw [← al_139 h]
  try rfl
theorem al_141 (h : Holds V0 s j) : (Host.dotGeneral dot_S8x128x128_S8x32x128_S8x128x32_2_2_1_1_0_0 none (V0 (Proc.devRef .tc main_v33_7)) (res_main_while0b_v91 V0) : (Proc.devRef .tc main_while0b_v130 : DevRef τ sig).ty.Contents (Elt F)) = Step.b141 j s := by
  unfold Step.b141
  rw [← al_85 h, h.f_7]
  try rfl
theorem al_142 (h : Holds V0 s j) : (res_main_while0b_v131 V0 : (Proc.devRef .tc main_while0b_v131 : DevRef τ sig).ty.Contents (Elt F)) = Step.b142 j s := by
  unfold res_main_while0b_v131 Step.b142
  rw [← al_141 h]
  try rfl
theorem al_143 (h : Holds V0 s j) : (mulf (res_main_while0b_v46 V0) (V0 (Proc.devRef .tc main_v33_7)) : (Proc.devRef .tc main_while0b_v132 : DevRef τ sig).ty.Contents (Elt F)) = Step.b143 j s := by
  unfold Step.b143
  rw [← al_8 h, h.f_7]
  try rfl
theorem al_144 (h : Holds V0 s j) : (constant S_ .f32 0x00000000#32 : (Proc.devRef .tc main_while0b_cst_30 : DevRef τ sig).ty.Contents (Elt F)) = Step.b144 j s := by
  unfold Step.b144
  rfl
theorem al_145 (h : Holds V0 s j) : (Host.reduceAdd (mulf (res_main_while0b_v46 V0) (V0 (Proc.devRef .tc main_v33_7))) (constant S_ .f32 0x00000000#32) reducesTo_S8x128x128_S8x128_d2 h_S_ : (Proc.devRef .tc main_while0b_v133 : DevRef τ sig).ty.Contents (Elt F)) = Step.b145 j s := by
  unfold Step.b145
  rw [← al_143 h, ← al_144 h]
  try rfl
theorem al_146 (h : Holds V0 s j) : (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1 : (Proc.devRef .tc main_while0b_v134 : DevRef τ sig).ty.Contents (Elt F)) = Step.b146 j s := by
  unfold Step.b146
  rw [← al_145 h]
  try rfl
theorem al_147 (h : Holds V0 s j) : (broadcastInDim S8x128x128 ![0, 1, 2] bcast_S8x128x1_S8x128x128_0_1_2 (res_main_while0b_v118 V0) : (Proc.devRef .tc main_while0b_v135 : DevRef τ sig).ty.Contents (Elt F)) = Step.b147 j s := by
  unfold Step.b147
  rw [← al_129 h]
  try rfl
theorem al_148 (h : Holds V0 s j) : (mulf (V0 (Proc.devRef .tc main_v33_7)) (broadcastInDim S8x128x128 ![0, 1, 2] bcast_S8x128x1_S8x128x128_0_1_2 (res_main_while0b_v118 V0)) : (Proc.devRef .tc main_while0b_v136 : DevRef τ sig).ty.Contents (Elt F)) = Step.b148 j s := by
  unfold Step.b148
  rw [← al_147 h, h.f_7]
  try rfl
theorem al_149 (h : Holds V0 s j) : (constant S_ .f32 0x00000000#32 : (Proc.devRef .tc main_while0b_cst_31 : DevRef τ sig).ty.Contents (Elt F)) = Step.b149 j s := by
  unfold Step.b149
  rfl
theorem al_150 (h : Holds V0 s j) : (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_ : (Proc.devRef .tc main_while0b_v137 : DevRef τ sig).ty.Contents (Elt F)) = Step.b150 j s := by
  unfold Step.b150
  rw [← al_146 h, ← al_149 h]
  try rfl
theorem al_151 (h : Holds V0 s j) : (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_) : (Proc.devRef .tc main_while0b_v138 : DevRef τ sig).ty.Contents (Elt F)) = Step.b151 j s := by
  unfold Step.b151
  rw [← al_150 h]
  try rfl
theorem al_152 (h : Holds V0 s j) : (Host.dotGeneral dot_S8x32x128_S8x32x128_S8x128x128_1_1_2_2_0_0 none (res_main_while0b_v127 V0) (res_main_while0b_v110 V0) : (Proc.devRef .tc main_while0b_v139 : DevRef τ sig).ty.Contents (Elt F)) = Step.b152 j s := by
  unfold Step.b152
  rw [← al_138 h, ← al_121 h]
  try rfl
theorem al_153 (h : Holds V0 s j) : (transpose S8x128x128 [0, 2, 1] (Host.dotGeneral dot_S8x32x128_S8x32x128_S8x128x128_1_1_2_2_0_0 none (res_main_while0b_v127 V0) (res_main_while0b_v110 V0)) transposes_S8x128x128_S8x128x128_0_2_1 : (Proc.devRef .tc main_while0b_v140 : DevRef τ sig).ty.Contents (Elt F)) = Step.b153 j s := by
  unfold Step.b153
  rw [← al_152 h]
  try rfl
theorem al_154 (h : Holds V0 s j) : (addf (mulf (V0 (Proc.devRef .tc main_v33_7)) (broadcastInDim S8x128x128 ![0, 1, 2] bcast_S8x128x1_S8x128x128_0_1_2 (res_main_while0b_v118 V0))) (transpose S8x128x128 [0, 2, 1] (Host.dotGeneral dot_S8x32x128_S8x32x128_S8x128x128_1_1_2_2_0_0 none (res_main_while0b_v127 V0) (res_main_while0b_v110 V0)) transposes_S8x128x128_S8x128x128_0_2_1) : (Proc.devRef .tc main_while0b_v141 : DevRef τ sig).ty.Contents (Elt F)) = Step.b154 j s := by
  unfold Step.b154
  rw [← al_148 h, ← al_153 h]
  try rfl
theorem al_155 (h : Holds V0 s j) : (res_main_while0b_v142 V0 : (Proc.devRef .tc main_while0b_v142 : DevRef τ sig).ty.Contents (Elt F)) = Step.b155 j s := by
  unfold res_main_while0b_v142 Step.b155
  rw [← al_138 h, ← al_8 h]
  try rfl
theorem al_156 (h : Holds V0 s j) : (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0) : (Proc.devRef .tc main_while0b_v143 : DevRef τ sig).ty.Contents (Elt F)) = Step.b156 j s := by
  unfold Step.b156
  rw [← al_151 h, ← al_126 h]
  try rfl
theorem al_157 (h : Holds V0 s j) : (mulf (res_main_while0b_v90 V0) (res_main_while0b_v131 V0) : (Proc.devRef .tc main_while0b_v144 : DevRef τ sig).ty.Contents (Elt F)) = Step.b157 j s := by
  unfold Step.b157
  rw [← al_84 h, ← al_142 h]
  try rfl
theorem al_158 (h : Holds V0 s j) : (mulf (res_main_while0b_v131 V0) (res_main_while0b_v113 V0) : (Proc.devRef .tc main_while0b_v145 : DevRef τ sig).ty.Contents (Elt F)) = Step.b158 j s := by
  unfold Step.b158
  rw [← al_142 h, ← al_124 h]
  try rfl
theorem al_159 (h : Holds V0 s j) : (res_main_while0b_v146 V0 : (Proc.devRef .tc main_while0b_v146 : DevRef τ sig).ty.Contents (Elt F)) = Step.b159 j s := by
  unfold res_main_while0b_v146 Step.b159
  rw [← al_157 h, ← al_124 h]
  try rfl
theorem al_160 (h : Holds V0 s j) : (constant S_ .f32 0x00000000#32 : (Proc.devRef .tc main_while0b_cst_32 : DevRef τ sig).ty.Contents (Elt F)) = Step.b160 j s := by
  unfold Step.b160
  rfl
theorem al_161 (h : Holds V0 s j) : (Host.reduceAdd (res_main_while0b_v146 V0) (constant S_ .f32 0x00000000#32) reducesTo_S8x32x128_S8x128_d1 h_S_ : (Proc.devRef .tc main_while0b_v147 : DevRef τ sig).ty.Contents (Elt F)) = Step.b161 j s := by
  unfold Step.b161
  rw [← al_159 h, ← al_160 h]
  try rfl
theorem al_162 (h : Holds V0 s j) : (shapeCast S8x1x128 (Host.reduceAdd (res_main_while0b_v146 V0) (constant S_ .f32 0x00000000#32) reducesTo_S8x32x128_S8x128_d1 h_S_) shapeCasts_S8x128_S8x1x128 : (Proc.devRef .tc main_while0b_v148 : DevRef τ sig).ty.Contents (Elt F)) = Step.b162 j s := by
  unfold Step.b162
  rw [← al_161 h]
  try rfl
theorem al_163 (h : Holds V0 s j) : (Host.negf (res_main_while0b_v146 V0) : (Proc.devRef .tc main_while0b_v149 : DevRef τ sig).ty.Contents (Elt F)) = Step.b163 j s := by
  unfold Step.b163
  rw [← al_159 h]
  try rfl
theorem al_164 (h : Holds V0 s j) : (addf (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0)) (shapeCast S8x1x128 (Host.reduceAdd (res_main_while0b_v146 V0) (constant S_ .f32 0x00000000#32) reducesTo_S8x32x128_S8x128_d1 h_S_) shapeCasts_S8x128_S8x1x128) : (Proc.devRef .tc main_while0b_v150 : DevRef τ sig).ty.Contents (Elt F)) = Step.b164 j s := by
  unfold Step.b164
  rw [← al_156 h, ← al_162 h]
  try rfl
theorem al_165 (h : Holds V0 s j) : (mulf (res_main_while0b_v89 V0) (res_main_while0b_v142 V0) : (Proc.devRef .tc main_while0b_v151 : DevRef τ sig).ty.Contents (Elt F)) = Step.b165 j s := by
  unfold Step.b165
  rw [← al_83 h, ← al_155 h]
  try rfl
theorem al_166 (h : Holds V0 s j) : (mulf (res_main_while0b_v142 V0) (res_main_while0b_v109 V0) : (Proc.devRef .tc main_while0b_v152 : DevRef τ sig).ty.Contents (Elt F)) = Step.b166 j s := by
  unfold Step.b166
  rw [← al_155 h, ← al_120 h]
  try rfl
theorem al_167 (h : Holds V0 s j) : (mulf (mulf (res_main_while0b_v89 V0) (res_main_while0b_v142 V0)) (res_main_while0b_v109 V0) : (Proc.devRef .tc main_while0b_v153 : DevRef τ sig).ty.Contents (Elt F)) = Step.b167 j s := by
  unfold Step.b167
  rw [← al_165 h, ← al_120 h]
  try rfl
theorem al_168 (h : Holds V0 s j) : (addf (Host.negf (res_main_while0b_v146 V0)) (mulf (mulf (res_main_while0b_v89 V0) (res_main_while0b_v142 V0)) (res_main_while0b_v109 V0)) : (Proc.devRef .tc main_while0b_v154 : DevRef τ sig).ty.Contents (Elt F)) = Step.b168 j s := by
  unfold Step.b168
  rw [← al_163 h, ← al_167 h]
  try rfl
theorem al_169 (h : Holds V0 s j) : (Host.dotGeneral dot_S8x32x128_S8x32x32_S8x128x32_1_1_2_2_0_0 none (res_main_while0b_v127 V0) (res_main_while0b_v107_0 V0) : (Proc.devRef .tc main_while0b_v155 : DevRef τ sig).ty.Contents (Elt F)) = Step.b169 j s := by
  unfold Step.b169
  rw [← al_138 h, ← al_116 h]
  try rfl
theorem al_170 (h : Holds V0 s j) : (transpose S8x32x128 [0, 2, 1] (Host.dotGeneral dot_S8x32x128_S8x32x32_S8x128x32_1_1_2_2_0_0 none (res_main_while0b_v127 V0) (res_main_while0b_v107_0 V0)) transposes_S8x128x32_S8x32x128_0_2_1 : (Proc.devRef .tc main_while0b_v156 : DevRef τ sig).ty.Contents (Elt F)) = Step.b170 j s := by
  unfold Step.b170
  rw [← al_169 h]
  try rfl
theorem al_171 (h : Holds V0 s j) : (addf (transpose S8x32x128 [0, 2, 1] (Host.dotGeneral dot_S8x128x128_S8x32x128_S8x128x32_1_2_2_1_0_0 none (V0 (Proc.devRef .tc main_v33_7)) (res_main_while0b_v114 V0)) transposes_S8x128x32_S8x32x128_0_2_1) (transpose S8x32x128 [0, 2, 1] (Host.dotGeneral dot_S8x32x128_S8x32x32_S8x128x32_1_1_2_2_0_0 none (res_main_while0b_v127 V0) (res_main_while0b_v107_0 V0)) transposes_S8x128x32_S8x32x128_0_2_1) : (Proc.devRef .tc main_while0b_v157 : DevRef τ sig).ty.Contents (Elt F)) = Step.b171 j s := by
  unfold Step.b171
  rw [← al_140 h, ← al_170 h]
  try rfl
theorem al_172 (h : Holds V0 s j) : (Host.dotGeneral dot_S8x32x128_S8x32x128_S8x32x32_2_2_1_1_0_0 none (res_main_while0b_v127 V0) (res_main_while0b_v91 V0) : (Proc.devRef .tc main_while0b_v158 : DevRef τ sig).ty.Contents (Elt F)) = Step.b172 j s := by
  unfold Step.b172
  rw [← al_138 h, ← al_85 h]
  try rfl
theorem al_173 (h : Holds V0 s j) : (constant S_ .f32 0x00000000#32 : (Proc.devRef .tc main_while0b_call9_cst : DevRef τ sig).ty.Contents (Elt F)) = Step.b173 j s := by
  unfold Step.b173
  rfl
theorem al_174 (h : Holds V0 s j) : (broadcastInDim S8x32x32 ![] bcast_S_S8x32x32 (constant S_ .f32 0x00000000#32) : (Proc.devRef .tc main_while0b_call9_v0 : DevRef τ sig).ty.Contents (Elt F)) = Step.b174 j s := by
  unfold Step.b174
  rw [← al_173 h]
  try rfl
theorem al_175 (h : Holds V0 s j) : (res_main_while0b_v159 V0 : (Proc.devRef .tc main_while0b_v159 : DevRef τ sig).ty.Contents (Elt F)) = Step.b175 j s := by
  unfold res_main_while0b_v159 Step.b175
  rw [← al_114 h, ← al_172 h, ← al_174 h]
  try rfl
theorem al_176 (h : Holds V0 s j) : (res_main_while0b_v160 V0 : (Proc.devRef .tc main_while0b_v160 : DevRef τ sig).ty.Contents (Elt F)) = Step.b176 j s := by
  unfold res_main_while0b_v160 Step.b176
  rw [← al_175 h, ← al_106 h]
  try rfl
theorem al_177 (h : Holds V0 s j) : (res_main_while0b_v161 V0 : (Proc.devRef .tc main_while0b_v161 : DevRef τ sig).ty.Contents (Elt F)) = Step.b177 j s := by
  unfold res_main_while0b_v161 Step.b177
  rw [← al_175 h, ← al_110 h]
  try rfl
theorem al_178 (h : Holds V0 s j) : (mulf (res_main_while0b_v90 V0) (res_main_while0b_v160 V0) : (Proc.devRef .tc main_while0b_v162 : DevRef τ sig).ty.Contents (Elt F)) = Step.b178 j s := by
  unfold Step.b178
  rw [← al_84 h, ← al_176 h]
  try rfl
theorem al_179 (h : Holds V0 s j) : (mulf (res_main_while0b_v160 V0) (res_main_while0b_v104 V0) : (Proc.devRef .tc main_while0b_v163 : DevRef τ sig).ty.Contents (Elt F)) = Step.b179 j s := by
  unfold Step.b179
  rw [← al_176 h, ← al_109 h]
  try rfl
theorem al_180 (h : Holds V0 s j) : (addf (mulf (res_main_while0b_v131 V0) (res_main_while0b_v113 V0)) (mulf (res_main_while0b_v160 V0) (res_main_while0b_v104 V0)) : (Proc.devRef .tc main_while0b_v164 : DevRef τ sig).ty.Contents (Elt F)) = Step.b180 j s := by
  unfold Step.b180
  rw [← al_158 h, ← al_179 h]
  try rfl
theorem al_181 (h : Holds V0 s j) : (res_main_while0b_v165 V0 : (Proc.devRef .tc main_while0b_v165 : DevRef τ sig).ty.Contents (Elt F)) = Step.b181 j s := by
  unfold res_main_while0b_v165 Step.b181
  rw [← al_178 h, ← al_109 h]
  try rfl
theorem al_182 (h : Holds V0 s j) : (constant S_ .f32 0x00000000#32 : (Proc.devRef .tc main_while0b_cst_33 : DevRef τ sig).ty.Contents (Elt F)) = Step.b182 j s := by
  unfold Step.b182
  rfl
theorem al_183 (h : Holds V0 s j) : (Host.reduceAdd (res_main_while0b_v165 V0) (constant S_ .f32 0x00000000#32) reducesTo_S8x32x128_S8x128_d1 h_S_ : (Proc.devRef .tc main_while0b_v166 : DevRef τ sig).ty.Contents (Elt F)) = Step.b183 j s := by
  unfold Step.b183
  rw [← al_181 h, ← al_182 h]
  try rfl
theorem al_184 (h : Holds V0 s j) : (shapeCast S8x1x128 (Host.reduceAdd (res_main_while0b_v165 V0) (constant S_ .f32 0x00000000#32) reducesTo_S8x32x128_S8x128_d1 h_S_) shapeCasts_S8x128_S8x1x128 : (Proc.devRef .tc main_while0b_v167 : DevRef τ sig).ty.Contents (Elt F)) = Step.b184 j s := by
  unfold Step.b184
  rw [← al_183 h]
  try rfl
theorem al_185 (h : Holds V0 s j) : (Host.negf (res_main_while0b_v165 V0) : (Proc.devRef .tc main_while0b_v168 : DevRef τ sig).ty.Contents (Elt F)) = Step.b185 j s := by
  unfold Step.b185
  rw [← al_181 h]
  try rfl
theorem al_186 (h : Holds V0 s j) : (addf (addf (Host.negf (res_main_while0b_v146 V0)) (mulf (mulf (res_main_while0b_v89 V0) (res_main_while0b_v142 V0)) (res_main_while0b_v109 V0))) (Host.negf (res_main_while0b_v165 V0)) : (Proc.devRef .tc main_while0b_v169 : DevRef τ sig).ty.Contents (Elt F)) = Step.b186 j s := by
  unfold Step.b186
  rw [← al_168 h, ← al_185 h]
  try rfl
theorem al_187 (h : Holds V0 s j) : (mulf (res_main_while0b_v89 V0) (res_main_while0b_v161 V0) : (Proc.devRef .tc main_while0b_v170 : DevRef τ sig).ty.Contents (Elt F)) = Step.b187 j s := by
  unfold Step.b187
  rw [← al_83 h, ← al_177 h]
  try rfl
theorem al_188 (h : Holds V0 s j) : (mulf (res_main_while0b_v161 V0) (res_main_while0b_v100 V0) : (Proc.devRef .tc main_while0b_v171 : DevRef τ sig).ty.Contents (Elt F)) = Step.b188 j s := by
  unfold Step.b188
  rw [← al_177 h, ← al_105 h]
  try rfl
theorem al_189 (h : Holds V0 s j) : (addf (mulf (res_main_while0b_v142 V0) (res_main_while0b_v109 V0)) (mulf (res_main_while0b_v161 V0) (res_main_while0b_v100 V0)) : (Proc.devRef .tc main_while0b_v172 : DevRef τ sig).ty.Contents (Elt F)) = Step.b189 j s := by
  unfold Step.b189
  rw [← al_166 h, ← al_188 h]
  try rfl
theorem al_190 (h : Holds V0 s j) : (res_main_while0b_v173 V0 : (Proc.devRef .tc main_while0b_v173 : DevRef τ sig).ty.Contents (Elt F)) = Step.b190 j s := by
  unfold res_main_while0b_v173 Step.b190
  rw [← al_187 h, ← al_105 h]
  try rfl
theorem al_191 (h : Holds V0 s j) : (Host.negf (res_main_while0b_v173 V0) : (Proc.devRef .tc main_while0b_v174 : DevRef τ sig).ty.Contents (Elt F)) = Step.b191 j s := by
  unfold Step.b191
  rw [← al_190 h]
  try rfl
theorem al_192 (h : Holds V0 s j) : (constant S_ .f32 0x00000000#32 : (Proc.devRef .tc main_while0b_cst_34 : DevRef τ sig).ty.Contents (Elt F)) = Step.b192 j s := by
  unfold Step.b192
  rfl
theorem al_193 (h : Holds V0 s j) : (Host.reduceAdd (Host.negf (res_main_while0b_v173 V0)) (constant S_ .f32 0x00000000#32) reducesTo_S8x32x128_S8x128_d1 h_S_ : (Proc.devRef .tc main_while0b_v175 : DevRef τ sig).ty.Contents (Elt F)) = Step.b193 j s := by
  unfold Step.b193
  rw [← al_191 h, ← al_192 h]
  try rfl
theorem al_194 (h : Holds V0 s j) : (shapeCast S8x1x128 (Host.reduceAdd (Host.negf (res_main_while0b_v173 V0)) (constant S_ .f32 0x00000000#32) reducesTo_S8x32x128_S8x128_d1 h_S_) shapeCasts_S8x128_S8x1x128 : (Proc.devRef .tc main_while0b_v176 : DevRef τ sig).ty.Contents (Elt F)) = Step.b194 j s := by
  unfold Step.b194
  rw [← al_193 h]
  try rfl
theorem al_195 (h : Holds V0 s j) : (addf (addf (addf (Host.negf (res_main_while0b_v146 V0)) (mulf (mulf (res_main_while0b_v89 V0) (res_main_while0b_v142 V0)) (res_main_while0b_v109 V0))) (Host.negf (res_main_while0b_v165 V0))) (res_main_while0b_v173 V0) : (Proc.devRef .tc main_while0b_v177 : DevRef τ sig).ty.Contents (Elt F)) = Step.b195 j s := by
  unfold Step.b195
  rw [← al_186 h, ← al_190 h]
  try rfl
theorem al_196 (h : Holds V0 s j) : (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128) : (Proc.devRef .tc main_while0b_v178 : DevRef τ sig).ty.Contents (Elt F)) = Step.b196 j s := by
  unfold Step.b196
  rw [← al_184 h, ← al_194 h]
  try rfl
theorem al_197 (h : Holds V0 s j) : (constant S_ .f32 0x00000000#32 : (Proc.devRef .tc main_while0b_cst_35 : DevRef τ sig).ty.Contents (Elt F)) = Step.b197 j s := by
  unfold Step.b197
  rfl
theorem al_198 (h : Holds V0 s j) : (pad S8x32x128 ![0, 15, 0] ![0, 16, 0] ![0, 0, 0] (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128)) (constant S_ .f32 0x00000000#32) pads_S8x1x128_S8x32x128_000_15160_000 h_S_ : (Proc.devRef .tc main_while0b_v179 : DevRef τ sig).ty.Contents (Elt F)) = Step.b198 j s := by
  unfold Step.b198
  rw [← al_196 h, ← al_197 h]
  try rfl
theorem al_199 (h : Holds V0 s j) : (addf (addf (addf (addf (Host.negf (res_main_while0b_v146 V0)) (mulf (mulf (res_main_while0b_v89 V0) (res_main_while0b_v142 V0)) (res_main_while0b_v109 V0))) (Host.negf (res_main_while0b_v165 V0))) (res_main_while0b_v173 V0)) (pad S8x32x128 ![0, 15, 0] ![0, 16, 0] ![0, 0, 0] (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128)) (constant S_ .f32 0x00000000#32) pads_S8x1x128_S8x32x128_000_15160_000 h_S_) : (Proc.devRef .tc main_while0b_v180 : DevRef τ sig).ty.Contents (Elt F)) = Step.b199 j s := by
  unfold Step.b199
  rw [← al_195 h, ← al_198 h]
  try rfl
theorem al_200 (h : Holds V0 s j) : (constant S_ .f32 0x00000000#32 : (Proc.devRef .tc main_while0b_cst_36 : DevRef τ sig).ty.Contents (Elt F)) = Step.b200 j s := by
  unfold Step.b200
  rfl
theorem al_201 (h : Holds V0 s j) : (pad S8x32x128 ![0, 31, 0] ![0, 0, 0] ![0, 0, 0] (addf (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0)) (shapeCast S8x1x128 (Host.reduceAdd (res_main_while0b_v146 V0) (constant S_ .f32 0x00000000#32) reducesTo_S8x32x128_S8x128_d1 h_S_) shapeCasts_S8x128_S8x1x128)) (constant S_ .f32 0x00000000#32) pads_S8x1x128_S8x32x128_000_3100_000 h_S_ : (Proc.devRef .tc main_while0b_v181 : DevRef τ sig).ty.Contents (Elt F)) = Step.b201 j s := by
  unfold Step.b201
  rw [← al_164 h, ← al_200 h]
  try rfl
theorem al_202 (h : Holds V0 s j) : (addf (addf (addf (addf (addf (Host.negf (res_main_while0b_v146 V0)) (mulf (mulf (res_main_while0b_v89 V0) (res_main_while0b_v142 V0)) (res_main_while0b_v109 V0))) (Host.negf (res_main_while0b_v165 V0))) (res_main_while0b_v173 V0)) (pad S8x32x128 ![0, 15, 0] ![0, 16, 0] ![0, 0, 0] (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128)) (constant S_ .f32 0x00000000#32) pads_S8x1x128_S8x32x128_000_15160_000 h_S_)) (pad S8x32x128 ![0, 31, 0] ![0, 0, 0] ![0, 0, 0] (addf (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0)) (shapeCast S8x1x128 (Host.reduceAdd (res_main_while0b_v146 V0) (constant S_ .f32 0x00000000#32) reducesTo_S8x32x128_S8x128_d1 h_S_) shapeCasts_S8x128_S8x1x128)) (constant S_ .f32 0x00000000#32) pads_S8x1x128_S8x32x128_000_3100_000 h_S_) : (Proc.devRef .tc main_while0b_v182 : DevRef τ sig).ty.Contents (Elt F)) = Step.b202 j s := by
  unfold Step.b202
  rw [← al_199 h, ← al_201 h]
  try rfl
theorem al_203 (h : Holds V0 s j) : (constant S_ .f32 0x00000000#32 : (Proc.devRef .tc main_while0b_call10_call0_cst : DevRef τ sig).ty.Contents (Elt F)) = Step.b203 j s := by
  unfold Step.b203
  rfl
theorem al_204 (h : Holds V0 s j) : (broadcastInDim S_ ![] bcast_S_S_ (constant S_ .f32 0x00000000#32) : (Proc.devRef .tc main_while0b_call10_call0_v0 : DevRef τ sig).ty.Contents (Elt F)) = Step.b204 j s := by
  unfold Step.b204
  rw [← al_203 h]
  try rfl
theorem al_205 (h : Holds V0 s j) : (Host.reduceWindowAdd ![1, 32, 1] ![1, 1, 1] ![0, 0, 0] ![0, 31, 0] (addf (addf (addf (addf (addf (Host.negf (res_main_while0b_v146 V0)) (mulf (mulf (res_main_while0b_v89 V0) (res_main_while0b_v142 V0)) (res_main_while0b_v109 V0))) (Host.negf (res_main_while0b_v165 V0))) (res_main_while0b_v173 V0)) (pad S8x32x128 ![0, 15, 0] ![0, 16, 0] ![0, 0, 0] (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128)) (constant S_ .f32 0x00000000#32) pads_S8x1x128_S8x32x128_000_15160_000 h_S_)) (pad S8x32x128 ![0, 31, 0] ![0, 0, 0] ![0, 0, 0] (addf (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0)) (shapeCast S8x1x128 (Host.reduceAdd (res_main_while0b_v146 V0) (constant S_ .f32 0x00000000#32) reducesTo_S8x32x128_S8x128_d1 h_S_) shapeCasts_S8x128_S8x1x128)) (constant S_ .f32 0x00000000#32) pads_S8x1x128_S8x32x128_000_3100_000 h_S_)) (broadcastInDim S_ ![] bcast_S_S_ (constant S_ .f32 0x00000000#32)) reduceWindows_S8x32x128_S8x32x128_w1s1p0_0_w32s1p0_31_w1s1p0_0 h_S_ : (Proc.devRef .tc main_while0b_v183 : DevRef τ sig).ty.Contents (Elt F)) = Step.b205 j s := by
  unfold Step.b205
  rw [← al_202 h, ← al_204 h]
  try rfl
theorem al_206 (h : Holds V0 s j) : (transpose S32x8x128 [1, 0, 2] (Host.reduceWindowAdd ![1, 32, 1] ![1, 1, 1] ![0, 0, 0] ![0, 31, 0] (addf (addf (addf (addf (addf (Host.negf (res_main_while0b_v146 V0)) (mulf (mulf (res_main_while0b_v89 V0) (res_main_while0b_v142 V0)) (res_main_while0b_v109 V0))) (Host.negf (res_main_while0b_v165 V0))) (res_main_while0b_v173 V0)) (pad S8x32x128 ![0, 15, 0] ![0, 16, 0] ![0, 0, 0] (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128)) (constant S_ .f32 0x00000000#32) pads_S8x1x128_S8x32x128_000_15160_000 h_S_)) (pad S8x32x128 ![0, 31, 0] ![0, 0, 0] ![0, 0, 0] (addf (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0)) (shapeCast S8x1x128 (Host.reduceAdd (res_main_while0b_v146 V0) (constant S_ .f32 0x00000000#32) reducesTo_S8x32x128_S8x128_d1 h_S_) shapeCasts_S8x128_S8x1x128)) (constant S_ .f32 0x00000000#32) pads_S8x1x128_S8x32x128_000_3100_000 h_S_)) (broadcastInDim S_ ![] bcast_S_S_ (constant S_ .f32 0x00000000#32)) reduceWindows_S8x32x128_S8x32x128_w1s1p0_0_w32s1p0_31_w1s1p0_0 h_S_) transposes_S8x32x128_S32x8x128_1_0_2 : (Proc.devRef .tc main_while0b_v184 : DevRef τ sig).ty.Contents (Elt F)) = Step.b206 j s := by
  unfold Step.b206
  rw [← al_205 h]
  try rfl
theorem al_207 (h : Holds V0 s j) : (transpose S32x8x128 [1, 0, 2] (addf (transpose S8x32x128 [0, 2, 1] (Host.dotGeneral dot_S8x128x128_S8x32x128_S8x128x32_1_2_2_1_0_0 none (V0 (Proc.devRef .tc main_v33_7)) (res_main_while0b_v114 V0)) transposes_S8x128x32_S8x32x128_0_2_1) (transpose S8x32x128 [0, 2, 1] (Host.dotGeneral dot_S8x32x128_S8x32x32_S8x128x32_1_1_2_2_0_0 none (res_main_while0b_v127 V0) (res_main_while0b_v107_0 V0)) transposes_S8x128x32_S8x32x128_0_2_1)) transposes_S8x32x128_S32x8x128_1_0_2 : (Proc.devRef .tc main_while0b_v185 : DevRef τ sig).ty.Contents (Elt F)) = Step.b207 j s := by
  unfold Step.b207
  rw [← al_171 h]
  try rfl
theorem al_208 (h : Holds V0 s j) : (transpose S32x8x128 [1, 0, 2] (addf (mulf (res_main_while0b_v131 V0) (res_main_while0b_v113 V0)) (mulf (res_main_while0b_v160 V0) (res_main_while0b_v104 V0))) transposes_S8x32x128_S32x8x128_1_0_2 : (Proc.devRef .tc main_while0b_v186 : DevRef τ sig).ty.Contents (Elt F)) = Step.b208 j s := by
  unfold Step.b208
  rw [← al_180 h]
  try rfl
theorem al_209 (h : Holds V0 s j) : (transpose S32x8x128 [1, 0, 2] (addf (mulf (res_main_while0b_v142 V0) (res_main_while0b_v109 V0)) (mulf (res_main_while0b_v161 V0) (res_main_while0b_v100 V0))) transposes_S8x32x128_S32x8x128_1_0_2 : (Proc.devRef .tc main_while0b_v187 : DevRef τ sig).ty.Contents (Elt F)) = Step.b209 j s := by
  unfold Step.b209
  rw [← al_189 h]
  try rfl
theorem al_210 (h : Holds V0 s j) : (shapeCast S32x1024 (transpose S32x8x128 [1, 0, 2] (Host.reduceWindowAdd ![1, 32, 1] ![1, 1, 1] ![0, 0, 0] ![0, 31, 0] (addf (addf (addf (addf (addf (Host.negf (res_main_while0b_v146 V0)) (mulf (mulf (res_main_while0b_v89 V0) (res_main_while0b_v142 V0)) (res_main_while0b_v109 V0))) (Host.negf (res_main_while0b_v165 V0))) (res_main_while0b_v173 V0)) (pad S8x32x128 ![0, 15, 0] ![0, 16, 0] ![0, 0, 0] (addf (shapeCast S8x1x128 (Host.reduceAdd (res_main_while0b_v165 V0) (constant S_ .f32 0x00000000#32) reducesTo_S8x32x128_S8x128_d1 h_S_) shapeCasts_S8x128_S8x1x128) (shapeCast S8x1x128 (Host.reduceAdd (Host.negf (res_main_while0b_v173 V0)) (constant S_ .f32 0x00000000#32) reducesTo_S8x32x128_S8x128_d1 h_S_) shapeCasts_S8x128_S8x1x128)) (constant S_ .f32 0x00000000#32) pads_S8x1x128_S8x32x128_000_15160_000 h_S_)) (pad S8x32x128 ![0, 31, 0] ![0, 0, 0] ![0, 0, 0] (addf (mulf (broadcastInDim S8x1x128 ![0, 2] bcast_S8x128_S8x1x128_0_2 (Host.reduceAdd (shapeCast S8x128x1 (Host.reduceAdd (mulf (res_main_while0b_v46 V0) (V0 (Proc.devRef .tc main_v33_7))) (constant S_ .f32 0x00000000#32) reducesTo_S8x128x128_S8x128_d2 h_S_) shapeCasts_S8x128_S8x128x1) (constant S_ .f32 0x00000000#32) reducesTo_S8x128x1_S8x128_d2 h_S_)) (res_main_while0b_v115 V0)) (shapeCast S8x1x128 (Host.reduceAdd (res_main_while0b_v146 V0) (constant S_ .f32 0x00000000#32) reducesTo_S8x32x128_S8x128_d1 h_S_) shapeCasts_S8x128_S8x1x128)) (constant S_ .f32 0x00000000#32) pads_S8x1x128_S8x32x128_000_3100_000 h_S_)) (broadcastInDim S_ ![] bcast_S_S_ (constant S_ .f32 0x00000000#32)) reduceWindows_S8x32x128_S8x32x128_w1s1p0_0_w32s1p0_31_w1s1p0_0 h_S_) transposes_S8x32x128_S32x8x128_1_0_2) shapeCasts_S32x8x128_S32x1024 : (Proc.devRef .tc main_while0b_v188 : DevRef τ sig).ty.Contents (Elt F)) = Step.b210 j s := by
  unfold Step.b210
  rw [← al_206 h]
  try rfl
theorem al_211 (h : Holds V0 s j) : (res_main_while0b_v189 V0 : (Proc.devRef .tc main_while0b_v189 : DevRef τ sig).ty.Contents (Elt F)) = Step.b211 j s := by
  unfold res_main_while0b_v189 Step.b211
  rw [← al_208 h]
  try rfl
theorem al_212 (h : Holds V0 s j) : (broadcastInDim S32x1024 ![0, 1] bcast_S1x1024_S32x1024_0_1 (res_main_while0b_v84 V0) : (Proc.devRef .tc main_while0b_v190 : DevRef τ sig).ty.Contents (Elt F)) = Step.b212 j s := by
  unfold Step.b212
  rw [← al_78 h]
  try rfl
theorem al_213 (h : Holds V0 s j) : (mulf (broadcastInDim S32x1024 ![0, 1] bcast_S1x1024_S32x1024_0_1 (res_main_while0b_v84 V0)) (res_main_while0b_v189 V0) : (Proc.devRef .tc main_while0b_v191 : DevRef τ sig).ty.Contents (Elt F)) = Step.b213 j s := by
  unfold Step.b213
  rw [← al_212 h, ← al_211 h]
  try rfl
theorem al_214 (h : Holds V0 s j) : (mulf (res_main_while0b_v189 V0) (res_main_while0b_v80 V0) : (Proc.devRef .tc main_while0b_v192 : DevRef τ sig).ty.Contents (Elt F)) = Step.b214 j s := by
  unfold Step.b214
  rw [← al_211 h, ← al_73 h]
  try rfl
theorem al_215 (h : Holds V0 s j) : (constant S_ .f32 0x00000000#32 : (Proc.devRef .tc main_while0b_cst_37 : DevRef τ sig).ty.Contents (Elt F)) = Step.b215 j s := by
  unfold Step.b215
  rfl
theorem al_216 (h : Holds V0 s j) : (Host.reduceAdd (mulf (res_main_while0b_v189 V0) (res_main_while0b_v80 V0)) (constant S_ .f32 0x00000000#32) reducesTo_S32x1024_S1024_d0 h_S_ : (Proc.devRef .tc main_while0b_v193 : DevRef τ sig).ty.Contents (Elt F)) = Step.b216 j s := by
  unfold Step.b216
  rw [← al_214 h, ← al_215 h]
  try rfl
theorem al_217 (h : Holds V0 s j) : (shapeCast S1x1024 (Host.reduceAdd (mulf (res_main_while0b_v189 V0) (res_main_while0b_v80 V0)) (constant S_ .f32 0x00000000#32) reducesTo_S32x1024_S1024_d0 h_S_) shapeCasts_S1024_S1x1024 : (Proc.devRef .tc main_while0b_v194 : DevRef τ sig).ty.Contents (Elt F)) = Step.b217 j s := by
  unfold Step.b217
  rw [← al_216 h]
  try rfl
theorem al_218 (h : Holds V0 s j) : (constant S_ .f32 0x00000000#32 : (Proc.devRef .tc main_while0b_cst_38 : DevRef τ sig).ty.Contents (Elt F)) = Step.b218 j s := by
  unfold Step.b218
  rfl
theorem al_219 (h : Holds V0 s j) : (Host.reduceAdd (shapeCast S1x1024 (Host.reduceAdd (mulf (res_main_while0b_v189 V0) (res_main_while0b_v80 V0)) (constant S_ .f32 0x00000000#32) reducesTo_S32x1024_S1024_d0 h_S_) shapeCasts_S1024_S1x1024) (constant S_ .f32 0x00000000#32) reducesTo_S1x1024_S1024_d0 h_S_ : (Proc.devRef .tc main_while0b_v195 : DevRef τ sig).ty.Contents (Elt F)) = Step.b219 j s := by
  unfold Step.b219
  rw [← al_217 h, ← al_218 h]
  try rfl
theorem al_220 (h : Holds V0 s j) : (mulf (mulf (broadcastInDim S32x1024 ![0, 1] bcast_S1x1024_S32x1024_0_1 (res_main_while0b_v84 V0)) (res_main_while0b_v189 V0)) (mulf (res_main_while0b_v80 V0) (subf (broadcastInDim S32x1024 ![] bcast_S_S32x1024 (constant S_ .f32 0x3F800000#32)) (res_main_while0b_v80 V0))) : (Proc.devRef .tc main_while0b_v196 : DevRef τ sig).ty.Contents (Elt F)) = Step.b220 j s := by
  unfold Step.b220
  rw [← al_213 h, ← al_77 h]
  try rfl
theorem al_221 (h : Holds V0 s j) : (Host.negf (mulf (mulf (broadcastInDim S32x1024 ![0, 1] bcast_S1x1024_S32x1024_0_1 (res_main_while0b_v84 V0)) (res_main_while0b_v189 V0)) (mulf (res_main_while0b_v80 V0) (subf (broadcastInDim S32x1024 ![] bcast_S_S32x1024 (constant S_ .f32 0x3F800000#32)) (res_main_while0b_v80 V0)))) : (Proc.devRef .tc main_while0b_v197 : DevRef τ sig).ty.Contents (Elt F)) = Step.b221 j s := by
  unfold Step.b221
  rw [← al_220 h]
  try rfl
theorem al_222 (h : Holds V0 s j) : (Host.negf (Host.reduceAdd (shapeCast S1x1024 (Host.reduceAdd (mulf (res_main_while0b_v189 V0) (res_main_while0b_v80 V0)) (constant S_ .f32 0x00000000#32) reducesTo_S32x1024_S1024_d0 h_S_) shapeCasts_S1024_S1x1024) (constant S_ .f32 0x00000000#32) reducesTo_S1x1024_S1024_d0 h_S_) : (Proc.devRef .tc main_while0b_v198 : DevRef τ sig).ty.Contents (Elt F)) = Step.b222 j s := by
  unfold Step.b222
  rw [← al_219 h]
  try rfl
theorem al_223 (h : Holds V0 s j) : (res_main_while0b_v199 V0 : (Proc.devRef .tc main_while0b_v199 : DevRef τ sig).ty.Contents (Elt F)) = Step.b223 j s := by
  unfold res_main_while0b_v199 Step.b223
  rw [← al_210 h, ← al_60 h]
  try rfl
theorem al_224 (h : Holds V0 s j) : (constant S_ .f32 0x00000000#32 : (Proc.devRef .tc main_while0b_cst_39 : DevRef τ sig).ty.Contents (Elt F)) = Step.b224 j s := by
  unfold Step.b224
  rfl
theorem al_225 (h : Holds V0 s j) : (Host.reduceAdd (res_main_while0b_v199 V0) (constant S_ .f32 0x00000000#32) reducesTo_S32x1024_S1024_d0 h_S_ : (Proc.devRef .tc main_while0b_v200 : DevRef τ sig).ty.Contents (Elt F)) = Step.b225 j s := by
  unfold Step.b225
  rw [← al_223 h, ← al_224 h]
  try rfl
theorem al_226 (h : Holds V0 s j) : (shapeCast S1x1024 (Host.reduceAdd (res_main_while0b_v199 V0) (constant S_ .f32 0x00000000#32) reducesTo_S32x1024_S1024_d0 h_S_) shapeCasts_S1024_S1x1024 : (Proc.devRef .tc main_while0b_v201 : DevRef τ sig).ty.Contents (Elt F)) = Step.b226 j s := by
  unfold Step.b226
  rw [← al_225 h]
  try rfl
theorem al_227 (h : Holds V0 s j) : (constant S_ .f32 0x00000000#32 : (Proc.devRef .tc main_while0b_cst_40 : DevRef τ sig).ty.Contents (Elt F)) = Step.b227 j s := by
  unfold Step.b227
  rfl
theorem al_228 (h : Holds V0 s j) : (Host.reduceAdd (shapeCast S1x1024 (Host.reduceAdd (res_main_while0b_v199 V0) (constant S_ .f32 0x00000000#32) reducesTo_S32x1024_S1024_d0 h_S_) shapeCasts_S1024_S1x1024) (constant S_ .f32 0x00000000#32) reducesTo_S1x1024_S1024_d0 h_S_ : (Proc.devRef .tc main_while0b_v202 : DevRef τ sig).ty.Contents (Elt F)) = Step.b228 j s := by
  unfold Step.b228
  rw [← al_226 h, ← al_227 h]
  try rfl
theorem al_229 (h : Holds V0 s j) : (addf (Host.negf (Host.reduceAdd (shapeCast S1x1024 (Host.reduceAdd (mulf (res_main_while0b_v189 V0) (res_main_while0b_v80 V0)) (constant S_ .f32 0x00000000#32) reducesTo_S32x1024_S1024_d0 h_S_) shapeCasts_S1024_S1x1024) (constant S_ .f32 0x00000000#32) reducesTo_S1x1024_S1024_d0 h_S_)) (Host.reduceAdd (shapeCast S1x1024 (Host.reduceAdd (res_main_while0b_v199 V0) (constant S_ .f32 0x00000000#32) reducesTo_S32x1024_S1024_d0 h_S_) shapeCasts_S1024_S1x1024) (constant S_ .f32 0x00000000#32) reducesTo_S1x1024_S1024_d0 h_S_) : (Proc.devRef .tc main_while0b_v203 : DevRef τ sig).ty.Contents (Elt F)) = Step.b229 j s := by
  unfold Step.b229
  rw [← al_222 h, ← al_228 h]
  try rfl
theorem al_230 (h : Holds V0 s j) : (broadcastInDim S32x1024 ![0, 1] bcast_S1x1024_S32x1024_0_1 (res_main_while0b_v65 V0) : (Proc.devRef .tc main_while0b_v204 : DevRef τ sig).ty.Contents (Elt F)) = Step.b230 j s := by
  unfold Step.b230
  rw [← al_55 h]
  try rfl
theorem al_231 (h : Holds V0 s j) : (mulf (broadcastInDim S32x1024 ![0, 1] bcast_S1x1024_S32x1024_0_1 (res_main_while0b_v65 V0)) (res_main_while0b_v199 V0) : (Proc.devRef .tc main_while0b_v205 : DevRef τ sig).ty.Contents (Elt F)) = Step.b231 j s := by
  unfold Step.b231
  rw [← al_230 h, ← al_223 h]
  try rfl
theorem al_232 (h : Holds V0 s j) : (mulf (res_main_while0b_v199 V0) (res_main_while0b_v61 V0) : (Proc.devRef .tc main_while0b_v206 : DevRef τ sig).ty.Contents (Elt F)) = Step.b232 j s := by
  unfold Step.b232
  rw [← al_223 h, ← al_50 h]
  try rfl
theorem al_233 (h : Holds V0 s j) : (constant S_ .f32 0x00000000#32 : (Proc.devRef .tc main_while0b_cst_41 : DevRef τ sig).ty.Contents (Elt F)) = Step.b233 j s := by
  unfold Step.b233
  rfl
theorem al_234 (h : Holds V0 s j) : (Host.reduceAdd (mulf (res_main_while0b_v199 V0) (res_main_while0b_v61 V0)) (constant S_ .f32 0x00000000#32) reducesTo_S32x1024_S1024_d0 h_S_ : (Proc.devRef .tc main_while0b_v207 : DevRef τ sig).ty.Contents (Elt F)) = Step.b234 j s := by
  unfold Step.b234
  rw [← al_232 h, ← al_233 h]
  try rfl
theorem al_235 (h : Holds V0 s j) : (shapeCast S1x1024 (Host.reduceAdd (mulf (res_main_while0b_v199 V0) (res_main_while0b_v61 V0)) (constant S_ .f32 0x00000000#32) reducesTo_S32x1024_S1024_d0 h_S_) shapeCasts_S1024_S1x1024 : (Proc.devRef .tc main_while0b_v208 : DevRef τ sig).ty.Contents (Elt F)) = Step.b235 j s := by
  unfold Step.b235
  rw [← al_234 h]
  try rfl
theorem al_236 (h : Holds V0 s j) : (constant S_ .f32 0x00000000#32 : (Proc.devRef .tc main_while0b_cst_42 : DevRef τ sig).ty.Contents (Elt F)) = Step.b236 j s := by
  unfold Step.b236
  rfl
theorem al_237 (h : Holds V0 s j) : (Host.reduceAdd (shapeCast S1x1024 (Host.reduceAdd (mulf (res_main_while0b_v199 V0) (res_main_while0b_v61 V0)) (constant S_ .f32 0x00000000#32) reducesTo_S32x1024_S1024_d0 h_S_) shapeCasts_S1024_S1x1024) (constant S_ .f32 0x00000000#32) reducesTo_S1x1024_S1024_d0 h_S_ : (Proc.devRef .tc main_while0b_v209 : DevRef τ sig).ty.Contents (Elt F)) = Step.b237 j s := by
  unfold Step.b237
  rw [← al_235 h, ← al_236 h]
  try rfl
theorem al_238 (h : Holds V0 s j) : (mulf (mulf (broadcastInDim S32x1024 ![0, 1] bcast_S1x1024_S32x1024_0_1 (res_main_while0b_v65 V0)) (res_main_while0b_v199 V0)) (mulf (res_main_while0b_v61 V0) (subf (broadcastInDim S32x1024 ![] bcast_S_S32x1024 (constant S_ .f32 0x3F800000#32)) (res_main_while0b_v61 V0))) : (Proc.devRef .tc main_while0b_v210 : DevRef τ sig).ty.Contents (Elt F)) = Step.b238 j s := by
  unfold Step.b238
  rw [← al_231 h, ← al_54 h]
  try rfl
theorem al_239 (h : Holds V0 s j) : (addf (Host.negf (mulf (mulf (broadcastInDim S32x1024 ![0, 1] bcast_S1x1024_S32x1024_0_1 (res_main_while0b_v84 V0)) (res_main_while0b_v189 V0)) (mulf (res_main_while0b_v80 V0) (subf (broadcastInDim S32x1024 ![] bcast_S_S32x1024 (constant S_ .f32 0x3F800000#32)) (res_main_while0b_v80 V0))))) (mulf (mulf (broadcastInDim S32x1024 ![0, 1] bcast_S1x1024_S32x1024_0_1 (res_main_while0b_v65 V0)) (res_main_while0b_v199 V0)) (mulf (res_main_while0b_v61 V0) (subf (broadcastInDim S32x1024 ![] bcast_S_S32x1024 (constant S_ .f32 0x3F800000#32)) (res_main_while0b_v61 V0)))) : (Proc.devRef .tc main_while0b_v211 : DevRef τ sig).ty.Contents (Elt F)) = Step.b239 j s := by
  unfold Step.b239
  rw [← al_221 h, ← al_238 h]
  try rfl
theorem al_240 (h : Holds V0 s j) : (Host.negf (Host.reduceAdd (shapeCast S1x1024 (Host.reduceAdd (mulf (res_main_while0b_v199 V0) (res_main_while0b_v61 V0)) (constant S_ .f32 0x00000000#32) reducesTo_S32x1024_S1024_d0 h_S_) shapeCasts_S1024_S1x1024) (constant S_ .f32 0x00000000#32) reducesTo_S1x1024_S1024_d0 h_S_) : (Proc.devRef .tc main_while0b_v212 : DevRef τ sig).ty.Contents (Elt F)) = Step.b240 j s := by
  unfold Step.b240
  rw [← al_237 h]
  try rfl
theorem al_241 (h : Holds V0 s j) : (addf (addf (Host.negf (Host.reduceAdd (shapeCast S1x1024 (Host.reduceAdd (mulf (res_main_while0b_v189 V0) (res_main_while0b_v80 V0)) (constant S_ .f32 0x00000000#32) reducesTo_S32x1024_S1024_d0 h_S_) shapeCasts_S1024_S1x1024) (constant S_ .f32 0x00000000#32) reducesTo_S1x1024_S1024_d0 h_S_)) (Host.reduceAdd (shapeCast S1x1024 (Host.reduceAdd (res_main_while0b_v199 V0) (constant S_ .f32 0x00000000#32) reducesTo_S32x1024_S1024_d0 h_S_) shapeCasts_S1024_S1x1024) (constant S_ .f32 0x00000000#32) reducesTo_S1x1024_S1024_d0 h_S_)) (Host.negf (Host.reduceAdd (shapeCast S1x1024 (Host.reduceAdd (mulf (res_main_while0b_v199 V0) (res_main_while0b_v61 V0)) (constant S_ .f32 0x00000000#32) reducesTo_S32x1024_S1024_d0 h_S_) shapeCasts_S1024_S1x1024) (constant S_ .f32 0x00000000#32) reducesTo_S1x1024_S1024_d0 h_S_)) : (Proc.devRef .tc main_while0b_v213 : DevRef τ sig).ty.Contents (Elt F)) = Step.b241 j s := by
  unfold Step.b241
  rw [← al_229 h, ← al_240 h]
  try rfl
theorem al_242 (h : Holds V0 s j) : (shapeCast S32x1024 (transpose S32x8x128 [1, 0, 2] (addf (transpose S8x32x128 [0, 2, 1] (Host.dotGeneral dot_S8x128x128_S8x32x128_S8x128x32_1_2_2_1_0_0 none (V0 (Proc.devRef .tc main_v33_7)) (res_main_while0b_v114 V0)) transposes_S8x128x32_S8x32x128_0_2_1) (transpose S8x32x128 [0, 2, 1] (Host.dotGeneral dot_S8x32x128_S8x32x32_S8x128x32_1_1_2_2_0_0 none (res_main_while0b_v127 V0) (res_main_while0b_v107_0 V0)) transposes_S8x128x32_S8x32x128_0_2_1)) transposes_S8x32x128_S32x8x128_1_0_2) shapeCasts_S32x8x128_S32x1024 : (Proc.devRef .tc main_while0b_v214 : DevRef τ sig).ty.Contents (Elt F)) = Step.b242 j s := by
  unfold Step.b242
  rw [← al_207 h]
  try rfl
theorem al_243 (h : Holds V0 s j) : (res_main_while0b_v215 V0 : (Proc.devRef .tc main_while0b_v215 : DevRef τ sig).ty.Contents (Elt F)) = Step.b243 j s := by
  unfold res_main_while0b_v215 Step.b243
  rw [← al_209 h]
  try rfl
theorem al_244 (h : Holds V0 s j) : (mulf (res_main_while0b_v47 V0) (res_main_while0b_v215 V0) : (Proc.devRef .tc main_while0b_call11_v0 : DevRef τ sig).ty.Contents (Elt F)) = Step.b244 j s := by
  unfold Step.b244
  rw [← al_12 h, ← al_243 h]
  try rfl
theorem al_245 (h : Holds V0 s j) : (mulf (res_main_while0b_v215 V0) (res_main_while0b_v51_2 V0) : (Proc.devRef .tc main_while0b_call11_v1 : DevRef τ sig).ty.Contents (Elt F)) = Step.b245 j s := by
  unfold Step.b245
  rw [← al_243 h, ← al_32 h]
  try rfl
theorem al_246 (h : Holds V0 s j) : (mulf (mulf (res_main_while0b_v47 V0) (res_main_while0b_v215 V0)) (mulf (res_main_while0b_v51_2 V0) (subf (broadcastInDim S32x1024 ![] bcast_S_S32x1024 (constant S_ .f32 0x3F800000#32)) (res_main_while0b_v51_2 V0))) : (Proc.devRef .tc main_while0b_call11_v2 : DevRef τ sig).ty.Contents (Elt F)) = Step.b246 j s := by
  unfold Step.b246
  rw [← al_244 h, ← al_36 h]
  try rfl
theorem al_247 (h : Holds V0 s j) : (addf (mulf (res_main_while0b_v215 V0) (res_main_while0b_v51_2 V0)) (mulf (mulf (res_main_while0b_v47 V0) (res_main_while0b_v215 V0)) (mulf (res_main_while0b_v51_2 V0) (subf (broadcastInDim S32x1024 ![] bcast_S_S32x1024 (constant S_ .f32 0x3F800000#32)) (res_main_while0b_v51_2 V0)))) : (Proc.devRef .tc main_while0b_v216 : DevRef τ sig).ty.Contents (Elt F)) = Step.b247 j s := by
  unfold Step.b247
  rw [← al_245 h, ← al_246 h]
  try rfl
theorem al_248 (h : Holds V0 s j) : (addf (V0 (Proc.devRef .tc main_v33_8)) (addf (addf (Host.negf (Host.reduceAdd (shapeCast S1x1024 (Host.reduceAdd (mulf (res_main_while0b_v189 V0) (res_main_while0b_v80 V0)) (constant S_ .f32 0x00000000#32) reducesTo_S32x1024_S1024_d0 h_S_) shapeCasts_S1024_S1x1024) (constant S_ .f32 0x00000000#32) reducesTo_S1x1024_S1024_d0 h_S_)) (Host.reduceAdd (shapeCast S1x1024 (Host.reduceAdd (res_main_while0b_v199 V0) (constant S_ .f32 0x00000000#32) reducesTo_S32x1024_S1024_d0 h_S_) shapeCasts_S1024_S1x1024) (constant S_ .f32 0x00000000#32) reducesTo_S1x1024_S1024_d0 h_S_)) (Host.negf (Host.reduceAdd (shapeCast S1x1024 (Host.reduceAdd (mulf (res_main_while0b_v199 V0) (res_main_while0b_v61 V0)) (constant S_ .f32 0x00000000#32) reducesTo_S32x1024_S1024_d0 h_S_) shapeCasts_S1024_S1x1024) (constant S_ .f32 0x00000000#32) reducesTo_S1x1024_S1024_d0 h_S_))) : (Proc.devRef .tc main_while0b_v217 : DevRef τ sig).ty.Contents (Elt F)) = Step.b248 j s := by
  unfold Step.b248
  rw [← al_241 h, h.f_8]
  try rfl
theorem al_249 (h : Holds V0 s j) : (broadcastInDim S1x32x1024 ![1, 2] bcast_S32x1024_S1x32x1024_1_2 (addf (mulf (res_main_while0b_v215 V0) (res_main_while0b_v51_2 V0)) (mulf (mulf (res_main_while0b_v47 V0) (res_main_while0b_v215 V0)) (mulf (res_main_while0b_v51_2 V0) (subf (broadcastInDim S32x1024 ![] bcast_S_S32x1024 (constant S_ .f32 0x3F800000#32)) (res_main_while0b_v51_2 V0))))) : (Proc.devRef .tc main_while0b_call12_v0 : DevRef τ sig).ty.Contents (Elt F)) = Step.b249 j s := by
  unfold Step.b249
  rw [← al_247 h]
  try rfl
theorem al_250 (h : Holds V0 s j) : (constantI S_ 32 0#32 : (Proc.devRef .tc main_while0b_call12_c : DevRef τ sig).ty.Contents (Elt F)) = Step.b250 j s := by
  unfold Step.b250
  rfl
theorem al_251 (h : Holds V0 s j) : (constantI S_ 32 0#32 : (Proc.devRef .tc main_while0b_call12_c_0 : DevRef τ sig).ty.Contents (Elt F)) = Step.b251 j s := by
  unfold Step.b251
  rfl
theorem al_252 (h : Holds V0 s j) : (Host.dynamicUpdateSlice (V0 (Proc.devRef .tc main_v33_9)) (broadcastInDim S1x32x1024 ![1, 2] bcast_S32x1024_S1x32x1024_1_2 (addf (mulf (res_main_while0b_v215 V0) (res_main_while0b_v51_2 V0)) (mulf (mulf (res_main_while0b_v47 V0) (res_main_while0b_v215 V0)) (mulf (res_main_while0b_v51_2 V0) (subf (broadcastInDim S32x1024 ![] bcast_S_S32x1024 (constant S_ .f32 0x3F800000#32)) (res_main_while0b_v51_2 V0)))))) (fun k => (((![res_main_while0b_v45 V0, constantI S_ 32 0#32, constantI S_ 32 0#32] : Fin 3 → (⟨S_, .i32⟩ : BufTy).Contents (Elt F))) k (Shape.Idx.first h_S_)).toInt) updateFits_S264x32x1024_S1x32x1024 : (Proc.devRef .tc main_while0b_v218 : DevRef τ sig).ty.Contents (Elt F)) = Step.b252 j s := by
  unfold Step.b252
  rw [← al_249 h, ← al_3 h, ← al_250 h, ← al_251 h, h.f_9]
  try rfl
theorem al_253 (h : Holds V0 s j) : (broadcastInDim S1x32x1024 ![1, 2] bcast_S32x1024_S1x32x1024_1_2 (addf (Host.negf (mulf (mulf (broadcastInDim S32x1024 ![0, 1] bcast_S1x1024_S32x1024_0_1 (res_main_while0b_v84 V0)) (res_main_while0b_v189 V0)) (mulf (res_main_while0b_v80 V0) (subf (broadcastInDim S32x1024 ![] bcast_S_S32x1024 (constant S_ .f32 0x3F800000#32)) (res_main_while0b_v80 V0))))) (mulf (mulf (broadcastInDim S32x1024 ![0, 1] bcast_S1x1024_S32x1024_0_1 (res_main_while0b_v65 V0)) (res_main_while0b_v199 V0)) (mulf (res_main_while0b_v61 V0) (subf (broadcastInDim S32x1024 ![] bcast_S_S32x1024 (constant S_ .f32 0x3F800000#32)) (res_main_while0b_v61 V0))))) : (Proc.devRef .tc main_while0b_call13_v0 : DevRef τ sig).ty.Contents (Elt F)) = Step.b253 j s := by
  unfold Step.b253
  rw [← al_239 h]
  try rfl
theorem al_254 (h : Holds V0 s j) : (constantI S_ 32 0#32 : (Proc.devRef .tc main_while0b_call13_c : DevRef τ sig).ty.Contents (Elt F)) = Step.b254 j s := by
  unfold Step.b254
  rfl
theorem al_255 (h : Holds V0 s j) : (constantI S_ 32 0#32 : (Proc.devRef .tc main_while0b_call13_c_0 : DevRef τ sig).ty.Contents (Elt F)) = Step.b255 j s := by
  unfold Step.b255
  rfl
theorem al_256 (h : Holds V0 s j) : (Host.dynamicUpdateSlice (V0 (Proc.devRef .tc main_v33_10)) (broadcastInDim S1x32x1024 ![1, 2] bcast_S32x1024_S1x32x1024_1_2 (addf (Host.negf (mulf (mulf (broadcastInDim S32x1024 ![0, 1] bcast_S1x1024_S32x1024_0_1 (res_main_while0b_v84 V0)) (res_main_while0b_v189 V0)) (mulf (res_main_while0b_v80 V0) (subf (broadcastInDim S32x1024 ![] bcast_S_S32x1024 (constant S_ .f32 0x3F800000#32)) (res_main_while0b_v80 V0))))) (mulf (mulf (broadcastInDim S32x1024 ![0, 1] bcast_S1x1024_S32x1024_0_1 (res_main_while0b_v65 V0)) (res_main_while0b_v199 V0)) (mulf (res_main_while0b_v61 V0) (subf (broadcastInDim S32x1024 ![] bcast_S_S32x1024 (constant S_ .f32 0x3F800000#32)) (res_main_while0b_v61 V0)))))) (fun k => (((![res_main_while0b_v45 V0, constantI S_ 32 0#32, constantI S_ 32 0#32] : Fin 3 → (⟨S_, .i32⟩ : BufTy).Contents (Elt F))) k (Shape.Idx.first h_S_)).toInt) updateFits_S264x32x1024_S1x32x1024 : (Proc.devRef .tc main_while0b_v219 : DevRef τ sig).ty.Contents (Elt F)) = Step.b256 j s := by
  unfold Step.b256
  rw [← al_253 h, ← al_3 h, ← al_254 h, ← al_255 h, h.f_10]
  try rfl
theorem al_257 (h : Holds V0 s j) : (broadcastInDim S1x32x1024 ![1, 2] bcast_S32x1024_S1x32x1024_1_2 (shapeCast S32x1024 (transpose S32x8x128 [1, 0, 2] (addf (transpose S8x32x128 [0, 2, 1] (Host.dotGeneral dot_S8x128x128_S8x32x128_S8x128x32_1_2_2_1_0_0 none (V0 (Proc.devRef .tc main_v33_7)) (res_main_while0b_v114 V0)) transposes_S8x128x32_S8x32x128_0_2_1) (transpose S8x32x128 [0, 2, 1] (Host.dotGeneral dot_S8x32x128_S8x32x32_S8x128x32_1_1_2_2_0_0 none (res_main_while0b_v127 V0) (res_main_while0b_v107_0 V0)) transposes_S8x128x32_S8x32x128_0_2_1)) transposes_S8x32x128_S32x8x128_1_0_2) shapeCasts_S32x8x128_S32x1024) : (Proc.devRef .tc main_while0b_call14_v0 : DevRef τ sig).ty.Contents (Elt F)) = Step.b257 j s := by
  unfold Step.b257
  rw [← al_242 h]
  try rfl
theorem al_258 (h : Holds V0 s j) : (constantI S_ 32 0#32 : (Proc.devRef .tc main_while0b_call14_c : DevRef τ sig).ty.Contents (Elt F)) = Step.b258 j s := by
  unfold Step.b258
  rfl
theorem al_259 (h : Holds V0 s j) : (constantI S_ 32 0#32 : (Proc.devRef .tc main_while0b_call14_c_0 : DevRef τ sig).ty.Contents (Elt F)) = Step.b259 j s := by
  unfold Step.b259
  rfl
theorem al_260 (h : Holds V0 s j) : (Host.dynamicUpdateSlice (V0 (Proc.devRef .tc main_v33_11)) (broadcastInDim S1x32x1024 ![1, 2] bcast_S32x1024_S1x32x1024_1_2 (shapeCast S32x1024 (transpose S32x8x128 [1, 0, 2] (addf (transpose S8x32x128 [0, 2, 1] (Host.dotGeneral dot_S8x128x128_S8x32x128_S8x128x32_1_2_2_1_0_0 none (V0 (Proc.devRef .tc main_v33_7)) (res_main_while0b_v114 V0)) transposes_S8x128x32_S8x32x128_0_2_1) (transpose S8x32x128 [0, 2, 1] (Host.dotGeneral dot_S8x32x128_S8x32x32_S8x128x32_1_1_2_2_0_0 none (res_main_while0b_v127 V0) (res_main_while0b_v107_0 V0)) transposes_S8x128x32_S8x32x128_0_2_1)) transposes_S8x32x128_S32x8x128_1_0_2) shapeCasts_S32x8x128_S32x1024)) (fun k => (((![res_main_while0b_v45 V0, constantI S_ 32 0#32, constantI S_ 32 0#32] : Fin 3 → (⟨S_, .i32⟩ : BufTy).Contents (Elt F))) k (Shape.Idx.first h_S_)).toInt) updateFits_S264x32x1024_S1x32x1024 : (Proc.devRef .tc main_while0b_v220 : DevRef τ sig).ty.Contents (Elt F)) = Step.b260 j s := by
  unfold Step.b260
  rw [← al_257 h, ← al_3 h, ← al_258 h, ← al_259 h, h.f_11]
  try rfl

/-! One trip's step of the carried values is `step`, field by field; a counter steps to the next number. -/

theorem step_7 (h : Holds V0 s j) : step_main_v33_7 V0 = (step j s).main_v33_7 := by
  unfold step_main_v33_7 step
  exact al_154 h
theorem step_8 (h : Holds V0 s j) : step_main_v33_8 V0 = (step j s).main_v33_8 := by
  unfold step_main_v33_8 step
  exact al_248 h
theorem step_9 (h : Holds V0 s j) : step_main_v33_9 V0 = (step j s).main_v33_9 := by
  unfold step_main_v33_9 step
  exact al_252 h
theorem step_10 (h : Holds V0 s j) : step_main_v33_10 V0 = (step j s).main_v33_10 := by
  unfold step_main_v33_10 step
  exact al_256 h
theorem step_11 (h : Holds V0 s j) : step_main_v33_11 V0 = (step j s).main_v33_11 := by
  unfold step_main_v33_11 step
  exact al_260 h
theorem step_6 (h : Holds V0 s j) : step_main_v33_6 V0 = constantI S_ 32 (BitVec.ofNat 32 (j + 1)) := by
  unfold step_main_v33_6
  rw [h.n_6]
  funext i
  show BitVec.ofNat 32 j + 1#32 = BitVec.ofNat 32 (j + 1)
  simp only [BitVec.ofNat_add]

theorem out_main_v35_holds (h : Holds V0 s j) : out_main_v35 V0 = Step.R_main_v35 s := by
  unfold out_main_v35 Step.R_main_v35
  rw [h.f_9]
  try rfl

theorem out_main_v37_holds (h : Holds V0 s j) : out_main_v37 V0 = Step.R_main_v37 s := by
  unfold out_main_v37 Step.R_main_v37
  rw [h.f_10]
  try rfl

theorem out_main_v39_holds (h : Holds V0 s j) : out_main_v39 V0 = Step.R_main_v39 s := by
  unfold out_main_v39 Step.R_main_v39
  rw [h.f_11]
  try rfl

theorem out_main_v43_holds (h : Holds V0 s j) : out_main_v43 V0 = Step.R_main_v43 s := by
  unfold out_main_v43 Step.R_main_v43
  rw [h.f_8]
  try rfl

/-- One trip keeps the valuation holding: `step` of the state, the same set-up values, the next number. -/
theorem holds_step (h : Holds V0 s j) : Holds (STEP V0) (step j s) (j + 1) where
  f_7 := (STEP_main_v33_7 V0).trans (step_7 h)
  f_8 := (STEP_main_v33_8 V0).trans (step_8 h)
  f_9 := (STEP_main_v33_9 V0).trans (step_9 h)
  f_10 := (STEP_main_v33_10 V0).trans (step_10 h)
  f_11 := (STEP_main_v33_11 V0).trans (step_11 h)
  n_6 := (STEP_main_v33_6 V0).trans (step_6 h)
  f_0 := (STEP_main_v33_0 V0).trans h.f_0
  f_1 := (STEP_main_v33_1 V0).trans h.f_1
  f_2 := (STEP_main_v33_2 V0).trans h.f_2
  f_3 := (STEP_main_v33_3 V0).trans h.f_3
  f_4 := (STEP_main_v33_4 V0).trans h.f_4
  f_5 := (STEP_main_v33_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 264 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v35) = Step.R_main_v35 (it c 264)
      ∧ r.2.mem ((c.tc : Thread nD τ).loc main_v37) = Step.R_main_v37 (it c 264)
      ∧ r.2.mem ((c.tc : Thread nD τ).loc main_v39) = Step.R_main_v39 (it c 264)
      ∧ r.2.mem ((c.tc : Thread nD τ).loc main_v43) = Step.R_main_v43 (it c 264)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 264
    ⟨(h c).1.trans (out_main_v35_holds hk), (h c).2.1.trans (out_main_v37_holds hk), (h c).2.2.1.trans (out_main_v39_holds hk), (h c).2.2.2.1.trans (out_main_v43_holds hk), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.ReferenceIdeal.Trips

end
-- ==== Proof.RefFrame.lean ====
module

public import proofs.«01_k».proof.Proof.Trips
public import Idealize.ShloMosaic.Lib.Quiescent
public import Idealize.ShloMosaic.PureOps.Ideal

@[expose] public section

noncomputable section

namespace Cert.ReferenceIdeal.Trips

open Idealize.ShloMosaic Idealize.SL.Sem Cert.ReferenceIdeal.Step

/-- The states of the loop, from the one the arguments give. -/
def states (m : (ℓ : Loc nD τ sig) → Buf (Elt Ideal) ℓ) (c : Dev nD) : ℕ → State Ideal
  | 0 => initState m c
  | n + 1 => step n (states m c n)

/-- The reference leaves its arguments as they were, and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run defs _ _).mono (fun r h => ⟨fun c => (h c).2.2.2.2, sem_eq_zero_of_no_sems (by decide) r.2⟩)
    (run_iter m ρ (states m) (fun _ => rfl) (fun _ _ => rfl))

end Cert.ReferenceIdeal.Trips

end
-- ==== Proof.Head.lean ====
/-
One head of one block of the backward scan as vector operations: what the kernel's body computes from a head's columns.
-/
module

public import proofs.«01_k».proof.Proof.Gen.KernelIdeal.Skeleton
public import Idealize.ShloMosaic.PureOps.Ideal

@[expose] public section

set_option maxRecDepth 16384

noncomputable section

namespace Cert.Hgrn

open Cert.KernelIdeal Cert.KernelIdeal.Gen Idealize.ShloMosaic Idealize.ShloMosaic.TcCoe

/-- The arrays of one head in one block: queries, forget inputs, values, output gradient, lower bound, the saved state and the
    gradient of the state after the block (both with the value axis first). -/
structure Vin where
  q : FVec Ideal S32x128 .f32
  f : FVec Ideal S32x128 .f32
  i : FVec Ideal S32x128 .f32
  o : FVec Ideal S32x128 .f32
  lb : FVec Ideal S1x128 .f32
  S : FVec Ideal S128x128 .f32
  L : FVec Ideal S128x128 .f32

namespace Vin

variable (X : Vin)

/-- For one head: the logistic of the queries. -/
def sq : FVec Ideal S32x128 .f32 :=
  logistic X.q

/-- For one head: the gated queries. -/
def qs : FVec Ideal S32x128 .f32 :=
  mulf X.q X.sq

/-- For one head: the logistic of the forget inputs. -/
def sf : FVec Ideal S32x128 .f32 :=
  logistic X.f

/-- For one head: the forget gate. -/
def fg : FVec Ideal S32x128 .f32 :=
  have s1 : FVec Ideal S32x128 .f32 := broadcastTo S32x128 X.lb broadcasts_S1x128_S32x128
  have s2 : FVec Ideal S1x128 .f32 := broadcast S1x128 (Scalar.ofBits .f32 0x3F800000#32)
  have s3 : FVec Ideal S1x128 .f32 := subf s2 X.lb
  have s4 : FVec Ideal S32x128 .f32 := broadcastTo S32x128 s3 broadcasts_S1x128_S32x128
  have s5 : FVec Ideal S32x128 .f32 := mulf s4 X.sf
  addf s1 s5

/-- For one head: its logarithm. -/
def lf : FVec Ideal S32x128 .f32 :=
  log X.fg

/-- For one head: the logistic of the negated forget inputs. -/
def nf : FVec Ideal S32x128 .f32 :=
  have s1 : FVec Ideal S32x128 .f32 := broadcast S32x128 (Scalar.ofBits .f32 0x00000000#32)
  have s2 : FVec Ideal S32x128 .f32 := subf s1 X.f
  logistic s2

/-- For one head: the keys. -/
def kk : FVec Ideal S32x128 .f32 :=
  have s1 : FVec Ideal S1x128 .f32 := broadcast S1x128 (Scalar.ofBits .f32 0x3F800000#32)
  have s2 : FVec Ideal S1x128 .f32 := subf s1 X.lb
  have s3 : FVec Ideal S32x128 .f32 := broadcastTo S32x128 s2 broadcasts_S1x128_S32x128
  mulf s3 X.nf

/-- For one head: the running sums of the log gates. -/
def b : FVec Ideal S32x128 .f32 :=
  have s1 : IVec S32x32 32 := iota .tc S32x32 32 [0] iota_S32x32_d0_w32
  have s2 : IVec S32x32 32 := iota .tc S32x32 32 [1] iota_S32x32_d1_w32
  have s3 : IVec S32x32 1 := cmpi .sge s1 s2
  have s4 : IVec S32x32 32 := extui 32 s3 natLt_1_32
  have s5 : FVec Ideal S32x32 .f32 := sitofp .f32 s4
  have s6 : FVec Ideal S32x32 .bf16 := truncf .bf16 s5 bitsLt_bf16_f32
  have s7 : FVec Ideal S32x128 .bf16 := truncf .bf16 X.lf bitsLt_bf16_f32
  have s8 : FVec Ideal S32x128 .f32 := matmul dot_S32x32_S32x128_S32x128_1_0_0_1_n_n none s6 s7 (constant S32x128 .f32 0x00000000#32)
  have s9 : FVec Ideal S32x128 .f32 := extf .f32 s7 bitsLt_bf16_f32
  have s10 : FVec Ideal S32x128 .f32 := subf X.lf s9
  have s11 : FVec Ideal S32x128 .bf16 := truncf .bf16 s10 bitsLt_bf16_f32
  have s12 : FVec Ideal S32x128 .f32 := matmul dot_S32x32_S32x128_S32x128_1_0_0_1_n_n none s6 s11 (constant S32x128 .f32 0x00000000#32)
  have s13 : FVec Ideal S32x32 .f32 := extf .f32 s6 bitsLt_bf16_f32
  have s14 : FVec Ideal S32x32 .f32 := subf s5 s13
  have s15 : FVec Ideal S32x32 .bf16 := truncf .bf16 s14 bitsLt_bf16_f32
  have s16 : FVec Ideal S32x128 .f32 := matmul dot_S32x32_S32x128_S32x128_1_0_0_1_n_n none s15 s7 (constant S32x128 .f32 0x00000000#32)
  have s17 : FVec Ideal S32x128 .f32 := addf s12 s16
  addf s8 s17

/-- For one head: the sums of the log gates over the block. -/
def bl : FVec Ideal S1x128 .f32 :=
  have s1 : FVec Ideal S128 .f32 := multiReduction .add [0] S128 X.lf 0x00000000#32 reduces_S32x128_S128 (.inl rfl) rfl
  shapeCast S1x128 s1 shapeCasts_S128_S1x128

/-- For one head: the decay of a row relative to the middle row. -/
def ea : FVec Ideal S32x128 .f32 :=
  have s1 : FVec Ideal S1x128 .f32 := extractStridedSlice S1x128 ![15, 0] X.b slices_S32x128_o15_0_S1x128
  have s2 : FVec Ideal S32x128 .f32 := broadcastTo S32x128 s1 broadcasts_S1x128_S32x128
  have s3 : FVec Ideal S32x128 .f32 := subf X.b s2
  exp s3

/-- For one head: the queries scaled by it. -/
def A : FVec Ideal S32x128 .f32 :=
  mulf X.qs X.ea

/-- For one head: the decay of the middle row relative to a row. -/
def eb : FVec Ideal S32x128 .f32 :=
  have s1 : FVec Ideal S1x128 .f32 := extractStridedSlice S1x128 ![15, 0] X.b slices_S32x128_o15_0_S1x128
  have s2 : FVec Ideal S32x128 .f32 := broadcastTo S32x128 s1 broadcasts_S1x128_S32x128
  have s3 : FVec Ideal S32x128 .f32 := subf s2 X.b
  exp s3

/-- For one head: the keys scaled by it. -/
def B : FVec Ideal S32x128 .f32 :=
  mulf X.kk X.eb

/-- For one head: the causal scores. -/
def sc : FVec Ideal S32x32 .f32 :=
  have s1 : IVec S32x32 32 := iota .tc S32x32 32 [0] iota_S32x32_d0_w32
  have s2 : IVec S32x32 32 := iota .tc S32x32 32 [1] iota_S32x32_d1_w32
  have s3 : IVec S32x32 1 := cmpi .sge s1 s2
  have s4 : FVec Ideal S32x128 .bf16 := truncf .bf16 X.A bitsLt_bf16_f32
  have s5 : FVec Ideal S32x128 .bf16 := truncf .bf16 X.B bitsLt_bf16_f32
  have s6 : FVec Ideal S32x32 .f32 := matmul dot_S32x128_S32x128_S32x32_1_1_0_0_n_n none s4 s5 (constant S32x32 .f32 0x00000000#32)
  have s7 : FVec Ideal S32x32 .f32 := broadcast S32x32 (Scalar.ofBits .f32 0x00000000#32)
  select s3 s6 s7

/-- For one head: the decay since the start of the block. -/
def e1 : FVec Ideal S32x128 .f32 :=
  exp X.b

/-- For one head: the queries seen by the state. -/
def qi : FVec Ideal S32x128 .f32 :=
  mulf X.qs X.e1

/-- For one head: the decay to the end of the block. -/
def eo : FVec Ideal S32x128 .f32 :=
  have s1 : FVec Ideal S32x128 .f32 := broadcastTo S32x128 X.bl broadcasts_S1x128_S32x128
  have s2 : FVec Ideal S32x128 .f32 := subf s1 X.b
  exp s2

/-- For one head: the keys added to the state. -/
def ko : FVec Ideal S32x128 .f32 :=
  mulf X.kk X.eo

/-- For one head: the state gradient passed to the earlier block. -/
def nL : FVec Ideal S128x128 .f32 :=
  have s1 : FVec Ideal S128x128 .f32 := shapeCast S128x128 X.L shapeCasts_S128x128_S128x128
  have s2 : FVec Ideal S1x128 .f32 := exp X.bl
  have s3 : FVec Ideal S128x128 .f32 := broadcastTo S128x128 s2 broadcasts_S1x128_S128x128
  have s4 : FVec Ideal S128x128 .f32 := mulf s1 s3
  have s5 : FVec Ideal S32x128 .bf16 := truncf .bf16 X.o bitsLt_bf16_f32
  have s6 : FVec Ideal S32x128 .bf16 := truncf .bf16 X.qi bitsLt_bf16_f32
  have s7 : FVec Ideal S128x128 .f32 := matmul dot_S32x128_S32x128_S128x128_0_0_1_1_n_n none s5 s6 (constant S128x128 .f32 0x00000000#32)
  addf s4 s7

/-- For one head: the gradient of the values. -/
def di : FVec Ideal S32x128 .f32 :=
  have s1 : FVec Ideal S32x128 .bf16 := truncf .bf16 X.ko bitsLt_bf16_f32
  have s2 : FVec Ideal S128x128 .f32 := shapeCast S128x128 X.L shapeCasts_S128x128_S128x128
  have s3 : FVec Ideal S128x128 .bf16 := truncf .bf16 s2 bitsLt_bf16_f32
  have s4 : FVec Ideal S32x128 .f32 := matmul dot_S32x128_S128x128_S32x128_1_1_0_0_n_n none s1 s3 (constant S32x128 .f32 0x00000000#32)
  have s5 : FVec Ideal S32x32 .bf16 := truncf .bf16 X.sc bitsLt_bf16_f32
  have s6 : FVec Ideal S32x128 .bf16 := truncf .bf16 X.o bitsLt_bf16_f32
  have s7 : FVec Ideal S32x128 .f32 := matmul dot_S32x32_S32x128_S32x128_0_0_1_1_n_n none s5 s6 (constant S32x128 .f32 0x00000000#32)
  addf s4 s7

/-- For one head: the gradient of `qi`. -/
def dqi : FVec Ideal S32x128 .f32 :=
  have s1 : FVec Ideal S32x128 .bf16 := truncf .bf16 X.o bitsLt_bf16_f32
  have s2 : FVec Ideal S128x128 .bf16 := truncf .bf16 X.S bitsLt_bf16_f32
  matmul dot_S32x128_S128x128_S32x128_1_0_0_1_n_n none s1 s2 (constant S32x128 .f32 0x00000000#32)

/-- For one head: the gradient of the scores. -/
def dsc : FVec Ideal S32x32 .f32 :=
  have s1 : IVec S32x32 32 := iota .tc S32x32 32 [0] iota_S32x32_d0_w32
  have s2 : IVec S32x32 32 := iota .tc S32x32 32 [1] iota_S32x32_d1_w32
  have s3 : IVec S32x32 1 := cmpi .sge s1 s2
  have s4 : FVec Ideal S32x128 .bf16 := truncf .bf16 X.o bitsLt_bf16_f32
  have s5 : FVec Ideal S32x128 .bf16 := truncf .bf16 X.i bitsLt_bf16_f32
  have s6 : FVec Ideal S32x32 .f32 := matmul dot_S32x128_S32x128_S32x32_1_1_0_0_n_n none s4 s5 (constant S32x32 .f32 0x00000000#32)
  have s7 : FVec Ideal S32x32 .f32 := broadcast S32x32 (Scalar.ofBits .f32 0x00000000#32)
  select s3 s6 s7

/-- For one head: the gradient of `A`. -/
def dA : FVec Ideal S32x128 .f32 :=
  have s1 : FVec Ideal S32x32 .bf16 := truncf .bf16 X.dsc bitsLt_bf16_f32
  have s2 : FVec Ideal S32x128 .bf16 := truncf .bf16 X.B bitsLt_bf16_f32
  matmul dot_S32x32_S32x128_S32x128_1_0_0_1_n_n none s1 s2 (constant S32x128 .f32 0x00000000#32)

/-- For one head: the gradient of the gated queries. -/
def dqs : FVec Ideal S32x128 .f32 :=
  have s1 : FVec Ideal S32x128 .f32 := mulf X.dqi X.e1
  have s2 : FVec Ideal S32x128 .f32 := mulf X.dA X.ea
  addf s1 s2

/-- For one head: the gradient of the queries. -/
def dq : FVec Ideal S32x128 .f32 :=
  have s1 : FVec Ideal S32x128 .f32 := mulf X.dqs X.sq
  have s2 : FVec Ideal S32x128 .f32 := mulf X.q X.dqs
  have s3 : FVec Ideal S32x128 .f32 := broadcast S32x128 (Scalar.ofBits .f32 0x3F800000#32)
  have s4 : FVec Ideal S32x128 .f32 := subf s3 X.sq
  have s5 : FVec Ideal S32x128 .f32 := mulf X.sq s4
  have s6 : FVec Ideal S32x128 .f32 := mulf s2 s5
  addf s1 s6

/-- For one head: the gradient of `ko`. -/
def dko : FVec Ideal S32x128 .f32 :=
  have s1 : FVec Ideal S32x128 .bf16 := truncf .bf16 X.i bitsLt_bf16_f32
  have s2 : FVec Ideal S128x128 .f32 := shapeCast S128x128 X.L shapeCasts_S128x128_S128x128
  have s3 : FVec Ideal S128x128 .bf16 := truncf .bf16 s2 bitsLt_bf16_f32
  matmul dot_S32x128_S128x128_S32x128_1_0_0_1_n_n none s1 s3 (constant S32x128 .f32 0x00000000#32)

/-- For one head: the gradient of `B`. -/
def dB : FVec Ideal S32x128 .f32 :=
  have s1 : FVec Ideal S32x32 .bf16 := truncf .bf16 X.dsc bitsLt_bf16_f32
  have s2 : FVec Ideal S32x128 .bf16 := truncf .bf16 X.A bitsLt_bf16_f32
  matmul dot_S32x32_S32x128_S32x128_0_0_1_1_n_n none s1 s2 (constant S32x128 .f32 0x00000000#32)

/-- For one head: the gradient of the keys. -/
def dk : FVec Ideal S32x128 .f32 :=
  have s1 : FVec Ideal S32x128 .f32 := mulf X.dko X.eo
  have s2 : FVec Ideal S32x128 .f32 := mulf X.dB X.eb
  addf s1 s2

/-- For one head: a summand of the gradient of `b`. -/
def g1 : FVec Ideal S32x128 .f32 :=
  have s1 : FVec Ideal S32x128 .f32 := mulf X.kk X.dko
  mulf s1 X.eo

/-- For one head: a summand of the gradient of `b`. -/
def g2 : FVec Ideal S32x128 .f32 :=
  have s1 : FVec Ideal S32x128 .f32 := mulf X.qs X.dqi
  mulf s1 X.e1

/-- For one head: a summand of the gradient of `b`. -/
def g3 : FVec Ideal S32x128 .f32 :=
  have s1 : FVec Ideal S32x128 .f32 := mulf X.kk X.dB
  mulf s1 X.eb

/-- For one head: a summand of the gradient of `b`. -/
def g4 : FVec Ideal S32x128 .f32 :=
  have s1 : FVec Ideal S32x128 .f32 := mulf X.qs X.dA
  mulf s1 X.ea

/-- For one head: the gradient of `bl`. -/
def dlast : FVec Ideal S1x128 .f32 :=
  have s1 : FVec Ideal S128x128 .f32 := shapeCast S128x128 X.L shapeCasts_S128x128_S128x128
  have s2 : FVec Ideal S128x128 .f32 := mulf X.S s1
  have s3 : FVec Ideal S128 .f32 := multiReduction .add [0] S128 s2 0x00000000#32 reduces_S128x128_S128 (.inl rfl) rfl
  have s4 : FVec Ideal S1x128 .f32 := shapeCast S1x128 s3 shapeCasts_S128_S1x128
  have s5 : FVec Ideal S1x128 .f32 := exp X.bl
  have s6 : FVec Ideal S1x128 .f32 := mulf s4 s5
  have s7 : FVec Ideal S128 .f32 := multiReduction .add [0] S128 X.g1 0x00000000#32 reduces_S32x128_S128 (.inl rfl) rfl
  have s8 : FVec Ideal S1x128 .f32 := shapeCast S1x128 s7 shapeCasts_S128_S1x128
  addf s6 s8

/-- For one head: the gradient of `b`. -/
def db : FVec Ideal S32x128 .f32 :=
  have s1 : FVec Ideal S32x128 .f32 := broadcast S32x128 (Scalar.ofBits .f32 0x00000000#32)
  have s2 : FVec Ideal S32x128 .f32 := subf s1 X.g1
  have s3 : FVec Ideal S32x128 .f32 := addf s2 X.g2
  have s4 : FVec Ideal S32x128 .f32 := broadcast S32x128 (Scalar.ofBits .f32 0x00000000#32)
  have s5 : FVec Ideal S32x128 .f32 := subf s4 X.g3
  have s6 : FVec Ideal S32x128 .f32 := addf s3 s5
  have s7 : FVec Ideal S15x128 .f32 := broadcast S15x128 (Scalar.ofBits .f32 0x00000000#32)
  have s8 : FVec Ideal S128 .f32 := multiReduction .add [0] S128 X.g3 0x00000000#32 reduces_S32x128_S128 (.inl rfl) rfl
  have s9 : FVec Ideal S1x128 .f32 := shapeCast S1x128 s8 shapeCasts_S128_S1x128
  have s10 : FVec Ideal S16x128 .f32 := concatenate S16x128 0 [⟨S15x128, s7⟩, ⟨S1x128, s9⟩] concatenates_S15x128_S1x128_S16x128_d0
  have s11 : FVec Ideal S16x128 .f32 := broadcast S16x128 (Scalar.ofBits .f32 0x00000000#32)
  have s12 : FVec Ideal S32x128 .f32 := concatenate S32x128 0 [⟨S16x128, s10⟩, ⟨S16x128, s11⟩] concatenates_S16x128_S16x128_S32x128_d0
  have s13 : FVec Ideal S32x128 .f32 := addf s6 s12
  have s14 : FVec Ideal S32x128 .f32 := addf s13 X.g4
  have s15 : FVec Ideal S15x128 .f32 := broadcast S15x128 (Scalar.ofBits .f32 0x00000000#32)
  have s16 : FVec Ideal S32x128 .f32 := broadcast S32x128 (Scalar.ofBits .f32 0x00000000#32)
  have s17 : FVec Ideal S32x128 .f32 := subf s16 X.g4
  have s18 : FVec Ideal S128 .f32 := multiReduction .add [0] S128 s17 0x00000000#32 reduces_S32x128_S128 (.inl rfl) rfl
  have s19 : FVec Ideal S1x128 .f32 := shapeCast S1x128 s18 shapeCasts_S128_S1x128
  have s20 : FVec Ideal S16x128 .f32 := concatenate S16x128 0 [⟨S15x128, s15⟩, ⟨S1x128, s19⟩] concatenates_S15x128_S1x128_S16x128_d0
  have s21 : FVec Ideal S16x128 .f32 := broadcast S16x128 (Scalar.ofBits .f32 0x00000000#32)
  have s22 : FVec Ideal S32x128 .f32 := concatenate S32x128 0 [⟨S16x128, s20⟩, ⟨S16x128, s21⟩] concatenates_S16x128_S16x128_S32x128_d0
  addf s14 s22

/-- For one head: the gradient of the log gates. -/
def dlf : FVec Ideal S32x128 .f32 :=
  have s1 : FVec Ideal S128 .f32 := multiReduction .add [0] S128 X.dlast 0x00000000#32 reduces_S1x128_S128 (.inl rfl) rfl
  have s2 : FVec Ideal S1x128 .f32 := shapeCast S1x128 s1 shapeCasts_S128_S1x128
  have s3 : FVec Ideal S32x128 .f32 := broadcastTo S32x128 s2 broadcasts_S1x128_S32x128
  have s4 : IVec S32x32 32 := iota .tc S32x32 32 [0] iota_S32x32_d0_w32
  have s5 : IVec S32x32 32 := iota .tc S32x32 32 [1] iota_S32x32_d1_w32
  have s6 : IVec S32x32 1 := cmpi .sge s4 s5
  have s7 : IVec S32x32 32 := extui 32 s6 natLt_1_32
  have s8 : FVec Ideal S32x32 .f32 := sitofp .f32 s7
  have s9 : FVec Ideal S32x32 .bf16 := truncf .bf16 s8 bitsLt_bf16_f32
  have s10 : FVec Ideal S32x128 .bf16 := truncf .bf16 X.db bitsLt_bf16_f32
  have s11 : FVec Ideal S32x128 .f32 := matmul dot_S32x32_S32x128_S32x128_0_0_1_1_n_n none s9 s10 (constant S32x128 .f32 0x00000000#32)
  have s12 : FVec Ideal S32x128 .f32 := extf .f32 s10 bitsLt_bf16_f32
  have s13 : FVec Ideal S32x128 .f32 := subf X.db s12
  have s14 : FVec Ideal S32x128 .bf16 := truncf .bf16 s13 bitsLt_bf16_f32
  have s15 : FVec Ideal S32x128 .f32 := matmul dot_S32x32_S32x128_S32x128_0_0_1_1_n_n none s9 s14 (constant S32x128 .f32 0x00000000#32)
  have s16 : FVec Ideal S32x32 .f32 := extf .f32 s9 bitsLt_bf16_f32
  have s17 : FVec Ideal S32x32 .f32 := subf s8 s16
  have s18 : FVec Ideal S32x32 .bf16 := truncf .bf16 s17 bitsLt_bf16_f32
  have s19 : FVec Ideal S32x128 .f32 := matmul dot_S32x32_S32x128_S32x128_0_0_1_1_n_n none s18 s10 (constant S32x128 .f32 0x00000000#32)
  have s20 : FVec Ideal S32x128 .f32 := addf s15 s19
  have s21 : FVec Ideal S32x128 .f32 := addf s11 s20
  addf s3 s21

/-- For one head: the gradient of the gates. -/
def dfg : FVec Ideal S32x128 .f32 :=
  divf X.dlf X.fg

/-- For one head: the gradient of the forget inputs. -/
def df : FVec Ideal S32x128 .f32 :=
  have s1 : FVec Ideal S32x128 .f32 := broadcast S32x128 (Scalar.ofBits .f32 0x00000000#32)
  have s2 : FVec Ideal S1x128 .f32 := broadcast S1x128 (Scalar.ofBits .f32 0x3F800000#32)
  have s3 : FVec Ideal S1x128 .f32 := subf s2 X.lb
  have s4 : FVec Ideal S32x128 .f32 := broadcastTo S32x128 s3 broadcasts_S1x128_S32x128
  have s5 : FVec Ideal S32x128 .f32 := mulf s4 X.dk
  have s6 : FVec Ideal S32x128 .f32 := broadcast S32x128 (Scalar.ofBits .f32 0x3F800000#32)
  have s7 : FVec Ideal S32x128 .f32 := subf s6 X.nf
  have s8 : FVec Ideal S32x128 .f32 := mulf X.nf s7
  have s9 : FVec Ideal S32x128 .f32 := mulf s5 s8
  have s10 : FVec Ideal S32x128 .f32 := subf s1 s9
  have s11 : FVec Ideal S1x128 .f32 := broadcast S1x128 (Scalar.ofBits .f32 0x3F800000#32)
  have s12 : FVec Ideal S1x128 .f32 := subf s11 X.lb
  have s13 : FVec Ideal S32x128 .f32 := broadcastTo S32x128 s12 broadcasts_S1x128_S32x128
  have s14 : FVec Ideal S32x128 .f32 := mulf s13 X.dfg
  have s15 : FVec Ideal S32x128 .f32 := broadcast S32x128 (Scalar.ofBits .f32 0x3F800000#32)
  have s16 : FVec Ideal S32x128 .f32 := subf s15 X.sf
  have s17 : FVec Ideal S32x128 .f32 := mulf X.sf s16
  have s18 : FVec Ideal S32x128 .f32 := mulf s14 s17
  addf s10 s18

/-- For one head: the gradient of the lower bound. -/
def dlb : FVec Ideal S1x128 .f32 :=
  have s1 : FVec Ideal S1x128 .f32 := broadcast S1x128 (Scalar.ofBits .f32 0x00000000#32)
  have s2 : FVec Ideal S32x128 .f32 := mulf X.dk X.nf
  have s3 : FVec Ideal S128 .f32 := multiReduction .add [0] S128 s2 0x00000000#32 reduces_S32x128_S128 (.inl rfl) rfl
  have s4 : FVec Ideal S1x128 .f32 := shapeCast S1x128 s3 shapeCasts_S128_S1x128
  have s5 : FVec Ideal S1x128 .f32 := subf s1 s4
  have s6 : FVec Ideal S128 .f32 := multiReduction .add [0] S128 X.dfg 0x00000000#32 reduces_S32x128_S128 (.inl rfl) rfl
  have s7 : FVec Ideal S1x128 .f32 := shapeCast S1x128 s6 shapeCasts_S128_S1x128
  have s8 : FVec Ideal S1x128 .f32 := addf s5 s7
  have s9 : FVec Ideal S1x128 .f32 := broadcast S1x128 (Scalar.ofBits .f32 0x00000000#32)
  have s10 : FVec Ideal S32x128 .f32 := mulf X.dfg X.sf
  have s11 : FVec Ideal S128 .f32 := multiReduction .add [0] S128 s10 0x00000000#32 reduces_S32x128_S128 (.inl rfl) rfl
  have s12 : FVec Ideal S1x128 .f32 := shapeCast S1x128 s11 shapeCasts_S128_S1x128
  have s13 : FVec Ideal S1x128 .f32 := subf s9 s12
  addf s8 s13

end Vin

end Cert.Hgrn

end
-- ==== Proof.Block.lean ====
/-
One block of the backward scan as vector operations: the eight heads' columns of the block's arrays, and the heads' results
put side by side.
-/
module

public import proofs.«01_k».proof.Proof.Head

@[expose] public section

set_option maxRecDepth 16384

noncomputable section

namespace Cert.Hgrn

open Cert.KernelIdeal Cert.KernelIdeal.Gen Idealize.ShloMosaic Idealize.ShloMosaic.TcCoe

/-- Head 0 of a block: its columns of the queries, forget inputs, values and output gradients, its row of the lower bounds. -/
def vin0 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 0] x0 slices_S32x1024_o0_0_S32x128
  f := extractStridedSlice S32x128 ![0, 0] x1 slices_S32x1024_o0_0_S32x128
  i := extractStridedSlice S32x128 ![0, 0] x2 slices_S32x1024_o0_0_S32x128
  o := extractStridedSlice S32x128 ![0, 0] x12 slices_S32x1024_o0_0_S32x128
  lb :=
    have s1 : FVec Ideal S8x1x128 .f32 := shapeCast S8x1x128 x3 shapeCasts_S1x8x1x128_S8x1x128
    have s2 : FVec Ideal S1x1x128 .f32 := extractStridedSlice S1x1x128 ![0, 0, 0] s1 slices_S8x1x128_o0_0_0_S1x1x128
    shapeCast S1x128 s2 shapeCasts_S1x1x128_S1x128
  S := shapeCast S128x128 S shapeCasts_S1x1x128x128_S128x128
  L := L

/-- Head 1 of a block: its columns of the queries, forget inputs, values and output gradients, its row of the lower bounds. -/
def vin1 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 128] x0 slices_S32x1024_o0_128_S32x128
  f := extractStridedSlice S32x128 ![0, 128] x1 slices_S32x1024_o0_128_S32x128
  i := extractStridedSlice S32x128 ![0, 128] x2 slices_S32x1024_o0_128_S32x128
  o := extractStridedSlice S32x128 ![0, 128] x12 slices_S32x1024_o0_128_S32x128
  lb :=
    have s1 : FVec Ideal S8x1x128 .f32 := shapeCast S8x1x128 x3 shapeCasts_S1x8x1x128_S8x1x128
    have s2 : FVec Ideal S1x1x128 .f32 := extractStridedSlice S1x1x128 ![1, 0, 0] s1 slices_S8x1x128_o1_0_0_S1x1x128
    shapeCast S1x128 s2 shapeCasts_S1x1x128_S1x128
  S := shapeCast S128x128 S shapeCasts_S1x1x128x128_S128x128
  L := L

/-- Head 2 of a block: its columns of the queries, forget inputs, values and output gradients, its row of the lower bounds. -/
def vin2 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 256] x0 slices_S32x1024_o0_256_S32x128
  f := extractStridedSlice S32x128 ![0, 256] x1 slices_S32x1024_o0_256_S32x128
  i := extractStridedSlice S32x128 ![0, 256] x2 slices_S32x1024_o0_256_S32x128
  o := extractStridedSlice S32x128 ![0, 256] x12 slices_S32x1024_o0_256_S32x128
  lb :=
    have s1 : FVec Ideal S8x1x128 .f32 := shapeCast S8x1x128 x3 shapeCasts_S1x8x1x128_S8x1x128
    have s2 : FVec Ideal S1x1x128 .f32 := extractStridedSlice S1x1x128 ![2, 0, 0] s1 slices_S8x1x128_o2_0_0_S1x1x128
    shapeCast S1x128 s2 shapeCasts_S1x1x128_S1x128
  S := shapeCast S128x128 S shapeCasts_S1x1x128x128_S128x128
  L := L

/-- Head 3 of a block: its columns of the queries, forget inputs, values and output gradients, its row of the lower bounds. -/
def vin3 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 384] x0 slices_S32x1024_o0_384_S32x128
  f := extractStridedSlice S32x128 ![0, 384] x1 slices_S32x1024_o0_384_S32x128
  i := extractStridedSlice S32x128 ![0, 384] x2 slices_S32x1024_o0_384_S32x128
  o := extractStridedSlice S32x128 ![0, 384] x12 slices_S32x1024_o0_384_S32x128
  lb :=
    have s1 : FVec Ideal S8x1x128 .f32 := shapeCast S8x1x128 x3 shapeCasts_S1x8x1x128_S8x1x128
    have s2 : FVec Ideal S1x1x128 .f32 := extractStridedSlice S1x1x128 ![3, 0, 0] s1 slices_S8x1x128_o3_0_0_S1x1x128
    shapeCast S1x128 s2 shapeCasts_S1x1x128_S1x128
  S := shapeCast S128x128 S shapeCasts_S1x1x128x128_S128x128
  L := L

/-- Head 4 of a block: its columns of the queries, forget inputs, values and output gradients, its row of the lower bounds. -/
def vin4 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 512] x0 slices_S32x1024_o0_512_S32x128
  f := extractStridedSlice S32x128 ![0, 512] x1 slices_S32x1024_o0_512_S32x128
  i := extractStridedSlice S32x128 ![0, 512] x2 slices_S32x1024_o0_512_S32x128
  o := extractStridedSlice S32x128 ![0, 512] x12 slices_S32x1024_o0_512_S32x128
  lb :=
    have s1 : FVec Ideal S8x1x128 .f32 := shapeCast S8x1x128 x3 shapeCasts_S1x8x1x128_S8x1x128
    have s2 : FVec Ideal S1x1x128 .f32 := extractStridedSlice S1x1x128 ![4, 0, 0] s1 slices_S8x1x128_o4_0_0_S1x1x128
    shapeCast S1x128 s2 shapeCasts_S1x1x128_S1x128
  S := shapeCast S128x128 S shapeCasts_S1x1x128x128_S128x128
  L := L

/-- Head 5 of a block: its columns of the queries, forget inputs, values and output gradients, its row of the lower bounds. -/
def vin5 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 640] x0 slices_S32x1024_o0_640_S32x128
  f := extractStridedSlice S32x128 ![0, 640] x1 slices_S32x1024_o0_640_S32x128
  i := extractStridedSlice S32x128 ![0, 640] x2 slices_S32x1024_o0_640_S32x128
  o := extractStridedSlice S32x128 ![0, 640] x12 slices_S32x1024_o0_640_S32x128
  lb :=
    have s1 : FVec Ideal S8x1x128 .f32 := shapeCast S8x1x128 x3 shapeCasts_S1x8x1x128_S8x1x128
    have s2 : FVec Ideal S1x1x128 .f32 := extractStridedSlice S1x1x128 ![5, 0, 0] s1 slices_S8x1x128_o5_0_0_S1x1x128
    shapeCast S1x128 s2 shapeCasts_S1x1x128_S1x128
  S := shapeCast S128x128 S shapeCasts_S1x1x128x128_S128x128
  L := L

/-- Head 6 of a block: its columns of the queries, forget inputs, values and output gradients, its row of the lower bounds. -/
def vin6 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 768] x0 slices_S32x1024_o0_768_S32x128
  f := extractStridedSlice S32x128 ![0, 768] x1 slices_S32x1024_o0_768_S32x128
  i := extractStridedSlice S32x128 ![0, 768] x2 slices_S32x1024_o0_768_S32x128
  o := extractStridedSlice S32x128 ![0, 768] x12 slices_S32x1024_o0_768_S32x128
  lb :=
    have s1 : FVec Ideal S8x1x128 .f32 := shapeCast S8x1x128 x3 shapeCasts_S1x8x1x128_S8x1x128
    have s2 : FVec Ideal S1x1x128 .f32 := extractStridedSlice S1x1x128 ![6, 0, 0] s1 slices_S8x1x128_o6_0_0_S1x1x128
    shapeCast S1x128 s2 shapeCasts_S1x1x128_S1x128
  S := shapeCast S128x128 S shapeCasts_S1x1x128x128_S128x128
  L := L

/-- Head 7 of a block: its columns of the queries, forget inputs, values and output gradients, its row of the lower bounds. -/
def vin7 (x0 x1 x2 x12 : FVec Ideal S32x1024 .f32) (x3 : FVec Ideal S1x8x1x128 .f32) (S : FVec Ideal S1x1x128x128 .f32) (L : FVec Ideal S128x128 .f32) : Vin where
  q := extractStridedSlice S32x128 ![0, 896] x0 slices_S32x1024_o0_896_S32x128
  f := extractStridedSlice S32x128 ![0, 896] x1 slices_S32x1024_o0_896_S32x128
  i := extractStridedSlice S32x128 ![0, 896] x2 slices_S32x1024_o0_896_S32x128
  o := extractStridedSlice S32x128 ![0, 896] x12 slices_S32x1024_o0_896_S32x128
  lb :=
    have s1 : FVec Ideal S8x1x128 .f32 := shapeCast S8x1x128 x3 shapeCasts_S1x8x1x128_S8x1x128
    have s2 : FVec Ideal S1x1x128 .f32 := extractStridedSlice S1x1x128 ![7, 0, 0] s1 slices_S8x1x128_o7_0_0_S1x1x128
    shapeCast S1x128 s2 shapeCasts_S1x1x128_S1x128
  S := shapeCast S128x128 S shapeCasts_S1x1x128x128_S128x128
  L := L

/-- Eight heads' rows side by side, as a sum of rows padded by zeros. -/
def wide (y0 y1 y2 y3 y4 y5 y6 y7 : FVec Ideal S32x128 .f32) : FVec Ideal S32x1024 .f32 :=
  have s1 : FVec Ideal S32x896 .f32 := broadcast S32x896 (Scalar.ofBits .f32 0x00000000#32)
  have s2 : FVec Ideal S32x1024 .f32 := concatenate S32x1024 1 [⟨S32x896, s1⟩, ⟨S32x128, y7⟩] concatenates_S32x896_S32x128_S32x1024_d1
  have s3 : FVec Ideal S32x768 .f32 := broadcast S32x768 (Scalar.ofBits .f32 0x00000000#32)
  have s4 : FVec Ideal S32x896 .f32 := concatenate S32x896 1 [⟨S32x768, s3⟩, ⟨S32x128, y6⟩] concatenates_S32x768_S32x128_S32x896_d1
  have s5 : FVec Ideal S32x128 .f32 := broadcast S32x128 (Scalar.ofBits .f32 0x00000000#32)
  have s6 : FVec Ideal S32x1024 .f32 := concatenate S32x1024 1 [⟨S32x896, s4⟩, ⟨S32x128, s5⟩] concatenates_S32x896_S32x128_S32x1024_d1
  have s7 : FVec Ideal S32x1024 .f32 := addf s2 s6
  have s8 : FVec Ideal S32x640 .f32 := broadcast S32x640 (Scalar.ofBits .f32 0x00000000#32)
  have s9 : FVec Ideal S32x768 .f32 := concatenate S32x768 1 [⟨S32x640, s8⟩, ⟨S32x128, y5⟩] concatenates_S32x640_S32x128_S32x768_d1
  have s10 : FVec Ideal S32x256 .f32 := broadcast S32x256 (Scalar.ofBits .f32 0x00000000#32)
  have s11 : FVec Ideal S32x1024 .f32 := concatenate S32x1024 1 [⟨S32x768, s9⟩, ⟨S32x256, s10⟩] concatenates_S32x768_S32x256_S32x1024_d1
  have s12 : FVec Ideal S32x1024 .f32 := addf s7 s11
  have s13 : FVec Ideal S32x512 .f32 := broadcast S32x512 (Scalar.ofBits .f32 0x00000000#32)
  have s14 : FVec Ideal S32x640 .f32 := concatenate S32x640 1 [⟨S32x512, s13⟩, ⟨S32x128, y4⟩] concatenates_S32x512_S32x128_S32x640_d1
  have s15 : FVec Ideal S32x384 .f32 := broadcast S32x384 (Scalar.ofBits .f32 0x00000000#32)
  have s16 : FVec Ideal S32x1024 .f32 := concatenate S32x1024 1 [⟨S32x640, s14⟩, ⟨S32x384, s15⟩] concatenates_S32x640_S32x384_S32x1024_d1
  have s17 : FVec Ideal S32x1024 .f32 := addf s12 s16
  have s18 : FVec Ideal S32x384 .f32 := broadcast S32x384 (Scalar.ofBits .f32 0x00000000#32)
  have s19 : FVec Ideal S32x512 .f32 := concatenate S32x512 1 [⟨S32x384, s18⟩, ⟨S32x128, y3⟩] concatenates_S32x384_S32x128_S32x512_d1
  have s20 : FVec Ideal S32x512 .f32 := broadcast S32x512 (Scalar.ofBits .f32 0x00000000#32)
  have s21 : FVec Ideal S32x1024 .f32 := concatenate S32x1024 1 [⟨S32x512, s19⟩, ⟨S32x512, s20⟩] concatenates_S32x512_S32x512_S32x1024_d1
  have s22 : FVec Ideal S32x1024 .f32 := addf s17 s21
  have s23 : FVec Ideal S32x256 .f32 := broadcast S32x256 (Scalar.ofBits .f32 0x00000000#32)
  have s24 : FVec Ideal S32x384 .f32 := concatenate S32x384 1 [⟨S32x256, s23⟩, ⟨S32x128, y2⟩] concatenates_S32x256_S32x128_S32x384_d1
  have s25 : FVec Ideal S32x640 .f32 := broadcast S32x640 (Scalar.ofBits .f32 0x00000000#32)
  have s26 : FVec Ideal S32x1024 .f32 := concatenate S32x1024 1 [⟨S32x384, s24⟩, ⟨S32x640, s25⟩] concatenates_S32x384_S32x640_S32x1024_d1
  have s27 : FVec Ideal S32x1024 .f32 := addf s22 s26
  have s28 : FVec Ideal S32x128 .f32 := broadcast S32x128 (Scalar.ofBits .f32 0x00000000#32)
  have s29 : FVec Ideal S32x256 .f32 := concatenate S32x256 1 [⟨S32x128, s28⟩, ⟨S32x128, y1⟩] concatenates_S32x128_S32x128_S32x256_d1
  have s30 : FVec Ideal S32x768 .f32 := broadcast S32x768 (Scalar.ofBits .f32 0x00000000#32)
  have s31 : FVec Ideal S32x1024 .f32 := concatenate S32x1024 1 [⟨S32x256, s29⟩, ⟨S32x768, s30⟩] concatenates_S32x256_S32x768_S32x1024_d1
  have s32 : FVec Ideal S32x1024 .f32 := addf s27 s31
  have s33 : FVec Ideal S32x896 .f32 := broadcast S32x896 (Scalar.ofBits .f32 0x00000000#32)
  have s34 : FVec Ideal S32x1024 .f32 := concatenate S32x1024 1 [⟨S32x128, y0⟩, ⟨S32x896, s33⟩] concatenates_S32x128_S32x896_S32x1024_d1
  addf s32 s34

/-- Eight heads' rows one below another, as a sum of rows padded by zeros. -/
def tall (y0 y1 y2 y3 y4 y5 y6 y7 : FVec Ideal S1x128 .f32) : FVec Ideal S8x1x128 .f32 :=
  have s1 : FVec Ideal S7x1x128 .f32 := broadcast S7x1x128 (Scalar.ofBits .f32 0x00000000#32)
  have s2 : FVec Ideal S1x1x128 .f32 := shapeCast S1x1x128 y7 shapeCasts_S1x128_S1x1x128
  have s3 : FVec Ideal S8x1x128 .f32 := concatenate S8x1x128 0 [⟨S7x1x128, s1⟩, ⟨S1x1x128, s2⟩] concatenates_S7x1x128_S1x1x128_S8x1x128_d0
  have s4 : FVec Ideal S6x1x128 .f32 := broadcast S6x1x128 (Scalar.ofBits .f32 0x00000000#32)
  have s5 : FVec Ideal S1x1x128 .f32 := shapeCast S1x1x128 y6 shapeCasts_S1x128_S1x1x128
  have s6 : FVec Ideal S7x1x128 .f32 := concatenate S7x1x128 0 [⟨S6x1x128, s4⟩, ⟨S1x1x128, s5⟩] concatenates_S6x1x128_S1x1x128_S7x1x128_d0
  have s7 : FVec Ideal S1x1x128 .f32 := broadcast S1x1x128 (Scalar.ofBits .f32 0x00000000#32)
  have s8 : FVec Ideal S8x1x128 .f32 := concatenate S8x1x128 0 [⟨S7x1x128, s6⟩, ⟨S1x1x128, s7⟩] concatenates_S7x1x128_S1x1x128_S8x1x128_d0
  have s9 : FVec Ideal S8x1x128 .f32 := addf s3 s8
  have s10 : FVec Ideal S5x1x128 .f32 := broadcast S5x1x128 (Scalar.ofBits .f32 0x00000000#32)
  have s11 : FVec Ideal S1x1x128 .f32 := shapeCast S1x1x128 y5 shapeCasts_S1x128_S1x1x128
  have s12 : FVec Ideal S6x1x128 .f32 := concatenate S6x1x128 0 [⟨S5x1x128, s10⟩, ⟨S1x1x128, s11⟩] concatenates_S5x1x128_S1x1x128_S6x1x128_d0
  have s13 : FVec Ideal S2x1x128 .f32 := broadcast S2x1x128 (Scalar.ofBits .f32 0x00000000#32)
  have s14 : FVec Ideal S8x1x128 .f32 := concatenate S8x1x128 0 [⟨S6x1x128, s12⟩, ⟨S2x1x128, s13⟩] concatenates_S6x1x128_S2x1x128_S8x1x128_d0
  have s15 : FVec Ideal S8x1x128 .f32 := addf s9 s14
  have s16 : FVec Ideal S4x1x128 .f32 := broadcast S4x1x128 (Scalar.ofBits .f32 0x00000000#32)
  have s17 : FVec Ideal S1x1x128 .f32 := shapeCast S1x1x128 y4 shapeCasts_S1x128_S1x1x128
  have s18 : FVec Ideal S5x1x128 .f32 := concatenate S5x1x128 0 [⟨S4x1x128, s16⟩, ⟨S1x1x128, s17⟩] concatenates_S4x1x128_S1x1x128_S5x1x128_d0
  have s19 : FVec Ideal S3x1x128 .f32 := broadcast S3x1x128 (Scalar.ofBits .f32 0x00000000#32)
  have s20 : FVec Ideal S8x1x128 .f32 := concatenate S8x1x128 0 [⟨S5x1x128, s18⟩, ⟨S3x1x128, s19⟩] concatenates_S5x1x128_S3x1x128_S8x1x128_d0
  have s21 : FVec Ideal S8x1x128 .f32 := addf s15 s20
  have s22 : FVec Ideal S3x1x128 .f32 := broadcast S3x1x128 (Scalar.ofBits .f32 0x00000000#32)
  have s23 : FVec Ideal S1x1x128 .f32 := shapeCast S1x1x128 y3 shapeCasts_S1x128_S1x1x128
  have s24 : FVec Ideal S4x1x128 .f32 := concatenate S4x1x128 0 [⟨S3x1x128, s22⟩, ⟨S1x1x128, s23⟩] concatenates_S3x1x128_S1x1x128_S4x1x128_d0
  have s25 : FVec Ideal S4x1x128 .f32 := broadcast S4x1x128 (Scalar.ofBits .f32 0x00000000#32)
  have s26 : FVec Ideal S8x1x128 .f32 := concatenate S8x1x128 0 [⟨S4x1x128, s24⟩, ⟨S4x1x128, s25⟩] concatenates_S4x1x128_S4x1x128_S8x1x128_d0
  have s27 : FVec Ideal S8x1x128 .f32 := addf s21 s26
  have s28 : FVec Ideal S2x1x128 .f32 := broadcast S2x1x128 (Scalar.ofBits .f32 0x00000000#32)
  have s29 : FVec Ideal S1x1x128 .f32 := shapeCast S1x1x128 y2 shapeCasts_S1x128_S1x1x128
  have s30 : FVec Ideal S3x1x128 .f32 := concatenate S3x1x128 0 [⟨S2x1x128, s28⟩, ⟨S1x1x128, s29⟩] concatenates_S2x1x128_S1x1x128_S3x1x128_d0
  have s31 : FVec Ideal S5x1x128 .f32 := broadcast S5x1x128 (Scalar.ofBits .f32 0x00000000#32)
  have s32 : FVec Ideal S8x1x128 .f32 := concatenate S8x1x128 0 [⟨S3x1x128, s30⟩, ⟨S5x1x128, s31⟩] concatenates_S3x1x128_S5x1x128_S8x1x128_d0
  have s33 : FVec Ideal S8x1x128 .f32 := addf s27 s32
  have s34 : FVec Ideal S1x1x128 .f32 := broadcast S1x1x128 (Scalar.ofBits .f32 0x00000000#32)
  have s35 : FVec Ideal S1x1x128 .f32 := shapeCast S1x1x128 y1 shapeCasts_S1x128_S1x1x128
  have s36 : FVec Ideal S2x1x128 .f32 := concatenate S2x1x128 0 [⟨S1x1x128, s34⟩, ⟨S1x1x128, s35⟩] concatenates_S1x1x128_S1x1x128_S2x1x128_d0
  have s37 : FVec Ideal S6x1x128 .f32 := broadcast S6x1x128 (Scalar.ofBits .f32 0x00000000#32)
  have s38 : FVec Ideal S8x1x128 .f32 := concatenate S8x1x128 0 [⟨S2x1x128, s36⟩, ⟨S6x1x128, s37⟩] concatenates_S2x1x128_S6x1x128_S8x1x128_d0
  have s39 : FVec Ideal S8x1x128 .f32 := addf s33 s38
  have s40 : FVec Ideal S1x1x128 .f32 := shapeCast S1x1x128 y0 shapeCasts_S1x128_S1x1x128
  have s41 : FVec Ideal S7x1x128 .f32 := broadcast S7x1x128 (Scalar.ofBits .f32 0x00000000#32)
  have s42 : FVec Ideal S8x1x128 .f32 := concatenate S8x1x128 0 [⟨S1x1x128, s40⟩, ⟨S7x1x128, s41⟩] concatenates_S1x1x128_S7x1x128_S8x1x128_d0
  addf s39 s42

end Cert.Hgrn

end
-- ==== Proof.Spec.lean ====
/-
One head of one block of the backward scan over the reals: the gated recurrence's forward values that the gradient needs, and
the gradients.
-/
module

public import Mathlib.Analysis.SpecialFunctions.Log.Basic

@[expose] public section

noncomputable section

namespace Cert.Hgrn

/-- The logistic function. -/
def sg (x : ℝ) : ℝ := (1 + Real.exp (-x))⁻¹

theorem sg_pos (x : ℝ) : 0 < sg x := inv_pos.mpr (by positivity)

theorem sg_lt_one (x : ℝ) : sg x < 1 := inv_lt_one_of_one_lt₀ (by linarith [Real.exp_pos (-x)])

theorem sg_ne (x : ℝ) : 1 + Real.exp (-x) ≠ 0 := by positivity

/-- The numbers of one head in one block: queries, forget inputs, values, output gradient (row, lane), lower bound (lane), the
    saved state and the gradient of the state after the block (value lane, key lane). -/
structure Rin where
  q : Fin 32 → Fin 128 → ℝ
  f : Fin 32 → Fin 128 → ℝ
  i : Fin 32 → Fin 128 → ℝ
  o : Fin 32 → Fin 128 → ℝ
  lb : Fin 128 → ℝ
  S : Fin 128 → Fin 128 → ℝ
  L : Fin 128 → Fin 128 → ℝ

namespace Rin

variable (x : Rin) (t s : Fin 32) (k v : Fin 128)

/-- The gated queries. -/
def qs : ℝ := x.q t k * sg (x.q t k)
/-- The forget gate. -/
def fg : ℝ := x.lb k + (1 - x.lb k) * sg (x.f t k)
/-- Its logarithm. -/
def lf : ℝ := Real.log (x.fg t k)
/-- The keys. -/
def kk : ℝ := (1 - x.lb k) * sg (-x.f t k)
/-- The running sums of the log gates. -/
def b : ℝ := ∑ s, if s ≤ t then x.lf s k else 0
/-- The sums of the log gates over the block. -/
def bl : ℝ := ∑ s, x.lf s k
/-- The decay of a row relative to the middle row. -/
def ea : ℝ := Real.exp (x.b t k - x.b 15 k)
/-- The decay of the middle row relative to a row. -/
def eb : ℝ := Real.exp (x.b 15 k - x.b t k)
/-- The queries scaled by their decay. -/
def A : ℝ := x.qs t k * x.ea t k
/-- The keys scaled by their decay. -/
def B : ℝ := x.kk t k * x.eb t k
/-- The causal scores. -/
def sc : ℝ := if s ≤ t then ∑ k, x.A t k * x.B s k else 0
/-- The decay since the start of the block. -/
def e1 : ℝ := Real.exp (x.b t k)
/-- The queries seen by the state. -/
def qi : ℝ := x.qs t k * x.e1 t k
/-- The decay to the end of the block. -/
def eo : ℝ := Real.exp (x.bl k - x.b t k)
/-- The keys added to the state. -/
def ko : ℝ := x.kk t k * x.eo t k
/-- The gradient of the state before the block. -/
def nL (v k : Fin 128) : ℝ := x.L v k * Real.exp (x.bl k) + ∑ t, x.o t v * x.qi t k
/-- The gradient of the values. -/
def di : ℝ := ∑ k, x.ko t k * x.L v k + ∑ s, x.sc s t * x.o s v
/-- The gradient of `qi`. -/
def dqi : ℝ := ∑ v, x.o t v * x.S v k
/-- The gradient of the scores. -/
def dsc : ℝ := if s ≤ t then ∑ v, x.o t v * x.i s v else 0
/-- The gradient of `A`. -/
def dA : ℝ := ∑ s, x.dsc t s * x.B s k
/-- The gradient of the gated queries. -/
def dqs : ℝ := x.dqi t k * x.e1 t k + x.dA t k * x.ea t k
/-- The gradient of the queries. -/
def dq : ℝ := x.dqs t k * sg (x.q t k) + x.q t k * x.dqs t k * (sg (x.q t k) * (1 - sg (x.q t k)))
/-- The gradient of `ko`. -/
def dko : ℝ := ∑ v, x.i t v * x.L v k
/-- The gradient of `B`. -/
def dB : ℝ := ∑ s, x.dsc s t * x.A s k
/-- The gradient of the keys. -/
def dk : ℝ := x.dko t k * x.eo t k + x.dB t k * x.eb t k
/-- The gradient of the running sums through the keys added to the state, sign left out. -/
def g1 : ℝ := x.kk t k * x.dko t k * x.eo t k
/-- The gradient of the running sums through the queries seen by the state. -/
def g2 : ℝ := x.qs t k * x.dqi t k * x.e1 t k
/-- The gradient of the running sums through the scaled keys, sign left out. -/
def g3 : ℝ := x.kk t k * x.dB t k * x.eb t k
/-- The gradient of the running sums through the scaled queries. -/
def g4 : ℝ := x.qs t k * x.dA t k * x.ea t k
/-- The gradient of the block's sums of the log gates. -/
def dlast : ℝ := (∑ v, x.S v k * x.L v k) * Real.exp (x.bl k) + ∑ t, x.g1 t k
/-- The gradient of the running sums. -/
def db : ℝ := -x.g1 t k + x.g2 t k - x.g3 t k + x.g4 t k + if t = 15 then ∑ s, x.g3 s k - ∑ s, x.g4 s k else 0
/-- The gradient of the log gates. -/
def dlf : ℝ := x.dlast k + ∑ s, if t ≤ s then x.db s k else 0
/-- The gradient of the gates. -/
def dfg : ℝ := x.dlf t k / x.fg t k
/-- The gradient of the forget inputs. -/
def df : ℝ := -((1 - x.lb k) * x.dk t k * (sg (-x.f t k) * (1 - sg (-x.f t k))))
  + (1 - x.lb k) * x.dfg t k * (sg (x.f t k) * (1 - sg (x.f t k)))
/-- The gradient of the lower bound. -/
def dlb : ℝ := -(∑ t, x.dk t k * sg (-x.f t k)) + ∑ t, x.dfg t k - ∑ t, x.dfg t k * sg (x.f t k)

theorem fg_pos (h : 0 ≤ x.lb k) : 0 < x.fg t k := by
  have h1 := sg_pos (x.f t k)
  have h2 := sg_lt_one (x.f t k)
  have : x.fg t k = x.lb k * (1 - sg (x.f t k)) + sg (x.f t k) := by unfold fg; ring
  rw [this]
  nlinarith [mul_nonneg h (sub_nonneg.mpr h2.le)]

end Rin

end Cert.Hgrn

end
-- ==== Proof.HeadValue.lean ====
/-
The vector operations of one head, read at an index: each is the number that `Spec` names, whenever the head's arrays hold
real numbers and the lower bound is not negative. The differences that split a factor in a rounded part and the rest vanish.
-/
module

public import proofs.«01_k».proof.Proof.Head
public import proofs.«01_k».proof.Proof.Spec
public import Idealize.ShloMosaic.Lib.Pointwise
public import Idealize.ShloMosaic.Lib.IdealHost

@[expose] public section

set_option maxRecDepth 16384

noncomputable section

namespace Cert.Hgrn

open Cert.KernelIdeal Cert.KernelIdeal.Gen Idealize.ShloMosaic Idealize.ShloMosaic.TcCoe
open Idealize.ShloMosaic.Pointwise

/-- A finite sum of reals, read in the extended reals. -/
theorem sum_coe {ι : Type} [Fintype ι] (g : ι → ℝ) : ∑ a, ((g a : ℝ) : EReal) = ((∑ a, g a : ℝ) : EReal) :=
  (map_sum (⟨⟨Real.toEReal, rfl⟩, EReal.coe_add⟩ : ℝ →+ EReal) g Finset.univ).symm

/-- The vectors hold the numbers, and the lower bound is not negative. -/
structure Is (X : Vin) (x : Rin) : Prop where
  q (t : Fin 32) (k : Fin 128) : X.q (ix2 t k) = (x.q t k : EReal)
  f (t : Fin 32) (k : Fin 128) : X.f (ix2 t k) = (x.f t k : EReal)
  i (t : Fin 32) (k : Fin 128) : X.i (ix2 t k) = (x.i t k : EReal)
  o (t : Fin 32) (k : Fin 128) : X.o (ix2 t k) = (x.o t k : EReal)
  lb (k : Fin 128) : X.lb (ix2 0 k) = (x.lb k : EReal)
  S (v k : Fin 128) : X.S (ix2 v k) = (x.S v k : EReal)
  L (v k : Fin 128) : X.L (ix2 v k) = (x.L v k : EReal)
  nonneg (k : Fin 128) : 0 ≤ x.lb k

/-- The causal comparison of two row numbers. -/
theorem causal_bit (t s : Fin 32) :
    IntOp.cmpi CmpIPredicate.sge (BitVec.ofNat 32 t.val) (BitVec.ofNat 32 s.val) = if s ≤ t then 1#1 else 0#1 := by
  revert t s; decide

/-- The causal comparison as a number. -/
theorem causal_num (t s : Fin 32) :
    FloatOps.sitofp (F := Ideal) FTy.f32 (BitVec.setWidth 32 (IntOp.cmpi CmpIPredicate.sge (BitVec.ofNat 32 t.val) (BitVec.ofNat 32 s.val)))
      = (((if s ≤ t then 1 else 0 : ℝ)) : EReal) := by
  rw [causal_bit]
  split <;> simp [FloatOps.sitofp]

/-- A choice by the causal comparison. -/
theorem causal_select (t s : Fin 32) (a b : EReal) :
    Scalar.select (IntOp.cmpi CmpIPredicate.sge (BitVec.ofNat 32 t.val) (BitVec.ofNat 32 s.val)) a b = if s ≤ t then a else b := by
  rw [causal_bit]
  split <;> rfl

theorem coe_ite (p : Prop) [Decidable p] (a b : ℝ) : (if p then (a : EReal) else (b : EReal)) = ((if p then a else b : ℝ) : EReal) := by
  split <;> rfl

variable {X : Vin} {x : Rin} (h : Is X x) (t s : Fin 32) (k v : Fin 128)
include h

theorem sq_val : X.sq (ix2 t k) = ((sg (x.q t k) : ℝ) : EReal) := by
  pointwise [Vin.sq]
  simp only [h.q, Ideal.logistic_coe]
  rfl

theorem sf_val : X.sf (ix2 t k) = ((sg (x.f t k) : ℝ) : EReal) := by
  pointwise [Vin.sf]
  simp only [h.f, Ideal.logistic_coe]
  rfl

theorem nf_val : X.nf (ix2 t k) = ((sg (-x.f t k) : ℝ) : EReal) := by
  pointwise [Vin.nf]
  simp only [h.f, Ideal.logistic_coe, ← EReal.coe_add, ← EReal.coe_mul, ← EReal.coe_sub, ← EReal.coe_neg, ← EReal.coe_zero, ← EReal.coe_one, sum_coe]
  exact congrArg Real.toEReal (by simp only [sg, zero_sub])

theorem pos : 0 < x.fg t k := x.fg_pos t k (h.nonneg k)

theorem qs_val : X.qs (ix2 t k) = ((x.qs t k : ℝ) : EReal) := by
  pointwise [Vin.qs]
  simp only [h.q, sq_val h, ← EReal.coe_add, ← EReal.coe_mul, ← EReal.coe_sub, ← EReal.coe_neg, ← EReal.coe_zero, ← EReal.coe_one, sum_coe]
  rfl

theorem fg_val : X.fg (ix2 t k) = ((x.fg t k : ℝ) : EReal) := by
  pointwise [Vin.fg]
  simp only [h.lb, sf_val h, ← EReal.coe_add, ← EReal.coe_mul, ← EReal.coe_sub, ← EReal.coe_neg, ← EReal.coe_zero, ← EReal.coe_one, sum_coe]
  rfl

theorem lf_val : X.lf (ix2 t k) = ((x.lf t k : ℝ) : EReal) := by
  pointwise [Vin.lf]
  simp only [fg_val h, Ideal.log_coe, if_neg (pos h t k).not_ge, ← EReal.coe_add, ← EReal.coe_mul, ← EReal.coe_sub, ← EReal.coe_neg, ← EReal.coe_zero, ← EReal.coe_one, sum_coe]
  rfl

theorem kk_val : X.kk (ix2 t k) = ((x.kk t k : ℝ) : EReal) := by
  pointwise [Vin.kk]
  simp only [h.lb, nf_val h, ← EReal.coe_add, ← EReal.coe_mul, ← EReal.coe_sub, ← EReal.coe_neg, ← EReal.coe_zero, ← EReal.coe_one, sum_coe]
  rfl

theorem b_val : X.b (ix2 t k) = ((x.b t k : ℝ) : EReal) := by
  pointwise [Vin.b]
  simp only [causal_num, lf_val h, ← EReal.coe_add, ← EReal.coe_mul, ← EReal.coe_sub, ← EReal.coe_neg, ← EReal.coe_zero, ← EReal.coe_one, sum_coe]
  exact congrArg Real.toEReal (by simp [Rin.b, ite_mul])

theorem bl_val : X.bl (ix2 0 k) = ((x.bl k : ℝ) : EReal) := by
  pointwise [Vin.bl]
  simp only [lf_val h, ← EReal.coe_add, ← EReal.coe_mul, ← EReal.coe_sub, ← EReal.coe_neg, ← EReal.coe_zero, ← EReal.coe_one, sum_coe]
  rfl

theorem ea_val : X.ea (ix2 t k) = ((x.ea t k : ℝ) : EReal) := by
  pointwise [Vin.ea]
  simp only [b_val h, Ideal.exp_coe, ← EReal.coe_add, ← EReal.coe_mul, ← EReal.coe_sub, ← EReal.coe_neg, ← EReal.coe_zero, ← EReal.coe_one, sum_coe]
  rfl

theorem eb_val : X.eb (ix2 t k) = ((x.eb t k : ℝ) : EReal) := by
  pointwise [Vin.eb]
  simp only [b_val h, Ideal.exp_coe, ← EReal.coe_add, ← EReal.coe_mul, ← EReal.coe_sub, ← EReal.coe_neg, ← EReal.coe_zero, ← EReal.coe_one, sum_coe]
  rfl

theorem A_val : X.A (ix2 t k) = ((x.A t k : ℝ) : EReal) := by
  pointwise [Vin.A]
  simp only [qs_val h, ea_val h, ← EReal.coe_add, ← EReal.coe_mul, ← EReal.coe_sub, ← EReal.coe_neg, ← EReal.coe_zero, ← EReal.coe_one, sum_coe]
  rfl

theorem B_val : X.B (ix2 t k) = ((x.B t k : ℝ) : EReal) := by
  pointwise [Vin.B]
  simp only [kk_val h, eb_val h, ← EReal.coe_add, ← EReal.coe_mul, ← EReal.coe_sub, ← EReal.coe_neg, ← EReal.coe_zero, ← EReal.coe_one, sum_coe]
  rfl

theorem sc_val : X.sc (ix2 t s) = ((x.sc t s : ℝ) : EReal) := by
  pointwise [Vin.sc]
  simp only [causal_select, A_val h, B_val h, coe_ite, ← EReal.coe_add, ← EReal.coe_mul, ← EReal.coe_sub, ← EReal.coe_neg, ← EReal.coe_zero, ← EReal.coe_one, sum_coe]
  rfl

theorem e1_val : X.e1 (ix2 t k) = ((x.e1 t k : ℝ) : EReal) := by
  pointwise [Vin.e1]
  simp only [b_val h, Ideal.exp_coe, ← EReal.coe_add, ← EReal.coe_mul, ← EReal.coe_sub, ← EReal.coe_neg, ← EReal.coe_zero, ← EReal.coe_one, sum_coe]
  rfl

theorem qi_val : X.qi (ix2 t k) = ((x.qi t k : ℝ) : EReal) := by
  pointwise [Vin.qi]
  simp only [qs_val h, e1_val h, ← EReal.coe_add, ← EReal.coe_mul, ← EReal.coe_sub, ← EReal.coe_neg, ← EReal.coe_zero, ← EReal.coe_one, sum_coe]
  rfl

theorem eo_val : X.eo (ix2 t k) = ((x.eo t k : ℝ) : EReal) := by
  pointwise [Vin.eo]
  simp only [b_val h, bl_val h, Ideal.exp_coe, ← EReal.coe_add, ← EReal.coe_mul, ← EReal.coe_sub, ← EReal.coe_neg, ← EReal.coe_zero, ← EReal.coe_one, sum_coe]
  rfl

theorem ko_val : X.ko (ix2 t k) = ((x.ko t k : ℝ) : EReal) := by
  pointwise [Vin.ko]
  simp only [kk_val h, eo_val h, ← EReal.coe_add, ← EReal.coe_mul, ← EReal.coe_sub, ← EReal.coe_neg, ← EReal.coe_zero, ← EReal.coe_one, sum_coe]
  rfl

theorem nL_val : X.nL (ix2 v k) = ((x.nL v k : ℝ) : EReal) := by
  pointwise [Vin.nL]
  simp only [h.L, bl_val h, h.o, qi_val h, Ideal.exp_coe, ← EReal.coe_add, ← EReal.coe_mul, ← EReal.coe_sub, ← EReal.coe_neg, ← EReal.coe_zero, ← EReal.coe_one, sum_coe]
  rfl

theorem di_val : X.di (ix2 t k) = ((x.di t k : ℝ) : EReal) := by
  pointwise [Vin.di]
  simp only [ko_val h, h.L, sc_val h, h.o, ← EReal.coe_add, ← EReal.coe_mul, ← EReal.coe_sub, ← EReal.coe_neg, ← EReal.coe_zero, ← EReal.coe_one, sum_coe]
  rfl

theorem dqi_val : X.dqi (ix2 t k) = ((x.dqi t k : ℝ) : EReal) := by
  pointwise [Vin.dqi]
  simp only [h.o, h.S, ← EReal.coe_add, ← EReal.coe_mul, ← EReal.coe_sub, ← EReal.coe_neg, ← EReal.coe_zero, ← EReal.coe_one, sum_coe]
  rfl

theorem dsc_val : X.dsc (ix2 t s) = ((x.dsc t s : ℝ) : EReal) := by
  pointwise [Vin.dsc]
  simp only [causal_select, h.o, h.i, coe_ite, ← EReal.coe_add, ← EReal.coe_mul, ← EReal.coe_sub, ← EReal.coe_neg, ← EReal.coe_zero, ← EReal.coe_one, sum_coe]
  rfl

theorem dA_val : X.dA (ix2 t k) = ((x.dA t k : ℝ) : EReal) := by
  pointwise [Vin.dA]
  simp only [dsc_val h, B_val h, ← EReal.coe_add, ← EReal.coe_mul, ← EReal.coe_sub, ← EReal.coe_neg, ← EReal.coe_zero, ← EReal.coe_one, sum_coe]
  rfl

theorem dqs_val : X.dqs (ix2 t k) = ((x.dqs t k : ℝ) : EReal) := by
  pointwise [Vin.dqs]
  simp only [dqi_val h, e1_val h, dA_val h, ea_val h, ← EReal.coe_add, ← EReal.coe_mul, ← EReal.coe_sub, ← EReal.coe_neg, ← EReal.coe_zero, ← EReal.coe_one, sum_coe]
  rfl

theorem dq_val : X.dq (ix2 t k) = ((x.dq t k : ℝ) : EReal) := by
  pointwise [Vin.dq]
  simp only [dqs_val h, sq_val h, h.q, ← EReal.coe_add, ← EReal.coe_mul, ← EReal.coe_sub, ← EReal.coe_neg, ← EReal.coe_zero, ← EReal.coe_one, sum_coe]
  rfl

theorem dko_val : X.dko (ix2 t k) = ((x.dko t k : ℝ) : EReal) := by
  pointwise [Vin.dko]
  simp only [h.i, h.L, ← EReal.coe_add, ← EReal.coe_mul, ← EReal.coe_sub, ← EReal.coe_neg, ← EReal.coe_zero, ← EReal.coe_one, sum_coe]
  rfl

theorem dB_val : X.dB (ix2 t k) = ((x.dB t k : ℝ) : EReal) := by
  pointwise [Vin.dB]
  simp only [dsc_val h, A_val h, ← EReal.coe_add, ← EReal.coe_mul, ← EReal.coe_sub, ← EReal.coe_neg, ← EReal.coe_zero, ← EReal.coe_one, sum_coe]
  rfl

theorem dk_val : X.dk (ix2 t k) = ((x.dk t k : ℝ) : EReal) := by
  pointwise [Vin.dk]
  simp only [dko_val h, eo_val h, dB_val h, eb_val h, ← EReal.coe_add, ← EReal.coe_mul, ← EReal.coe_sub, ← EReal.coe_neg, ← EReal.coe_zero, ← EReal.coe_one, sum_coe]
  rfl

theorem g1_val : X.g1 (ix2 t k) = ((x.g1 t k : ℝ) : EReal) := by
  pointwise [Vin.g1]
  simp only [kk_val h, dko_val h, eo_val h, ← EReal.coe_add, ← EReal.coe_mul, ← EReal.coe_sub, ← EReal.coe_neg, ← EReal.coe_zero, ← EReal.coe_one, sum_coe]
  rfl

theorem g2_val : X.g2 (ix2 t k) = ((x.g2 t k : ℝ) : EReal) := by
  pointwise [Vin.g2]
  simp only [qs_val h, dqi_val h, e1_val h, ← EReal.coe_add, ← EReal.coe_mul, ← EReal.coe_sub, ← EReal.coe_neg, ← EReal.coe_zero, ← EReal.coe_one, sum_coe]
  rfl

theorem g3_val : X.g3 (ix2 t k) = ((x.g3 t k : ℝ) : EReal) := by
  pointwise [Vin.g3]
  simp only [kk_val h, dB_val h, eb_val h, ← EReal.coe_add, ← EReal.coe_mul, ← EReal.coe_sub, ← EReal.coe_neg, ← EReal.coe_zero, ← EReal.coe_one, sum_coe]
  rfl

theorem g4_val : X.g4 (ix2 t k) = ((x.g4 t k : ℝ) : EReal) := by
  pointwise [Vin.g4]
  simp only [qs_val h, dA_val h, ea_val h, ← EReal.coe_add, ← EReal.coe_mul, ← EReal.coe_sub, ← EReal.coe_neg, ← EReal.coe_zero, ← EReal.coe_one, sum_coe]
  rfl

theorem dlast_val : X.dlast (ix2 0 k) = ((x.dlast k : ℝ) : EReal) := by
  pointwise [Vin.dlast]
  simp only [h.L, h.S, bl_val h, Ideal.exp_coe, g1_val h, ← EReal.coe_add, ← EReal.coe_mul, ← EReal.coe_sub, ← EReal.coe_neg, ← EReal.coe_zero, ← EReal.coe_one, sum_coe]
  rfl

omit h in
theorem row15 (t : Fin 32) (a : ℝ) : (if t.val < 16 then if t.val < 15 then (0 : ℝ) else a else 0) = if t = 15 then a else 0 := by
  have := t.isLt
  simp only [Fin.ext_iff, show ((15 : Fin 32) : ℕ) = 15 from rfl]
  split_ifs <;> first | rfl | omega

theorem db_val : X.db (ix2 t k) = ((x.db t k : ℝ) : EReal) := by
  pointwise [Vin.db]
  simp only [g1_val h, g2_val h, g3_val h, g4_val h, dite_eq_ite, coe_ite, ← EReal.coe_add, ← EReal.coe_mul, ← EReal.coe_sub, ← EReal.coe_neg, ← EReal.coe_zero, ← EReal.coe_one, sum_coe]
  refine congrArg Real.toEReal ?_
  rw [row15, row15, Rin.db]
  simp only [zero_sub, Finset.sum_neg_distrib]
  split_ifs <;> ring

theorem dlf_val : X.dlf (ix2 t k) = ((x.dlf t k : ℝ) : EReal) := by
  pointwise [Vin.dlf]
  rw [Fin.sum_univ_one, dlast_val h]
  simp only [causal_num, db_val h, ← EReal.coe_add, ← EReal.coe_mul, ← EReal.coe_sub, ← EReal.coe_neg, ← EReal.coe_zero, ← EReal.coe_one, sum_coe]
  exact congrArg Real.toEReal (by simp [Rin.dlf, ite_mul])

theorem dfg_val : X.dfg (ix2 t k) = ((x.dfg t k : ℝ) : EReal) := by
  pointwise [Vin.dfg]
  simp only [dlf_val h, fg_val h, Ideal.div_coe (pos h t k).ne', ← EReal.coe_add, ← EReal.coe_mul, ← EReal.coe_sub, ← EReal.coe_neg, ← EReal.coe_zero, ← EReal.coe_one, sum_coe]
  exact congrArg Real.toEReal (by rw [Rin.dfg]; ring)

theorem df_val : X.df (ix2 t k) = ((x.df t k : ℝ) : EReal) := by
  pointwise [Vin.df]
  simp only [h.lb, dk_val h, nf_val h, dfg_val h, sf_val h, ← EReal.coe_add, ← EReal.coe_mul, ← EReal.coe_sub, ← EReal.coe_neg, ← EReal.coe_zero, ← EReal.coe_one, sum_coe]
  exact congrArg Real.toEReal (by rw [Rin.df]; ring)

theorem dlb_val : X.dlb (ix2 0 k) = ((x.dlb k : ℝ) : EReal) := by
  pointwise [Vin.dlb]
  simp only [dk_val h, nf_val h, dfg_val h, sf_val h, ← EReal.coe_add, ← EReal.coe_mul, ← EReal.coe_sub, ← EReal.coe_neg, ← EReal.coe_zero, ← EReal.coe_one, sum_coe]
  exact congrArg Real.toEReal (by rw [Rin.dlb]; ring)

end Cert.Hgrn

end
-- ==== Proof.BlockValue.lean ====
/-
The heads of one block hold the block's numbers, and the heads' results put side by side hold each head's numbers in its place.
-/
module

public import proofs.«01_k».proof.Proof.Block
public import proofs.«01_k».proof.Proof.HeadValue

@[expose] public section

set_option maxRecDepth 16384

noncomputable section

namespace Cert.Hgrn

open Cert.KernelIdeal Cert.KernelIdeal.Gen Idealize.ShloMosaic Idealize.ShloMosaic.TcCoe
open Idealize.ShloMosaic.Pointwise

/-- The column of a head's element. -/
def col (h : Fin 8) (k : Fin 128) : Fin 1024 := ⟨128 * h.val + k.val, by omega⟩

/-- The numbers of one block: queries, forget inputs, values, output gradients, lower bounds, saved states and the gradients
    of the states after the block. -/
structure Bin where
  q : Fin 32 → Fin 1024 → ℝ
  f : Fin 32 → Fin 1024 → ℝ
  i : Fin 32 → Fin 1024 → ℝ
  o : Fin 32 → Fin 1024 → ℝ
  lb : Fin 8 → Fin 128 → ℝ
  S : Fin 8 → Fin 128 → Fin 128 → ℝ
  L : Fin 8 → Fin 128 → Fin 128 → ℝ

/-- A head's numbers. -/
def Bin.head (B : Bin) (h : Fin 8) : Rin where
  q t k := B.q t (col h k)
  f t k := B.f t (col h k)
  i t k := B.i t (col h k)
  o t k := B.o t (col h k)
  lb := B.lb h
  S := B.S h
  L := B.L h

theorem vin0_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 0 v k : EReal)) (hL : ∀ v k, L (ix2 v k) = (B.L 0 v k : EReal)) (hn : ∀ h k, 0 ≤ B.lb h k) :
    Is (vin0 x0 x1 x2 x12 x3 S L) (B.head 0) where
  q := fun t k => by
    pointwise [vin0]
    rw [h0]
    exact congrArg (fun j => ((B.q t j : ℝ) : EReal)) (Fin.ext (by simp [col]))
  f := fun t k => by
    pointwise [vin0]
    rw [h1]
    exact congrArg (fun j => ((B.f t j : ℝ) : EReal)) (Fin.ext (by simp [col]))
  i := fun t k => by
    pointwise [vin0]
    rw [h2]
    exact congrArg (fun j => ((B.i t j : ℝ) : EReal)) (Fin.ext (by simp [col]))
  o := fun t k => by
    pointwise [vin0]
    rw [h12]
    exact congrArg (fun j => ((B.o t j : ℝ) : EReal)) (Fin.ext (by simp [col]))
  lb k := by
    pointwise [vin0]
    exact h3 0 k
  S v k := by
    pointwise [vin0]
    exact hS v k
  L v k := hL v k
  nonneg k := hn 0 k

theorem vin1_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 1 v k : EReal)) (hL : ∀ v k, L (ix2 v k) = (B.L 1 v k : EReal)) (hn : ∀ h k, 0 ≤ B.lb h k) :
    Is (vin1 x0 x1 x2 x12 x3 S L) (B.head 1) where
  q := fun t k => by
    pointwise [vin1]
    rw [h0]
    exact congrArg (fun j => ((B.q t j : ℝ) : EReal)) (Fin.ext (by simp [col]))
  f := fun t k => by
    pointwise [vin1]
    rw [h1]
    exact congrArg (fun j => ((B.f t j : ℝ) : EReal)) (Fin.ext (by simp [col]))
  i := fun t k => by
    pointwise [vin1]
    rw [h2]
    exact congrArg (fun j => ((B.i t j : ℝ) : EReal)) (Fin.ext (by simp [col]))
  o := fun t k => by
    pointwise [vin1]
    rw [h12]
    exact congrArg (fun j => ((B.o t j : ℝ) : EReal)) (Fin.ext (by simp [col]))
  lb k := by
    pointwise [vin1]
    exact h3 1 k
  S v k := by
    pointwise [vin1]
    exact hS v k
  L v k := hL v k
  nonneg k := hn 1 k

theorem vin2_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 2 v k : EReal)) (hL : ∀ v k, L (ix2 v k) = (B.L 2 v k : EReal)) (hn : ∀ h k, 0 ≤ B.lb h k) :
    Is (vin2 x0 x1 x2 x12 x3 S L) (B.head 2) where
  q := fun t k => by
    pointwise [vin2]
    rw [h0]
    exact congrArg (fun j => ((B.q t j : ℝ) : EReal)) (Fin.ext (by simp [col]))
  f := fun t k => by
    pointwise [vin2]
    rw [h1]
    exact congrArg (fun j => ((B.f t j : ℝ) : EReal)) (Fin.ext (by simp [col]))
  i := fun t k => by
    pointwise [vin2]
    rw [h2]
    exact congrArg (fun j => ((B.i t j : ℝ) : EReal)) (Fin.ext (by simp [col]))
  o := fun t k => by
    pointwise [vin2]
    rw [h12]
    exact congrArg (fun j => ((B.o t j : ℝ) : EReal)) (Fin.ext (by simp [col]))
  lb k := by
    pointwise [vin2]
    exact h3 2 k
  S v k := by
    pointwise [vin2]
    exact hS v k
  L v k := hL v k
  nonneg k := hn 2 k

theorem vin3_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 3 v k : EReal)) (hL : ∀ v k, L (ix2 v k) = (B.L 3 v k : EReal)) (hn : ∀ h k, 0 ≤ B.lb h k) :
    Is (vin3 x0 x1 x2 x12 x3 S L) (B.head 3) where
  q := fun t k => by
    pointwise [vin3]
    rw [h0]
    exact congrArg (fun j => ((B.q t j : ℝ) : EReal)) (Fin.ext (by simp [col]))
  f := fun t k => by
    pointwise [vin3]
    rw [h1]
    exact congrArg (fun j => ((B.f t j : ℝ) : EReal)) (Fin.ext (by simp [col]))
  i := fun t k => by
    pointwise [vin3]
    rw [h2]
    exact congrArg (fun j => ((B.i t j : ℝ) : EReal)) (Fin.ext (by simp [col]))
  o := fun t k => by
    pointwise [vin3]
    rw [h12]
    exact congrArg (fun j => ((B.o t j : ℝ) : EReal)) (Fin.ext (by simp [col]))
  lb k := by
    pointwise [vin3]
    exact h3 3 k
  S v k := by
    pointwise [vin3]
    exact hS v k
  L v k := hL v k
  nonneg k := hn 3 k

theorem vin4_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 4 v k : EReal)) (hL : ∀ v k, L (ix2 v k) = (B.L 4 v k : EReal)) (hn : ∀ h k, 0 ≤ B.lb h k) :
    Is (vin4 x0 x1 x2 x12 x3 S L) (B.head 4) where
  q := fun t k => by
    pointwise [vin4]
    rw [h0]
    exact congrArg (fun j => ((B.q t j : ℝ) : EReal)) (Fin.ext (by simp [col]))
  f := fun t k => by
    pointwise [vin4]
    rw [h1]
    exact congrArg (fun j => ((B.f t j : ℝ) : EReal)) (Fin.ext (by simp [col]))
  i := fun t k => by
    pointwise [vin4]
    rw [h2]
    exact congrArg (fun j => ((B.i t j : ℝ) : EReal)) (Fin.ext (by simp [col]))
  o := fun t k => by
    pointwise [vin4]
    rw [h12]
    exact congrArg (fun j => ((B.o t j : ℝ) : EReal)) (Fin.ext (by simp [col]))
  lb k := by
    pointwise [vin4]
    exact h3 4 k
  S v k := by
    pointwise [vin4]
    exact hS v k
  L v k := hL v k
  nonneg k := hn 4 k

theorem vin5_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 5 v k : EReal)) (hL : ∀ v k, L (ix2 v k) = (B.L 5 v k : EReal)) (hn : ∀ h k, 0 ≤ B.lb h k) :
    Is (vin5 x0 x1 x2 x12 x3 S L) (B.head 5) where
  q := fun t k => by
    pointwise [vin5]
    rw [h0]
    exact congrArg (fun j => ((B.q t j : ℝ) : EReal)) (Fin.ext (by simp [col]))
  f := fun t k => by
    pointwise [vin5]
    rw [h1]
    exact congrArg (fun j => ((B.f t j : ℝ) : EReal)) (Fin.ext (by simp [col]))
  i := fun t k => by
    pointwise [vin5]
    rw [h2]
    exact congrArg (fun j => ((B.i t j : ℝ) : EReal)) (Fin.ext (by simp [col]))
  o := fun t k => by
    pointwise [vin5]
    rw [h12]
    exact congrArg (fun j => ((B.o t j : ℝ) : EReal)) (Fin.ext (by simp [col]))
  lb k := by
    pointwise [vin5]
    exact h3 5 k
  S v k := by
    pointwise [vin5]
    exact hS v k
  L v k := hL v k
  nonneg k := hn 5 k

theorem vin6_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 6 v k : EReal)) (hL : ∀ v k, L (ix2 v k) = (B.L 6 v k : EReal)) (hn : ∀ h k, 0 ≤ B.lb h k) :
    Is (vin6 x0 x1 x2 x12 x3 S L) (B.head 6) where
  q := fun t k => by
    pointwise [vin6]
    rw [h0]
    exact congrArg (fun j => ((B.q t j : ℝ) : EReal)) (Fin.ext (by simp [col]))
  f := fun t k => by
    pointwise [vin6]
    rw [h1]
    exact congrArg (fun j => ((B.f t j : ℝ) : EReal)) (Fin.ext (by simp [col]))
  i := fun t k => by
    pointwise [vin6]
    rw [h2]
    exact congrArg (fun j => ((B.i t j : ℝ) : EReal)) (Fin.ext (by simp [col]))
  o := fun t k => by
    pointwise [vin6]
    rw [h12]
    exact congrArg (fun j => ((B.o t j : ℝ) : EReal)) (Fin.ext (by simp [col]))
  lb k := by
    pointwise [vin6]
    exact h3 6 k
  S v k := by
    pointwise [vin6]
    exact hS v k
  L v k := hL v k
  nonneg k := hn 6 k

theorem vin7_is (B : Bin) {x0 x1 x2 x12 : FVec Ideal S32x1024 .f32} {x3 : FVec Ideal S1x8x1x128 .f32} {S : FVec Ideal S1x1x128x128 .f32} {L : FVec Ideal S128x128 .f32}
    (h0 : ∀ t j, x0 (ix2 t j) = (B.q t j : EReal)) (h1 : ∀ t j, x1 (ix2 t j) = (B.f t j : EReal)) (h2 : ∀ t j, x2 (ix2 t j) = (B.i t j : EReal))
    (h12 : ∀ t j, x12 (ix2 t j) = (B.o t j : EReal)) (h3 : ∀ h k, x3 (ix4 0 h 0 k) = (B.lb h k : EReal))
    (hS : ∀ v k, S (ix4 0 0 v k) = (B.S 7 v k : EReal)) (hL : ∀ v k, L (ix2 v k) = (B.L 7 v k : EReal)) (hn : ∀ h k, 0 ≤ B.lb h k) :
    Is (vin7 x0 x1 x2 x12 x3 S L) (B.head 7) where
  q := fun t k => by
    pointwise [vin7]
    rw [h0]
    exact congrArg (fun j => ((B.q t j : ℝ) : EReal)) (Fin.ext (by simp [col]))
  f := fun t k => by
    pointwise [vin7]
    rw [h1]
    exact congrArg (fun j => ((B.f t j : ℝ) : EReal)) (Fin.ext (by simp [col]))
  i := fun t k => by
    pointwise [vin7]
    rw [h2]
    exact congrArg (fun j => ((B.i t j : ℝ) : EReal)) (Fin.ext (by simp [col]))
  o := fun t k => by
    pointwise [vin7]
    rw [h12]
    exact congrArg (fun j => ((B.o t j : ℝ) : EReal)) (Fin.ext (by simp [col]))
  lb k := by
    pointwise [vin7]
    exact h3 7 k
  S v k := by
    pointwise [vin7]
    exact hS v k
  L v k := hL v k
  nonneg k := hn 7 k

/-- Eight heads' rows side by side, read at a head's column. -/
theorem wide_val (Y : Fin 8 → Fin 32 → Fin 128 → ℝ) {y0 y1 y2 y3 y4 y5 y6 y7 : FVec Ideal S32x128 .f32}
    (h0 : ∀ t k, y0 (ix2 t k) = (Y 0 t k : EReal)) (h1 : ∀ t k, y1 (ix2 t k) = (Y 1 t k : EReal)) (h2 : ∀ t k, y2 (ix2 t k) = (Y 2 t k : EReal)) (h3 : ∀ t k, y3 (ix2 t k) = (Y 3 t k : EReal)) (h4 : ∀ t k, y4 (ix2 t k) = (Y 4 t k : EReal)) (h5 : ∀ t k, y5 (ix2 t k) = (Y 5 t k : EReal)) (h6 : ∀ t k, y6 (ix2 t k) = (Y 6 t k : EReal)) (h7 : ∀ t k, y7 (ix2 t k) = (Y 7 t k : EReal))
    (t : Fin 32) (h : Fin 8) (k : Fin 128) : wide y0 y1 y2 y3 y4 y5 y6 y7 (ix2 t (col h k)) = (Y h t k : EReal) := by
  pointwise [wide]
  have hk := k.isLt
  simp only [h0, h1, h2, h3, h4, h5, h6, h7]
  have e : (col h k).val = 128 * h.val + k.val := rfl
  generalize col h k = j at e ⊢
  fin_cases h <;> simp only [] at e ⊢ <;> simp (disch := omega) only [dif_pos, dif_neg, zero_add, add_zero] <;>
    exact congrArg (fun a => ((Y _ t a : ℝ) : EReal)) (Fin.ext (by simp only [e]; omega))

/-- Eight heads' rows one below another, read at a head's row. -/
theorem tall_val (Y : Fin 8 → Fin 128 → ℝ) {y0 y1 y2 y3 y4 y5 y6 y7 : FVec Ideal S1x128 .f32}
    (h0 : ∀ k, y0 (ix2 0 k) = (Y 0 k : EReal)) (h1 : ∀ k, y1 (ix2 0 k) = (Y 1 k : EReal)) (h2 : ∀ k, y2 (ix2 0 k) = (Y 2 k : EReal)) (h3 : ∀ k, y3 (ix2 0 k) = (Y 3 k : EReal)) (h4 : ∀ k, y4 (ix2 0 k) = (Y 4 k : EReal)) (h5 : ∀ k, y5 (ix2 0 k) = (Y 5 k : EReal)) (h6 : ∀ k, y6 (ix2 0 k) = (Y 6 k : EReal)) (h7 : ∀ k, y7 (ix2 0 k) = (Y 7 k : EReal))
    (h : Fin 8) (k : Fin 128) : tall y0 y1 y2 y3 y4 y5 y6 y7 (ix3 h 0 k) = (Y h k : EReal) := by
  pointwise [tall]
  simp only [h0, h1, h2, h3, h4, h5, h6, h7]
  fin_cases h <;> simp

end Cert.Hgrn

end
-- ==== Proof.KernelBlock.lean ====
/-
What the body leaves after one grid point, over the reals: the stored blocks are the heads' vector operations applied to the
blocks just read and to the gradients carried from the point before.
-/
module

public import proofs.«01_k».proof.Proof.IdealFrame
public import proofs.«01_k».proof.Proof.BlockValue
public import Idealize.ShloMosaic.Lib.Pipeline.Value
public import Idealize.ShloMosaic.Lib.WholeRead

@[expose] public section

set_option maxRecDepth 65536

noncomputable section

namespace Cert.Hgrn

open Cert.KernelIdeal Cert.KernelIdeal.Gen Cert.KernelIdeal.Bwd Idealize.ShloMosaic Idealize.ShloMosaic.TcCoe
open Idealize.ShloMosaic.Tactic Idealize.ShloMosaic.Pointwise

/-- The whole of a block, as the body's loads and stores name it. -/
abbrev R2 : Rect S32x1024 := Rect.unit (s := S32x1024) ![0, 0] S32x1024.size inb_S32x1024_S32x1024_0_0
abbrev R3 : Rect S1x8x1x128 := Rect.unit (s := S1x8x1x128) ![0, 0, 0, 0] S1x8x1x128.size inb_S1x8x1x128_S1x8x1x128_0_0_0_0
abbrev R4 : Rect S1x1x128x128 := Rect.unit (s := S1x1x128x128) ![0, 0, 0, 0] S1x1x128x128.size inb_S1x1x128x128_S1x1x128x128_0_0_0_0
abbrev R5 : Rect S128x128 := Rect.unit (s := S128x128) ![0, 0] S128x128.size inb_S128x128_S128x128_0_0

/-- A load of a whole block that holds `x`. -/
def rd2 (M : Memref sig .tc .vmem S32x1024 .f32) (h : M.IsWhole) (x : Vec Ideal S32x1024 .f32) : Vec Ideal S32x1024 .f32 :=
  View.readAt (Elt Ideal) M.view R2.toLoadRect (h.unread x)
def rd3 (M : Memref sig .tc .vmem S1x8x1x128 .f32) (h : M.IsWhole) (x : Vec Ideal S1x8x1x128 .f32) : Vec Ideal S1x8x1x128 .f32 :=
  View.readAt (Elt Ideal) M.view R3.toLoadRect (h.unread x)
def rd4 (M : Memref sig .tc .vmem S1x1x128x128 .f32) (h : M.IsWhole) (x : Vec Ideal S1x1x128x128 .f32) : Vec Ideal S1x1x128x128 .f32 :=
  View.readAt (Elt Ideal) M.view R4.toLoadRect (h.unread x)
def rd5 (M : Memref sig .tc .vmem S128x128 .f32) (h : M.IsWhole) (x : Vec Ideal S128x128 .f32) : Vec Ideal S128x128 .f32 :=
  View.readAt (Elt Ideal) M.view R5.toLoadRect (h.unread x)
/-- A load of a whole block just after a store of `w`. -/
def rz (M : Memref sig .tc .vmem S128x128 .f32) (w : Vec Ideal S128x128 .f32) : Vec Ideal S128x128 .f32 :=
  M.view.readCov (Val := Elt Ideal) [⟨R5, w⟩] R5.toLoadRect

theorem off2 : (![0, 0] : Fin 2 → ℕ) = fun _ => 0 := by funext a; fin_cases a <;> rfl
theorem off4 : (![0, 0, 0, 0] : Fin 4 → ℕ) = fun _ => 0 := by funext a; fin_cases a <;> rfl

/-- A whole load reads what the block holds. -/
theorem readAt_whole {S : Shape} (M : Memref sig .tc .vmem S .f32) (h : M.IsWhole) (x : Vec Ideal S .f32) {off : Fin S.rank → ℕ}
    (ho : off = fun _ => 0) (inb : ∀ a, off a + S.size a ≤ S.size a) :
    View.readAt (Elt Ideal) M.view (Rect.unit off S.size inb).toLoadRect (h.unread x) = x := by
  subst ho
  funext y
  exact (Memref.IsWhole.readAt_unread h x _ y).trans (congrArg x (Rect.emb_whole_apply _ y))

theorem rd2_eq (M h x) : rd2 M h x = x := readAt_whole M h x off2 _
theorem rd3_eq (M h x) : rd3 M h x = x := readAt_whole M h x off4 _
theorem rd4_eq (M h x) : rd4 M h x = x := readAt_whole M h x off4 _
theorem rd5_eq (M h x) : rd5 M h x = x := readAt_whole M h x off2 _
theorem rz_eq (M w) : rz M w = w := View.readCov_unit_zero _ off2 _ _

/-- A buffer whose last store covers it reads that store's payload. -/
theorem read_last {S : Shape} (V : View sig .tc .vmem S .f32) {off : Fin S.rank → ℕ} (ho : off = fun _ => 0)
    (inb : ∀ a, off a + S.size a ≤ S.size a) {w : Vec Ideal S .f32} {L L' : List (View.Piece (Elt Ideal) S .f32)}
    (h : L = ⟨Rect.unit off S.size inb, w⟩ :: L') : V.read (Elt Ideal) (V.writes (Elt Ideal) V.junk L) = w := by
  subst h
  rw [View.read_writes_eq_canon _ _ _ (fun y => ⟨_, List.mem_cons_self, View.mem_set_unit_zero ho inb y⟩), View.canon_cons_unit_zero ho]

variable (m : (ℓ : Loc nD τ sig) → Buf (Elt Ideal) ℓ) (c : Dev nD) (t : Fin cfg0.N)

/-- Head 0 at a grid point, over the carried gradient `L`. -/
abbrev hd0 (L : Vec Ideal S128x128 .f32) : Vin := vin0 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_4 t) (hs0_4 t) (iblk m c 4 t)) (L)

/-- Head 1 at a grid point, over the carried gradient `L`. -/
abbrev hd1 (L : Vec Ideal S128x128 .f32) : Vin := vin1 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_5 t) (hs0_5 t) (iblk m c 5 t)) (L)

/-- Head 2 at a grid point, over the carried gradient `L`. -/
abbrev hd2 (L : Vec Ideal S128x128 .f32) : Vin := vin2 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_6 t) (hs0_6 t) (iblk m c 6 t)) (L)

/-- Head 3 at a grid point, over the carried gradient `L`. -/
abbrev hd3 (L : Vec Ideal S128x128 .f32) : Vin := vin3 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_7 t) (hs0_7 t) (iblk m c 7 t)) (L)

/-- Head 4 at a grid point, over the carried gradient `L`. -/
abbrev hd4 (L : Vec Ideal S128x128 .f32) : Vin := vin4 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_8 t) (hs0_8 t) (iblk m c 8 t)) (L)

/-- Head 5 at a grid point, over the carried gradient `L`. -/
abbrev hd5 (L : Vec Ideal S128x128 .f32) : Vin := vin5 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_9 t) (hs0_9 t) (iblk m c 9 t)) (L)

/-- Head 6 at a grid point, over the carried gradient `L`. -/
abbrev hd6 (L : Vec Ideal S128x128 .f32) : Vin := vin6 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_10 t) (hs0_10 t) (iblk m c 10 t)) (L)

/-- Head 7 at a grid point, over the carried gradient `L`. -/
abbrev hd7 (L : Vec Ideal S128x128 .f32) : Vin := vin7 (rd2 (ms0_0 t) (hs0_0 t) (iblk m c 0 t)) (rd2 (ms0_1 t) (hs0_1 t) (iblk m c 1 t)) (rd2 (ms0_2 t) (hs0_2 t) (iblk m c 2 t)) (rd2 (ms0_12 t) (hs0_12 t) (iblk m c 12 t)) (rd3 (ms0_3 t) (hs0_3 t) (iblk m c 3 t)) (rd4 (ms0_11 t) (hs0_11 t) (iblk m c 11 t)) (L)

theorem piecesA0 (h0 : t.val % 264 = 0) (h1 : t.val % 264 = 0) (h2 : ¬1 ≤ t.val) :
    (rA m c t h0 h1 h2).1 = [⟨R2, wide (hd0 m c t (rz scM0_0 (k0_pay3 (F := Ideal)))).dq (hd1 m c t (rz scM0_1 (k0_pay4 (F := Ideal)))).dq (hd2 m c t (rz scM0_2 (k0_pay5 (F := Ideal)))).dq (hd3 m c t (rz scM0_3 (k0_pay6 (F := Ideal)))).dq (hd4 m c t (rz scM0_4 (k0_pay7 (F := Ideal)))).dq (hd5 m c t (rz scM0_5 (k0_pay8 (F := Ideal)))).dq (hd6 m c t (rz scM0_6 (k0_pay9 (F := Ideal)))).dq (hd7 m c t (rz scM0_7 (k0_pay11 (k0_pay10 (F := Ideal))))).dq⟩] := by
  sl_kernel_rfl

theorem leftA0 (h0 : t.val % 264 = 0) (h1 : t.val % 264 = 0) (h2 : ¬1 ≤ t.val) :
    (leftA m c t h0 h1 h2).1 = wide (hd0 m c t (rz scM0_0 (k0_pay3 (F := Ideal)))).dq (hd1 m c t (rz scM0_1 (k0_pay4 (F := Ideal)))).dq (hd2 m c t (rz scM0_2 (k0_pay5 (F := Ideal)))).dq (hd3 m c t (rz scM0_3 (k0_pay6 (F := Ideal)))).dq (hd4 m c t (rz scM0_4 (k0_pay7 (F := Ideal)))).dq (hd5 m c t (rz scM0_5 (k0_pay8 (F := Ideal)))).dq (hd6 m c t (rz scM0_6 (k0_pay9 (F := Ideal)))).dq (hd7 m c t (rz scM0_7 (k0_pay11 (k0_pay10 (F := Ideal))))).dq := by
  have e : (leftA m c t h0 h1 h2).1 = VO0_13.read (Elt Ideal) (VO0_13.writes (Elt Ideal) VO0_13.junk (rA m c t h0 h1 h2).1) := by
    sl_kernel_rfl
  rw [e, piecesA0 m c t h0 h1 h2]
  exact read_last VO0_13 off2 _ rfl

theorem piecesA1 (h0 : t.val % 264 = 0) (h1 : t.val % 264 = 0) (h2 : ¬1 ≤ t.val) :
    (rA m c t h0 h1 h2).2.1 = [⟨R2, wide (hd0 m c t (rz scM0_0 (k0_pay3 (F := Ideal)))).df (hd1 m c t (rz scM0_1 (k0_pay4 (F := Ideal)))).df (hd2 m c t (rz scM0_2 (k0_pay5 (F := Ideal)))).df (hd3 m c t (rz scM0_3 (k0_pay6 (F := Ideal)))).df (hd4 m c t (rz scM0_4 (k0_pay7 (F := Ideal)))).df (hd5 m c t (rz scM0_5 (k0_pay8 (F := Ideal)))).df (hd6 m c t (rz scM0_6 (k0_pay9 (F := Ideal)))).df (hd7 m c t (rz scM0_7 (k0_pay11 (k0_pay10 (F := Ideal))))).df⟩] := by
  sl_kernel_rfl

theorem leftA1 (h0 : t.val % 264 = 0) (h1 : t.val % 264 = 0) (h2 : ¬1 ≤ t.val) :
    (leftA m c t h0 h1 h2).2.1 = wide (hd0 m c t (rz scM0_0 (k0_pay3 (F := Ideal)))).df (hd1 m c t (rz scM0_1 (k0_pay4 (F := Ideal)))).df (hd2 m c t (rz scM0_2 (k0_pay5 (F := Ideal)))).df (hd3 m c t (rz scM0_3 (k0_pay6 (F := Ideal)))).df (hd4 m c t (rz scM0_4 (k0_pay7 (F := Ideal)))).df (hd5 m c t (rz scM0_5 (k0_pay8 (F := Ideal)))).df (hd6 m c t (rz scM0_6 (k0_pay9 (F := Ideal)))).df (hd7 m c t (rz scM0_7 (k0_pay11 (k0_pay10 (F := Ideal))))).df := by
  have e : (leftA m c t h0 h1 h2).2.1 = VO0_14.read (Elt Ideal) (VO0_14.writes (Elt Ideal) VO0_14.junk (rA m c t h0 h1 h2).2.1) := by
    sl_kernel_rfl
  rw [e, piecesA1 m c t h0 h1 h2]
  exact read_last VO0_14 off2 _ rfl

theorem piecesA2 (h0 : t.val % 264 = 0) (h1 : t.val % 264 = 0) (h2 : ¬1 ≤ t.val) :
    (rA m c t h0 h1 h2).2.2.1 = [⟨R2, wide (hd0 m c t (rz scM0_0 (k0_pay3 (F := Ideal)))).di (hd1 m c t (rz scM0_1 (k0_pay4 (F := Ideal)))).di (hd2 m c t (rz scM0_2 (k0_pay5 (F := Ideal)))).di (hd3 m c t (rz scM0_3 (k0_pay6 (F := Ideal)))).di (hd4 m c t (rz scM0_4 (k0_pay7 (F := Ideal)))).di (hd5 m c t (rz scM0_5 (k0_pay8 (F := Ideal)))).di (hd6 m c t (rz scM0_6 (k0_pay9 (F := Ideal)))).di (hd7 m c t (rz scM0_7 (k0_pay11 (k0_pay10 (F := Ideal))))).di⟩] := by
  sl_kernel_rfl

theorem leftA2 (h0 : t.val % 264 = 0) (h1 : t.val % 264 = 0) (h2 : ¬1 ≤ t.val) :
    (leftA m c t h0 h1 h2).2.2.1 = wide (hd0 m c t (rz scM0_0 (k0_pay3 (F := Ideal)))).di (hd1 m c t (rz scM0_1 (k0_pay4 (F := Ideal)))).di (hd2 m c t (rz scM0_2 (k0_pay5 (F := Ideal)))).di (hd3 m c t (rz scM0_3 (k0_pay6 (F := Ideal)))).di (hd4 m c t (rz scM0_4 (k0_pay7 (F := Ideal)))).di (hd5 m c t (rz scM0_5 (k0_pay8 (F := Ideal)))).di (hd6 m c t (rz scM0_6 (k0_pay9 (F := Ideal)))).di (hd7 m c t (rz scM0_7 (k0_pay11 (k0_pay10 (F := Ideal))))).di := by
  have e : (leftA m c t h0 h1 h2).2.2.1 = VO0_15.read (Elt Ideal) (VO0_15.writes (Elt Ideal) VO0_15.junk (rA m c t h0 h1 h2).2.2.1) := by
    sl_kernel_rfl
  rw [e, piecesA2 m c t h0 h1 h2]
  exact read_last VO0_15 off2 _ rfl

theorem piecesA3 (h0 : t.val % 264 = 0) (h1 : t.val % 264 = 0) (h2 : ¬1 ≤ t.val) :
    (rA m c t h0 h1 h2).2.2.2.1 = [⟨R3, k0_pay1 (tall (hd0 m c t (rz scM0_0 (k0_pay3 (F := Ideal)))).dlb (hd1 m c t (rz scM0_1 (k0_pay4 (F := Ideal)))).dlb (hd2 m c t (rz scM0_2 (k0_pay5 (F := Ideal)))).dlb (hd3 m c t (rz scM0_3 (k0_pay6 (F := Ideal)))).dlb (hd4 m c t (rz scM0_4 (k0_pay7 (F := Ideal)))).dlb (hd5 m c t (rz scM0_5 (k0_pay8 (F := Ideal)))).dlb (hd6 m c t (rz scM0_6 (k0_pay9 (F := Ideal)))).dlb (hd7 m c t (rz scM0_7 (k0_pay11 (k0_pay10 (F := Ideal))))).dlb)⟩] := by
  sl_kernel_rfl

theorem leftA3 (h0 : t.val % 264 = 0) (h1 : t.val % 264 = 0) (h2 : ¬1 ≤ t.val) :
    (leftA m c t h0 h1 h2).2.2.2.1 = k0_pay1 (tall (hd0 m c t (rz scM0_0 (k0_pay3 (F := Ideal)))).dlb (hd1 m c t (rz scM0_1 (k0_pay4 (F := Ideal)))).dlb (hd2 m c t (rz scM0_2 (k0_pay5 (F := Ideal)))).dlb (hd3 m c t (rz scM0_3 (k0_pay6 (F := Ideal)))).dlb (hd4 m c t (rz scM0_4 (k0_pay7 (F := Ideal)))).dlb (hd5 m c t (rz scM0_5 (k0_pay8 (F := Ideal)))).dlb (hd6 m c t (rz scM0_6 (k0_pay9 (F := Ideal)))).dlb (hd7 m c t (rz scM0_7 (k0_pay11 (k0_pay10 (F := Ideal))))).dlb) := by
  have e : (leftA m c t h0 h1 h2).2.2.2.1 = VO0_16.read (Elt Ideal) (VO0_16.writes (Elt Ideal) VO0_16.junk (rA m c t h0 h1 h2).2.2.2.1) := by
    sl_kernel_rfl
  rw [e, piecesA3 m c t h0 h1 h2]
  exact read_last VO0_16 off4 _ rfl

theorem piecesA4 (h0 : t.val % 264 = 0) (h1 : t.val % 264 = 0) (h2 : ¬1 ≤ t.val) :
    (rA m c t h0 h1 h2).2.2.2.2.1 = [⟨R5, shapeCast S128x128 (hd0 m c t (rz scM0_0 (k0_pay3 (F := Ideal)))).nL shapeCasts_S128x128_S128x128⟩, ⟨R5, (k0_pay3 (F := Ideal))⟩] := by
  sl_kernel_rfl

theorem leftA4 (h0 : t.val % 264 = 0) (h1 : t.val % 264 = 0) (h2 : ¬1 ≤ t.val) :
    (leftA m c t h0 h1 h2).2.2.2.2.1 = shapeCast S128x128 (hd0 m c t (rz scM0_0 (k0_pay3 (F := Ideal)))).nL shapeCasts_S128x128_S128x128 := by
  have e : (leftA m c t h0 h1 h2).2.2.2.2.1 = VS0_0.read (Elt Ideal) (VS0_0.writes (Elt Ideal) VS0_0.junk (rA m c t h0 h1 h2).2.2.2.2.1) := by
    sl_kernel_rfl
  rw [e, piecesA4 m c t h0 h1 h2]
  exact read_last VS0_0 off2 _ rfl

theorem piecesA5 (h0 : t.val % 264 = 0) (h1 : t.val % 264 = 0) (h2 : ¬1 ≤ t.val) :
    (rA m c t h0 h1 h2).2.2.2.2.2.1 = [⟨R5, shapeCast S128x128 (hd1 m c t (rz scM0_1 (k0_pay4 (F := Ideal)))).nL shapeCasts_S128x128_S128x128⟩, ⟨R5, (k0_pay4 (F := Ideal))⟩] := by
  sl_kernel_rfl

theorem leftA5 (h0 : t.val % 264 = 0) (h1 : t.val % 264 = 0) (h2 : ¬1 ≤ t.val) :
    (leftA m c t h0 h1 h2).2.2.2.2.2.1 = shapeCast S128x128 (hd1 m c t (rz scM0_1 (k0_pay4 (F := Ideal)))).nL shapeCasts_S128x128_S128x128 := by
  have e : (leftA m c t h0 h1 h2).2.2.2.2.2.1 = VS0_1.read (Elt Ideal) (VS0_1.writes (Elt Ideal) VS0_1.junk (rA m c t h0 h1 h2).2.2.2.2.2.1) := by
    sl_kernel_rfl
  rw [e, piecesA5 m c t h0 h1 h2]
  exact read_last VS0_1 off2 _ rfl

theorem piecesA6 (h0 : t.val % 264 = 0) (h1 : t.val % 264 = 0) (h2 : ¬1 ≤ t.val) :
    (rA m c t h0 h1 h2).2.2.2.2.2.2.1 = [⟨R5, shapeCast S128x128 (hd2 m c t (rz scM0_2 (k0_pay5 (F := Ideal)))).nL shapeCasts_S128x128_S128x128⟩, ⟨R5, (k0_pay5 (F := Ideal))⟩] := by
  sl_kernel_rfl

theorem leftA6 (h0 : t.val % 264 = 0) (h1 : t.val % 264 = 0) (h2 : ¬1 ≤ t.val) :
    (leftA m c t h0 h1 h2).2.2.2.2.2.2.1 = shapeCast S128x128 (hd2 m c t (rz scM0_2 (k0_pay5 (F := Ideal)))).nL shapeCasts_S128x128_S128x128 := by
  have e : (leftA m c t h0 h1 h2).2.2.2.2.2.2.1 = VS0_2.read (Elt Ideal) (VS0_2.writes (Elt Ideal) VS0_2.junk (rA m c t h0 h1 h2).2.2.2.2.2.2.1) := by
    sl_kernel_rfl
  rw [e, piecesA6 m c t h0 h1 h2]
  exact read_last VS0_2 off2 _ rfl

theorem piecesA7 (h0 : t.val % 264 = 0) (h1 : t.val % 264 = 0) (h2 : ¬1 ≤ t.val) :
    (rA m c t h0 h1 h2).2.2.2.2.2.2.2.1 = [⟨R5, shapeCast S128x128 (hd3 m c t (rz scM0_3 (k0_pay6 (F := Ideal)))).nL shapeCasts_S128x128_S128x128⟩, ⟨R5, (k0_pay6 (F := Ideal))⟩] := by
  sl_kernel_rfl

theorem leftA7 (h0 : t.val % 264 = 0) (h1 : t.val % 264 = 0) (h2 : ¬1 ≤ t.val) :
    (leftA m c t h0 h1 h2).2.2.2.2.2.2.2.1 = shapeCast S128x128 (hd3 m c t (rz scM0_3 (k0_pay6 (F := Ideal)))).nL shapeCasts_S128x128_S128x128 := by
  have e : (leftA m c t h0 h1 h2).2.2.2.2.2.2.2.1 = VS0_3.read (Elt Ideal) (VS0_3.writes (Elt Ideal) VS0_3.junk (rA m c t h0 h1 h2).2.2.2.2.2.2.2.1) := by
    sl_kernel_rfl
  rw [e, piecesA7 m c t h0 h1 h2]
  exact read_last VS0_3 off2 _ rfl

theorem piecesA8 (h0 : t.val % 264 = 0) (h1 : t.val % 264 = 0) (h2 : ¬1 ≤ t.val) :
    (rA m c t h0 h1 h2).2.2.2.2.2.2.2.2.1 = [⟨R5, shapeCast S128x128 (hd4 m c t (rz scM0_4 (k0_pay7 (F := Ideal)))).nL shapeCasts_S128x128_S128x128⟩, ⟨R5, (k0_pay7 (F := Ideal))⟩] := by
  sl_kernel_rfl

theorem leftA8 (h0 : t.val % 264 = 0) (h1 : t.val % 264 = 0) (h2 : ¬1 ≤ t.val) :
    (leftA m c t h0 h1 h2).2.2.2.2.2.2.2.2.1 = shapeCast S128x128 (hd4 m c t (rz scM0_4 (k0_pay7 (F := Ideal)))).nL shapeCasts_S128x128_S128x128 := by
  have e : (leftA m c t h0 h1 h2).2.2.2.2.2.2.2.2.1 = VS0_4.read (Elt Ideal) (VS0_4.writes (Elt Ideal) VS0_4.junk (rA m c t h0 h1 h2).2.2.2.2.2.2.2.2.1) := by
    sl_kernel_rfl
  rw [e, piecesA8 m c t h0 h1 h2]
  exact read_last VS0_4 off2 _ rfl

theorem piecesA9 (h0 : t.val % 264 = 0) (h1 : t.val % 264 = 0) (h2 : ¬1 ≤ t.val) :
    (rA m c t h0 h1 h2).2.2.2.2.2.2.2.2.2.1 = [⟨R5, shapeCast S128x128 (hd5 m c t (rz scM0_5 (k0_pay8 (F := Ideal)))).nL shapeCasts_S128x128_S128x128⟩, ⟨R5, (k0_pay8 (F := Ideal))⟩] := by
  sl_kernel_rfl

theorem leftA9 (h0 : t.val % 264 = 0) (h1 : t.val % 264 = 0) (h2 : ¬1 ≤ t.val) :
    (leftA m c t h0 h1 h2).2.2.2.2.2.2.2.2.2.1 = shapeCast S128x128 (hd5 m c t (rz scM0_5 (k0_pay8 (F := Ideal)))).nL shapeCasts_S128x128_S128x128 := by
  have e : (leftA m c t h0 h1 h2).2.2.2.2.2.2.2.2.2.1 = VS0_5.read (Elt Ideal) (VS0_5.writes (Elt Ideal) VS0_5.junk (rA m c t h0 h1 h2).2.2.2.2.2.2.2.2.2.1) := by
    sl_kernel_rfl
  rw [e, piecesA9 m c t h0 h1 h2]
  exact read_last VS0_5 off2 _ rfl

theorem piecesA10 (h0 : t.val % 264 = 0) (h1 : t.val % 264 = 0) (h2 : ¬1 ≤ t.val) :
    (rA m c t h0 h1 h2).2.2.2.2.2.2.2.2.2.2.1 = [⟨R5, shapeCast S128x128 (hd6 m c t (rz scM0_6 (k0_pay9 (F := Ideal)))).nL shapeCasts_S128x128_S128x128⟩, ⟨R5, (k0_pay9 (F := Ideal))⟩] := by
  sl_kernel_rfl

theorem leftA10 (h0 : t.val % 264 = 0) (h1 : t.val % 264 = 0) (h2 : ¬1 ≤ t.val) :
    (leftA m c t h0 h1 h2).2.2.2.2.2.2.2.2.2.2.1 = shapeCast S128x128 (hd6 m c t (rz scM0_6 (k0_pay9 (F := Ideal)))).nL shapeCasts_S128x128_S128x128 := by
  have e : (leftA m c t h0 h1 h2).2.2.2.2.2.2.2.2.2.2.1 = VS0_6.read (Elt Ideal) (VS0_6.writes (Elt Ideal) VS0_6.junk (rA m c t h0 h1 h2).2.2.2.2.2.2.2.2.2.2.1) := by
    sl_kernel_rfl
  rw [e, piecesA10 m c t h0 h1 h2]
  exact read_last VS0_6 off2 _ rfl

theorem piecesA11 (h0 : t.val % 264 = 0) (h1 : t.val % 264 = 0) (h2 : ¬1 ≤ t.val) :
    (rA m c t h0 h1 h2).2.2.2.2.2.2.2.2.2.2.2.1 = [⟨R5, shapeCast S128x128 (hd7 m c t (rz scM0_7 (k0_pay11 (k0_pay10 (F := Ideal))))).nL shapeCasts_S128x128_S128x128⟩, ⟨R5, (k0_pay11 (k0_pay10 (F := Ideal)))⟩] := by
  sl_kernel_rfl

theorem leftA11 (h0 : t.val % 264 = 0) (h1 : t.val % 264 = 0) (h2 : ¬1 ≤ t.val) :
    (leftA m c t h0 h1 h2).2.2.2.2.2.2.2.2.2.2.2 = shapeCast S128x128 (hd7 m c t (rz scM0_7 (k0_pay11 (k0_pay10 (F := Ideal))))).nL shapeCasts_S128x128_S128x128 := by
  have e : (leftA m c t h0 h1 h2).2.2.2.2.2.2.2.2.2.2.2 = VS0_7.read (Elt Ideal) (VS0_7.writes (Elt Ideal) VS0_7.junk (rA m c t h0 h1 h2).2.2.2.2.2.2.2.2.2.2.2.1) := by
    sl_kernel_rfl
  rw [e, piecesA11 m c t h0 h1 h2]
  exact read_last VS0_7 off2 _ rfl

theorem piecesB0 (h0 : ¬t.val % 264 = 0) (h1 : ¬t.val % 264 = 0) (h2 : 1 ≤ t.val) (acc : Kept Ideal) :
    (rB m c t h0 h1 h2 acc).1 = [⟨R2, wide (hd0 m c t (rd5 scM0_0 (Memref.isWhole_whole _) acc.2.2.2.2.1)).dq (hd1 m c t (rd5 scM0_1 (Memref.isWhole_whole _) acc.2.2.2.2.2.1)).dq (hd2 m c t (rd5 scM0_2 (Memref.isWhole_whole _) acc.2.2.2.2.2.2.1)).dq (hd3 m c t (rd5 scM0_3 (Memref.isWhole_whole _) acc.2.2.2.2.2.2.2.1)).dq (hd4 m c t (rd5 scM0_4 (Memref.isWhole_whole _) acc.2.2.2.2.2.2.2.2.1)).dq (hd5 m c t (rd5 scM0_5 (Memref.isWhole_whole _) acc.2.2.2.2.2.2.2.2.2.1)).dq (hd6 m c t (rd5 scM0_6 (Memref.isWhole_whole _) acc.2.2.2.2.2.2.2.2.2.2.1)).dq (hd7 m c t (rd5 scM0_7 (Memref.isWhole_whole _) acc.2.2.2.2.2.2.2.2.2.2.2)).dq⟩] := by
  sl_kernel_rfl

theorem leftB0 (h0 : ¬t.val % 264 = 0) (h1 : ¬t.val % 264 = 0) (h2 : 1 ≤ t.val) (acc : Kept Ideal) :
    (leftB m c t h0 h1 h2 acc).1 = wide (hd0 m c t (rd5 scM0_0 (Memref.isWhole_whole _) acc.2.2.2.2.1)).dq (hd1 m c t (rd5 scM0_1 (Memref.isWhole_whole _) acc.2.2.2.2.2.1)).dq (hd2 m c t (rd5 scM0_2 (Memref.isWhole_whole _) acc.2.2.2.2.2.2.1)).dq (hd3 m c t (rd5 scM0_3 (Memref.isWhole_whole _) acc.2.2.2.2.2.2.2.1)).dq (hd4 m c t (rd5 scM0_4 (Memref.isWhole_whole _) acc.2.2.2.2.2.2.2.2.1)).dq (hd5 m c t (rd5 scM0_5 (Memref.isWhole_whole _) acc.2.2.2.2.2.2.2.2.2.1)).dq (hd6 m c t (rd5 scM0_6 (Memref.isWhole_whole _) acc.2.2.2.2.2.2.2.2.2.2.1)).dq (hd7 m c t (rd5 scM0_7 (Memref.isWhole_whole _) acc.2.2.2.2.2.2.2.2.2.2.2)).dq := by
  have e : (leftB m c t h0 h1 h2 acc).1 = VO0_13.read (Elt Ideal) (VO0_13.writes (Elt Ideal) VO0_13.junk (rB m c t h0 h1 h2 acc).1) := by
    sl_kernel_rfl
  rw [e, piecesB0 m c t h0 h1 h2 acc]
  exact read_last VO0_13 off2 _ rfl

theorem piecesB1 (h0 : ¬t.val % 264 = 0) (h1 : ¬t.val % 264 = 0) (h2 : 1 ≤ t.val) (acc : Kept Ideal) :
    (rB m c t h0 h1 h2 acc).2.1 = [⟨R2, wide (hd0 m c t (rd5 scM0_0 (Memref.isWhole_whole _) acc.2.2.2.2.1)).df (hd1 m c t (rd5 scM0_1 (Memref.isWhole_whole _) acc.2.2.2.2.2.1)).df (hd2 m c t (rd5 scM0_2 (Memref.isWhole_whole _) acc.2.2.2.2.2.2.1)).df (hd3 m c t (rd5 scM0_3 (Memref.isWhole_whole _) acc.2.2.2.2.2.2.2.1)).df (hd4 m c t (rd5 scM0_4 (Memref.isWhole_whole _) acc.2.2.2.2.2.2.2.2.1)).df (hd5 m c t (rd5 scM0_5 (Memref.isWhole_whole _) acc.2.2.2.2.2.2.2.2.2.1)).df (hd6 m c t (rd5 scM0_6 (Memref.isWhole_whole _) acc.2.2.2.2.2.2.2.2.2.2.1)).df (hd7 m c t (rd5 scM0_7 (Memref.isWhole_whole _) acc.2.2.2.2.2.2.2.2.2.2.2)).df⟩] := by
  sl_kernel_rfl

theorem leftB1 (h0 : ¬t.val % 264 = 0) (h1 : ¬t.val % 264 = 0) (h2 : 1 ≤ t.val) (acc : Kept Ideal) :
    (leftB m c t h0 h1 h2 acc).2.1 = wide (hd0 m c t (rd5 scM0_0 (Memref.isWhole_whole _) acc.2.2.2.2.1)).df (hd1 m c t (rd5 scM0_1 (Memref.isWhole_whole _) acc.2.2.2.2.2.1)).df (hd2 m c t (rd5 scM0_2 (Memref.isWhole_whole _) acc.2.2.2.2.2.2.1)).df (hd3 m c t (rd5 scM0_3 (Memref.isWhole_whole _) acc.2.2.2.2.2.2.2.1)).df (hd4 m c t (rd5 scM0_4 (Memref.isWhole_whole _) acc.2.2.2.2.2.2.2.2.1)).df (hd5 m c t (rd5 scM0_5 (Memref.isWhole_whole _) acc.2.2.2.2.2.2.2.2.2.1)).df (hd6 m c t (rd5 scM0_6 (Memref.isWhole_whole _) acc.2.2.2.2.2.2.2.2.2.2.1)).df (hd7 m c t (rd5 scM0_7 (Memref.isWhole_whole _) acc.2.2.2.2.2.2.2.2.2.2.2)).df := by
  have e : (leftB m c t h0 h1 h2 acc).2.1 = VO0_14.read (Elt Ideal) (VO0_14.writes (Elt Ideal) VO0_14.junk (rB m c t h0 h1 h2 acc).2.1) := by
    sl_kernel_rfl
  rw [e, piecesB1 m c t h0 h1 h2 acc]
  exact read_last VO0_14 off2 _ rfl

theorem piecesB2 (h0 : ¬t.val % 264 = 0) (h1 : ¬t.val % 264 = 0) (h2 : 1 ≤ t.val) (acc : Kept Ideal) :
    (rB m c t h0 h1 h2 acc).2.2.1 = [⟨R2, wide (hd0 m c t (rd5 scM0_0 (Memref.isWhole_whole _) acc.2.2.2.2.1)).di (hd1 m c t (rd5 scM0_1 (Memref.isWhole_whole _) acc.2.2.2.2.2.1)).di (hd2 m c t (rd5 scM0_2 (Memref.isWhole_whole _) acc.2.2.2.2.2.2.1)).di (hd3 m c t (rd5 scM0_3 (Memref.isWhole_whole _) acc.2.2.2.2.2.2.2.1)).di (hd4 m c t (rd5 scM0_4 (Memref.isWhole_whole _) acc.2.2.2.2.2.2.2.2.1)).di (hd5 m c t (rd5 scM0_5 (Memref.isWhole_whole _) acc.2.2.2.2.2.2.2.2.2.1)).di (hd6 m c t (rd5 scM0_6 (Memref.isWhole_whole _) acc.2.2.2.2.2.2.2.2.2.2.1)).di (hd7 m c t (rd5 scM0_7 (Memref.isWhole_whole _) acc.2.2.2.2.2.2.2.2.2.2.2)).di⟩] := by
  sl_kernel_rfl

theorem leftB2 (h0 : ¬t.val % 264 = 0) (h1 : ¬t.val % 264 = 0) (h2 : 1 ≤ t.val) (acc : Kept Ideal) :
    (leftB m c t h0 h1 h2 acc).2.2.1 = wide (hd0 m c t (rd5 scM0_0 (Memref.isWhole_whole _) acc.2.2.2.2.1)).di (hd1 m c t (rd5 scM0_1 (Memref.isWhole_whole _) acc.2.2.2.2.2.1)).di (hd2 m c t (rd5 scM0_2 (Memref.isWhole_whole _) acc.2.2.2.2.2.2.1)).di (hd3 m c t (rd5 scM0_3 (Memref.isWhole_whole _) acc.2.2.2.2.2.2.2.1)).di (hd4 m c t (rd5 scM0_4 (Memref.isWhole_whole _) acc.2.2.2.2.2.2.2.2.1)).di (hd5 m c t (rd5 scM0_5 (Memref.isWhole_whole _) acc.2.2.2.2.2.2.2.2.2.1)).di (hd6 m c t (rd5 scM0_6 (Memref.isWhole_whole _) acc.2.2.2.2.2.2.2.2.2.2.1)).di (hd7 m c t (rd5 scM0_7 (Memref.isWhole_whole _) acc.2.2.2.2.2.2.2.2.2.2.2)).di := by
  have e : (leftB m c t h0 h1 h2 acc).2.2.1 = VO0_15.read (Elt Ideal) (VO0_15.writes (Elt Ideal) VO0_15.junk (rB m c t h0 h1 h2 acc).2.2.1) := by
    sl_kernel_rfl
  rw [e, piecesB2 m c t h0 h1 h2 acc]
  exact read_last VO0_15 off2 _ rfl

theorem piecesB3 (h0 : ¬t.val % 264 = 0) (h1 : ¬t.val % 264 = 0) (h2 : 1 ≤ t.val) (acc : Kept Ideal) :
    (rB m c t h0 h1 h2 acc).2.2.2.1 = [⟨R3, k0_pay2 (tall (hd0 m c t (rd5 scM0_0 (Memref.isWhole_whole _) acc.2.2.2.2.1)).dlb (hd1 m c t (rd5 scM0_1 (Memref.isWhole_whole _) acc.2.2.2.2.2.1)).dlb (hd2 m c t (rd5 scM0_2 (Memref.isWhole_whole _) acc.2.2.2.2.2.2.1)).dlb (hd3 m c t (rd5 scM0_3 (Memref.isWhole_whole _) acc.2.2.2.2.2.2.2.1)).dlb (hd4 m c t (rd5 scM0_4 (Memref.isWhole_whole _) acc.2.2.2.2.2.2.2.2.1)).dlb (hd5 m c t (rd5 scM0_5 (Memref.isWhole_whole _) acc.2.2.2.2.2.2.2.2.2.1)).dlb (hd6 m c t (rd5 scM0_6 (Memref.isWhole_whole _) acc.2.2.2.2.2.2.2.2.2.2.1)).dlb (hd7 m c t (rd5 scM0_7 (Memref.isWhole_whole _) acc.2.2.2.2.2.2.2.2.2.2.2)).dlb) (rd3 (ms0_16 t) (hs0_16 t) acc.2.2.2.1)⟩] := by
  sl_kernel_rfl

theorem leftB3 (h0 : ¬t.val % 264 = 0) (h1 : ¬t.val % 264 = 0) (h2 : 1 ≤ t.val) (acc : Kept Ideal) :
    (leftB m c t h0 h1 h2 acc).2.2.2.1 = k0_pay2 (tall (hd0 m c t (rd5 scM0_0 (Memref.isWhole_whole _) acc.2.2.2.2.1)).dlb (hd1 m c t (rd5 scM0_1 (Memref.isWhole_whole _) acc.2.2.2.2.2.1)).dlb (hd2 m c t (rd5 scM0_2 (Memref.isWhole_whole _) acc.2.2.2.2.2.2.1)).dlb (hd3 m c t (rd5 scM0_3 (Memref.isWhole_whole _) acc.2.2.2.2.2.2.2.1)).dlb (hd4 m c t (rd5 scM0_4 (Memref.isWhole_whole _) acc.2.2.2.2.2.2.2.2.1)).dlb (hd5 m c t (rd5 scM0_5 (Memref.isWhole_whole _) acc.2.2.2.2.2.2.2.2.2.1)).dlb (hd6 m c t (rd5 scM0_6 (Memref.isWhole_whole _) acc.2.2.2.2.2.2.2.2.2.2.1)).dlb (hd7 m c t (rd5 scM0_7 (Memref.isWhole_whole _) acc.2.2.2.2.2.2.2.2.2.2.2)).dlb) (rd3 (ms0_16 t) (hs0_16 t) acc.2.2.2.1) := by
  have e : (leftB m c t h0 h1 h2 acc).2.2.2.1 = VO0_16.read (Elt Ideal) (VO0_16.writes (Elt Ideal) VO0_16.junk (rB m c t h0 h1 h2 acc).2.2.2.1) := by
    sl_kernel_rfl
  rw [e, piecesB3 m c t h0 h1 h2 acc]
  exact read_last VO0_16 off4 _ rfl

theorem piecesB4 (h0 : ¬t.val % 264 = 0) (h1 : ¬t.val % 264 = 0) (h2 : 1 ≤ t.val) (acc : Kept Ideal) :
    (rB m c t h0 h1 h2 acc).2.2.2.2.1 = [⟨R5, shapeCast S128x128 (hd0 m c t (rd5 scM0_0 (Memref.isWhole_whole _) acc.2.2.2.2.1)).nL shapeCasts_S128x128_S128x128⟩] := by
  sl_kernel_rfl

theorem leftB4 (h0 : ¬t.val % 264 = 0) (h1 : ¬t.val % 264 = 0) (h2 : 1 ≤ t.val) (acc : Kept Ideal) :
    (leftB m c t h0 h1 h2 acc).2.2.2.2.1 = shapeCast S128x128 (hd0 m c t (rd5 scM0_0 (Memref.isWhole_whole _) acc.2.2.2.2.1)).nL shapeCasts_S128x128_S128x128 := by
  have e : (leftB m c t h0 h1 h2 acc).2.2.2.2.1 = VS0_0.read (Elt Ideal) (VS0_0.writes (Elt Ideal) VS0_0.junk (rB m c t h0 h1 h2 acc).2.2.2.2.1) := by
    sl_kernel_rfl
  rw [e, piecesB4 m c t h0 h1 h2 acc]
  exact read_last VS0_0 off2 _ rfl

theorem piecesB5 (h0 : ¬t.val % 264 = 0) (h1 : ¬t.val % 264 = 0) (h2 : 1 ≤ t.val) (acc : Kept Ideal) :
    (rB m c t h0 h1 h2 acc).2.2.2.2.2.1 = [⟨R5, shapeCast S128x128 (hd1 m c t (rd5 scM0_1 (Memref.isWhole_whole _) acc.2.2.2.2.2.1)).nL shapeCasts_S128x128_S128x128⟩] := by
  sl_kernel_rfl

theorem leftB5 (h0 : ¬t.val % 264 = 0) (h1 : ¬t.val % 264 = 0) (h2 : 1 ≤ t.val) (acc : Kept Ideal) :
    (leftB m c t h0 h1 h2 acc).2.2.2.2.2.1 = shapeCast S128x128 (hd1 m c t (rd5 scM0_1 (Memref.isWhole_whole _) acc.2.2.2.2.2.1)).nL shapeCasts_S128x128_S128x128 := by
  have e : (leftB m c t h0 h1 h2 acc).2.2.2.2.2.1 = VS0_1.read (Elt Ideal) (VS0_1.writes (Elt Ideal) VS0_1.junk (rB m c t h0 h1 h2 acc).2.2.2.2.2.1) := by
    sl_kernel_rfl
  rw [e, piecesB5 m c t h0 h1 h2 acc]
  exact read_last VS0_1 off2 _ rfl

theorem piecesB6 (h0 : ¬t.val % 264 = 0) (h1 : ¬t.val % 264 = 0) (h2 : 1 ≤ t.val) (acc : Kept Ideal) :
    (rB m c t h0 h1 h2 acc).2.2.2.2.2.2.1 = [⟨R5, shapeCast S128x128 (hd2 m c t (rd5 scM0_2 (Memref.isWhole_whole _) acc.2.2.2.2.2.2.1)).nL shapeCasts_S128x128_S128x128⟩] := by
  sl_kernel_rfl

theorem leftB6 (h0 : ¬t.val % 264 = 0) (h1 : ¬t.val % 264 = 0) (h2 : 1 ≤ t.val) (acc : Kept Ideal) :
    (leftB m c t h0 h1 h2 acc).2.2.2.2.2.2.1 = shapeCast S128x128 (hd2 m c t (rd5 scM0_2 (Memref.isWhole_whole _) acc.2.2.2.2.2.2.1)).nL shapeCasts_S128x128_S128x128 := by
  have e : (leftB m c t h0 h1 h2 acc).2.2.2.2.2.2.1 = VS0_2.read (Elt Ideal) (VS0_2.writes (Elt Ideal) VS0_2.junk (rB m c t h0 h1 h2 acc).2.2.2.2.2.2.1) := by
    sl_kernel_rfl
  rw [e, piecesB6 m c t h0 h1 h2 acc]
  exact read_last VS0_2 off2 _ rfl

theorem piecesB7 (h0 : ¬t.val % 264 = 0) (h1 : ¬t.val % 264 = 0) (h2 : 1 ≤ t.val) (acc : Kept Ideal) :
    (rB m c t h0 h1 h2 acc).2.2.2.2.2.2.2.1 = [⟨R5, shapeCast S128x128 (hd3 m c t (rd5 scM0_3 (Memref.isWhole_whole _) acc.2.2.2.2.2.2.2.1)).nL shapeCasts_S128x128_S128x128⟩] := by
  sl_kernel_rfl

theorem leftB7 (h0 : ¬t.val % 264 = 0) (h1 : ¬t.val % 264 = 0) (h2 : 1 ≤ t.val) (acc : Kept Ideal) :
    (leftB m c t h0 h1 h2 acc).2.2.2.2.2.2.2.1 = shapeCast S128x128 (hd3 m c t (rd5 scM0_3 (Memref.isWhole_whole _) acc.2.2.2.2.2.2.2.1)).nL shapeCasts_S128x128_S128x128 := by
  have e : (leftB m c t h0 h1 h2 acc).2.2.2.2.2.2.2.1 = VS0_3.read (Elt Ideal) (VS0_3.writes (Elt Ideal) VS0_3.junk (rB m c t h0 h1 h2 acc).2.2.2.2.2.2.2.1) := by
    sl_kernel_rfl
  rw [e, piecesB7 m c t h0 h1 h2 acc]
  exact read_last VS0_3 off2 _ rfl

theorem piecesB8 (h0 : ¬t.val % 264 = 0) (h1 : ¬t.val % 264 = 0) (h2 : 1 ≤ t.val) (acc : Kept Ideal) :
    (rB m c t h0 h1 h2 acc).2.2.2.2.2.2.2.2.1 = [⟨R5, shapeCast S128x128 (hd4 m c t (rd5 scM0_4 (Memref.isWhole_whole _) acc.2.2.2.2.2.2.2.2.1)).nL shapeCasts_S128x128_S128x128⟩] := by
  sl_kernel_rfl

theorem leftB8 (h0 : ¬t.val % 264 = 0) (h1 : ¬t.val % 264 = 0) (h2 : 1 ≤ t.val) (acc : Kept Ideal) :
    (leftB m c t h0 h1 h2 acc).2.2.2.2.2.2.2.2.1 = shapeCast S128x128 (hd4 m c t (rd5 scM0_4 (Memref.isWhole_whole _) acc.2.2.2.2.2.2.2.2.1)).nL shapeCasts_S128x128_S128x128 := by
  have e : (leftB m c t h0 h1 h2 acc).2.2.2.2.2.2.2.2.1 = VS0_4.read (Elt Ideal) (VS0_4.writes (Elt Ideal) VS0_4.junk (rB m c t h0 h1 h2 acc).2.2.2.2.2.2.2.2.1) := by
    sl_kernel_rfl
  rw [e, piecesB8 m c t h0 h1 h2 acc]
  exact read_last VS0_4 off2 _ rfl

theorem piecesB9 (h0 : ¬t.val % 264 = 0) (h1 : ¬t.val % 264 = 0) (h2 : 1 ≤ t.val) (acc : Kept Ideal) :
    (rB m c t h0 h1 h2 acc).2.2.2.2.2.2.2.2.2.1 = [⟨R5, shapeCast S128x128 (hd5 m c t (rd5 scM0_5 (Memref.isWhole_whole _) acc.2.2.2.2.2.2.2.2.2.1)).nL shapeCasts_S128x128_S128x128⟩] := by
  sl_kernel_rfl

theorem leftB9 (h0 : ¬t.val % 264 = 0) (h1 : ¬t.val % 264 = 0) (h2 : 1 ≤ t.val) (acc : Kept Ideal) :
    (leftB m c t h0 h1 h2 acc).2.2.2.2.2.2.2.2.2.1 = shapeCast S128x128 (hd5 m c t (rd5 scM0_5 (Memref.isWhole_whole _) acc.2.2.2.2.2.2.2.2.2.1)).nL shapeCasts_S128x128_S128x128 := by
  have e : (leftB m c t h0 h1 h2 acc).2.2.2.2.2.2.2.2.2.1 = VS0_5.read (Elt Ideal) (VS0_5.writes (Elt Ideal) VS0_5.junk (rB m c t h0 h1 h2 acc).2.2.2.2.2.2.2.2.2.1) := by
    sl_kernel_rfl
  rw [e, piecesB9 m c t h0 h1 h2 acc]
  exact read_last VS0_5 off2 _ rfl

theorem piecesB10 (h0 : ¬t.val % 264 = 0) (h1 : ¬t.val % 264 = 0) (h2 : 1 ≤ t.val) (acc : Kept Ideal) :
    (rB m c t h0 h1 h2 acc).2.2.2.2.2.2.2.2.2.2.1 = [⟨R5, shapeCast S128x128 (hd6 m c t (rd5 scM0_6 (Memref.isWhole_whole _) acc.2.2.2.2.2.2.2.2.2.2.1)).nL shapeCasts_S128x128_S128x128⟩] := by
  sl_kernel_rfl

theorem leftB10 (h0 : ¬t.val % 264 = 0) (h1 : ¬t.val % 264 = 0) (h2 : 1 ≤ t.val) (acc : Kept Ideal) :
    (leftB m c t h0 h1 h2 acc).2.2.2.2.2.2.2.2.2.2.1 = shapeCast S128x128 (hd6 m c t (rd5 scM0_6 (Memref.isWhole_whole _) acc.2.2.2.2.2.2.2.2.2.2.1)).nL shapeCasts_S128x128_S128x128 := by
  have e : (leftB m c t h0 h1 h2 acc).2.2.2.2.2.2.2.2.2.2.1 = VS0_6.read (Elt Ideal) (VS0_6.writes (Elt Ideal) VS0_6.junk (rB m c t h0 h1 h2 acc).2.2.2.2.2.2.2.2.2.2.1) := by
    sl_kernel_rfl
  rw [e, piecesB10 m c t h0 h1 h2 acc]
  exact read_last VS0_6 off2 _ rfl

theorem piecesB11 (h0 : ¬t.val % 264 = 0) (h1 : ¬t.val % 264 = 0) (h2 : 1 ≤ t.val) (acc : Kept Ideal) :
    (rB m c t h0 h1 h2 acc).2.2.2.2.2.2.2.2.2.2.2.1 = [⟨R5, shapeCast S128x128 (hd7 m c t (rd5 scM0_7 (Memref.isWhole_whole _) acc.2.2.2.2.2.2.2.2.2.2.2)).nL shapeCasts_S128x128_S128x128⟩] := by
  sl_kernel_rfl

theorem leftB11 (h0 : ¬t.val % 264 = 0) (h1 : ¬t.val % 264 = 0) (h2 : 1 ≤ t.val) (acc : Kept Ideal) :
    (leftB m c t h0 h1 h2 acc).2.2.2.2.2.2.2.2.2.2.2 = shapeCast S128x128 (hd7 m c t (rd5 scM0_7 (Memref.isWhole_whole _) acc.2.2.2.2.2.2.2.2.2.2.2)).nL shapeCasts_S128x128_S128x128 := by
  have e : (leftB m c t h0 h1 h2 acc).2.2.2.2.2.2.2.2.2.2.2 = VS0_7.read (Elt Ideal) (VS0_7.writes (Elt Ideal) VS0_7.junk (rB m c t h0 h1 h2 acc).2.2.2.2.2.2.2.2.2.2.2.1) := by
    sl_kernel_rfl
  rw [e, piecesB11 m c t h0 h1 h2 acc]
  exact read_last VS0_7 off2 _ rfl

end Cert.Hgrn

end
-- ==== Proof.KernelLeft.lean ====
/-
What is kept after one grid point, as numbers: the gradients of the block's rows and of the states before the block.
-/
module

public import proofs.«01_k».proof.Proof.KernelBlock

@[expose] public section

set_option maxRecDepth 65536

noncomputable section

namespace Cert.Hgrn

open Cert.KernelIdeal Cert.KernelIdeal.Gen Cert.KernelIdeal.Bwd Idealize.ShloMosaic Idealize.ShloMosaic.TcCoe
open Idealize.ShloMosaic.Tactic Idealize.ShloMosaic.Pointwise

/-- A cast to the same shape changes nothing. -/
theorem same_cast (X : FVec Ideal S128x128 .f32) (v k : Fin 128) : shapeCast S128x128 X shapeCasts_S128x128_S128x128 (ix2 v k) = X (ix2 v k) := by
  pointwise []

variable (m : (ℓ : Loc nD τ sig) → Buf (Elt Ideal) ℓ) (c : Dev nD) (t : Fin cfg0.N)

/-- The blocks read at a grid point hold the block's numbers, and the lower bounds are not negative. -/
structure Blk (B : Bin) : Prop where
  q (r : Fin 32) (j : Fin 1024) : (iblk m c 0 t : Vec Ideal S32x1024 .f32) (ix2 r j) = (B.q r j : EReal)
  f (r : Fin 32) (j : Fin 1024) : (iblk m c 1 t : Vec Ideal S32x1024 .f32) (ix2 r j) = (B.f r j : EReal)
  i (r : Fin 32) (j : Fin 1024) : (iblk m c 2 t : Vec Ideal S32x1024 .f32) (ix2 r j) = (B.i r j : EReal)
  o (r : Fin 32) (j : Fin 1024) : (iblk m c 12 t : Vec Ideal S32x1024 .f32) (ix2 r j) = (B.o r j : EReal)
  lb (h : Fin 8) (k : Fin 128) : (iblk m c 3 t : Vec Ideal S1x8x1x128 .f32) (ix4 0 h 0 k) = (B.lb h k : EReal)
  S0 (v k : Fin 128) : (iblk m c 4 t : Vec Ideal S1x1x128x128 .f32) (ix4 0 0 v k) = (B.S 0 v k : EReal)
  S1 (v k : Fin 128) : (iblk m c 5 t : Vec Ideal S1x1x128x128 .f32) (ix4 0 0 v k) = (B.S 1 v k : EReal)
  S2 (v k : Fin 128) : (iblk m c 6 t : Vec Ideal S1x1x128x128 .f32) (ix4 0 0 v k) = (B.S 2 v k : EReal)
  S3 (v k : Fin 128) : (iblk m c 7 t : Vec Ideal S1x1x128x128 .f32) (ix4 0 0 v k) = (B.S 3 v k : EReal)
  S4 (v k : Fin 128) : (iblk m c 8 t : Vec Ideal S1x1x128x128 .f32) (ix4 0 0 v k) = (B.S 4 v k : EReal)
  S5 (v k : Fin 128) : (iblk m c 9 t : Vec Ideal S1x1x128x128 .f32) (ix4 0 0 v k) = (B.S 5 v k : EReal)
  S6 (v k : Fin 128) : (iblk m c 10 t : Vec Ideal S1x1x128x128 .f32) (ix4 0 0 v k) = (B.S 6 v k : EReal)
  S7 (v k : Fin 128) : (iblk m c 11 t : Vec Ideal S1x1x128x128 .f32) (ix4 0 0 v k) = (B.S 7 v k : EReal)
  nonneg (h : Fin 8) (k : Fin 128) : 0 ≤ B.lb h k

/-- What is kept after a grid point, as numbers: the block's gradients, the gradient of the lower bounds added to `d`, and the
    gradients of the states before the block. -/
structure Left (K : Kept Ideal) (B : Bin) (d : Fin 8 → Fin 128 → ℝ) : Prop where
  dq (r : Fin 32) (h : Fin 8) (k : Fin 128) : K.1 (ix2 r (col h k)) = ((B.head h).dq r k : EReal)
  df (r : Fin 32) (h : Fin 8) (k : Fin 128) : K.2.1 (ix2 r (col h k)) = ((B.head h).df r k : EReal)
  di (r : Fin 32) (h : Fin 8) (k : Fin 128) : K.2.2.1 (ix2 r (col h k)) = ((B.head h).di r k : EReal)
  dlb (h : Fin 8) (k : Fin 128) : K.2.2.2.1 (ix4 0 h 0 k) = ((d h k + (B.head h).dlb k : ℝ) : EReal)
  L0 (v k : Fin 128) : K.2.2.2.2.1 (ix2 v k) = ((B.head 0).nL v k : EReal)
  L1 (v k : Fin 128) : K.2.2.2.2.2.1 (ix2 v k) = ((B.head 1).nL v k : EReal)
  L2 (v k : Fin 128) : K.2.2.2.2.2.2.1 (ix2 v k) = ((B.head 2).nL v k : EReal)
  L3 (v k : Fin 128) : K.2.2.2.2.2.2.2.1 (ix2 v k) = ((B.head 3).nL v k : EReal)
  L4 (v k : Fin 128) : K.2.2.2.2.2.2.2.2.1 (ix2 v k) = ((B.head 4).nL v k : EReal)
  L5 (v k : Fin 128) : K.2.2.2.2.2.2.2.2.2.1 (ix2 v k) = ((B.head 5).nL v k : EReal)
  L6 (v k : Fin 128) : K.2.2.2.2.2.2.2.2.2.2.1 (ix2 v k) = ((B.head 6).nL v k : EReal)
  L7 (v k : Fin 128) : K.2.2.2.2.2.2.2.2.2.2.2 (ix2 v k) = ((B.head 7).nL v k : EReal)

variable {m c t} {B : Bin} (b : Blk m c t B)
include b

theorem hd0_is {L : Vec Ideal S128x128 .f32} (hL : ∀ v k, L (ix2 v k) = (B.L 0 v k : EReal)) : Is (hd0 m c t L) (B.head 0) := by
  rw [hd0, rd2_eq, rd2_eq, rd2_eq, rd2_eq, rd3_eq, rd4_eq]
  exact vin0_is B b.q b.f b.i b.o b.lb b.S0 hL b.nonneg

theorem hd1_is {L : Vec Ideal S128x128 .f32} (hL : ∀ v k, L (ix2 v k) = (B.L 1 v k : EReal)) : Is (hd1 m c t L) (B.head 1) := by
  rw [hd1, rd2_eq, rd2_eq, rd2_eq, rd2_eq, rd3_eq, rd4_eq]
  exact vin1_is B b.q b.f b.i b.o b.lb b.S1 hL b.nonneg

theorem hd2_is {L : Vec Ideal S128x128 .f32} (hL : ∀ v k, L (ix2 v k) = (B.L 2 v k : EReal)) : Is (hd2 m c t L) (B.head 2) := by
  rw [hd2, rd2_eq, rd2_eq, rd2_eq, rd2_eq, rd3_eq, rd4_eq]
  exact vin2_is B b.q b.f b.i b.o b.lb b.S2 hL b.nonneg

theorem hd3_is {L : Vec Ideal S128x128 .f32} (hL : ∀ v k, L (ix2 v k) = (B.L 3 v k : EReal)) : Is (hd3 m c t L) (B.head 3) := by
  rw [hd3, rd2_eq, rd2_eq, rd2_eq, rd2_eq, rd3_eq, rd4_eq]
  exact vin3_is B b.q b.f b.i b.o b.lb b.S3 hL b.nonneg

theorem hd4_is {L : Vec Ideal S128x128 .f32} (hL : ∀ v k, L (ix2 v k) = (B.L 4 v k : EReal)) : Is (hd4 m c t L) (B.head 4) := by
  rw [hd4, rd2_eq, rd2_eq, rd2_eq, rd2_eq, rd3_eq, rd4_eq]
  exact vin4_is B b.q b.f b.i b.o b.lb b.S4 hL b.nonneg

theorem hd5_is {L : Vec Ideal S128x128 .f32} (hL : ∀ v k, L (ix2 v k) = (B.L 5 v k : EReal)) : Is (hd5 m c t L) (B.head 5) := by
  rw [hd5, rd2_eq, rd2_eq, rd2_eq, rd2_eq, rd3_eq, rd4_eq]
  exact vin5_is B b.q b.f b.i b.o b.lb b.S5 hL b.nonneg

theorem hd6_is {L : Vec Ideal S128x128 .f32} (hL : ∀ v k, L (ix2 v k) = (B.L 6 v k : EReal)) : Is (hd6 m c t L) (B.head 6) := by
  rw [hd6, rd2_eq, rd2_eq, rd2_eq, rd2_eq, rd3_eq, rd4_eq]
  exact vin6_is B b.q b.f b.i b.o b.lb b.S6 hL b.nonneg

theorem hd7_is {L : Vec Ideal S128x128 .f32} (hL : ∀ v k, L (ix2 v k) = (B.L 7 v k : EReal)) : Is (hd7 m c t L) (B.head 7) := by
  rw [hd7, rd2_eq, rd2_eq, rd2_eq, rd2_eq, rd3_eq, rd4_eq]
  exact vin7_is B b.q b.f b.i b.o b.lb b.S7 hL b.nonneg

/-- The first grid point, where nothing is carried yet. -/
theorem leftA_left (h0 : t.val % 264 = 0) (h1 : t.val % 264 = 0) (h2 : ¬1 ≤ t.val) (hz : ∀ h v k, B.L h v k = 0) : Left (leftA m c t h0 h1 h2) B (fun _ _ => 0) := by
  have a0 := hd0_is b (L := rz scM0_0 (k0_pay3 (F := Ideal))) (fun v k => by rw [rz_eq, hz]; pointwise [k0_pay3]; simp)
  have a1 := hd1_is b (L := rz scM0_1 (k0_pay4 (F := Ideal))) (fun v k => by rw [rz_eq, hz]; pointwise [k0_pay4]; simp)
  have a2 := hd2_is b (L := rz scM0_2 (k0_pay5 (F := Ideal))) (fun v k => by rw [rz_eq, hz]; pointwise [k0_pay5]; simp)
  have a3 := hd3_is b (L := rz scM0_3 (k0_pay6 (F := Ideal))) (fun v k => by rw [rz_eq, hz]; pointwise [k0_pay6]; simp)
  have a4 := hd4_is b (L := rz scM0_4 (k0_pay7 (F := Ideal))) (fun v k => by rw [rz_eq, hz]; pointwise [k0_pay7]; simp)
  have a5 := hd5_is b (L := rz scM0_5 (k0_pay8 (F := Ideal))) (fun v k => by rw [rz_eq, hz]; pointwise [k0_pay8]; simp)
  have a6 := hd6_is b (L := rz scM0_6 (k0_pay9 (F := Ideal))) (fun v k => by rw [rz_eq, hz]; pointwise [k0_pay9]; simp)
  have a7 := hd7_is b (L := rz scM0_7 (k0_pay11 (k0_pay10 (F := Ideal)))) (fun v k => by rw [rz_eq, hz]; pointwise [k0_pay11, k0_pay10]; simp)
  exact {
    dq := fun r h k => by
      rw [leftA0 m c t h0 h1 h2]
      exact wide_val (fun h r k => (B.head h).dq r k) (dq_val a0) (dq_val a1) (dq_val a2) (dq_val a3) (dq_val a4) (dq_val a5) (dq_val a6) (dq_val a7) r h k
    df := fun r h k => by
      rw [leftA1 m c t h0 h1 h2]
      exact wide_val (fun h r k => (B.head h).df r k) (df_val a0) (df_val a1) (df_val a2) (df_val a3) (df_val a4) (df_val a5) (df_val a6) (df_val a7) r h k
    di := fun r h k => by
      rw [leftA2 m c t h0 h1 h2]
      exact wide_val (fun h r k => (B.head h).di r k) (di_val a0) (di_val a1) (di_val a2) (di_val a3) (di_val a4) (di_val a5) (di_val a6) (di_val a7) r h k
    dlb := fun h k => by
      rw [leftA3 m c t h0 h1 h2]
      pointwise [k0_pay1]
      rw [tall_val (fun h k => (B.head h).dlb k) (dlb_val a0) (dlb_val a1) (dlb_val a2) (dlb_val a3) (dlb_val a4) (dlb_val a5) (dlb_val a6) (dlb_val a7) h k]
    L0 := fun v k => (congrFun (leftA4 m c t h0 h1 h2) (ix2 v k)).trans ((same_cast _ v k).trans (nL_val a0 k v))
    L1 := fun v k => (congrFun (leftA5 m c t h0 h1 h2) (ix2 v k)).trans ((same_cast _ v k).trans (nL_val a1 k v))
    L2 := fun v k => (congrFun (leftA6 m c t h0 h1 h2) (ix2 v k)).trans ((same_cast _ v k).trans (nL_val a2 k v))
    L3 := fun v k => (congrFun (leftA7 m c t h0 h1 h2) (ix2 v k)).trans ((same_cast _ v k).trans (nL_val a3 k v))
    L4 := fun v k => (congrFun (leftA8 m c t h0 h1 h2) (ix2 v k)).trans ((same_cast _ v k).trans (nL_val a4 k v))
    L5 := fun v k => (congrFun (leftA9 m c t h0 h1 h2) (ix2 v k)).trans ((same_cast _ v k).trans (nL_val a5 k v))
    L6 := fun v k => (congrFun (leftA10 m c t h0 h1 h2) (ix2 v k)).trans ((same_cast _ v k).trans (nL_val a6 k v))
    L7 := fun v k => (congrFun (leftA11 m c t h0 h1 h2) (ix2 v k)).trans ((same_cast _ v k).trans (nL_val a7 k v))
  }

/-- A later grid point, over what the point before left. -/
theorem leftB_left (h0 : ¬t.val % 264 = 0) (h1 : ¬t.val % 264 = 0) (h2 : 1 ≤ t.val) (acc : Kept Ideal) (d : Fin 8 → Fin 128 → ℝ) (hd : ∀ h k, acc.2.2.2.1 (ix4 0 h 0 k) = (d h k : EReal))
    (hL0 : ∀ v k, acc.2.2.2.2.1 (ix2 v k) = (B.L 0 v k : EReal))
    (hL1 : ∀ v k, acc.2.2.2.2.2.1 (ix2 v k) = (B.L 1 v k : EReal))
    (hL2 : ∀ v k, acc.2.2.2.2.2.2.1 (ix2 v k) = (B.L 2 v k : EReal))
    (hL3 : ∀ v k, acc.2.2.2.2.2.2.2.1 (ix2 v k) = (B.L 3 v k : EReal))
    (hL4 : ∀ v k, acc.2.2.2.2.2.2.2.2.1 (ix2 v k) = (B.L 4 v k : EReal))
    (hL5 : ∀ v k, acc.2.2.2.2.2.2.2.2.2.1 (ix2 v k) = (B.L 5 v k : EReal))
    (hL6 : ∀ v k, acc.2.2.2.2.2.2.2.2.2.2.1 (ix2 v k) = (B.L 6 v k : EReal))
    (hL7 : ∀ v k, acc.2.2.2.2.2.2.2.2.2.2.2 (ix2 v k) = (B.L 7 v k : EReal)) :
    Left (leftB m c t h0 h1 h2 acc) B d := by
  have a0 := hd0_is b (L := rd5 scM0_0 (Memref.isWhole_whole _) acc.2.2.2.2.1) (fun v k => by rw [rd5_eq]; exact hL0 v k)
  have a1 := hd1_is b (L := rd5 scM0_1 (Memref.isWhole_whole _) acc.2.2.2.2.2.1) (fun v k => by rw [rd5_eq]; exact hL1 v k)
  have a2 := hd2_is b (L := rd5 scM0_2 (Memref.isWhole_whole _) acc.2.2.2.2.2.2.1) (fun v k => by rw [rd5_eq]; exact hL2 v k)
  have a3 := hd3_is b (L := rd5 scM0_3 (Memref.isWhole_whole _) acc.2.2.2.2.2.2.2.1) (fun v k => by rw [rd5_eq]; exact hL3 v k)
  have a4 := hd4_is b (L := rd5 scM0_4 (Memref.isWhole_whole _) acc.2.2.2.2.2.2.2.2.1) (fun v k => by rw [rd5_eq]; exact hL4 v k)
  have a5 := hd5_is b (L := rd5 scM0_5 (Memref.isWhole_whole _) acc.2.2.2.2.2.2.2.2.2.1) (fun v k => by rw [rd5_eq]; exact hL5 v k)
  have a6 := hd6_is b (L := rd5 scM0_6 (Memref.isWhole_whole _) acc.2.2.2.2.2.2.2.2.2.2.1) (fun v k => by rw [rd5_eq]; exact hL6 v k)
  have a7 := hd7_is b (L := rd5 scM0_7 (Memref.isWhole_whole _) acc.2.2.2.2.2.2.2.2.2.2.2) (fun v k => by rw [rd5_eq]; exact hL7 v k)
  exact {
    dq := fun r h k => by
      rw [leftB0 m c t h0 h1 h2 acc]
      exact wide_val (fun h r k => (B.head h).dq r k) (dq_val a0) (dq_val a1) (dq_val a2) (dq_val a3) (dq_val a4) (dq_val a5) (dq_val a6) (dq_val a7) r h k
    df := fun r h k => by
      rw [leftB1 m c t h0 h1 h2 acc]
      exact wide_val (fun h r k => (B.head h).df r k) (df_val a0) (df_val a1) (df_val a2) (df_val a3) (df_val a4) (df_val a5) (df_val a6) (df_val a7) r h k
    di := fun r h k => by
      rw [leftB2 m c t h0 h1 h2 acc]
      exact wide_val (fun h r k => (B.head h).di r k) (di_val a0) (di_val a1) (di_val a2) (di_val a3) (di_val a4) (di_val a5) (di_val a6) (di_val a7) r h k
    dlb := fun h k => by
      rw [leftB3 m c t h0 h1 h2 acc]
      pointwise [k0_pay2]
      rw [tall_val (fun h k => (B.head h).dlb k) (dlb_val a0) (dlb_val a1) (dlb_val a2) (dlb_val a3) (dlb_val a4) (dlb_val a5) (dlb_val a6) (dlb_val a7) h k, rd3_eq, hd, ← EReal.coe_add]
    L0 := fun v k => (congrFun (leftB4 m c t h0 h1 h2 acc) (ix2 v k)).trans ((same_cast _ v k).trans (nL_val a0 k v))
    L1 := fun v k => (congrFun (leftB5 m c t h0 h1 h2 acc) (ix2 v k)).trans ((same_cast _ v k).trans (nL_val a1 k v))
    L2 := fun v k => (congrFun (leftB6 m c t h0 h1 h2 acc) (ix2 v k)).trans ((same_cast _ v k).trans (nL_val a2 k v))
    L3 := fun v k => (congrFun (leftB7 m c t h0 h1 h2 acc) (ix2 v k)).trans ((same_cast _ v k).trans (nL_val a3 k v))
    L4 := fun v k => (congrFun (leftB8 m c t h0 h1 h2 acc) (ix2 v k)).trans ((same_cast _ v k).trans (nL_val a4 k v))
    L5 := fun v k => (congrFun (leftB9 m c t h0 h1 h2 acc) (ix2 v k)).trans ((same_cast _ v k).trans (nL_val a5 k v))
    L6 := fun v k => (congrFun (leftB10 m c t h0 h1 h2 acc) (ix2 v k)).trans ((same_cast _ v k).trans (nL_val a6 k v))
    L7 := fun v k => (congrFun (leftB11 m c t h0 h1 h2 acc) (ix2 v k)).trans ((same_cast _ v k).trans (nL_val a7 k v))
  }

end Cert.Hgrn

end
-- ==== Proof.Numbers.lean ====
/-
The whole backward scan over the reals: the blocks are visited from the last to the first, each over the gradient of the state
that the block visited before leaves; the gradient of the lower bounds is added up.
-/
module

public import proofs.«01_k».proof.Proof.BlockValue

@[expose] public section

noncomputable section

namespace Cert.Hgrn

/-- The numbers the scan reads: queries, forget inputs, values, output gradients (row, column), lower bounds (head, lane), saved
    states (head, block, value lane, key lane). -/
structure Nums where
  q : Fin 8448 → Fin 1024 → ℝ
  f : Fin 8448 → Fin 1024 → ℝ
  i : Fin 8448 → Fin 1024 → ℝ
  o : Fin 8448 → Fin 1024 → ℝ
  lb : Fin 8 → Fin 128 → ℝ
  S : Fin 8 → Fin 264 → Fin 128 → Fin 128 → ℝ

/-- A row of a block. -/
def rowOf (c : Fin 264) (t : Fin 32) : Fin 8448 := ⟨32 * c.val + t.val, by omega⟩

/-- The block visited as number `n`. -/
def rev (n : ℕ) : Fin 264 := ⟨263 - n, by omega⟩

namespace Nums

/-- A block's numbers over a gradient of the state after it. -/
def bin (N : Nums) (c : Fin 264) (L : Fin 8 → Fin 128 → Fin 128 → ℝ) : Bin where
  q t n := N.q (rowOf c t) n
  f t n := N.f (rowOf c t) n
  i t n := N.i (rowOf c t) n
  o t n := N.o (rowOf c t) n
  lb := N.lb
  S h v k := N.S h c v k
  L := L

/-- The gradient of the state after the block visited as number `n`. -/
def lam (N : Nums) : ℕ → Fin 8 → Fin 128 → Fin 128 → ℝ
  | 0 => fun _ _ _ => 0
  | n + 1 => fun h v k => ((N.bin (rev n) (lam N n)).head h).nL v k

/-- The numbers of the block visited as number `n`. -/
def B (N : Nums) (n : ℕ) : Bin := N.bin (rev n) (N.lam n)

/-- The gradient of the lower bounds from the blocks visited before number `n`. -/
def low (N : Nums) : ℕ → Fin 8 → Fin 128 → ℝ
  | 0 => fun _ _ => 0
  | n + 1 => fun h k => low N n h k + ((N.B n).head h).dlb k

/-- The gradient of the queries. -/
def dq (N : Nums) (r : Fin 8448) (h : Fin 8) (k : Fin 128) : ℝ := ((N.B (263 - r.val / 32)).head h).dq ⟨r.val % 32, Nat.mod_lt _ (by decide)⟩ k
/-- The gradient of the forget inputs. -/
def df (N : Nums) (r : Fin 8448) (h : Fin 8) (k : Fin 128) : ℝ := ((N.B (263 - r.val / 32)).head h).df ⟨r.val % 32, Nat.mod_lt _ (by decide)⟩ k
/-- The gradient of the values. -/
def di (N : Nums) (r : Fin 8448) (h : Fin 8) (k : Fin 128) : ℝ := ((N.B (263 - r.val / 32)).head h).di ⟨r.val % 32, Nat.mod_lt _ (by decide)⟩ k

theorem dq_row (N : Nums) (n : ℕ) (hn : n < 264) (t : Fin 32) (h : Fin 8) (k : Fin 128) : N.dq (rowOf (rev n) t) h k = ((N.B n).head h).dq t k := by
  have e1 : 263 - (rowOf (rev n) t).val / 32 = n := by simp only [rowOf, rev]; omega
  have e2 : (⟨(rowOf (rev n) t).val % 32, Nat.mod_lt _ (by decide)⟩ : Fin 32) = t := Fin.ext (by simp only [rowOf, rev]; omega)
  rw [dq, e1, e2]

theorem df_row (N : Nums) (n : ℕ) (hn : n < 264) (t : Fin 32) (h : Fin 8) (k : Fin 128) : N.df (rowOf (rev n) t) h k = ((N.B n).head h).df t k := by
  have e1 : 263 - (rowOf (rev n) t).val / 32 = n := by simp only [rowOf, rev]; omega
  have e2 : (⟨(rowOf (rev n) t).val % 32, Nat.mod_lt _ (by decide)⟩ : Fin 32) = t := Fin.ext (by simp only [rowOf, rev]; omega)
  rw [df, e1, e2]

theorem di_row (N : Nums) (n : ℕ) (hn : n < 264) (t : Fin 32) (h : Fin 8) (k : Fin 128) : N.di (rowOf (rev n) t) h k = ((N.B n).head h).di t k := by
  have e1 : 263 - (rowOf (rev n) t).val / 32 = n := by simp only [rowOf, rev]; omega
  have e2 : (⟨(rowOf (rev n) t).val % 32, Nat.mod_lt _ (by decide)⟩ : Fin 32) = t := Fin.ext (by simp only [rowOf, rev]; omega)
  rw [di, e1, e2]

end Nums

end Cert.Hgrn

end
-- ==== Proof.Given.lean ====
/-
The argument arrays of the two programs as numbers.
-/
module

public import proofs.«01_k».proof.Proof.Numbers
public import Idealize.ShloMosaic.Lib.Pointwise

@[expose] public section

noncomputable section

namespace Cert.Hgrn

open Idealize.ShloMosaic Idealize.ShloMosaic.Pointwise

/-- The shapes of the argument arrays. -/
abbrev SP : Shape := ⟨2, ![8448, 6144]⟩
abbrev SB : Shape := ⟨4, ![2, 8, 1, 128]⟩
abbrev SO : Shape := ⟨2, ![8448, 1024]⟩
abbrev SV : Shape := ⟨4, ![1, 264, 128, 128]⟩

/-- The argument arrays hold the numbers `N`: the first array's columns from 0, from 1024 and from 3072, the lower bounds of the
    first direction, the output gradients, and the eight heads' saved states. -/
structure Given (p : FVec Ideal SP .f32) (b : FVec Ideal SB .f32) (o : FVec Ideal SO .f32) (s0 s1 s2 s3 s4 s5 s6 s7 : FVec Ideal SV .f32) (N : Nums) : Prop where
  q (r : Fin 8448) (n : Fin 1024) : p (ix2 r ⟨n.val, by omega⟩) = (N.q r n : EReal)
  f (r : Fin 8448) (n : Fin 1024) : p (ix2 r ⟨1024 + n.val, by omega⟩) = (N.f r n : EReal)
  i (r : Fin 8448) (n : Fin 1024) : p (ix2 r ⟨3072 + n.val, by omega⟩) = (N.i r n : EReal)
  o (r : Fin 8448) (n : Fin 1024) : o (ix2 r n) = (N.o r n : EReal)
  lb (h : Fin 8) (k : Fin 128) : b (ix4 0 h 0 k) = (N.lb h k : EReal)
  S0 (c : Fin 264) (v k : Fin 128) : s0 (ix4 0 c v k) = (N.S 0 c v k : EReal)
  S1 (c : Fin 264) (v k : Fin 128) : s1 (ix4 0 c v k) = (N.S 1 c v k : EReal)
  S2 (c : Fin 264) (v k : Fin 128) : s2 (ix4 0 c v k) = (N.S 2 c v k : EReal)
  S3 (c : Fin 264) (v k : Fin 128) : s3 (ix4 0 c v k) = (N.S 3 c v k : EReal)
  S4 (c : Fin 264) (v k : Fin 128) : s4 (ix4 0 c v k) = (N.S 4 c v k : EReal)
  S5 (c : Fin 264) (v k : Fin 128) : s5 (ix4 0 c v k) = (N.S 5 c v k : EReal)
  S6 (c : Fin 264) (v k : Fin 128) : s6 (ix4 0 c v k) = (N.S 6 c v k : EReal)
  S7 (c : Fin 264) (v k : Fin 128) : s7 (ix4 0 c v k) = (N.S 7 c v k : EReal)
  nonneg (h : Fin 8) (k : Fin 128) : 0 ≤ N.lb h k

end Cert.Hgrn

end
-- ==== Proof.KernelArray.lean ====
/-
What the kernel's four result arrays hold: the numbers of the backward scan.
-/
module

public import proofs.«01_k».proof.Proof.KernelLeft
public import proofs.«01_k».proof.Proof.Given
public import Idealize.ShloMosaic.Lib.Pipeline.ValueKit.Geometry

@[expose] public section

set_option maxRecDepth 65536

noncomputable section

namespace Cert.Hgrn

open Cert.KernelIdeal Cert.KernelIdeal.Gen Cert.KernelIdeal.Bwd Idealize.ShloMosaic Idealize.ShloMosaic.TcCoe Idealize.ShloMosaic.Pipeline
open Idealize.ShloMosaic.Tactic Idealize.ShloMosaic.Pointwise

variable (m : (ℓ : Loc nD τ sig) → Buf (Elt Ideal) ℓ) (c : Dev nD)

/-- A grid point's number is below 264. -/
theorem point_lt (t : Fin cfg0.N) : t.val < 264 := lt_of_lt_of_eq t.isLt (show cfg0.N = 264 from N_0)

/-- Window 0's block at a grid point. -/
theorem at_0 : ∀ t : Fin cfg0.N, win0_0.index t = ![263 - t.val, 0] := by decide +kernel

/-- Window 1's block at a grid point. -/
theorem at_1 : ∀ t : Fin cfg0.N, win0_1.index t = ![263 - t.val, 1] := by decide +kernel

/-- Window 2's block at a grid point. -/
theorem at_2 : ∀ t : Fin cfg0.N, win0_2.index t = ![263 - t.val, 3] := by decide +kernel

/-- Window 12's block at a grid point. -/
theorem at_12 : ∀ t : Fin cfg0.N, win0_12.index t = ![263 - t.val, 0] := by decide +kernel

/-- Window 13's block at a grid point. -/
theorem at_13 : ∀ t : Fin cfg0.N, win0_13.index t = ![263 - t.val, 0] := by decide +kernel

/-- Window 14's block at a grid point. -/
theorem at_14 : ∀ t : Fin cfg0.N, win0_14.index t = ![263 - t.val, 1] := by decide +kernel

/-- Window 15's block at a grid point. -/
theorem at_15 : ∀ t : Fin cfg0.N, win0_15.index t = ![263 - t.val, 3] := by decide +kernel

/-- Window 4's block at a grid point. -/
theorem at_4 : ∀ t : Fin cfg0.N, win0_4.index t = ![0, 263 - t.val, 0, 0] := by decide +kernel

/-- Window 5's block at a grid point. -/
theorem at_5 : ∀ t : Fin cfg0.N, win0_5.index t = ![0, 263 - t.val, 0, 0] := by decide +kernel

/-- Window 6's block at a grid point. -/
theorem at_6 : ∀ t : Fin cfg0.N, win0_6.index t = ![0, 263 - t.val, 0, 0] := by decide +kernel

/-- Window 7's block at a grid point. -/
theorem at_7 : ∀ t : Fin cfg0.N, win0_7.index t = ![0, 263 - t.val, 0, 0] := by decide +kernel

/-- Window 8's block at a grid point. -/
theorem at_8 : ∀ t : Fin cfg0.N, win0_8.index t = ![0, 263 - t.val, 0, 0] := by decide +kernel

/-- Window 9's block at a grid point. -/
theorem at_9 : ∀ t : Fin cfg0.N, win0_9.index t = ![0, 263 - t.val, 0, 0] := by decide +kernel

/-- Window 10's block at a grid point. -/
theorem at_10 : ∀ t : Fin cfg0.N, win0_10.index t = ![0, 263 - t.val, 0, 0] := by decide +kernel

/-- Window 11's block at a grid point. -/
theorem at_11 : ∀ t : Fin cfg0.N, win0_11.index t = ![0, 263 - t.val, 0, 0] := by decide +kernel

/-- Window 3's block at a grid point. -/
theorem at_3 : ∀ t : Fin cfg0.N, win0_3.index t = ![0, 0, 0, 0] := by decide +kernel

/-- Window 16's block at a grid point. -/
theorem at_16 : ∀ t : Fin cfg0.N, win0_16.index t = ![0, 0, 0, 0] := by decide +kernel

/-- What window 0 reads. -/
theorem blk_0 (t : Fin cfg0.N) (r : Fin 32) (j : Fin 1024) :
    (iblk m c 0 t : Vec Ideal S32x1024 .f32) (ix2 r j) = m ((c.tc : Thread nD τ).loc main_arg0) (ix2 (rowOf (rev t.val) r) ⟨j.val, by omega⟩) := by
  have e := at_0 t
  blk_simp [iblk]
  refine congrArg _ ?_
  blk_ext [e, rowOf, rev]

/-- What window 1 reads. -/
theorem blk_1 (t : Fin cfg0.N) (r : Fin 32) (j : Fin 1024) :
    (iblk m c 1 t : Vec Ideal S32x1024 .f32) (ix2 r j) = m ((c.tc : Thread nD τ).loc main_arg0) (ix2 (rowOf (rev t.val) r) ⟨1024 + j.val, by omega⟩) := by
  have e := at_1 t
  blk_simp [iblk]
  refine congrArg _ ?_
  blk_ext [e, rowOf, rev]

/-- What window 2 reads. -/
theorem blk_2 (t : Fin cfg0.N) (r : Fin 32) (j : Fin 1024) :
    (iblk m c 2 t : Vec Ideal S32x1024 .f32) (ix2 r j) = m ((c.tc : Thread nD τ).loc main_arg0) (ix2 (rowOf (rev t.val) r) ⟨3072 + j.val, by omega⟩) := by
  have e := at_2 t
  blk_simp [iblk]
  refine congrArg _ ?_
  blk_ext [e, rowOf, rev]

/-- What window 12 reads. -/
theorem blk_12 (t : Fin cfg0.N) (r : Fin 32) (j : Fin 1024) :
    (iblk m c 12 t : Vec Ideal S32x1024 .f32) (ix2 r j) = m ((c.tc : Thread nD τ).loc main_arg2) (ix2 (rowOf (rev t.val) r) j) := by
  have e := at_12 t
  blk_simp [iblk]
  refine congrArg _ ?_
  blk_ext [e, rowOf, rev]

/-- What window 3 reads. -/
theorem blk_3 (t : Fin cfg0.N) (h : Fin 8) (k : Fin 128) :
    (iblk m c 3 t : Vec Ideal S1x8x1x128 .f32) (ix4 0 h 0 k) = m ((c.tc : Thread nD τ).loc main_arg1) (ix4 0 h 0 k) := by
  have e := at_3 t
  blk_simp [iblk]
  refine congrArg _ ?_
  blk_ext [e]

/-- What window 4 reads. -/
theorem blk_4 (t : Fin cfg0.N) (v k : Fin 128) :
    (iblk m c 4 t : Vec Ideal S1x1x128x128 .f32) (ix4 0 0 v k) = m ((c.tc : Thread nD τ).loc main_arg3) (ix4 0 (rev t.val) v k) := by
  have e := at_4 t
  blk_simp [iblk]
  refine congrArg _ ?_
  blk_ext [e, rev]

/-- What window 5 reads. -/
theorem blk_5 (t : Fin cfg0.N) (v k : Fin 128) :
    (iblk m c 5 t : Vec Ideal S1x1x128x128 .f32) (ix4 0 0 v k) = m ((c.tc : Thread nD τ).loc main_arg4) (ix4 0 (rev t.val) v k) := by
  have e := at_5 t
  blk_simp [iblk]
  refine congrArg _ ?_
  blk_ext [e, rev]

/-- What window 6 reads. -/
theorem blk_6 (t : Fin cfg0.N) (v k : Fin 128) :
    (iblk m c 6 t : Vec Ideal S1x1x128x128 .f32) (ix4 0 0 v k) = m ((c.tc : Thread nD τ).loc main_arg5) (ix4 0 (rev t.val) v k) := by
  have e := at_6 t
  blk_simp [iblk]
  refine congrArg _ ?_
  blk_ext [e, rev]

/-- What window 7 reads. -/
theorem blk_7 (t : Fin cfg0.N) (v k : Fin 128) :
    (iblk m c 7 t : Vec Ideal S1x1x128x128 .f32) (ix4 0 0 v k) = m ((c.tc : Thread nD τ).loc main_arg6) (ix4 0 (rev t.val) v k) := by
  have e := at_7 t
  blk_simp [iblk]
  refine congrArg _ ?_
  blk_ext [e, rev]

/-- What window 8 reads. -/
theorem blk_8 (t : Fin cfg0.N) (v k : Fin 128) :
    (iblk m c 8 t : Vec Ideal S1x1x128x128 .f32) (ix4 0 0 v k) = m ((c.tc : Thread nD τ).loc main_arg7) (ix4 0 (rev t.val) v k) := by
  have e := at_8 t
  blk_simp [iblk]
  refine congrArg _ ?_
  blk_ext [e, rev]

/-- What window 9 reads. -/
theorem blk_9 (t : Fin cfg0.N) (v k : Fin 128) :
    (iblk m c 9 t : Vec Ideal S1x1x128x128 .f32) (ix4 0 0 v k) = m ((c.tc : Thread nD τ).loc main_arg8) (ix4 0 (rev t.val) v k) := by
  have e := at_9 t
  blk_simp [iblk]
  refine congrArg _ ?_
  blk_ext [e, rev]

/-- What window 10 reads. -/
theorem blk_10 (t : Fin cfg0.N) (v k : Fin 128) :
    (iblk m c 10 t : Vec Ideal S1x1x128x128 .f32) (ix4 0 0 v k) = m ((c.tc : Thread nD τ).loc main_arg9) (ix4 0 (rev t.val) v k) := by
  have e := at_10 t
  blk_simp [iblk]
  refine congrArg _ ?_
  blk_ext [e, rev]

/-- What window 11 reads. -/
theorem blk_11 (t : Fin cfg0.N) (v k : Fin 128) :
    (iblk m c 11 t : Vec Ideal S1x1x128x128 .f32) (ix4 0 0 v k) = m ((c.tc : Thread nD τ).loc main_arg10) (ix4 0 (rev t.val) v k) := by
  have e := at_11 t
  blk_simp [iblk]
  refine congrArg _ ?_
  blk_ext [e, rev]

/-- The argument arrays of the kernel hold the numbers `N`. -/
abbrev Has (N : Nums) : Prop :=
  Given (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) N

variable {m c} {N : Nums} (g : Has m c N)
include g

/-- The blocks read at a grid point. -/
theorem blk_of (t : Fin cfg0.N) : Blk m c t (N.B t.val) where
  q r j := (blk_0 m c t r j).trans (g.q _ j)
  f r j := (blk_1 m c t r j).trans (g.f _ j)
  i r j := (blk_2 m c t r j).trans (g.i _ j)
  o r j := (blk_12 m c t r j).trans (g.o _ j)
  lb h k := (blk_3 m c t h k).trans (g.lb h k)
  S0 v k := (blk_4 m c t v k).trans (g.S0 _ v k)
  S1 v k := (blk_5 m c t v k).trans (g.S1 _ v k)
  S2 v k := (blk_6 m c t v k).trans (g.S2 _ v k)
  S3 v k := (blk_7 m c t v k).trans (g.S3 _ v k)
  S4 v k := (blk_8 m c t v k).trans (g.S4 _ v k)
  S5 v k := (blk_9 m c t v k).trans (g.S5 _ v k)
  S6 v k := (blk_10 m c t v k).trans (g.S6 _ v k)
  S7 v k := (blk_11 m c t v k).trans (g.S7 _ v k)
  nonneg h k := g.nonneg h k

/-- What is kept after every grid point. -/
theorem left_at : ∀ (n : ℕ) (hn : n < cfg0.N), Left (outsAt0 m c n hn) (N.B n) (N.low n)
  | 0, hn => leftA_left (blk_of g ⟨0, hn⟩) _ _ _ (fun _ _ _ => rfl)
  | n + 1, hn =>
    have ih := left_at n (Nat.lt_of_succ_lt hn)
    leftB_left (blk_of g ⟨n + 1, hn⟩) _ _ _ (outsAt0 m c n (Nat.lt_of_succ_lt hn)) (N.low (n + 1)) ih.dlb ih.L0 ih.L1 ih.L2 ih.L3 ih.L4 ih.L5 ih.L6 ih.L7

omit g

/-- Every grid point writes its block of window 13 back. -/
theorem flush_13 : ∀ t : Fin cfg0.N, win0_13.flush t = true := by decide +kernel

/-- Different grid points write different blocks of window 13. -/
theorem apart_13 : ∀ t t' : Fin cfg0.N, win0_13.flush t = true → win0_13.flush t' = true → t ≠ t' → Disjoint (win0_13.blk t).view.set (win0_13.blk t').view.set :=
  Window.hdisj_of_index_inj win0_13 fun t t' _ _ e => by
    have h := congrFun ((at_13 t).symm.trans (e.trans (at_13 t'))) 0
    have h' : 263 - t.val = 263 - t'.val := h
    have h1 := point_lt t
    have h2 := point_lt t'
    exact Fin.ext (by omega)

/-- The array of window 13, at a row of a grid point's block. -/
theorem arr_13 (t : Fin cfg0.N) (r : Fin 32) (j : Fin 1024) :
    ((dats m 0 c).arrAt 13 cfg0.N : Vec Ideal S8448x6144 .f32) (ix2 (rowOf (rev t.val) r) ⟨j.val, by omega⟩) = (outsAt0 m c t.val t.isLt).1 (ix2 r j) := by
  have e := at_13 t
  have h := (dats m 0 c).arrAt_emb_eq_flushed 13 apart_13 t (flush_13 t) (ix2 r j)
  have e' : (win0_13.blk t).view.emb (ix2 r j) = (ix2 (rowOf (rev t.val) r) ⟨j.val, by omega⟩ : S8448x6144.Idx) := by
    blk_ext [e, rowOf, rev]
  refine (congrArg _ e'.symm).trans (h.trans ?_)
  blk_simp
  rw [after0_13]

/-- Every grid point writes its block of window 14 back. -/
theorem flush_14 : ∀ t : Fin cfg0.N, win0_14.flush t = true := by decide +kernel

/-- Different grid points write different blocks of window 14. -/
theorem apart_14 : ∀ t t' : Fin cfg0.N, win0_14.flush t = true → win0_14.flush t' = true → t ≠ t' → Disjoint (win0_14.blk t).view.set (win0_14.blk t').view.set :=
  Window.hdisj_of_index_inj win0_14 fun t t' _ _ e => by
    have h := congrFun ((at_14 t).symm.trans (e.trans (at_14 t'))) 0
    have h' : 263 - t.val = 263 - t'.val := h
    have h1 := point_lt t
    have h2 := point_lt t'
    exact Fin.ext (by omega)

/-- The array of window 14, at a row of a grid point's block. -/
theorem arr_14 (t : Fin cfg0.N) (r : Fin 32) (j : Fin 1024) :
    ((dats m 0 c).arrAt 14 cfg0.N : Vec Ideal S8448x6144 .f32) (ix2 (rowOf (rev t.val) r) ⟨1024 + j.val, by omega⟩) = (outsAt0 m c t.val t.isLt).2.1 (ix2 r j) := by
  have e := at_14 t
  have h := (dats m 0 c).arrAt_emb_eq_flushed 14 apart_14 t (flush_14 t) (ix2 r j)
  have e' : (win0_14.blk t).view.emb (ix2 r j) = (ix2 (rowOf (rev t.val) r) ⟨1024 + j.val, by omega⟩ : S8448x6144.Idx) := by
    blk_ext [e, rowOf, rev]
  refine (congrArg _ e'.symm).trans (h.trans ?_)
  blk_simp
  rw [after0_14]

/-- Every grid point writes its block of window 15 back. -/
theorem flush_15 : ∀ t : Fin cfg0.N, win0_15.flush t = true := by decide +kernel

/-- Different grid points write different blocks of window 15. -/
theorem apart_15 : ∀ t t' : Fin cfg0.N, win0_15.flush t = true → win0_15.flush t' = true → t ≠ t' → Disjoint (win0_15.blk t).view.set (win0_15.blk t').view.set :=
  Window.hdisj_of_index_inj win0_15 fun t t' _ _ e => by
    have h := congrFun ((at_15 t).symm.trans (e.trans (at_15 t'))) 0
    have h' : 263 - t.val = 263 - t'.val := h
    have h1 := point_lt t
    have h2 := point_lt t'
    exact Fin.ext (by omega)

/-- The array of window 15, at a row of a grid point's block. -/
theorem arr_15 (t : Fin cfg0.N) (r : Fin 32) (j : Fin 1024) :
    ((dats m 0 c).arrAt 15 cfg0.N : Vec Ideal S8448x6144 .f32) (ix2 (rowOf (rev t.val) r) ⟨3072 + j.val, by omega⟩) = (outsAt0 m c t.val t.isLt).2.2.1 (ix2 r j) := by
  have e := at_15 t
  have h := (dats m 0 c).arrAt_emb_eq_flushed 15 apart_15 t (flush_15 t) (ix2 r j)
  have e' : (win0_15.blk t).view.emb (ix2 r j) = (ix2 (rowOf (rev t.val) r) ⟨3072 + j.val, by omega⟩ : S8448x6144.Idx) := by
    blk_ext [e, rowOf, rev]
  refine (congrArg _ e'.symm).trans (h.trans ?_)
  blk_simp
  rw [after0_15]

/-- Only the last grid point writes window 16 back. -/
theorem flush_16 : ∀ t : Fin cfg0.N, win0_16.flush t = decide (t.val = 263) := by decide +kernel

/-- The array of window 16, at its first half. -/
theorem arr_16 (t : Fin cfg0.N) (ht : t.val = 263) (h : Fin 8) (k : Fin 128) :
    ((dats m 0 c).arrAt 16 cfg0.N : Vec Ideal S2x8x1x128 .f32) (ix4 0 h 0 k) = (outsAt0 m c t.val t.isLt).2.2.2.1 (ix4 0 h 0 k) := by
  have e := at_16 t
  have hd : ∀ t t' : Fin cfg0.N, win0_16.flush t = true → win0_16.flush t' = true → t ≠ t' → Disjoint (win0_16.blk t).view.set (win0_16.blk t').view.set := fun a b ha hb hne => by
    rw [flush_16] at ha hb
    exact absurd (Fin.ext ((of_decide_eq_true ha).trans (of_decide_eq_true hb).symm)) hne
  have hh := (dats m 0 c).arrAt_emb_eq_flushed 16 hd t ((flush_16 t).trans (decide_eq_true ht)) (ix4 0 h 0 k)
  have e' : (win0_16.blk t).view.emb (ix4 0 h 0 k) = (ix4 0 h 0 k : S2x8x1x128.Idx) := by
    blk_ext [e]
  refine (congrArg _ e'.symm).trans (hh.trans ?_)
  blk_simp
  rw [after0_16]

end Cert.Hgrn

end
-- ==== Proof.RunningSum.lean ====
/-
Running sums along the rows of a block, as window sums: over the rows up to a row, and over the rows from a row on.
-/
module

public import proofs.«01_k».proof.Proof.Gen.ReferenceIdeal.Step
public import Idealize.ShloMosaic.Lib.Pointwise
public import Idealize.ShloMosaic.Lib.IdealHost

@[expose] public section

set_option maxRecDepth 16384

noncomputable section

namespace Cert.Hgrn

open Cert.ReferenceIdeal Cert.ReferenceIdeal.Gen Idealize.ShloMosaic Idealize.ShloMosaic.TcCoe
open Idealize.ShloMosaic.Pointwise

/-- The shape of the window: all the rows of one head and lane. -/
abbrev W : Shape := ⟨3, ![1, 32, 1]⟩

theorem window_numel : W.numel = 32 := by decide

/-- The window's positions in order go through the rows. -/
theorem window_pos (n : Fin W.numel) : ∀ a : Fin 3, (W.rowMajor.symm n a).val = (![0, n.val, 0] : Fin 3 → ℕ) a := by
  revert n; decide +kernel

/-- Adding up a list from a start. -/
theorem foldl_add {n : ℕ} (g : Fin n → EReal) (v : EReal) : (List.finRange n).foldl (fun r i => r + g i) v = v + ∑ i, g i := by
  rw [← List.sum_ofFn, List.ofFn_eq_map]
  generalize List.finRange n = l
  induction l generalizing v with
  | nil => simp
  | cons a l ih => simp [ih, add_assoc]

/-- The rows up to a row. -/
theorem sum_upto (y : Fin 32 → EReal) (t : Fin 32) :
    ∑ n : Fin 32, (if h : 31 ≤ t.val + n.val ∧ t.val + n.val - 31 < 32 then y ⟨t.val + n.val - 31, h.2⟩ else 0) = ∑ s, if s ≤ t then y s else 0 := by
  rw [← Finset.sum_filter]
  rw [← Finset.sum_filter_add_sum_filter_not Finset.univ (fun n : Fin 32 => 31 ≤ t.val + n.val)]
  rw [Finset.sum_eq_zero (s := Finset.univ.filter (fun n : Fin 32 => ¬31 ≤ t.val + n.val)) (fun n hn => dif_neg (fun h => (Finset.mem_filter.mp hn).2 h.1)), add_zero]
  refine Finset.sum_bij' (fun n hn => ⟨t.val + n.val - 31, by omega⟩) (fun s hs => ⟨s.val + 31 - t.val, ?_⟩) ?_ ?_ ?_ ?_ ?_
  · have := (Finset.mem_filter.mp hs).2; rw [Fin.le_def] at this; omega
  · intro n hn; simp only [Finset.mem_filter, Finset.mem_univ, true_and, Fin.le_def]; omega
  · intro s hs; have := (Finset.mem_filter.mp hs).2; rw [Fin.le_def] at this; simp only [Finset.mem_filter, Finset.mem_univ, true_and]; omega
  · intro n hn; have := (Finset.mem_filter.mp hn).2; apply Fin.ext; simp only; omega
  · intro s hs; have := (Finset.mem_filter.mp hs).2; rw [Fin.le_def] at this; apply Fin.ext; simp only; omega
  · intro n hn; have := (Finset.mem_filter.mp hn).2; rw [dif_pos ⟨this, by omega⟩]

/-- The rows from a row on. -/
theorem sum_from (y : Fin 32 → EReal) (t : Fin 32) :
    ∑ n : Fin 32, (if h : t.val + n.val < 32 then y ⟨t.val + n.val, h⟩ else 0) = ∑ s, if t ≤ s then y s else 0 := by
  rw [← Finset.sum_filter]
  rw [← Finset.sum_filter_add_sum_filter_not Finset.univ (fun n : Fin 32 => t.val + n.val < 32)]
  rw [Finset.sum_eq_zero (s := Finset.univ.filter (fun n : Fin 32 => ¬t.val + n.val < 32)) (fun n hn => dif_neg (Finset.mem_filter.mp hn).2), add_zero]
  refine Finset.sum_bij' (fun n hn => ⟨t.val + n.val, (Finset.mem_filter.mp hn).2⟩) (fun s hs => ⟨s.val - t.val, by omega⟩) ?_ ?_ ?_ ?_ ?_
  · intro n hn; simp only [Finset.mem_filter, Finset.mem_univ, true_and, Fin.le_def]; omega
  · intro s hs; have := (Finset.mem_filter.mp hs).2; rw [Fin.le_def] at this; simp only [Finset.mem_filter, Finset.mem_univ, true_and]; omega
  · intro n hn; apply Fin.ext; simp only; omega
  · intro s hs; have := (Finset.mem_filter.mp hs).2; rw [Fin.le_def] at this; apply Fin.ext; simp only; omega
  · intro n hn; rw [dif_pos (Finset.mem_filter.mp hn).2]

/-- The window sum over the rows up to a row. -/
theorem cumsum_at (x : FVec Ideal S8x32x128 .f32) (i : FVec Ideal S_ .f32) (hi : i (Shape.Idx.first h_S_) = 0) (h : Fin 8) (t : Fin 32) (k : Fin 128) :
    Host.reduceWindowAdd ![1, 32, 1] ![1, 1, 1] ![0, 31, 0] ![0, 0, 0] x i reduceWindows_S8x32x128_S8x32x128_w1s1p0_0_w32s1p31_0_w1s1p0_0 h_S_ (ix3 h t k)
      = ∑ s, if s ≤ t then x (ix3 h s k) else 0 := by
  rw [← sum_upto (fun s => x (ix3 h s k)) t, Host.reduceWindowAdd, hi]
  rw [Ideal.hostReduceWindowAdd_def, Ideal.hostReduceWindowAdd, Host.reduceWindow]
  refine (foldl_add _ _).trans ?_
  rw [zero_add]
  refine Fintype.sum_equiv (finCongr window_numel) _ _ fun n => ?_
  have e := window_pos n
  have e0 : (W.rowMajor.symm n 0).val = 0 := e 0
  have e1 : (W.rowMajor.symm n 1).val = n.val := e 1
  have e2 : (W.rowMajor.symm n 2).val = 0 := e 2
  have hn : n.val < 32 := lt_of_lt_of_eq n.isLt window_numel
  have ec : (finCongr window_numel n).val = n.val := rfl
  clear e
  generalize finCongr window_numel n = n' at ec ⊢
  rw [← ec] at e1
  by_cases hc : 31 ≤ t.val + n'.val
  · rw [dif_pos, dif_pos ⟨hc, by omega⟩]
    · refine congrArg x (funext fun a => Fin.ext ?_)
      fin_cases a
      · show h.val * 1 + (W.rowMajor.symm n 0).val - 0 = h.val; omega
      · show t.val * 1 + (W.rowMajor.symm n 1).val - 31 = t.val + n'.val - 31; omega
      · show k.val * 1 + (W.rowMajor.symm n 2).val - 0 = k.val; omega
    · intro a
      fin_cases a
      · show 0 ≤ h.val * 1 + (W.rowMajor.symm n 0).val ∧ h.val * 1 + (W.rowMajor.symm n 0).val - 0 < 8; omega
      · show 31 ≤ t.val * 1 + (W.rowMajor.symm n 1).val ∧ t.val * 1 + (W.rowMajor.symm n 1).val - 31 < 32; omega
      · show 0 ≤ k.val * 1 + (W.rowMajor.symm n 2).val ∧ k.val * 1 + (W.rowMajor.symm n 2).val - 0 < 128; omega
  · rw [dif_neg, dif_neg (fun h => hc h.1)]
    intro h
    have : 31 ≤ t.val * 1 + (W.rowMajor.symm n 1).val := (h 1).1
    omega

/-- The window sum over the rows from a row on. -/
theorem revsum_at (x : FVec Ideal S8x32x128 .f32) (i : FVec Ideal S_ .f32) (hi : i (Shape.Idx.first h_S_) = 0) (h : Fin 8) (t : Fin 32) (k : Fin 128) :
    Host.reduceWindowAdd ![1, 32, 1] ![1, 1, 1] ![0, 0, 0] ![0, 31, 0] x i reduceWindows_S8x32x128_S8x32x128_w1s1p0_0_w32s1p0_31_w1s1p0_0 h_S_ (ix3 h t k)
      = ∑ s, if t ≤ s then x (ix3 h s k) else 0 := by
  rw [← sum_from (fun s => x (ix3 h s k)) t, Host.reduceWindowAdd, hi]
  rw [Ideal.hostReduceWindowAdd_def, Ideal.hostReduceWindowAdd, Host.reduceWindow]
  refine (foldl_add _ _).trans ?_
  rw [zero_add]
  refine Fintype.sum_equiv (finCongr window_numel) _ _ fun n => ?_
  have e := window_pos n
  have e0 : (W.rowMajor.symm n 0).val = 0 := e 0
  have e1 : (W.rowMajor.symm n 1).val = n.val := e 1
  have e2 : (W.rowMajor.symm n 2).val = 0 := e 2
  have hn : n.val < 32 := lt_of_lt_of_eq n.isLt window_numel
  have ec : (finCongr window_numel n).val = n.val := rfl
  clear e
  generalize finCongr window_numel n = n' at ec ⊢
  rw [← ec] at e1
  by_cases hc : t.val + n'.val < 32
  · rw [dif_pos, dif_pos hc]
    · refine congrArg x (funext fun a => Fin.ext ?_)
      fin_cases a
      · show h.val * 1 + (W.rowMajor.symm n 0).val - 0 = h.val; omega
      · show t.val * 1 + (W.rowMajor.symm n 1).val - 0 = t.val + n'.val; omega
      · show k.val * 1 + (W.rowMajor.symm n 2).val - 0 = k.val; omega
    · intro a
      fin_cases a
      · show 0 ≤ h.val * 1 + (W.rowMajor.symm n 0).val ∧ h.val * 1 + (W.rowMajor.symm n 0).val - 0 < 8; omega
      · show 0 ≤ t.val * 1 + (W.rowMajor.symm n 1).val ∧ t.val * 1 + (W.rowMajor.symm n 1).val - 0 < 32; omega
      · show 0 ≤ k.val * 1 + (W.rowMajor.symm n 2).val ∧ k.val * 1 + (W.rowMajor.symm n 2).val - 0 < 128; omega
  · rw [dif_neg, dif_neg hc]
    intro h
    have : t.val * 1 + (W.rowMajor.symm n 1).val - 0 < 32 := (h 1).2
    omega

/-- Cut in heads: an index of the rows by heads by lanes. -/
theorem split_at (X : FVec Ideal S32x1024 .f32) (h : Fin 8) (t : Fin 32) (k : Fin 128) :
    transpose S8x32x128 [1, 0, 2] (shapeCast S32x8x128 X shapeCasts_S32x1024_S32x8x128) transposes_S32x8x128_S8x32x128_1_0_2 (ix3 h t k)
      = X (ix2 t ⟨128 * h.val + k.val, by omega⟩) := by
  pointwise []
  exact congrArg X (congrArg (ix2 t) (Fin.ext (congrArg (· + k.val) (Nat.mul_comm _ _))))

/-- Heads put side by side. -/
theorem merge_at (Y : FVec Ideal S8x32x128 .f32) (h : Fin 8) (t : Fin 32) (k : Fin 128) :
    shapeCast S32x1024 (transpose S32x8x128 [1, 0, 2] Y transposes_S8x32x128_S32x8x128_1_0_2) shapeCasts_S32x8x128_S32x1024 (ix2 t ⟨128 * h.val + k.val, by omega⟩)
      = Y (ix3 h t k) := by
  pointwise []

end Cert.Hgrn

end
-- ==== Proof.TripValue.lean ====
/-
One trip of the reference's loop over the reals: every value it names is the number that `Spec` names, head by head.
-/
module

public import proofs.«01_k».proof.Proof.RunningSum
public import proofs.«01_k».proof.Proof.BlockValue

@[expose] public section

set_option maxRecDepth 16384

noncomputable section

namespace Cert.Hgrn.Trip

open Cert.Hgrn Cert.ReferenceIdeal Cert.ReferenceIdeal.Gen Cert.ReferenceIdeal.Step Idealize.ShloMosaic Idealize.ShloMosaic.TcCoe
open Idealize.ShloMosaic.Pointwise

/-- What a trip reads holds the block's numbers, and the lower bounds are not negative. -/
structure Reads (j : ℕ) (s : State Ideal) (B : Bin) : Prop where
  q (t : Fin 32) (n : Fin 1024) : b12 j s (ix2 t n) = (B.q t n : EReal)
  f (t : Fin 32) (n : Fin 1024) : b16 j s (ix2 t n) = (B.f t n : EReal)
  i (t : Fin 32) (n : Fin 1024) : b20 j s (ix2 t n) = (B.i t n : EReal)
  o (t : Fin 32) (n : Fin 1024) : b24 j s (ix2 t n) = (B.o t n : EReal)
  lb (h : Fin 8) (k : Fin 128) : s.main_v33_5 (ix1 (col h k)) = (B.lb h k : EReal)
  S (h : Fin 8) (k v : Fin 128) : b8 j s (ix3 h k v) = (B.S h v k : EReal)
  L (h : Fin 8) (k v : Fin 128) : s.main_v33_7 (ix3 h k v) = (B.L h v k : EReal)
  nonneg (h : Fin 8) (k : Fin 128) : 0 ≤ B.lb h k

/-- Heads read at an index. -/
theorem split_col (X : FVec Ideal S32x1024 .f32) (h : Fin 8) (t : Fin 32) (k : Fin 128) :
    transpose S8x32x128 [1, 0, 2] (shapeCast S32x8x128 X shapeCasts_S32x1024_S32x8x128) transposes_S32x8x128_S8x32x128_1_0_2 (ix3 h t k) = X (ix2 t (col h k)) :=
  split_at X h t k

/-- Heads put side by side read at an index. -/
theorem merge_col (Y : FVec Ideal S8x32x128 .f32) (h : Fin 8) (t : Fin 32) (k : Fin 128) :
    shapeCast S32x1024 (transpose S32x8x128 [1, 0, 2] Y transposes_S8x32x128_S32x8x128_1_0_2) shapeCasts_S32x8x128_S32x1024 (ix2 t (col h k)) = Y (ix3 h t k) :=
  merge_at Y h t k

variable {j : ℕ} {s : State Ideal} {B : Bin} (r : Reads j s B) (h : Fin 8) (t u : Fin 32) (k v : Fin 128)

/-- The causal mask. -/
theorem v102 : b102 j s (ix2 t u) = if u ≤ t then 1#1 else 0#1 := by
  pointwise [b102,b101,b100,b99,b98,b97,b96,b95,b94,b93,b92]
  rw [show IntOp.addi (BitVec.ofNat 32 t.val) 0#32 = BitVec.ofNat 32 t.val from BitVec.add_zero _, causal_bit]
  split <;> rfl

/-- A choice by the causal mask. -/
theorem v114 (a b : EReal) : Scalar.select (b114 j s (ix3 h t u)) a b = if u ≤ t then a else b := by
  have e : b114 j s (ix3 h t u) = b102 j s (ix2 t u) := by pointwise [b114]
  rw [e, v102]
  split <;> rfl

include r

theorem pos : 0 < (B.head h).fg t k := (B.head h).fg_pos t k (r.nonneg h k)

theorem v32 : b32 j s (ix2 t (col h k)) = ((sg ((B.head h).q t k) : ℝ) : EReal) := by
  pointwise [b32, b31, b30, b29, b28, b27, b26, b25]
  simp only [r.q, Ideal.exp_coe, Ideal.div_coe (sg_ne _), ← EReal.coe_add, ← EReal.coe_mul, ← EReal.coe_sub, ← EReal.coe_neg, ← EReal.coe_zero, ← EReal.coe_one, sum_coe]
  exact congrArg Real.toEReal (by simp [sg, Bin.head])

theorem v36 : b36 j s (ix2 t (col h k)) = ((sg ((B.head h).q t k) * (1 - sg ((B.head h).q t k)) : ℝ) : EReal) := by
  pointwise [b36, b35, b34, b33]
  simp only [v32 r, ← EReal.coe_add, ← EReal.coe_mul, ← EReal.coe_sub, ← EReal.coe_neg, ← EReal.coe_zero, ← EReal.coe_one, sum_coe]

theorem v37 : b37 j s (ix2 t (col h k)) = (((B.head h).qs t k : ℝ) : EReal) := by
  pointwise [b37]
  simp only [r.q, v32 r, ← EReal.coe_add, ← EReal.coe_mul, ← EReal.coe_sub, ← EReal.coe_neg, ← EReal.coe_zero, ← EReal.coe_one, sum_coe]
  rfl

theorem v50 : b50 j s (ix2 t (col h k)) = ((sg ((B.head h).f t k) : ℝ) : EReal) := by
  pointwise [b50, b49, b48, b47, b46, b45, b44, b43]
  simp only [r.f, Ideal.exp_coe, Ideal.div_coe (sg_ne _), ← EReal.coe_add, ← EReal.coe_mul, ← EReal.coe_sub, ← EReal.coe_neg, ← EReal.coe_zero, ← EReal.coe_one, sum_coe]
  exact congrArg Real.toEReal (by simp [sg, Bin.head])

theorem v54 : b54 j s (ix2 t (col h k)) = ((sg ((B.head h).f t k) * (1 - sg ((B.head h).f t k)) : ℝ) : EReal) := by
  pointwise [b54, b53, b52, b51]
  simp only [v50 r, ← EReal.coe_add, ← EReal.coe_mul, ← EReal.coe_sub, ← EReal.coe_neg, ← EReal.coe_zero, ← EReal.coe_one, sum_coe]

theorem v60 : b60 j s (ix2 t (col h k)) = (((B.head h).fg t k : ℝ) : EReal) := by
  pointwise [b60, b59, b58, b57, b56, b55, b42, b41, b40]
  simp only [r.lb, v50 r, ← EReal.coe_add, ← EReal.coe_mul, ← EReal.coe_sub, ← EReal.coe_neg, ← EReal.coe_zero, ← EReal.coe_one, sum_coe]
  rfl

theorem v61 : b61 j s (ix2 t (col h k)) = (((B.head h).lf t k : ℝ) : EReal) := by
  pointwise [b61]
  simp only [v60 r, Ideal.log_coe, if_neg (pos r h t k).not_ge, ← EReal.coe_add, ← EReal.coe_mul, ← EReal.coe_sub, ← EReal.coe_neg, ← EReal.coe_zero, ← EReal.coe_one, sum_coe]
  rfl

theorem v73 : b73 j s (ix2 t (col h k)) = ((sg (-(B.head h).f t k) : ℝ) : EReal) := by
  pointwise [b73, b72, b71, b70, b69, b68, b67, b66, b65]
  simp only [r.f, Ideal.exp_coe, Ideal.div_coe (sg_ne _), ← EReal.coe_add, ← EReal.coe_mul, ← EReal.coe_sub, ← EReal.coe_neg, ← EReal.coe_zero, ← EReal.coe_one, sum_coe]
  exact congrArg Real.toEReal (by simp [sg, Bin.head])

theorem v77 : b77 j s (ix2 t (col h k)) = ((sg (-(B.head h).f t k) * (1 - sg (-(B.head h).f t k)) : ℝ) : EReal) := by
  pointwise [b77, b76, b75, b74]
  simp only [v73 r, ← EReal.coe_add, ← EReal.coe_mul, ← EReal.coe_sub, ← EReal.coe_neg, ← EReal.coe_zero, ← EReal.coe_one, sum_coe]

theorem v80 : b80 j s (ix2 t (col h k)) = (((B.head h).kk t k : ℝ) : EReal) := by
  pointwise [b80, b79, b78, b64, b63, b62]
  simp only [r.lb, v73 r, ← EReal.coe_add, ← EReal.coe_mul, ← EReal.coe_sub, ← EReal.coe_neg, ← EReal.coe_zero, ← EReal.coe_one, sum_coe]
  rfl

theorem v83 : b83 j s (ix3 h t k) = (((B.head h).qs t k : ℝ) : EReal) := by
  rw [b83, b38]
  exact (split_col _ h t k).trans (v37 r h t k)

theorem v84 : b84 j s (ix3 h t k) = (((B.head h).kk t k : ℝ) : EReal) := by
  rw [b84, b81]
  exact (split_col _ h t k).trans (v80 r h t k)

theorem v85 : b85 j s (ix3 h t k) = (((B.head h).i t k : ℝ) : EReal) := by
  rw [b85, b39]
  exact (split_col _ h t k).trans (r.i t (col h k))

theorem v86 : b86 j s (ix3 h t k) = (((B.head h).lf t k : ℝ) : EReal) := by
  rw [b86, b82]
  exact (split_col _ h t k).trans (v61 r h t k)

theorem v138 : b138 j s (ix3 h t k) = (((B.head h).o t k : ℝ) : EReal) := by
  rw [b138, b137]
  exact (split_col _ h t k).trans (r.o t (col h k))

theorem v89 : b89 j s (ix3 h t k) = (((B.head h).b t k : ℝ) : EReal) := by
  rw [b89, cumsum_at _ _ (by pointwise [b88, b87]) h t k]
  simp only [v86 r, coe_ite, ← EReal.coe_add, ← EReal.coe_mul, ← EReal.coe_sub, ← EReal.coe_neg, ← EReal.coe_zero, ← EReal.coe_one, sum_coe]
  rfl

theorem v90 : b90 j s (ix3 h 0 k) = (((B.head h).bl k : ℝ) : EReal) := by
  pointwise [b90]
  simp only [v89 r, ← EReal.coe_add, ← EReal.coe_mul, ← EReal.coe_sub, ← EReal.coe_neg, ← EReal.coe_zero, ← EReal.coe_one, sum_coe]
  exact congrArg Real.toEReal (by simp only [Rin.b, Rin.bl, if_pos (show ∀ s : Fin 32, s ≤ 31 by decide)]; exact Finset.sum_congr rfl fun s _ => if_pos (Fin.le_last s))

theorem v91 : b91 j s (ix3 h 0 k) = (((B.head h).b 15 k : ℝ) : EReal) := by
  pointwise [b91]
  simp only [v89 r, ← EReal.coe_add, ← EReal.coe_mul, ← EReal.coe_sub, ← EReal.coe_neg, ← EReal.coe_zero, ← EReal.coe_one, sum_coe]

theorem v105 : b105 j s (ix3 h t k) = (((B.head h).ea t k : ℝ) : EReal) := by
  pointwise [b105, b104, b103]
  simp only [v89 r, v91 r, Ideal.exp_coe, ← EReal.coe_add, ← EReal.coe_mul, ← EReal.coe_sub, ← EReal.coe_neg, ← EReal.coe_zero, ← EReal.coe_one, sum_coe]
  rfl

theorem v106 : b106 j s (ix3 h t k) = (((B.head h).A t k : ℝ) : EReal) := by
  pointwise [b106]
  simp only [v83 r, v105 r, ← EReal.coe_add, ← EReal.coe_mul, ← EReal.coe_sub, ← EReal.coe_neg, ← EReal.coe_zero, ← EReal.coe_one, sum_coe]
  rfl

theorem v109 : b109 j s (ix3 h t k) = (((B.head h).eb t k : ℝ) : EReal) := by
  pointwise [b109, b108, b107]
  simp only [v89 r, v91 r, Ideal.exp_coe, ← EReal.coe_add, ← EReal.coe_mul, ← EReal.coe_sub, ← EReal.coe_neg, ← EReal.coe_zero, ← EReal.coe_one, sum_coe]
  rfl

theorem v110 : b110 j s (ix3 h t k) = (((B.head h).B t k : ℝ) : EReal) := by
  pointwise [b110]
  simp only [v84 r, v109 r, ← EReal.coe_add, ← EReal.coe_mul, ← EReal.coe_sub, ← EReal.coe_neg, ← EReal.coe_zero, ← EReal.coe_one, sum_coe]
  rfl

theorem v116 : b116 j s (ix3 h t u) = (((B.head h).sc t u : ℝ) : EReal) := by
  pointwise [b116, b115, b113, b112, b111]
  simp only [v114, v106 r, v110 r, coe_ite, ← EReal.coe_add, ← EReal.coe_mul, ← EReal.coe_sub, ← EReal.coe_neg, ← EReal.coe_zero, ← EReal.coe_one, sum_coe]
  rfl

theorem v120 : b120 j s (ix3 h t k) = (((B.head h).e1 t k : ℝ) : EReal) := by
  pointwise [b120]
  simp only [v89 r, Ideal.exp_coe, ← EReal.coe_add, ← EReal.coe_mul, ← EReal.coe_sub, ← EReal.coe_neg, ← EReal.coe_zero, ← EReal.coe_one, sum_coe]
  rfl

theorem v121 : b121 j s (ix3 h t k) = (((B.head h).qi t k : ℝ) : EReal) := by
  pointwise [b121]
  simp only [v83 r, v120 r, ← EReal.coe_add, ← EReal.coe_mul, ← EReal.coe_sub, ← EReal.coe_neg, ← EReal.coe_zero, ← EReal.coe_one, sum_coe]
  rfl

theorem v124 : b124 j s (ix3 h t k) = (((B.head h).eo t k : ℝ) : EReal) := by
  pointwise [b124, b123, b122]
  simp only [v89 r, v90 r, Ideal.exp_coe, ← EReal.coe_add, ← EReal.coe_mul, ← EReal.coe_sub, ← EReal.coe_neg, ← EReal.coe_zero, ← EReal.coe_one, sum_coe]
  rfl

theorem v125 : b125 j s (ix3 h t k) = (((B.head h).ko t k : ℝ) : EReal) := by
  pointwise [b125]
  simp only [v84 r, v124 r, ← EReal.coe_add, ← EReal.coe_mul, ← EReal.coe_sub, ← EReal.coe_neg, ← EReal.coe_zero, ← EReal.coe_one, sum_coe]
  rfl

theorem v126 : b126 j s (ix3 h 0 k) = ((Real.exp ((B.head h).bl k) : ℝ) : EReal) := by
  pointwise [b126]
  simp only [v90 r, Ideal.exp_coe, ← EReal.coe_add, ← EReal.coe_mul, ← EReal.coe_sub, ← EReal.coe_neg, ← EReal.coe_zero, ← EReal.coe_one, sum_coe]

theorem v142 : b142 j s (ix3 h t k) = (((B.head h).dko t k : ℝ) : EReal) := by
  pointwise [b142, b141]
  simp only [r.L, v85 r, ← EReal.coe_add, ← EReal.coe_mul, ← EReal.coe_sub, ← EReal.coe_neg, ← EReal.coe_zero, ← EReal.coe_one, sum_coe]
  exact congrArg Real.toEReal (by unfold Rin.dko; exact Finset.sum_congr rfl fun v _ => mul_comm _ _)

theorem v154 : b154 j s (ix3 h k v) = (((B.head h).nL v k : ℝ) : EReal) := by
  pointwise [b154, b153, b152, b148, b147, b129, b128]
  simp only [r.L, v126 r, v138 r, v121 r, ← EReal.coe_add, ← EReal.coe_mul, ← EReal.coe_sub, ← EReal.coe_neg, ← EReal.coe_zero, ← EReal.coe_one, sum_coe]
  rfl

theorem v155 : b155 j s (ix3 h t k) = (((B.head h).dqi t k : ℝ) : EReal) := by
  pointwise [b155]
  simp only [v138 r, r.S, ← EReal.coe_add, ← EReal.coe_mul, ← EReal.coe_sub, ← EReal.coe_neg, ← EReal.coe_zero, ← EReal.coe_one, sum_coe]
  rfl

theorem v159 : b159 j s (ix3 h t k) = (((B.head h).g1 t k : ℝ) : EReal) := by
  pointwise [b159, b157]
  simp only [v84 r, v142 r, v124 r, ← EReal.coe_add, ← EReal.coe_mul, ← EReal.coe_sub, ← EReal.coe_neg, ← EReal.coe_zero, ← EReal.coe_one, sum_coe]
  rfl

theorem v164 : b164 j s (ix3 h 0 k) = (((B.head h).dlast k : ℝ) : EReal) := by
  pointwise [b164, b162, b161, b160, b156, b151, b150, b149, b146, b145, b144, b143]
  simp only [Fin.sum_univ_one, r.S, r.L, v126 r, v159 r, ← EReal.coe_add, ← EReal.coe_mul, ← EReal.coe_sub, ← EReal.coe_neg, ← EReal.coe_zero, ← EReal.coe_one, sum_coe]
  rfl

theorem v167 : b167 j s (ix3 h t k) = (((B.head h).g2 t k : ℝ) : EReal) := by
  pointwise [b167, b165]
  simp only [v83 r, v155 r, v120 r, ← EReal.coe_add, ← EReal.coe_mul, ← EReal.coe_sub, ← EReal.coe_neg, ← EReal.coe_zero, ← EReal.coe_one, sum_coe]
  rfl

theorem v171 : b171 j s (ix3 h t v) = (((B.head h).di t v : ℝ) : EReal) := by
  pointwise [b171, b140, b139, b170, b169]
  simp only [r.L, v125 r, v138 r, v116 r, ← EReal.coe_add, ← EReal.coe_mul, ← EReal.coe_sub, ← EReal.coe_neg, ← EReal.coe_zero, ← EReal.coe_one, sum_coe]
  exact congrArg Real.toEReal (by unfold Rin.di; exact congrArg₂ _ (Finset.sum_congr rfl fun _ _ => mul_comm _ _) (Finset.sum_congr rfl fun _ _ => mul_comm _ _))

theorem v175 : b175 j s (ix3 h t u) = (((B.head h).dsc t u : ℝ) : EReal) := by
  pointwise [b175, b174, b173, b172]
  simp only [v114, v138 r, v85 r, coe_ite, ← EReal.coe_add, ← EReal.coe_mul, ← EReal.coe_sub, ← EReal.coe_neg, ← EReal.coe_zero, ← EReal.coe_one, sum_coe]
  rfl

theorem v176 : b176 j s (ix3 h t k) = (((B.head h).dB t k : ℝ) : EReal) := by
  pointwise [b176]
  simp only [v175 r, v106 r, ← EReal.coe_add, ← EReal.coe_mul, ← EReal.coe_sub, ← EReal.coe_neg, ← EReal.coe_zero, ← EReal.coe_one, sum_coe]
  rfl

theorem v177 : b177 j s (ix3 h t k) = (((B.head h).dA t k : ℝ) : EReal) := by
  pointwise [b177]
  simp only [v175 r, v110 r, ← EReal.coe_add, ← EReal.coe_mul, ← EReal.coe_sub, ← EReal.coe_neg, ← EReal.coe_zero, ← EReal.coe_one, sum_coe]
  rfl

theorem v180 : b180 j s (ix3 h t k) = (((B.head h).dk t k : ℝ) : EReal) := by
  pointwise [b180, b158, b179]
  simp only [v142 r, v124 r, v176 r, v109 r, ← EReal.coe_add, ← EReal.coe_mul, ← EReal.coe_sub, ← EReal.coe_neg, ← EReal.coe_zero, ← EReal.coe_one, sum_coe]
  rfl

theorem v181 : b181 j s (ix3 h t k) = (((B.head h).g3 t k : ℝ) : EReal) := by
  pointwise [b181, b178]
  simp only [v84 r, v176 r, v109 r, ← EReal.coe_add, ← EReal.coe_mul, ← EReal.coe_sub, ← EReal.coe_neg, ← EReal.coe_zero, ← EReal.coe_one, sum_coe]
  rfl

theorem v189 : b189 j s (ix3 h t k) = (((B.head h).dqs t k : ℝ) : EReal) := by
  pointwise [b189, b166, b188]
  simp only [v155 r, v120 r, v177 r, v105 r, ← EReal.coe_add, ← EReal.coe_mul, ← EReal.coe_sub, ← EReal.coe_neg, ← EReal.coe_zero, ← EReal.coe_one, sum_coe]
  rfl

theorem v190 : b190 j s (ix3 h t k) = (((B.head h).g4 t k : ℝ) : EReal) := by
  pointwise [b190, b187]
  simp only [v83 r, v177 r, v105 r, ← EReal.coe_add, ← EReal.coe_mul, ← EReal.coe_sub, ← EReal.coe_neg, ← EReal.coe_zero, ← EReal.coe_one, sum_coe]
  rfl

theorem v196 : b196 j s (ix3 h 0 k) = ((∑ s, (B.head h).g3 s k - ∑ s, (B.head h).g4 s k : ℝ) : EReal) := by
  pointwise [b196, b184, b183, b182, b194, b193, b192, b191]
  simp only [v181 r, v190 r, ← EReal.coe_add, ← EReal.coe_mul, ← EReal.coe_sub, ← EReal.coe_neg, ← EReal.coe_zero, ← EReal.coe_one, sum_coe]
  exact congrArg Real.toEReal (by rw [Finset.sum_neg_distrib, sub_eq_add_neg])

theorem v198 : b198 j s (ix3 h t k) = ((if t = 15 then ∑ s, (B.head h).g3 s k - ∑ s, (B.head h).g4 s k else 0 : ℝ) : EReal) := by
  pointwise [b198, b197]
  by_cases e : t = 15
  · subst e
    rw [dif_pos (by decide), if_pos rfl]
    exact v196 r h k
  · rw [dif_neg (fun c => e (Fin.ext (by have := c.1; have := c.2; show t.val = 15; omega))), if_neg e]
    rfl

theorem v201 : b201 j s (ix3 h t k) = ((if t = 31 then (B.head h).dlast k else 0 : ℝ) : EReal) := by
  pointwise [b201, b200]
  by_cases e : t = 31
  · subst e
    rw [dif_pos (by decide), if_pos rfl]
    exact v164 r h k
  · rw [dif_neg (fun c => e (Fin.ext (by have := c.1; have := c.2; show t.val = 31; omega))), if_neg e]
    rfl

theorem v202 : b202 j s (ix3 h t k) = (((B.head h).db t k + if t = 31 then (B.head h).dlast k else 0 : ℝ) : EReal) := by
  pointwise [b202, b199, b195, b186, b185, b168, b163]
  simp only [v159 r, v167 r, v181 r, v190 r, v198 r, v201 r, ← EReal.coe_add, ← EReal.coe_mul, ← EReal.coe_sub, ← EReal.coe_neg, ← EReal.coe_zero, ← EReal.coe_one, sum_coe]
  exact congrArg Real.toEReal (by unfold Rin.db; ring)

theorem v205 : b205 j s (ix3 h t k) = (((B.head h).dlf t k : ℝ) : EReal) := by
  rw [b205, revsum_at _ _ (by pointwise [b204, b203]) h t k]
  simp only [v202 r, coe_ite, ← EReal.coe_add, ← EReal.coe_mul, ← EReal.coe_sub, ← EReal.coe_neg, ← EReal.coe_zero, ← EReal.coe_one, sum_coe]
  exact congrArg Real.toEReal (by
    have e : ∀ s : Fin 32, (if t ≤ s then (B.head h).db s k + (if s = 31 then (B.head h).dlast k else 0) else 0)
        = (if s = 31 then (B.head h).dlast k else 0) + if t ≤ s then (B.head h).db s k else 0 := by
      intro s
      by_cases c : t ≤ s
      · rw [if_pos c, if_pos c, add_comm]
      · rw [if_neg c, if_neg c, if_neg (fun a : s = 31 => c (a ▸ Fin.le_last t)), add_zero]
    rw [Finset.sum_congr rfl fun s _ => e s, Finset.sum_add_distrib, Finset.sum_ite_eq' Finset.univ (31 : Fin 32), if_pos (Finset.mem_univ _)]
    rfl)

theorem v210 : b210 j s (ix2 t (col h k)) = (((B.head h).dlf t k : ℝ) : EReal) := by
  rw [b210, b206]
  exact (merge_col _ h t k).trans (v205 r h t k)

theorem v242 : b242 j s (ix2 t (col h k)) = (((B.head h).di t k : ℝ) : EReal) := by
  rw [b242, b207]
  exact (merge_col _ h t k).trans (v171 r h t k)

theorem v211 : b211 j s (ix2 t (col h k)) = (((B.head h).dk t k : ℝ) : EReal) := by
  rw [b211, b208]
  exact (merge_col _ h t k).trans (v180 r h t k)

theorem v243 : b243 j s (ix2 t (col h k)) = (((B.head h).dqs t k : ℝ) : EReal) := by
  rw [b243, b209]
  exact (merge_col _ h t k).trans (v189 r h t k)

theorem v223 : b223 j s (ix2 t (col h k)) = (((B.head h).dfg t k : ℝ) : EReal) := by
  pointwise [b223]
  simp only [v210 r, v60 r, Ideal.div_coe (pos r h t k).ne', ← EReal.coe_add, ← EReal.coe_mul, ← EReal.coe_sub, ← EReal.coe_neg, ← EReal.coe_zero, ← EReal.coe_one, sum_coe]
  exact congrArg Real.toEReal (by unfold Rin.dfg; simp only [div_eq_mul_inv, one_mul])

theorem v239 : b239 j s (ix2 t (col h k)) = (((B.head h).df t k : ℝ) : EReal) := by
  pointwise [b239, b221, b220, b213, b212, b78, b64, b63, b62, b238, b231, b230, b55, b42, b41, b40]
  simp only [r.lb, v211 r, v77 r, v223 r, v54 r, ← EReal.coe_add, ← EReal.coe_mul, ← EReal.coe_sub, ← EReal.coe_neg, ← EReal.coe_zero, ← EReal.coe_one, sum_coe]
  rfl

theorem v241 : b241 j s (ix1 (col h k)) = (((B.head h).dlb k : ℝ) : EReal) := by
  pointwise [b241, b240, b237, b236, b235, b234, b233, b232, b229, b228, b227, b226, b225, b224, b222, b219, b218, b217, b216, b215, b214]
  simp only [Fin.sum_univ_one, v211 r, v73 r, v223 r, v50 r, ← EReal.coe_add, ← EReal.coe_mul, ← EReal.coe_sub, ← EReal.coe_neg, ← EReal.coe_zero, ← EReal.coe_one, sum_coe]
  exact congrArg Real.toEReal (by unfold Rin.dlb; ring)

theorem v247 : b247 j s (ix2 t (col h k)) = (((B.head h).dq t k : ℝ) : EReal) := by
  pointwise [b247, b245, b246, b244]
  simp only [v243 r, v32 r, r.q, v36 r, ← EReal.coe_add, ← EReal.coe_mul, ← EReal.coe_sub, ← EReal.coe_neg, ← EReal.coe_zero, ← EReal.coe_one, sum_coe]
  rfl

end Cert.Hgrn.Trip

end
-- ==== Proof.LoopValue.lean ====
/-
The reference's loop over the reals: what the state holds before every trip, and the four results at an index.
-/
module

public import proofs.«01_k».proof.Proof.TripValue
public import proofs.«01_k».proof.Proof.Numbers

@[expose] public section

set_option maxRecDepth 16384

noncomputable section

namespace Cert.Hgrn.Trip

open Cert.Hgrn Cert.ReferenceIdeal Cert.ReferenceIdeal.Gen Cert.ReferenceIdeal.Step Idealize.ShloMosaic Idealize.ShloMosaic.TcCoe
open Idealize.ShloMosaic.Pointwise

/-- A block of rows read at its number. -/
theorem take_at (X : FVec Ideal S264x32x1024 .f32) (st : Fin 3 → Int) (c : Fin 264) (h0 : st 0 = (c.val : ℕ)) (h1 : st 1 = (0 : ℕ)) (h2 : st 2 = (0 : ℕ))
    (hs : S264x32x1024.Slices (fun _ => 0) S1x32x1024) (t : Fin 32) (n : Fin 1024) :
    Host.dynamicSlice S1x32x1024 X st hs (ix3 0 t n) = X (ix3 c t n) := by
  rw [Host.dynamicSlice_apply, Shape.Idx.norm_def]
  refine congrArg X (funext fun a => Fin.ext ?_)
  fin_cases a
  · show Host.clampedStart S264x32x1024 S1x32x1024 hs.1 st 0 + 0 = c.val
    rw [Host.clampedStart_of_le (s := S264x32x1024) (t := S1x32x1024) hs.1 st 0 c.val h0 (show c.val + 1 ≤ 264 by omega), Nat.add_zero]
  · show Host.clampedStart S264x32x1024 S1x32x1024 hs.1 st 1 + t.val = t.val
    rw [Host.clampedStart_of_le (s := S264x32x1024) (t := S1x32x1024) hs.1 st 1 0 h1 (show 0 + 32 ≤ 32 by omega), zero_add]
  · show Host.clampedStart S264x32x1024 S1x32x1024 hs.1 st 2 + n.val = n.val
    rw [Host.clampedStart_of_le (s := S264x32x1024) (t := S1x32x1024) hs.1 st 2 0 h2 (show 0 + 1024 ≤ 1024 by omega), zero_add]

/-- A block's states read at its number. -/
theorem take4_at (X : FVec Ideal S264x8x128x128 .f32) (st : Fin 4 → Int) (c : Fin 264) (h0 : st 0 = (c.val : ℕ)) (h1 : st 1 = (0 : ℕ)) (h2 : st 2 = (0 : ℕ)) (h3 : st 3 = (0 : ℕ))
    (hs : S264x8x128x128.Slices (fun _ => 0) S1x8x128x128) (h : Fin 8) (k v : Fin 128) :
    Host.dynamicSlice S1x8x128x128 X st hs (ix4 0 h k v) = X (ix4 c h k v) := by
  rw [Host.dynamicSlice_apply, Shape.Idx.norm_def]
  refine congrArg X (funext fun a => Fin.ext ?_)
  fin_cases a
  · show Host.clampedStart S264x8x128x128 S1x8x128x128 hs.1 st 0 + 0 = c.val
    rw [Host.clampedStart_of_le (s := S264x8x128x128) (t := S1x8x128x128) hs.1 st 0 c.val h0 (show c.val + 1 ≤ 264 by omega), Nat.add_zero]
  · show Host.clampedStart S264x8x128x128 S1x8x128x128 hs.1 st 1 + h.val = h.val
    rw [Host.clampedStart_of_le (s := S264x8x128x128) (t := S1x8x128x128) hs.1 st 1 0 h1 (show 0 + 8 ≤ 8 by omega), zero_add]
  · show Host.clampedStart S264x8x128x128 S1x8x128x128 hs.1 st 2 + k.val = k.val
    rw [Host.clampedStart_of_le (s := S264x8x128x128) (t := S1x8x128x128) hs.1 st 2 0 h2 (show 0 + 128 ≤ 128 by omega), zero_add]
  · show Host.clampedStart S264x8x128x128 S1x8x128x128 hs.1 st 3 + v.val = v.val
    rw [Host.clampedStart_of_le (s := S264x8x128x128) (t := S1x8x128x128) hs.1 st 3 0 h3 (show 0 + 128 ≤ 128 by omega), zero_add]

/-- A block of rows replaced at its number. -/
theorem put_at (X : FVec Ideal S264x32x1024 .f32) (u : FVec Ideal S1x32x1024 .f32) (st : Fin 3 → Int) (c : Fin 264) (h0 : st 0 = (c.val : ℕ)) (h1 : st 1 = (0 : ℕ))
    (h2 : st 2 = (0 : ℕ)) (hs : S264x32x1024.Slices (fun _ => 0) S1x32x1024) (b : Fin 264) (t : Fin 32) (n : Fin 1024) :
    Host.dynamicUpdateSlice X u st hs (ix3 b t n) = if b = c then u (ix3 0 t n) else X (ix3 b t n) := by
  have e0 : Host.clampedStart S264x32x1024 S1x32x1024 hs.1 st 0 = c.val := Host.clampedStart_of_le (s := S264x32x1024) (t := S1x32x1024) hs.1 st 0 c.val h0 (show c.val + 1 ≤ 264 by omega)
  have e1 : Host.clampedStart S264x32x1024 S1x32x1024 hs.1 st 1 = 0 := Host.clampedStart_of_le (s := S264x32x1024) (t := S1x32x1024) hs.1 st 1 0 h1 (show 0 + 32 ≤ 32 by omega)
  have e2 : Host.clampedStart S264x32x1024 S1x32x1024 hs.1 st 2 = 0 := Host.clampedStart_of_le (s := S264x32x1024) (t := S1x32x1024) hs.1 st 2 0 h2 (show 0 + 1024 ≤ 1024 by omega)
  rw [Host.dynamicUpdateSlice_apply]
  by_cases hb : b = c
  · subst hb
    rw [dif_pos, if_pos rfl, Shape.Idx.norm_def]
    · refine congrArg u (funext fun a => Fin.ext ?_)
      fin_cases a
      · show b.val - Host.clampedStart S264x32x1024 S1x32x1024 hs.1 st 0 = 0
        omega
      · show t.val - Host.clampedStart S264x32x1024 S1x32x1024 hs.1 st 1 = t.val
        omega
      · show n.val - Host.clampedStart S264x32x1024 S1x32x1024 hs.1 st 2 = n.val
        omega
    · intro a
      fin_cases a
      · show Host.clampedStart S264x32x1024 S1x32x1024 hs.1 st 0 ≤ b.val ∧ b.val < Host.clampedStart S264x32x1024 S1x32x1024 hs.1 st 0 + 1
        omega
      · show Host.clampedStart S264x32x1024 S1x32x1024 hs.1 st 1 ≤ t.val ∧ t.val < Host.clampedStart S264x32x1024 S1x32x1024 hs.1 st 1 + 32
        omega
      · show Host.clampedStart S264x32x1024 S1x32x1024 hs.1 st 2 ≤ n.val ∧ n.val < Host.clampedStart S264x32x1024 S1x32x1024 hs.1 st 2 + 1024
        omega
  · rw [dif_neg, if_neg hb]
    intro hin
    have i0 : Host.clampedStart S264x32x1024 S1x32x1024 hs.1 st 0 ≤ b.val ∧ b.val < Host.clampedStart S264x32x1024 S1x32x1024 hs.1 st 0 + 1 := hin 0
    exact hb (Fin.ext (by omega))

/-- The block a trip reads and writes. -/
theorem start_at (s : State Ideal) (j : ℕ) (hj : j < 264) : (b3 (F := Ideal) j s (Shape.Idx.first h_S_)).toInt = ((rev j).val : ℕ) := by
  show (IntOp.subi (IntOp.subi 264#32 (BitVec.ofNat 32 j)) 1#32).toInt = ((263 - j : ℕ) : Int)
  have e : ∀ j : Fin 264, (IntOp.subi (IntOp.subi 264#32 (BitVec.ofNat 32 j.val)) 1#32).toInt = ((263 - j.val : ℕ) : Int) := by decide +kernel
  exact e ⟨j, hj⟩

variable (s : State Ideal) (j : ℕ) (hj : j < 264)

include hj in
theorem q_at (t : Fin 32) (n : Fin 1024) : b12 j s (ix2 t n) = s.main_v33_1 (ix3 (rev j) t n) := by
  have e : b12 j s (ix2 t n) = b11 j s (ix3 0 t n) := by pointwise [b12]
  rw [e, b11]
  exact take_at _ _ (rev j) (start_at s j hj) rfl rfl _ t n

include hj in
theorem f_at (t : Fin 32) (n : Fin 1024) : b16 j s (ix2 t n) = s.main_v33_2 (ix3 (rev j) t n) := by
  have e : b16 j s (ix2 t n) = b15 j s (ix3 0 t n) := by pointwise [b16]
  rw [e, b15]
  exact take_at _ _ (rev j) (start_at s j hj) rfl rfl _ t n

include hj in
theorem i_at (t : Fin 32) (n : Fin 1024) : b20 j s (ix2 t n) = s.main_v33_3 (ix3 (rev j) t n) := by
  have e : b20 j s (ix2 t n) = b19 j s (ix3 0 t n) := by pointwise [b20]
  rw [e, b19]
  exact take_at _ _ (rev j) (start_at s j hj) rfl rfl _ t n

include hj in
theorem o_at (t : Fin 32) (n : Fin 1024) : b24 j s (ix2 t n) = s.main_v33_4 (ix3 (rev j) t n) := by
  have e : b24 j s (ix2 t n) = b23 j s (ix3 0 t n) := by pointwise [b24]
  rw [e, b23]
  exact take_at _ _ (rev j) (start_at s j hj) rfl rfl _ t n

include hj in
theorem S_at (h : Fin 8) (k v : Fin 128) : b8 j s (ix3 h k v) = s.main_v33_0 (ix4 (rev j) h k v) := by
  have e : b8 j s (ix3 h k v) = b7 j s (ix4 0 h k v) := by pointwise [b8]
  rw [e, b7]
  exact take4_at _ _ (rev j) (start_at s j hj) rfl rfl rfl _ h k v

include hj in
theorem w9_at (c : Fin 264) (t : Fin 32) (n : Fin 1024) :
    b252 j s (ix3 c t n) = if c = rev j then b247 j s (ix2 t n) else s.main_v33_9 (ix3 c t n) := by
  have e : b249 j s (ix3 0 t n) = b247 j s (ix2 t n) := by pointwise [b249]
  rw [b252, ← e]
  exact put_at _ _ _ (rev j) (start_at s j hj) rfl rfl _ c t n

include hj in
theorem w10_at (c : Fin 264) (t : Fin 32) (n : Fin 1024) :
    b256 j s (ix3 c t n) = if c = rev j then b239 j s (ix2 t n) else s.main_v33_10 (ix3 c t n) := by
  have e : b253 j s (ix3 0 t n) = b239 j s (ix2 t n) := by pointwise [b253]
  rw [b256, ← e]
  exact put_at _ _ _ (rev j) (start_at s j hj) rfl rfl _ c t n

include hj in
theorem w11_at (c : Fin 264) (t : Fin 32) (n : Fin 1024) :
    b260 j s (ix3 c t n) = if c = rev j then b242 j s (ix2 t n) else s.main_v33_11 (ix3 c t n) := by
  have e : b257 j s (ix3 0 t n) = b242 j s (ix2 t n) := by pointwise [b257]
  rw [b260, ← e]
  exact put_at _ _ _ (rev j) (start_at s j hj) rfl rfl _ c t n

/-- The loop's fixed arrays hold the numbers. -/
structure Fixed (s : State Ideal) (N : Nums) : Prop where
  q (c : Fin 264) (t : Fin 32) (n : Fin 1024) : s.main_v33_1 (ix3 c t n) = (N.q (rowOf c t) n : EReal)
  f (c : Fin 264) (t : Fin 32) (n : Fin 1024) : s.main_v33_2 (ix3 c t n) = (N.f (rowOf c t) n : EReal)
  i (c : Fin 264) (t : Fin 32) (n : Fin 1024) : s.main_v33_3 (ix3 c t n) = (N.i (rowOf c t) n : EReal)
  o (c : Fin 264) (t : Fin 32) (n : Fin 1024) : s.main_v33_4 (ix3 c t n) = (N.o (rowOf c t) n : EReal)
  lb (h : Fin 8) (k : Fin 128) : s.main_v33_5 (ix1 (col h k)) = (N.lb h k : EReal)
  S (c : Fin 264) (h : Fin 8) (k v : Fin 128) : s.main_v33_0 (ix4 c h k v) = (N.S h c v k : EReal)
  nonneg (h : Fin 8) (k : Fin 128) : 0 ≤ N.lb h k

/-- What the state holds before trip `n`. -/
structure Before (s : State Ideal) (N : Nums) (n : ℕ) : Prop extends Fixed s N where
  L (h : Fin 8) (k v : Fin 128) : s.main_v33_7 (ix3 h k v) = (N.lam n h v k : EReal)
  low (h : Fin 8) (k : Fin 128) : s.main_v33_8 (ix1 (col h k)) = (N.low n h k : EReal)
  dq (m : ℕ) (hm : m < n) (t : Fin 32) (h : Fin 8) (k : Fin 128) : s.main_v33_9 (ix3 (rev m) t (col h k)) = (((N.B m).head h).dq t k : EReal)
  df (m : ℕ) (hm : m < n) (t : Fin 32) (h : Fin 8) (k : Fin 128) : s.main_v33_10 (ix3 (rev m) t (col h k)) = (((N.B m).head h).df t k : EReal)
  di (m : ℕ) (hm : m < n) (t : Fin 32) (h : Fin 8) (k : Fin 128) : s.main_v33_11 (ix3 (rev m) t (col h k)) = (((N.B m).head h).di t k : EReal)

variable {s j} {N : Nums}

include hj in
/-- What the trip reads. -/
theorem reads (b : Before s N j) : Reads j s (N.B j) where
  q t n := (q_at s j hj t n).trans (b.q _ t n)
  f t n := (f_at s j hj t n).trans (b.f _ t n)
  i t n := (i_at s j hj t n).trans (b.i _ t n)
  o t n := (o_at s j hj t n).trans (b.o _ t n)
  lb h k := b.lb h k
  S h k v := (S_at s j hj h k v).trans (b.S _ h k v)
  L h k v := b.L h k v
  nonneg h k := b.nonneg h k

/-- Different visits are of different blocks. -/
theorem rev_ne {m n : ℕ} (hm : m < n) (hn : n < 264) : rev m ≠ rev n := fun e => by
  have := congrArg Fin.val e
  simp only [rev] at this
  omega

include hj in
/-- One trip goes on. -/
theorem after (b : Before s N j) : Before (step j s) N (j + 1) where
  q := b.q
  f := b.f
  i := b.i
  o := b.o
  lb := b.lb
  S := b.S
  nonneg := b.nonneg
  L h k v := by
    rw [step_main_v33_7]
    exact v154 (reads hj b) h k v
  low h k := by
    rw [step_main_v33_8]
    pointwise [b248]
    rw [b.low h k, v241 (reads hj b) h k, ← EReal.coe_add]
    rfl
  dq m hm t h k := by
    rw [step_main_v33_9, w9_at s j hj]
    by_cases e : m = j
    · subst e
      rw [if_pos rfl]
      exact v247 (reads hj b) h t k
    · rw [if_neg (rev_ne (by omega) hj)]
      exact b.dq m (by omega) t h k
  df m hm t h k := by
    rw [step_main_v33_10, w10_at s j hj]
    by_cases e : m = j
    · subst e
      rw [if_pos rfl]
      exact v239 (reads hj b) h t k
    · rw [if_neg (rev_ne (by omega) hj)]
      exact b.df m (by omega) t h k
  di m hm t h k := by
    rw [step_main_v33_11, w11_at s j hj]
    by_cases e : m = j
    · subst e
      rw [if_pos rfl]
      exact v242 (reads hj b) h t k
    · rw [if_neg (rev_ne (by omega) hj)]
      exact b.di m (by omega) t h k

/-- The state before every trip. -/
theorem before (it : ℕ → State Ideal) (h0 : Before (it 0) N 0) (hs : ∀ n, it (n + 1) = step n (it n)) : ∀ n, n ≤ 264 → Before (it n) N n
  | 0, _ => h0
  | n + 1, hn => by
    rw [hs n]
    exact after hn (before it h0 hs n (by omega))

end Cert.Hgrn.Trip

end
-- ==== Proof.RefResult.lean ====
/-
What the reference's loop starts from and what its four results hold: the numbers of the backward scan.
-/
module

public import proofs.«01_k».proof.Proof.LoopValue
public import proofs.«01_k».proof.Proof.Given

@[expose] public section

set_option maxRecDepth 65536

noncomputable section

namespace Cert.Hgrn.Trip

open Cert.Hgrn Cert.ReferenceIdeal Cert.ReferenceIdeal.Gen Cert.ReferenceIdeal.Step Idealize.ShloMosaic Idealize.ShloMosaic.TcCoe
open Idealize.ShloMosaic.Pointwise

variable (p : FVec Ideal SP .f32) (b : FVec Ideal SB .f32) (o : FVec Ideal SO .f32) (s0 s1 s2 s3 s4 s5 s6 s7 : FVec Ideal SV .f32)

/-- The queries by block, row and column. -/
theorem start_q (c : Fin 264) (t : Fin 32) (n : Fin 1024) : A_main_v19 (F := Ideal) p b o s0 s1 s2 s3 s4 s5 s6 s7 (ix3 c t n) = p (ix2 (rowOf c t) ⟨n.val, by omega⟩) := by
  pointwise [A_main_v19, A_main_v18]
  refine congrArg p ?_
  funext a
  fin_cases a
  · exact Fin.ext (by simp [rowOf, ix2]; try omega)
  · exact Fin.ext (by simp [ix2])

/-- The forget inputs by block, row and column. -/
theorem start_f (c : Fin 264) (t : Fin 32) (n : Fin 1024) : A_main_v21 (F := Ideal) p b o s0 s1 s2 s3 s4 s5 s6 s7 (ix3 c t n) = p (ix2 (rowOf c t) ⟨1024 + n.val, by omega⟩) := by
  pointwise [A_main_v21, A_main_v20]
  refine congrArg p ?_
  funext a
  fin_cases a
  · exact Fin.ext (by simp [rowOf, ix2]; try omega)
  · exact Fin.ext (by simp [ix2])

/-- The values by block, row and column. -/
theorem start_i (c : Fin 264) (t : Fin 32) (n : Fin 1024) : A_main_v23 (F := Ideal) p b o s0 s1 s2 s3 s4 s5 s6 s7 (ix3 c t n) = p (ix2 (rowOf c t) ⟨3072 + n.val, by omega⟩) := by
  pointwise [A_main_v23, A_main_v22]
  refine congrArg p ?_
  funext a
  fin_cases a
  · exact Fin.ext (by simp [rowOf, ix2]; try omega)
  · exact Fin.ext (by simp [ix2])

/-- The output gradients by block, row and column. -/
theorem start_o (c : Fin 264) (t : Fin 32) (n : Fin 1024) : A_main_v29 (F := Ideal) p b o s0 s1 s2 s3 s4 s5 s6 s7 (ix3 c t n) = o (ix2 (rowOf c t) n) := by
  pointwise [A_main_v29]
  refine congrArg o ?_
  funext a
  fin_cases a
  · exact Fin.ext (by simp [rowOf, ix2]; try omega)
  · exact Fin.ext (by simp [ix2])

/-- The lower bounds by head and lane. -/
theorem start_lb (h : Fin 8) (k : Fin 128) : A_main_v26 (F := Ideal) p b o s0 s1 s2 s3 s4 s5 s6 s7 (ix1 (col h k)) = b (ix4 0 h 0 k) := by
  pointwise [A_main_v26, A_main_v25, A_main_v24, col]

/-- A head's saved states. -/
theorem start_S0 (c : Fin 264) (k v : Fin 128) : A_main_v17 (F := Ideal) p b o s0 s1 s2 s3 s4 s5 s6 s7 (ix4 c 0 k v) = s0 (ix4 0 c v k) := by
  pointwise [A_main_v17, A_main_v16, A_main_v8, A_main_v0]

/-- A head's saved states. -/
theorem start_S1 (c : Fin 264) (k v : Fin 128) : A_main_v17 (F := Ideal) p b o s0 s1 s2 s3 s4 s5 s6 s7 (ix4 c 1 k v) = s1 (ix4 0 c v k) := by
  pointwise [A_main_v17, A_main_v16, A_main_v9, A_main_v1]

/-- A head's saved states. -/
theorem start_S2 (c : Fin 264) (k v : Fin 128) : A_main_v17 (F := Ideal) p b o s0 s1 s2 s3 s4 s5 s6 s7 (ix4 c 2 k v) = s2 (ix4 0 c v k) := by
  pointwise [A_main_v17, A_main_v16, A_main_v10, A_main_v2]

/-- A head's saved states. -/
theorem start_S3 (c : Fin 264) (k v : Fin 128) : A_main_v17 (F := Ideal) p b o s0 s1 s2 s3 s4 s5 s6 s7 (ix4 c 3 k v) = s3 (ix4 0 c v k) := by
  pointwise [A_main_v17, A_main_v16, A_main_v11, A_main_v3]

/-- A head's saved states. -/
theorem start_S4 (c : Fin 264) (k v : Fin 128) : A_main_v17 (F := Ideal) p b o s0 s1 s2 s3 s4 s5 s6 s7 (ix4 c 4 k v) = s4 (ix4 0 c v k) := by
  pointwise [A_main_v17, A_main_v16, A_main_v12, A_main_v4]

/-- A head's saved states. -/
theorem start_S5 (c : Fin 264) (k v : Fin 128) : A_main_v17 (F := Ideal) p b o s0 s1 s2 s3 s4 s5 s6 s7 (ix4 c 5 k v) = s5 (ix4 0 c v k) := by
  pointwise [A_main_v17, A_main_v16, A_main_v13, A_main_v5]

/-- A head's saved states. -/
theorem start_S6 (c : Fin 264) (k v : Fin 128) : A_main_v17 (F := Ideal) p b o s0 s1 s2 s3 s4 s5 s6 s7 (ix4 c 6 k v) = s6 (ix4 0 c v k) := by
  pointwise [A_main_v17, A_main_v16, A_main_v14, A_main_v6]

/-- A head's saved states. -/
theorem start_S7 (c : Fin 264) (k v : Fin 128) : A_main_v17 (F := Ideal) p b o s0 s1 s2 s3 s4 s5 s6 s7 (ix4 c 7 k v) = s7 (ix4 0 c v k) := by
  pointwise [A_main_v17, A_main_v16, A_main_v15, A_main_v7]

variable {p b o s0 s1 s2 s3 s4 s5 s6 s7} {N : Nums}

/-- What the loop starts from. -/
theorem start_before (g : Given p b o s0 s1 s2 s3 s4 s5 s6 s7 N) : Before (init (F := Ideal) p b o s0 s1 s2 s3 s4 s5 s6 s7) N 0 where
  q c t n := (start_q p b o s0 s1 s2 s3 s4 s5 s6 s7 c t n).trans (g.q _ n)
  f c t n := (start_f p b o s0 s1 s2 s3 s4 s5 s6 s7 c t n).trans (g.f _ n)
  i c t n := (start_i p b o s0 s1 s2 s3 s4 s5 s6 s7 c t n).trans (g.i _ n)
  o c t n := (start_o p b o s0 s1 s2 s3 s4 s5 s6 s7 c t n).trans (g.o _ n)
  lb h k := (start_lb p b o s0 s1 s2 s3 s4 s5 s6 s7 h k).trans (g.lb h k)
  S c h k v := by
    match h with
    | 0 => exact (start_S0 p b o s0 s1 s2 s3 s4 s5 s6 s7 c k v).trans (g.S0 c v k)
    | 1 => exact (start_S1 p b o s0 s1 s2 s3 s4 s5 s6 s7 c k v).trans (g.S1 c v k)
    | 2 => exact (start_S2 p b o s0 s1 s2 s3 s4 s5 s6 s7 c k v).trans (g.S2 c v k)
    | 3 => exact (start_S3 p b o s0 s1 s2 s3 s4 s5 s6 s7 c k v).trans (g.S3 c v k)
    | 4 => exact (start_S4 p b o s0 s1 s2 s3 s4 s5 s6 s7 c k v).trans (g.S4 c v k)
    | 5 => exact (start_S5 p b o s0 s1 s2 s3 s4 s5 s6 s7 c k v).trans (g.S5 c v k)
    | 6 => exact (start_S6 p b o s0 s1 s2 s3 s4 s5 s6 s7 c k v).trans (g.S6 c v k)
    | 7 => exact (start_S7 p b o s0 s1 s2 s3 s4 s5 s6 s7 c k v).trans (g.S7 c v k)
  nonneg h k := g.nonneg h k
  L h k v := by
    show (K_main_v27 (F := Ideal)) (ix3 h k v) = _
    pointwise [K_main_v27, K_main_cst]
    simp [Nums.lam]
  low h k := by
    show (K_main_v28 (F := Ideal)) (ix1 (col h k)) = _
    pointwise [K_main_v28, K_main_cst_0]
    simp [Nums.low]
  dq m hm := absurd hm (Nat.not_lt_zero m)
  df m hm := absurd hm (Nat.not_lt_zero m)
  di m hm := absurd hm (Nat.not_lt_zero m)

/-- A row's block and its place in it. -/
theorem row_parts (c : Fin 264) (t : Fin 32) : (rowOf c t).val / 32 = c.val ∧ (rowOf c t).val % 32 = t.val := by
  simp only [rowOf]
  omega

variable {s : State Ideal} (a : Before s N 264)
include a

/-- The result with the gradient of the queries. -/
theorem result_dq (n : ℕ) (hn : n < 264) (t : Fin 32) (h : Fin 8) (k : Fin 128) :
    R_main_v35 s (ix2 (rowOf (rev n) t) ⟨(col h k).val, by have := (col h k).isLt; omega⟩) = (((N.B n).head h).dq t k : EReal) := by
  have hw := (col h k).isLt
  have e := row_parts (rev n) t
  generalize rowOf (rev n) t = r at e
  rw [← a.dq n hn t h k]
  pointwise [R_main_v35]
  rw [show (⟨r.val / 32, by omega⟩ : Fin 264) = rev n from Fin.ext e.1, show (⟨r.val % 32, Nat.mod_lt _ (by decide)⟩ : Fin 32) = t from Fin.ext e.2]

/-- The result with the gradient of the forget inputs. -/
theorem result_df (n : ℕ) (hn : n < 264) (t : Fin 32) (h : Fin 8) (k : Fin 128) :
    R_main_v37 s (ix2 (rowOf (rev n) t) ⟨1024 + (col h k).val, by have := (col h k).isLt; omega⟩) = (((N.B n).head h).df t k : EReal) := by
  have hw := (col h k).isLt
  have e := row_parts (rev n) t
  generalize rowOf (rev n) t = r at e
  rw [← a.df n hn t h k]
  pointwise [R_main_v37]
  rw [show (⟨r.val / 32, by omega⟩ : Fin 264) = rev n from Fin.ext e.1, show (⟨r.val % 32, Nat.mod_lt _ (by decide)⟩ : Fin 32) = t from Fin.ext e.2]

/-- The result with the gradient of the values. -/
theorem result_di (n : ℕ) (hn : n < 264) (t : Fin 32) (h : Fin 8) (k : Fin 128) :
    R_main_v39 s (ix2 (rowOf (rev n) t) ⟨3072 + (col h k).val, by have := (col h k).isLt; omega⟩) = (((N.B n).head h).di t k : EReal) := by
  have hw := (col h k).isLt
  have e := row_parts (rev n) t
  generalize rowOf (rev n) t = r at e
  rw [← a.di n hn t h k]
  pointwise [R_main_v39]
  rw [show (⟨r.val / 32, by omega⟩ : Fin 264) = rev n from Fin.ext e.1, show (⟨r.val % 32, Nat.mod_lt _ (by decide)⟩ : Fin 32) = t from Fin.ext e.2]

/-- The result with the gradient of the lower bounds. -/
theorem result_low (h : Fin 8) (k : Fin 128) : R_main_v43 s (ix4 0 h 0 k) = (N.low 264 h k : EReal) := by
  rw [← a.low h k]
  pointwise [R_main_v43, col]
  exact congrArg s.main_v33_8 (congrArg ix1 (Fin.ext (by show h.val * 128 + k.val = 128 * h.val + k.val; omega)))

end Cert.Hgrn.Trip

end
-- ==== Proof.PreValue.lean ====
/-
What the precondition says: the inputs are numbers, and the lower bounds are not negative.
-/
module

public import proofs.«01_k».proof.Proof.Given
public import proofs.«01_k».proof.Proof.Gen.Pre_inputs

@[expose] public section

set_option maxRecDepth 65536

noncomputable section

namespace Cert.Hgrn

open Idealize.ShloMosaic Idealize.ShloMosaic.Pointwise

/-- The infinity word is the top of the extended reals. -/
theorem word_top : Ideal.ofBits .f32 2139095040#32 = ⊤ := by simp [Ideal.ofBits, Ideal.ieee]

/-- The condition of a value's absolute value being below the infinity word. -/
theorem coe_of (x : EReal) (h : BitVec.ofBool (decide (FloatOps.absf (F := Ideal) (φ := .f32) x < Ideal.ofBits .f32 2139095040#32)) = 1#1) : x = (x.toReal : EReal) := by
  have h1 : decide (FloatOps.absf (F := Ideal) (φ := .f32) x < Ideal.ofBits .f32 2139095040#32) = true := by
    revert h
    cases decide (FloatOps.absf (F := Ideal) (φ := .f32) x < Ideal.ofBits .f32 2139095040#32) <;> simp
  have h2 : max x (-x) < (⊤ : EReal) := by
    have := of_decide_eq_true h1
    rw [word_top] at this
    exact this
  have h3 := max_lt_iff.mp h2
  refine (EReal.coe_toReal (ne_of_lt h3.1) fun e => ?_).symm
  rw [e] at h3
  exact absurd h3.2 (by simp)

/-- Both conditions of a conjunction. -/
theorem both_of (p q : Bool) (h : IntOp.andi (BitVec.ofBool p) (BitVec.ofBool q) = 1#1) : p = true ∧ q = true := by
  simp only [IntOp.andi] at h
  revert h
  cases p <;> cases q <;> decide

variable [Pre_inputs.Facts] (p : FVec Ideal SP .f32) (b : FVec Ideal SB .f32) (o : FVec Ideal SO .f32) (s0 s1 s2 s3 s4 s5 s6 s7 : FVec Ideal SV .f32)

/-- The first 2048 columns are numbers. -/
theorem num_cols (r : Fin 8448) (n : Fin 2048) (h : (Pre_inputs.fn (F := Ideal) p b o s0 s1 s2 s3 s4 s5 s6 s7).1 (ix2 r n) = 1#1) : p (ix2 r ⟨n.val, by omega⟩) = ((p (ix2 r ⟨n.val, by omega⟩) : EReal).toReal : EReal) := by
  pointwise [Pre_inputs.fn, Pre_inputs.fn_part1, Pre_inputs.fn_part2] at h
  exact coe_of _ h

/-- The columns from 3072 to 4095 are numbers. -/
theorem num_vals (r : Fin 8448) (n : Fin 1024) (h : (Pre_inputs.fn (F := Ideal) p b o s0 s1 s2 s3 s4 s5 s6 s7).2.1 (ix2 r n) = 1#1) : p (ix2 r ⟨3072 + n.val, by omega⟩) = ((p (ix2 r ⟨3072 + n.val, by omega⟩) : EReal).toReal : EReal) := by
  pointwise [Pre_inputs.fn, Pre_inputs.fn_part1, Pre_inputs.fn_part2] at h
  exact coe_of _ h

/-- The lower bounds are numbers and not negative. -/
theorem num_low (h' : Fin 8) (k : Fin 128) (h : (Pre_inputs.fn (F := Ideal) p b o s0 s1 s2 s3 s4 s5 s6 s7).2.2.1 (ix3 h' 0 k) = 1#1) : (0 : EReal) ≤ b (ix4 0 h' 0 k) ∧ b (ix4 0 h' 0 k) = ((b (ix4 0 h' 0 k) : EReal).toReal : EReal) := by
  pointwise [Pre_inputs.fn, Pre_inputs.fn_part1, Pre_inputs.fn_part2] at h
  have := both_of _ _ h
  refine ⟨of_decide_eq_true this.1, coe_of _ ?_⟩
  rw [this.2]
  rfl

/-- The output gradients are numbers. -/
theorem num_out (r : Fin 8448) (n : Fin 1024) (h : (Pre_inputs.fn (F := Ideal) p b o s0 s1 s2 s3 s4 s5 s6 s7).2.2.2.1 (ix2 r n) = 1#1) : o (ix2 r n) = ((o (ix2 r n) : EReal).toReal : EReal) := by
  pointwise [Pre_inputs.fn, Pre_inputs.fn_part1, Pre_inputs.fn_part2] at h
  exact coe_of _ h

/-- The saved states of a head are numbers. -/
theorem num_s0 (c : Fin 264) (v k : Fin 128) (h : (Pre_inputs.fn (F := Ideal) p b o s0 s1 s2 s3 s4 s5 s6 s7).2.2.2.2.1 (ix4 0 c v k) = 1#1) : s0 (ix4 0 c v k) = ((s0 (ix4 0 c v k) : EReal).toReal : EReal) := by
  pointwise [Pre_inputs.fn, Pre_inputs.fn_part1, Pre_inputs.fn_part2] at h
  exact coe_of _ h

/-- The saved states of a head are numbers. -/
theorem num_s1 (c : Fin 264) (v k : Fin 128) (h : (Pre_inputs.fn (F := Ideal) p b o s0 s1 s2 s3 s4 s5 s6 s7).2.2.2.2.2.1 (ix4 0 c v k) = 1#1) : s1 (ix4 0 c v k) = ((s1 (ix4 0 c v k) : EReal).toReal : EReal) := by
  pointwise [Pre_inputs.fn, Pre_inputs.fn_part1, Pre_inputs.fn_part2] at h
  exact coe_of _ h

/-- The saved states of a head are numbers. -/
theorem num_s2 (c : Fin 264) (v k : Fin 128) (h : (Pre_inputs.fn (F := Ideal) p b o s0 s1 s2 s3 s4 s5 s6 s7).2.2.2.2.2.2.1 (ix4 0 c v k) = 1#1) : s2 (ix4 0 c v k) = ((s2 (ix4 0 c v k) : EReal).toReal : EReal) := by
  pointwise [Pre_inputs.fn, Pre_inputs.fn_part1, Pre_inputs.fn_part2] at h
  exact coe_of _ h

/-- The saved states of a head are numbers. -/
theorem num_s3 (c : Fin 264) (v k : Fin 128) (h : (Pre_inputs.fn (F := Ideal) p b o s0 s1 s2 s3 s4 s5 s6 s7).2.2.2.2.2.2.2.1 (ix4 0 c v k) = 1#1) : s3 (ix4 0 c v k) = ((s3 (ix4 0 c v k) : EReal).toReal : EReal) := by
  pointwise [Pre_inputs.fn, Pre_inputs.fn_part1, Pre_inputs.fn_part2] at h
  exact coe_of _ h

/-- The saved states of a head are numbers. -/
theorem num_s4 (c : Fin 264) (v k : Fin 128) (h : (Pre_inputs.fn (F := Ideal) p b o s0 s1 s2 s3 s4 s5 s6 s7).2.2.2.2.2.2.2.2.1 (ix4 0 c v k) = 1#1) : s4 (ix4 0 c v k) = ((s4 (ix4 0 c v k) : EReal).toReal : EReal) := by
  pointwise [Pre_inputs.fn, Pre_inputs.fn_part1, Pre_inputs.fn_part2] at h
  exact coe_of _ h

/-- The saved states of a head are numbers. -/
theorem num_s5 (c : Fin 264) (v k : Fin 128) (h : (Pre_inputs.fn (F := Ideal) p b o s0 s1 s2 s3 s4 s5 s6 s7).2.2.2.2.2.2.2.2.2.1 (ix4 0 c v k) = 1#1) : s5 (ix4 0 c v k) = ((s5 (ix4 0 c v k) : EReal).toReal : EReal) := by
  pointwise [Pre_inputs.fn, Pre_inputs.fn_part1, Pre_inputs.fn_part2] at h
  exact coe_of _ h

/-- The saved states of a head are numbers. -/
theorem num_s6 (c : Fin 264) (v k : Fin 128) (h : (Pre_inputs.fn (F := Ideal) p b o s0 s1 s2 s3 s4 s5 s6 s7).2.2.2.2.2.2.2.2.2.2.1 (ix4 0 c v k) = 1#1) : s6 (ix4 0 c v k) = ((s6 (ix4 0 c v k) : EReal).toReal : EReal) := by
  pointwise [Pre_inputs.fn, Pre_inputs.fn_part1, Pre_inputs.fn_part2] at h
  exact coe_of _ h

/-- The saved states of a head are numbers. -/
theorem num_s7 (c : Fin 264) (v k : Fin 128) (h : (Pre_inputs.fn (F := Ideal) p b o s0 s1 s2 s3 s4 s5 s6 s7).2.2.2.2.2.2.2.2.2.2.2 (ix4 0 c v k) = 1#1) : s7 (ix4 0 c v k) = ((s7 (ix4 0 c v k) : EReal).toReal : EReal) := by
  pointwise [Pre_inputs.fn, Pre_inputs.fn_part1, Pre_inputs.fn_part2] at h
  exact coe_of _ h

/-- The numbers the arrays hold. -/
def numsOf : Nums where
  q r n := EReal.toReal (p (ix2 r ⟨n.val, by omega⟩))
  f r n := EReal.toReal (p (ix2 r ⟨1024 + n.val, by omega⟩))
  i r n := EReal.toReal (p (ix2 r ⟨3072 + n.val, by omega⟩))
  o r n := EReal.toReal (o (ix2 r n))
  lb h k := EReal.toReal (b (ix4 0 h 0 k))
  S h c v k := EReal.toReal ((![s0, s1, s2, s3, s4, s5, s6, s7] h : FVec Ideal SV .f32) (ix4 0 c v k))

/-- Under the precondition the argument arrays hold numbers. -/
theorem given (h : ((Pre_inputs.fn (F := Ideal) p b o s0 s1 s2 s3 s4 s5 s6 s7).1 = fun _ => 1#1)
    ∧ ((Pre_inputs.fn (F := Ideal) p b o s0 s1 s2 s3 s4 s5 s6 s7).2.1 = fun _ => 1#1)
    ∧ ((Pre_inputs.fn (F := Ideal) p b o s0 s1 s2 s3 s4 s5 s6 s7).2.2.1 = fun _ => 1#1)
    ∧ ((Pre_inputs.fn (F := Ideal) p b o s0 s1 s2 s3 s4 s5 s6 s7).2.2.2.1 = fun _ => 1#1)
    ∧ ((Pre_inputs.fn (F := Ideal) p b o s0 s1 s2 s3 s4 s5 s6 s7).2.2.2.2.1 = fun _ => 1#1)
    ∧ ((Pre_inputs.fn (F := Ideal) p b o s0 s1 s2 s3 s4 s5 s6 s7).2.2.2.2.2.1 = fun _ => 1#1)
    ∧ ((Pre_inputs.fn (F := Ideal) p b o s0 s1 s2 s3 s4 s5 s6 s7).2.2.2.2.2.2.1 = fun _ => 1#1)
    ∧ ((Pre_inputs.fn (F := Ideal) p b o s0 s1 s2 s3 s4 s5 s6 s7).2.2.2.2.2.2.2.1 = fun _ => 1#1)
    ∧ ((Pre_inputs.fn (F := Ideal) p b o s0 s1 s2 s3 s4 s5 s6 s7).2.2.2.2.2.2.2.2.1 = fun _ => 1#1)
    ∧ ((Pre_inputs.fn (F := Ideal) p b o s0 s1 s2 s3 s4 s5 s6 s7).2.2.2.2.2.2.2.2.2.1 = fun _ => 1#1)
    ∧ ((Pre_inputs.fn (F := Ideal) p b o s0 s1 s2 s3 s4 s5 s6 s7).2.2.2.2.2.2.2.2.2.2.1 = fun _ => 1#1)
    ∧ ((Pre_inputs.fn (F := Ideal) p b o s0 s1 s2 s3 s4 s5 s6 s7).2.2.2.2.2.2.2.2.2.2.2 = fun _ => 1#1)) :
    Given p b o s0 s1 s2 s3 s4 s5 s6 s7 (numsOf p b o s0 s1 s2 s3 s4 s5 s6 s7) where
  q r n := num_cols p b o s0 s1 s2 s3 s4 s5 s6 s7 r ⟨n.val, by omega⟩ (by rw [h.1])
  f r n := num_cols p b o s0 s1 s2 s3 s4 s5 s6 s7 r ⟨1024 + n.val, by omega⟩ (by rw [h.1])
  i r n := num_vals p b o s0 s1 s2 s3 s4 s5 s6 s7 r n (by rw [h.2.1])
  o r n := num_out p b o s0 s1 s2 s3 s4 s5 s6 s7 r n (by rw [h.2.2.2.1])
  lb h' k := (num_low p b o s0 s1 s2 s3 s4 s5 s6 s7 h' k (by rw [h.2.2.1])).2
  S0 c v k := num_s0 p b o s0 s1 s2 s3 s4 s5 s6 s7 c v k (by rw [h.2.2.2.2.1])
  S1 c v k := num_s1 p b o s0 s1 s2 s3 s4 s5 s6 s7 c v k (by rw [h.2.2.2.2.2.1])
  S2 c v k := num_s2 p b o s0 s1 s2 s3 s4 s5 s6 s7 c v k (by rw [h.2.2.2.2.2.2.1])
  S3 c v k := num_s3 p b o s0 s1 s2 s3 s4 s5 s6 s7 c v k (by rw [h.2.2.2.2.2.2.2.1])
  S4 c v k := num_s4 p b o s0 s1 s2 s3 s4 s5 s6 s7 c v k (by rw [h.2.2.2.2.2.2.2.2.1])
  S5 c v k := num_s5 p b o s0 s1 s2 s3 s4 s5 s6 s7 c v k (by rw [h.2.2.2.2.2.2.2.2.2.1])
  S6 c v k := num_s6 p b o s0 s1 s2 s3 s4 s5 s6 s7 c v k (by rw [h.2.2.2.2.2.2.2.2.2.2.1])
  S7 c v k := num_s7 p b o s0 s1 s2 s3 s4 s5 s6 s7 c v k (by rw [h.2.2.2.2.2.2.2.2.2.2.2])
  nonneg h' k := EReal.toReal_nonneg (num_low p b o s0 s1 s2 s3 s4 s5 s6 s7 h' k (by rw [h.2.2.1])).1

end Cert.Hgrn

end
-- ==== Proof.Equation.lean ====
/-
The two programs' results agree where the kernel writes: at every index the kernel's array and the reference's array hold the same
number of the backward scan.
-/
module

public import proofs.«01_k».proof.Proof.KernelArray
public import proofs.«01_k».proof.Proof.RefResult
public import proofs.«01_k».proof.Proof.PreValue
public import proofs.«01_k».proof.Proof.RefFrame
public import proofs.«01_k».proof.Proof.Gen.On_written

@[expose] public section

set_option maxRecDepth 65536

noncomputable section

namespace Cert.Hgrn

open Idealize.ShloMosaic Idealize.ShloMosaic.TcCoe Idealize.ShloMosaic.Pointwise Idealize.ShloMosaic.Pipeline

/-- A comparison of words below `2 ^ 31` is one of numbers. -/
theorem lt_of_word (w n : ℕ) (hw : w < 2147483648) (hn : n < 2147483648) (h : IntOp.cmpi .slt (BitVec.ofNat 32 w) (BitVec.ofNat 32 n) = 1#1) : w < n := by
  have e : BitVec.slt (BitVec.ofNat 32 w) (BitVec.ofNat 32 n) = true := by
    simp only [IntOp.cmpi] at h
    revert h
    cases BitVec.slt (BitVec.ofNat 32 w) (BitVec.ofNat 32 n) <;> simp
  rw [BitVec.slt_eq_decide, decide_eq_true_eq, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)] at e
  omega

theorem le_of_word (w n : ℕ) (hw : w < 2147483648) (hn : n < 2147483648) (h : IntOp.cmpi .sge (BitVec.ofNat 32 w) (BitVec.ofNat 32 n) = 1#1) : n ≤ w := by
  have e : BitVec.sle (BitVec.ofNat 32 n) (BitVec.ofNat 32 w) = true := by
    simp only [IntOp.cmpi] at h
    revert h
    cases BitVec.sle (BitVec.ofNat 32 n) (BitVec.ofNat 32 w) <;> simp
  rw [BitVec.sle_eq_decide, decide_eq_true_eq, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)] at e
  omega

/-- Both bits of a conjunction that is one. -/
theorem both_bits (a b : BitVec 1) (h : IntOp.andi a b = 1#1) : a = 1#1 ∧ b = 1#1 := by
  simp only [IntOp.andi] at h
  revert a b
  decide

section

variable [On_written.Facts] {p : FVec Ideal SP .f32} {b : FVec Ideal SB .f32} {o : FVec Ideal SO .f32} {s0 s1 s2 s3 s4 s5 s6 s7 : FVec Ideal SV .f32}

/-- The first mask holds below column 1024. -/
theorem on_first (r : Fin 8448) (w : Fin 6144) (h : (On_written.fn (F := Ideal) p b o s0 s1 s2 s3 s4 s5 s6 s7).1 (ix2 r w) = 1#1) : w.val < 1024 := by
  pointwise [On_written.fn] at h
  exact lt_of_word w.val 1024 (by omega) (by decide) h

/-- The second mask holds from column 1024 to 2047. -/
theorem on_second (r : Fin 8448) (w : Fin 6144) (h : (On_written.fn (F := Ideal) p b o s0 s1 s2 s3 s4 s5 s6 s7).2.1 (ix2 r w) = 1#1) : 1024 ≤ w.val ∧ w.val < 2048 := by
  pointwise [On_written.fn] at h
  exact ⟨le_of_word w.val 1024 (by omega) (by decide) (both_bits _ _ h).1, lt_of_word w.val 2048 (by omega) (by decide) (both_bits _ _ h).2⟩

/-- The third mask holds from column 3072 to 4095. -/
theorem on_third (r : Fin 8448) (w : Fin 6144) (h : (On_written.fn (F := Ideal) p b o s0 s1 s2 s3 s4 s5 s6 s7).2.2.1 (ix2 r w) = 1#1) : 3072 ≤ w.val ∧ w.val < 4096 := by
  pointwise [On_written.fn] at h
  exact ⟨le_of_word w.val 3072 (by omega) (by decide) (both_bits _ _ h).1, lt_of_word w.val 4096 (by omega) (by decide) (both_bits _ _ h).2⟩

/-- The fourth mask holds in the first direction. -/
theorem on_fourth (d : Fin 2) (h' : Fin 8) (k : Fin 128) (h : (On_written.fn (F := Ideal) p b o s0 s1 s2 s3 s4 s5 s6 s7).2.2.2 (ix4 d h' 0 k) = 1#1) : d = 0 := by
  pointwise [On_written.fn] at h
  have := lt_of_word d.val 1 (by omega) (by decide) h
  exact Fin.ext (by show d.val = 0; omega)

end

/-- A row is a row of the block of some visit, and a column below 1024 is a lane of some head. -/
theorem row_of (r : Fin 8448) : ∃ n, n < 264 ∧ ∃ t, r = rowOf (rev n) t :=
  ⟨263 - r.val / 32, by omega, ⟨r.val % 32, Nat.mod_lt _ (by decide)⟩, Fin.ext (by simp only [rowOf, rev]; omega)⟩

theorem col_of (w : ℕ) (hw : w < 1024) : ∃ (h : Fin 8) (k : Fin 128), w = (col h k).val :=
  ⟨⟨w / 128, by omega⟩, ⟨w % 128, Nat.mod_lt _ (by decide)⟩, by simp only [col]; omega⟩

section

open Cert.KernelIdeal Cert.KernelIdeal.Gen Cert.KernelIdeal.Bwd

variable {m : (ℓ : Loc nD τ sig) → Buf (Elt Ideal) ℓ} {c : Dev nD} {N : Nums} (g : Has m c N) {s : Cert.ReferenceIdeal.Step.State Ideal} (a : Trip.Before s N 264)
include g a

/-- The gradient of the queries. -/
theorem same_dq (r : Fin 8448) (w : Fin 6144) (hw : w.val < 1024) :
    Cert.ReferenceIdeal.Step.R_main_v35 s (ix2 r w) = ((dats m 0 c).arrAt 13 cfg0.N : Vec Ideal S8448x6144 .f32) (ix2 r w) := by
  obtain ⟨n, hn, t, rfl⟩ := row_of r
  obtain ⟨h, k, e⟩ := col_of w.val hw
  have hc := (col h k).isLt
  have ew : w = ⟨(col h k).val, by omega⟩ := Fin.ext e
  rw [ew]
  have hn' : n < cfg0.N := lt_of_lt_of_eq hn N_0.symm
  exact (Trip.result_dq a n hn t h k).trans (((arr_13 (m := m) (c := c) ⟨n, hn'⟩ t (col h k)).trans ((left_at g n hn').dq t h k)).symm)

/-- The gradient of the forget inputs. -/
theorem same_df (r : Fin 8448) (w : Fin 6144) (hw : 1024 ≤ w.val ∧ w.val < 2048) :
    Cert.ReferenceIdeal.Step.R_main_v37 s (ix2 r w) = ((dats m 0 c).arrAt 14 cfg0.N : Vec Ideal S8448x6144 .f32) (ix2 r w) := by
  obtain ⟨n, hn, t, rfl⟩ := row_of r
  obtain ⟨h, k, e⟩ := col_of (w.val - 1024) (by omega)
  have hc := (col h k).isLt
  have ew : w = ⟨1024 + (col h k).val, by omega⟩ := Fin.ext (by show w.val = 1024 + (col h k).val; omega)
  rw [ew]
  have hn' : n < cfg0.N := lt_of_lt_of_eq hn N_0.symm
  exact (Trip.result_df a n hn t h k).trans (((arr_14 (m := m) (c := c) ⟨n, hn'⟩ t (col h k)).trans ((left_at g n hn').df t h k)).symm)

/-- The gradient of the values. -/
theorem same_di (r : Fin 8448) (w : Fin 6144) (hw : 3072 ≤ w.val ∧ w.val < 4096) :
    Cert.ReferenceIdeal.Step.R_main_v39 s (ix2 r w) = ((dats m 0 c).arrAt 15 cfg0.N : Vec Ideal S8448x6144 .f32) (ix2 r w) := by
  obtain ⟨n, hn, t, rfl⟩ := row_of r
  obtain ⟨h, k, e⟩ := col_of (w.val - 3072) (by omega)
  have hc := (col h k).isLt
  have ew : w = ⟨3072 + (col h k).val, by omega⟩ := Fin.ext (by show w.val = 3072 + (col h k).val; omega)
  rw [ew]
  have hn' : n < cfg0.N := lt_of_lt_of_eq hn N_0.symm
  exact (Trip.result_di a n hn t h k).trans (((arr_15 (m := m) (c := c) ⟨n, hn'⟩ t (col h k)).trans ((left_at g n hn').di t h k)).symm)

omit a in
/-- The gradient of the lower bounds after a grid point. -/
theorem low_after (n : ℕ) (hn : n < cfg0.N) (h : Fin 8) (k : Fin 128) : (outsAt0 m c n hn).2.2.2.1 (ix4 0 h 0 k) = (N.low (n + 1) h k : EReal) :=
  (left_at g n hn).dlb h k

/-- The gradient of the lower bounds. -/
theorem same_low (t : Fin cfg0.N) (ht : t.val = 263) (h : Fin 8) (k : Fin 128) :
    Cert.ReferenceIdeal.Step.R_main_v43 s (ix4 0 h 0 k) = ((dats m 0 c).arrAt 16 cfg0.N : Vec Ideal S2x8x1x128 .f32) (ix4 0 h 0 k) := by
  have e3 := low_after g t.val t.isLt h k
  have e : t.val + 1 = 264 := by omega
  rw [e] at e3
  exact (Trip.result_low a h k).trans (((arr_16 (m := m) (c := c) t ht h k).trans e3).symm)

end

end Cert.Hgrn

end
-- ==== Proof.Equal.lean ====
module

public import proofs.«01_k».proof.Defs
public import proofs.«01_k».proof.Proof.Equation

@[expose] public section

noncomputable section

namespace Cert.Hgrn

open Idealize.ShloMosaic Idealize.SL.Sem Idealize.ShloMosaic.Pointwise

section

variable [Cert.Pre_inputs.Facts]

/-- What the precondition gives of one device's arguments. -/
theorem has (m : (ℓ : Loc KernelIdeal.nD KernelIdeal.τ KernelIdeal.sig) → Buf (Elt Ideal) ℓ) (hm : Cert.Pre_KernelIdeal_inputs m) (c : Dev KernelIdeal.nD) :
    ∃ N, Has m c N :=
  ⟨_, given _ _ _ _ _ _ _ _ _ _ _ (hm c)⟩

/-- The reference's state after its last trip, when its arguments are the kernel's. -/
theorem end_of (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD) {N : Nums} (g : Has m c N)
    (hs : m' ((c.tc : Thread ReferenceIdeal.nD ReferenceIdeal.τ).loc ReferenceIdeal.main_arg0) = m ((c.tc : Thread KernelIdeal.nD KernelIdeal.τ).loc KernelIdeal.main_arg0) ∧ m' ((c.tc : Thread ReferenceIdeal.nD ReferenceIdeal.τ).loc ReferenceIdeal.main_arg1) = m ((c.tc : Thread KernelIdeal.nD KernelIdeal.τ).loc KernelIdeal.main_arg1) ∧ m' ((c.tc : Thread ReferenceIdeal.nD ReferenceIdeal.τ).loc ReferenceIdeal.main_arg2) = m ((c.tc : Thread KernelIdeal.nD KernelIdeal.τ).loc KernelIdeal.main_arg2) ∧ m' ((c.tc : Thread ReferenceIdeal.nD ReferenceIdeal.τ).loc ReferenceIdeal.main_arg3) = m ((c.tc : Thread KernelIdeal.nD KernelIdeal.τ).loc KernelIdeal.main_arg3) ∧ m' ((c.tc : Thread ReferenceIdeal.nD ReferenceIdeal.τ).loc ReferenceIdeal.main_arg4) = m ((c.tc : Thread KernelIdeal.nD KernelIdeal.τ).loc KernelIdeal.main_arg4) ∧ m' ((c.tc : Thread ReferenceIdeal.nD ReferenceIdeal.τ).loc ReferenceIdeal.main_arg5) = m ((c.tc : Thread KernelIdeal.nD KernelIdeal.τ).loc KernelIdeal.main_arg5) ∧ m' ((c.tc : Thread ReferenceIdeal.nD ReferenceIdeal.τ).loc ReferenceIdeal.main_arg6) = m ((c.tc : Thread KernelIdeal.nD KernelIdeal.τ).loc KernelIdeal.main_arg6) ∧ m' ((c.tc : Thread ReferenceIdeal.nD ReferenceIdeal.τ).loc ReferenceIdeal.main_arg7) = m ((c.tc : Thread KernelIdeal.nD KernelIdeal.τ).loc KernelIdeal.main_arg7) ∧ m' ((c.tc : Thread ReferenceIdeal.nD ReferenceIdeal.τ).loc ReferenceIdeal.main_arg8) = m ((c.tc : Thread KernelIdeal.nD KernelIdeal.τ).loc KernelIdeal.main_arg8) ∧ m' ((c.tc : Thread ReferenceIdeal.nD ReferenceIdeal.τ).loc ReferenceIdeal.main_arg9) = m ((c.tc : Thread KernelIdeal.nD KernelIdeal.τ).loc KernelIdeal.main_arg9) ∧ m' ((c.tc : Thread ReferenceIdeal.nD ReferenceIdeal.τ).loc ReferenceIdeal.main_arg10) = m ((c.tc : Thread KernelIdeal.nD KernelIdeal.τ).loc KernelIdeal.main_arg10)) :
    Trip.Before (ReferenceIdeal.Trips.states m' c 264) N 264 := by
  refine Trip.before (ReferenceIdeal.Trips.states m' c) ?_ (fun _ => rfl) 264 le_rfl
  show Trip.Before (ReferenceIdeal.Trips.initState m' c) N 0
  obtain ⟨e0, e1, e2, e3, e4, e5, e6, e7, e8, e9, e10⟩ := hs
  have h := Trip.start_before g
  rw [← e0, ← e1, ← e2, ← e3, ← e4, ← e5, ← e6, ← e7, ← e8, ← e9, ← e10] at h
  exact h

end

section

variable [hKernelIdeal : Cert.KernelIdeal.Facts] [hReferenceIdeal : Cert.ReferenceIdeal.Facts] [Cert.Pre_inputs.Facts] [Cert.On_written.Facts]

open KernelIdeal.Bwd

/-- Under the precondition the kernel's four results are the reference's, where the masks hold. -/
theorem equal : Cert.algebraic_KernelIdeal_ReferenceIdeal_on_written_pre_inputs (hKernelIdeal := KernelIdeal.Gen.facts) (hReferenceIdeal := ReferenceIdeal.Gen.facts) := by
  intro m ρ m' ρ' hm hs
  refine ⟨fun c => (dats m 0 c).arrAt 13 KernelIdeal.cfg0.N, fun c => (dats m 0 c).arrAt 14 KernelIdeal.cfg0.N, fun c => (dats m 0 c).arrAt 15 KernelIdeal.cfg0.N,
    fun c => (dats m 0 c).arrAt 16 KernelIdeal.cfg0.N, ?_, ?_⟩
  · refine (θ_run _ _ _).mono (fun r h c => ?_) (run_main m ρ)
    have k := fun w hw => ((h c).1 w).trans (((dats m 0 c).arrAt_in w hw _).trans (A_eq m c w))
    exact ⟨fun i _ => congrFun ((h c).1 13) i, fun i _ => congrFun ((h c).1 14) i, fun i _ => congrFun ((h c).1 15) i, fun i _ => congrFun ((h c).1 16) i,
      k 2 rfl, k 3 rfl, k 12 rfl, k 4 rfl, k 5 rfl, k 6 rfl, k 7 rfl, k 8 rfl, k 9 rfl, k 10 rfl, k 11 rfl⟩
  · refine (θ_run _ _ _).mono (fun r h c => ?_) (ReferenceIdeal.Trips.run_iter m' ρ' (ReferenceIdeal.Trips.states m') (fun _ => rfl) (fun _ _ => rfl))
    obtain ⟨N, g⟩ := has m hm c
    have a := end_of m m' c g (hs c)
    obtain ⟨h0, h1, h2, h3, hargs⟩ := h c
    refine ⟨fun i hi => ?_, fun i hi => ?_, fun i hi => ?_, fun i hi => ?_, hargs⟩
    · rw [h0, ← ix2_eta i] at *
      exact same_dq g a (i 0) (i 1) (on_first _ _ hi)
    · rw [h1, ← ix2_eta i] at *
      exact same_df g a (i 0) (i 1) (on_second _ _ hi)
    · rw [h2, ← ix2_eta i] at *
      exact same_di g a (i 0) (i 1) (on_third _ _ hi)
    · have hn : 263 < KernelIdeal.cfg0.N := lt_of_lt_of_eq (show 263 < 264 by decide) (show 264 = KernelIdeal.cfg0.N from KernelIdeal.Gen.N_0.symm)
      have e : ix4 (i 0) (i 1) (0 : Fin 1) (i 3) = i := by
        funext d
        match d with
        | 0 => rfl
        | 1 => rfl
        | 2 => exact Subsingleton.elim (α := Fin 1) _ _
        | 3 => rfl
      rw [← e] at hi ⊢
      have ed := on_fourth _ _ _ hi
      rw [h3, ed]
      exact same_low g a ⟨263, hn⟩ rfl (i 1) (i 3)

end

end Cert.Hgrn

end
-- ==== Proof.lean ====
/-
The claims: for the backward scan, for each product and for each of the optimiser's updates, the kernel's frames over the machine's floats and over the ideal numbers,
the reference's frame, the preservation by an idealization without rewrites, and the equation of the two programs' results.
-/
module

public import proofs.«01_k».proof.Defs
public import proofs.«01_k».proof.Proof.Products
public import proofs.«01_k».proof.Proof.Layer1
public import proofs.«01_k».proof.Proof.Updates
public import proofs.«01_k».proof.Proof.KernelFrame
public import proofs.«01_k».proof.Proof.IdealFrame
public import proofs.«01_k».proof.Proof.RefFrame
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.On_written
public import proofs.«01_k».proof.Proof.Gen.Pre_inputs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal

@[expose] public section

noncomputable section

namespace Cert.Proof

/-- Everything the certificate claims. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Pre_inputs.Gen.facts,
    Cert.On_written.Gen.facts,
    Cert.Kernel.Bwd.frame,
    fun m ρ _ => Cert.KernelIdeal.Bwd.frame m ρ,
    fun m ρ _ => Cert.KernelIdeal.Bwd.frame m ρ,
    fun m ρ _ => Cert.ReferenceIdeal.Trips.frame m ρ,
    fun m ρ _ => Cert.ReferenceIdeal.Trips.frame m ρ,
    fun m ρ _ => Cert.Kernel2.Gen.frame m ρ,
    fun m ρ _ => Cert.Kernel2Ideal.Gen.frame m ρ,
    Cert.Products.frame2,
    fun m ρ _ => Cert.Kernel3.Gen.frame m ρ,
    fun m ρ _ => Cert.Kernel3Ideal.Gen.frame m ρ,
    Cert.Products.frame3,
    fun m ρ _ => Cert.Kernel4.Gen.frame m ρ,
    fun m ρ _ => Cert.Kernel4Ideal.Gen.frame m ρ,
    Cert.Products.frame4,
    fun m ρ _ => Cert.Kernel5.Gen.frame m ρ,
    fun m ρ _ => Cert.Kernel5Ideal.Gen.frame m ρ,
    Cert.Products.frame5,
    fun m ρ _ => Cert.Kernel6.Gen.frame m ρ,
    fun m ρ _ => Cert.Kernel6Ideal.Gen.frame m ρ,
    Cert.Products.frame6,
    fun m ρ _ => Cert.Kernel7.Gen.frame m ρ,
    fun m ρ _ => Cert.Kernel7Ideal.Gen.frame m ρ,
    Cert.Products.frame7,
    fun m ρ _ => Cert.Kernel8.Gen.frame m ρ,
    fun m ρ _ => Cert.Kernel8Ideal.Gen.frame m ρ,
    Cert.Products.frame8,
    fun m ρ _ => Cert.Kernel9.Gen.frame m ρ,
    fun m ρ _ => Cert.Kernel9Ideal.Gen.frame m ρ,
    Cert.Products.frame9,
    fun m ρ _ => Cert.Kernel10.Gen.frame m ρ,
    fun m ρ _ => Cert.Kernel10Ideal.Gen.frame m ρ,
    Cert.Products.frame10,
    fun m ρ _ => Cert.Kernel11.Gen.frame m ρ,
    fun m ρ _ => Cert.Kernel11Ideal.Gen.frame m ρ,
    Cert.Products.frame11,
    fun m ρ _ => Cert.Kernel12.Gen.frame m ρ,
    fun m ρ _ => Cert.Kernel12Ideal.Gen.frame m ρ,
    Cert.Products.frame12,
    fun m ρ _ => Cert.Kernel13.Gen.frame m ρ,
    fun m ρ _ => Cert.Kernel13Ideal.Gen.frame m ρ,
    Cert.Products.frame13,
    fun m ρ _ => Cert.Kernel14.Gen.frame m ρ,
    fun m ρ _ => Cert.Kernel14Ideal.Gen.frame m ρ,
    Cert.Products.frame14,
    fun m ρ _ => Cert.Kernel15.Gen.frame m ρ,
    fun m ρ _ => Cert.Kernel15Ideal.Gen.frame m ρ,
    Cert.Products.frame15,
    fun m ρ _ => Cert.Kernel16.Gen.frame m ρ,
    fun m ρ _ => Cert.Kernel16Ideal.Gen.frame m ρ,
    Cert.Products.frame16,
    fun m ρ _ => Cert.Kernel17.Gen.frame m ρ,
    fun m ρ _ => Cert.Kernel17Ideal.Gen.frame m ρ,
    Cert.Products.frame17,
    fun m ρ _ => Cert.Kernel18.Gen.frame m ρ,
    fun m ρ _ => Cert.Kernel18Ideal.Gen.frame m ρ,
    Cert.Products.frame18,
    fun m ρ _ => Cert.Kernel19.Gen.frame m ρ,
    fun m ρ _ => Cert.Kernel19Ideal.Gen.frame m ρ,
    Cert.Products.frame19,
    fun m ρ _ => Cert.Kernel20.Gen.frame m ρ,
    fun m ρ _ => Cert.Kernel20Ideal.Gen.frame m ρ,
    Cert.Products.frame20,
    fun m ρ _ => Cert.Kernel21.Gen.frame m ρ,
    fun m ρ _ => Cert.Kernel21Ideal.Gen.frame m ρ,
    Cert.Products.frame21,
    fun m ρ _ => Cert.Kernel22.Gen.frame m ρ,
    fun m ρ _ => Cert.Kernel22Ideal.Gen.frame m ρ,
    Cert.Products.frame22,
    fun m ρ _ => Cert.Kernel23.Gen.frame m ρ,
    fun m ρ _ => Cert.Kernel23Ideal.Gen.frame m ρ,
    Cert.Products.frame23,
    fun m ρ _ => Cert.Kernel24.Gen.frame m ρ,
    fun m ρ _ => Cert.Kernel24Ideal.Gen.frame m ρ,
    Cert.Products.frame24,
    fun m ρ _ => Cert.Kernel25.Gen.frame m ρ,
    fun m ρ _ => Cert.Kernel25Ideal.Gen.frame m ρ,
    Cert.Products.frame25,
    fun m ρ _ => Cert.Kernel26.Gen.frame m ρ,
    fun m ρ _ => Cert.Kernel26Ideal.Gen.frame m ρ,
    Cert.Updates.frame26,
    fun m ρ _ => Cert.Kernel27.Gen.frame m ρ,
    fun m ρ _ => Cert.Kernel27Ideal.Gen.frame m ρ,
    Cert.Updates.frame27,
    fun m ρ _ => Cert.Kernel28.Gen.frame m ρ,
    fun m ρ _ => Cert.Kernel28Ideal.Gen.frame m ρ,
    Cert.Updates.frame28,
    fun m ρ _ => Cert.Kernel29.Gen.frame m ρ,
    fun m ρ _ => Cert.Kernel29Ideal.Gen.frame m ρ,
    Cert.Updates.frame29,
    fun m ρ _ => Cert.Kernel30.Gen.frame m ρ,
    fun m ρ _ => Cert.Kernel30Ideal.Gen.frame m ρ,
    Cert.Updates.frame30,
    fun m ρ _ => Cert.Kernel31.Gen.frame m ρ,
    fun m ρ _ => Cert.Kernel31Ideal.Gen.frame m ρ,
    Cert.Updates.frame31,
    fun m ρ _ => Cert.Kernel32.Gen.frame m ρ,
    fun m ρ _ => Cert.Kernel32Ideal.Gen.frame m ρ,
    Cert.Updates.frame32,
    trivial,
    Cert.Hgrn.equal,
    trivial,
    Cert.Products.equal2,
    trivial,
    Cert.Products.equal3,
    trivial,
    Cert.Products.equal4,
    trivial,
    Cert.Products.equal5,
    trivial,
    Cert.Products.equal6,
    trivial,
    Cert.Products.equal7,
    trivial,
    Cert.Products.equal8,
    trivial,
    Cert.Products.equal9,
    trivial,
    Cert.Products.equal10,
    trivial,
    Cert.Products.equal11,
    trivial,
    Cert.Products.equal12,
    trivial,
    Cert.Products.equal13,
    trivial,
    Cert.Products.equal14,
    trivial,
    Cert.Products.equal15,
    trivial,
    Cert.Products.equal16,
    trivial,
    Cert.Products.equal17,
    trivial,
    Cert.Products.equal18,
    trivial,
    Cert.Products.equal19,
    trivial,
    Cert.Products.equal20,
    trivial,
    Cert.Products.equal21,
    trivial,
    Cert.Products.equal22,
    trivial,
    Cert.Products.equal23,
    trivial,
    Cert.Products.equal24,
    trivial,
    Cert.Products.equal25,
    trivial,
    Cert.Updates.equal26,
    trivial,
    Cert.Updates.equal27,
    trivial,
    Cert.Updates.equal28,
    trivial,
    Cert.Updates.equal29,
    trivial,
    Cert.Updates.equal30,
    trivial,
    Cert.Updates.equal31,
    trivial,
    Cert.Updates.equal32⟩

end Cert.Proof

end
